-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_experts_nonnegative [hPre_experts_nonnegative : Cert.Pre_experts_nonnegative.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_nonnegative.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_nonnegative [hPre_experts_nonnegative : Cert.Pre_experts_nonnegative.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_nonnegative.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_experts_nonnegative [hKernel2Ideal : Cert.Kernel2Ideal.Facts] [hPre_experts_nonnegative : Cert.Pre_experts_nonnegative.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_experts_nonnegative m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts_nonnegative [hReference2Ideal : Cert.Reference2Ideal.Facts] [hPre_experts_nonnegative : Cert.Pre_experts_nonnegative.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_nonnegative m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_experts_nonnegative [hKernel2Ideal : Cert.Kernel2Ideal.Facts] [hReference2Ideal : Cert.Reference2Ideal.Facts] [hPre_experts_nonnegative : Cert.Pre_experts_nonnegative.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_experts_nonnegative m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_experts_nonnegative : Cert.Pre_experts_nonnegative.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_experts_nonnegative (hKernel2Ideal := hKernel2Ideal) (hPre_experts_nonnegative := hPre_experts_nonnegative)
    ∧ quiescent_Reference2Ideal (hReference2Ideal := hReference2Ideal)
    ∧ quiescent_Reference2Ideal_pre_experts_nonnegative (hReference2Ideal := hReference2Ideal) (hPre_experts_nonnegative := hPre_experts_nonnegative)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_experts_nonnegative (hKernel2Ideal := hKernel2Ideal) (hReference2Ideal := hReference2Ideal) (hPre_experts_nonnegative := hPre_experts_nonnegative)
-- ==== Pre_experts_nonnegative.lean ====
abbrev S17408x1024 : Shape := ⟨2, ![17408, 1024]⟩
abbrev S17408x4 : Shape := ⟨2, ![17408, 4]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩

class Facts : Prop where
  bcast_S_S17408x4 : S_.BroadcastsInDim S17408x4 (![] : Fin 0 → Fin S17408x4.rank)

variable [Facts]

def fn {F : FTy → Type} [FloatOps F] (main_arg0 : FVec F S17408x1024 .f32) (main_arg1 : IVec S17408x4 32) (main_arg2 : FVec F S17408x4 .f32) (main_arg3 : FVec F S4x32x1024x2048 .f32) (main_arg4 : FVec F S4x32x2048 .f32) (main_arg5 : FVec F S4x32x1024x1024 .f32) (main_arg6 : FVec F S4x32x1024 .f32) : IVec S17408x4 1 :=
  let main_c : IVec S_ 32 := constantI S_ 32 0#32
  let main_v0 : IVec S17408x4 32 := broadcastInDim S17408x4 ![] bcast_S_S17408x4 main_c
  let main_v1 : IVec S17408x4 1 := cmpi .sge main_arg1 main_v0
  main_v1
-- ==== Kernel.lean ====
abbrev S16384x1024 : Shape := ⟨2, ![16384, 1024]⟩
abbrev S1024x2048 : Shape := ⟨2, ![1024, 2048]⟩
abbrev S4x1024 : Shape := ⟨2, ![4, 1024]⟩
abbrev S1024 : Shape := ⟨1, ![1024]⟩
abbrev S4x256x256 : Shape := ⟨3, ![4, 256, 256]⟩
abbrev S1x1024 : Shape := ⟨2, ![1, 1024]⟩
abbrev S2x8x1024 : Shape := ⟨3, ![2, 8, 1024]⟩
abbrev S256x1024 : Shape := ⟨2, ![256, 1024]⟩
abbrev S1x8x1024 : Shape := ⟨3, ![1, 8, 1024]⟩
abbrev S8x1024 : Shape := ⟨2, ![8, 1024]⟩
abbrev S256x2048 : Shape := ⟨2, ![256, 2048]⟩
abbrev S248x1024 : Shape := ⟨2, ![248, 1024]⟩
abbrev S256x256 : Shape := ⟨2, ![256, 256]⟩
abbrev S1x256x256 : Shape := ⟨3, ![1, 256, 256]⟩

abbrev nBuf : Space → Nat
  | .hbm => 16
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S4x1024, .f32⟩
  | .hbm, ⟨3, _⟩ => ⟨S1024, .f32⟩
  | .hbm, ⟨4, _⟩ => ⟨S4x256x256, .f32⟩
  | .hbm, ⟨5, _⟩ => ⟨S1024, .f32⟩
  | .hbm, ⟨6, _⟩ => ⟨S4x256x256, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S16384x1024, .bf16⟩
  | .hbm, ⟨14, _⟩ => ⟨S2x8x1024, .f32⟩
  | .hbm, ⟨15, _⟩ => ⟨S2x8x1024, .f32⟩
  | .local _ .vmem, ⟨0, _⟩ => ⟨S256x1024, .f32⟩
  | .local _ .vmem, ⟨1, _⟩ => ⟨S256x1024, .f32⟩
  | .local _ .vmem, ⟨2, _⟩ => ⟨S1024x2048, .f32⟩
  | .local _ .vmem, ⟨3, _⟩ => ⟨S4x1024, .f32⟩
  | .local _ .vmem, ⟨4, _⟩ => ⟨S1x1024, .f32⟩
  | .local _ .vmem, ⟨5, _⟩ => ⟨S4x256x256, .f32⟩
  | .local _ .vmem, ⟨6, _⟩ => ⟨S1x1024, .f32⟩
  | .local _ .vmem, ⟨7, _⟩ => ⟨S4x256x256, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S1x8x1024, .f32⟩
  | .local _ .vmem, ⟨13, _⟩ => ⟨S1x8x1024, .f32⟩
  | .local _ .vmem, ⟨14, _⟩ => ⟨S1x8x1024, .f32⟩
  | .local _ .vmem, ⟨15, _⟩ => ⟨S1x8x1024, .f32⟩
  | .local _ .vmem, ⟨16, _⟩ => ⟨S1024x2048, .bf16⟩
  | .local _ .vmem, ⟨17, _⟩ => ⟨S4x256x256, .bf16⟩
  | .local _ .vmem, ⟨18, _⟩ => ⟨S4x256x256, .bf16⟩
  | .local _ .vmem, ⟨19, _⟩ => ⟨S8x1024, .f32⟩
  | .local _ .vmem, ⟨20, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S16384x1024 : Shape := ⟨2, ![16384, 1024]⟩
abbrev S1024x2048 : Shape := ⟨2, ![1024, 2048]⟩
abbrev S4x1024 : Shape := ⟨2, ![4, 1024]⟩
abbrev S1024 : Shape := ⟨1, ![1024]⟩
abbrev S4x256x256 : Shape := ⟨3, ![4, 256, 256]⟩
abbrev S2x8192x1024 : Shape := ⟨3, ![2, 8192, 1024]⟩
abbrev S2x8192x2048 : Shape := ⟨3, ![2, 8192, 2048]⟩
abbrev S_ : Shape := ⟨0, ![]⟩
abbrev S2x3x1024 : Shape := ⟨3, ![2, 3, 1024]⟩
abbrev S2x8195x1024 : Shape := ⟨3, ![2, 8195, 1024]⟩
abbrev S1x1024 : Shape := ⟨2, ![1, 1024]⟩
abbrev S1x1x1024 : Shape := ⟨3, ![1, 1, 1024]⟩
abbrev S2x8192x4x256 : Shape := ⟨4, ![2, 8192, 4, 256]⟩
abbrev S4x256x2x8192 : Shape := ⟨4, ![4, 256, 2, 8192]⟩
abbrev S2x8193x1024 : Shape := ⟨3, ![2, 8193, 1024]⟩
abbrev S2x1x1024 : Shape := ⟨3, ![2, 1, 1024]⟩
abbrev S2x8x1024 : Shape := ⟨3, ![2, 8, 1024]⟩

abbrev nBuf : Space → Nat
  | .hbm => 186
  | .vmem => 0
  | .smem => 0
  | _ => 0

abbrev hbmTy0_0 (i : Nat) : BufTy := match i % 128 with
  | 0 => ⟨S16384x1024, .f32⟩
  | 1 => ⟨S1024x2048, .f32⟩
  | 2 => ⟨S4x1024, .f32⟩
  | 3 => ⟨S1024, .f32⟩
  | 4 => ⟨S4x256x256, .f32⟩
  | 5 => ⟨S1024, .f32⟩
  | 6 => ⟨S4x256x256, .f32⟩
  | 7 => ⟨S1024, .f32⟩
  | 8 => ⟨S1024, .f32⟩
  | 9 => ⟨S2x8192x1024, .f32⟩
  | 10 => ⟨S2x8192x2048, .f32⟩
  | 11 => ⟨S2x8192x1024, .f32⟩
  | 12 => ⟨S2x8192x1024, .f32⟩
  | 13 => ⟨S2x8192x1024, .f32⟩
  | 14 => ⟨S_, .f32⟩
  | 15 => ⟨S2x8192x1024, .f32⟩
  | 16 => ⟨S2x8192x1024, .f32⟩
  | 17 => ⟨S2x8192x1024, .f32⟩
  | 18 => ⟨S_, .f32⟩
  | 19 => ⟨S2x8192x1024, .f32⟩
  | 20 => ⟨S2x8192x1024, .f32⟩
  | 21 => ⟨S2x8192x1024, .f32⟩
  | 22 => ⟨S_, .f32⟩
  | 23 => ⟨S2x8192x1024, .f32⟩
  | 24 => ⟨S2x8192x1024, .f32⟩
  | 25 => ⟨S_, .f32⟩
  | 26 => ⟨S2x8192x1024, .f32⟩
  | 27 => ⟨S2x8192x1024, .f32⟩
  | 28 => ⟨S2x8192x1024, .f32⟩
  | 29 => ⟨S2x8192x1024, .f32⟩
  | 30 => ⟨S_, .f32⟩
  | 31 => ⟨S2x3x1024, .f32⟩
  | 32 => ⟨S2x8195x1024, .f32⟩
  | 33 => ⟨S2x8192x1024, .f32⟩
  | 34 => ⟨S1x1024, .f32⟩
  | 35 => ⟨S1024, .f32⟩
  | 36 => ⟨S1x1x1024, .f32⟩
  | 37 => ⟨S2x8192x1024, .f32⟩
  | 38 => ⟨S2x8192x1024, .f32⟩
  | 39 => ⟨S_, .f32⟩
  | 40 => ⟨S2x8192x1024, .f32⟩
  | 41 => ⟨S2x8192x1024, .f32⟩
  | 42 => ⟨S2x8192x1024, .f32⟩
  | 43 => ⟨S1x1024, .f32⟩
  | 44 => ⟨S1024, .f32⟩
  | 45 => ⟨S1x1x1024, .f32⟩
  | 46 => ⟨S2x8192x1024, .f32⟩
  | 47 => ⟨S2x8192x1024, .f32⟩
  | 48 => ⟨S2x8192x1024, .f32⟩
  | 49 => ⟨S2x8192x1024, .f32⟩
  | 50 => ⟨S1x1024, .f32⟩
  | 51 => ⟨S1024, .f32⟩
  | 52 => ⟨S1x1x1024, .f32⟩
  | 53 => ⟨S2x8192x1024, .f32⟩
  | 54 => ⟨S2x8192x1024, .f32⟩
  | 55 => ⟨S2x8192x1024, .f32⟩
  | 56 => ⟨S2x8192x1024, .f32⟩
  | 57 => ⟨S1x1024, .f32⟩
  | 58 => ⟨S1024, .f32⟩
  | 59 => ⟨S1x1x1024, .f32⟩
  | 60 => ⟨S2x8192x1024, .f32⟩
  | 61 => ⟨S2x8192x1024, .f32⟩
  | 62 => ⟨S2x8192x1024, .f32⟩
  | 63 => ⟨S1x1x1024, .f32⟩
  | 64 => ⟨S2x8192x1024, .f32⟩
  | 65 => ⟨S2x8192x1024, .f32⟩
  | 66 => ⟨S2x8192x4x256, .f32⟩
  | 67 => ⟨S4x256x2x8192, .f32⟩
  | 68 => ⟨S2x8192x4x256, .f32⟩
  | 69 => ⟨S2x8192x1024, .f32⟩
  | 70 => ⟨S1x1x1024, .f32⟩
  | 71 => ⟨S2x8192x1024, .f32⟩
  | 72 => ⟨S2x8192x1024, .f32⟩
  | 73 => ⟨S2x8192x1024, .f32⟩
  | 74 => ⟨S2x8192x1024, .f32⟩
  | 75 => ⟨S_, .f32⟩
  | 76 => ⟨S2x8192x1024, .f32⟩
  | 77 => ⟨S2x8192x1024, .f32⟩
  | 78 => ⟨S_, .f32⟩
  | 79 => ⟨S2x8192x1024, .f32⟩
  | 80 => ⟨S2x8192x1024, .f32⟩
  | 81 => ⟨S4x256x2x8192, .f32⟩
  | 82 => ⟨S2x8192x4x256, .f32⟩
  | 83 => ⟨S2x8192x1024, .f32⟩
  | 84 => ⟨S1x1x1024, .f32⟩
  | 85 => ⟨S2x8192x1024, .f32⟩
  | 86 => ⟨S2x8192x1024, .f32⟩
  | 87 => ⟨S2x8192x1024, .f32⟩
  | 88 => ⟨S2x8192x1024, .f32⟩
  | 89 => ⟨S_, .f32⟩
  | 90 => ⟨S2x8192x1024, .f32⟩
  | 91 => ⟨S2x8192x1024, .f32⟩
  | 92 => ⟨S_, .f32⟩
  | 93 => ⟨S2x8192x1024, .f32⟩
  | 94 => ⟨S2x8192x1024, .f32⟩
  | 95 => ⟨S_, .f32⟩
  | 96 => ⟨S2x8192x1024, .f32⟩
  | 97 => ⟨S2x8192x1024, .f32⟩
  | 98 => ⟨S1024, .f32⟩
  | 99 => ⟨S_, .f32⟩
  | 100 => ⟨S1024, .f32⟩
  | 101 => ⟨S1024, .f32⟩
  | 102 => ⟨S1024, .f32⟩
  | 103 => ⟨S1024, .f32⟩
  | 104 => ⟨S1024, .i1⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1x1x1024, .f32⟩
  | 114 => ⟨S2x8192x1024, .f32⟩
  | 115 => ⟨S2x8192x1024, .f32⟩
  | 116 => ⟨S2x8192x1024, .f32⟩
  | 117 => ⟨S_, .f32⟩
  | 118 => ⟨S2x8192x1024, .f32⟩
  | 119 => ⟨S2x8192x1024, .f32⟩
  | 120 => ⟨S2x8192x1024, .f32⟩
  | 121 => ⟨S2x8192x1024, .f32⟩
  | 122 => ⟨S2x8192x1024, .f32⟩
  | 123 => ⟨S2x8192x1024, .f32⟩
  | 124 => ⟨S2x8192x1024, .f32⟩
  | 125 => ⟨S_, .f32⟩
  | 126 => ⟨S2x8193x1024, .f32⟩
  | 127 => ⟨S_, .i32⟩
  | _ => ⟨S16384x1024, .f32⟩

abbrev hbmTy0_1 (i : Nat) : BufTy := match i % 128 with
  | 0 => ⟨S_, .i32⟩
  | 1 => ⟨S2x8192x1024, .f32⟩
  | 2 => ⟨S2x8192x1024, .f32⟩
  | 3 => ⟨S_, .i32⟩
  | 4 => ⟨S_, .i32⟩
  | 5 => ⟨S2x8193x1024, .f32⟩
  | 6 => ⟨S_, .i32⟩
  | 7 => ⟨S_, .i1⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S2x1x1024, .f32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S2x1x1024, .f32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S2x1x1024, .f32⟩
  | 37 => ⟨S2x1x1024, .f32⟩
  | 38 => ⟨S2x1x1024, .f32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S2x8193x1024, .f32⟩
  | 50 => ⟨S_, .i32⟩
  | 51 => ⟨S_, .i32⟩
  | 52 => ⟨S2x8192x1024, .f32⟩
  | 53 => ⟨S2x8192x1024, .f32⟩
  | 54 => ⟨S16384x1024, .f32⟩
  | 55 => ⟨S16384x1024, .bf16⟩
  | 56 => ⟨S2x8x1024, .f32⟩
  | 57 => ⟨S2x8x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_cst_6 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_7 : Ref sig .tc := ⟨.hbm, 89, rfl⟩
abbrev main_v72 : Ref sig .tc := ⟨.hbm, 90, rfl⟩
abbrev main_v73 : Ref sig .tc := ⟨.hbm, 91, rfl⟩
abbrev main_cst_8 : Ref sig .tc := ⟨.hbm, 92, rfl⟩
abbrev main_v74 : Ref sig .tc := ⟨.hbm, 93, rfl⟩
abbrev main_v75 : Ref sig .tc := ⟨.hbm, 94, rfl⟩
abbrev main_cst_9 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_call0_cst : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_v5 : Ref sig .tc := ⟨.hbm, 105, rfl⟩
abbrev main_call0_v6 : Ref sig .tc := ⟨.hbm, 106, rfl⟩
abbrev main_call0_v7 : Ref sig .tc := ⟨.hbm, 107, rfl⟩
abbrev main_call0_v8 : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_10 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_11 : Ref sig .tc := ⟨.hbm, 125, rfl⟩
abbrev main_v91 : Ref sig .tc := ⟨.hbm, 126, rfl⟩
abbrev main_c : Ref sig .tc := ⟨.hbm, 127, rfl⟩
abbrev main_c_12 : Ref sig .tc := ⟨.hbm, 128, rfl⟩
abbrev main_v92_0 : Ref sig .tc := ⟨.hbm, 129, rfl⟩
abbrev main_v92_1 : Ref sig .tc := ⟨.hbm, 130, rfl⟩
abbrev main_v92_2 : Ref sig .tc := ⟨.hbm, 131, rfl⟩
abbrev main_v92_3 : Ref sig .tc := ⟨.hbm, 132, rfl⟩
abbrev main_v92_4 : Ref sig .tc := ⟨.hbm, 133, rfl⟩
abbrev main_while0c_c_17 : Ref sig .tc := ⟨.hbm, 134, rfl⟩
abbrev main_while0c_v99 : Ref sig .tc := ⟨.hbm, 135, rfl⟩
abbrev main_while0b_c_17 : Ref sig .tc := ⟨.hbm, 136, rfl⟩
abbrev main_while0b_v99 : Ref sig .tc := ⟨.hbm, 137, rfl⟩
abbrev main_while0b_c_18 : Ref sig .tc := ⟨.hbm, 138, rfl⟩
abbrev main_while0b_v100 : Ref sig .tc := ⟨.hbm, 139, rfl⟩
abbrev main_while0b_v101 : Ref sig .tc := ⟨.hbm, 140, rfl⟩
abbrev main_while0b_c_19 : Ref sig .tc := ⟨.hbm, 141, rfl⟩
abbrev main_while0b_v102 : Ref sig .tc := ⟨.hbm, 142, rfl⟩
abbrev main_while0b_v103 : Ref sig .tc := ⟨.hbm, 143, rfl⟩
abbrev main_while0b_c_20 : Ref sig .tc := ⟨.hbm, 144, rfl⟩
abbrev main_while0b_c_21 : Ref sig .tc := ⟨.hbm, 145, rfl⟩
abbrev main_while0b_v104 : Ref sig .tc := ⟨.hbm, 146, rfl⟩
abbrev main_while0b_c_22 : Ref sig .tc := ⟨.hbm, 147, rfl⟩
abbrev main_while0b_v105 : Ref sig .tc := ⟨.hbm, 148, rfl⟩
abbrev main_while0b_v106 : Ref sig .tc := ⟨.hbm, 149, rfl⟩
abbrev main_while0b_c_23 : Ref sig .tc := ⟨.hbm, 150, rfl⟩
abbrev main_while0b_v107 : Ref sig .tc := ⟨.hbm, 151, rfl⟩
abbrev main_while0b_v108 : Ref sig .tc := ⟨.hbm, 152, rfl⟩
abbrev main_while0b_c_24 : Ref sig .tc := ⟨.hbm, 153, rfl⟩
abbrev main_while0b_c_25 : Ref sig .tc := ⟨.hbm, 154, rfl⟩
abbrev main_while0b_v109 : Ref sig .tc := ⟨.hbm, 155, rfl⟩
abbrev main_while0b_c_26 : Ref sig .tc := ⟨.hbm, 156, rfl⟩
abbrev main_while0b_v110 : Ref sig .tc := ⟨.hbm, 157, rfl⟩
abbrev main_while0b_v111 : Ref sig .tc := ⟨.hbm, 158, rfl⟩
abbrev main_while0b_c_27 : Ref sig .tc := ⟨.hbm, 159, rfl⟩
abbrev main_while0b_v112 : Ref sig .tc := ⟨.hbm, 160, rfl⟩
abbrev main_while0b_v113 : Ref sig .tc := ⟨.hbm, 161, rfl⟩
abbrev main_while0b_c_28 : Ref sig .tc := ⟨.hbm, 162, rfl⟩
abbrev main_while0b_c_29 : Ref sig .tc := ⟨.hbm, 163, rfl⟩
abbrev main_while0b_v114 : Ref sig .tc := ⟨.hbm, 164, rfl⟩
abbrev main_while0b_v115 : Ref sig .tc := ⟨.hbm, 165, rfl⟩
abbrev main_while0b_v116 : Ref sig .tc := ⟨.hbm, 166, rfl⟩
abbrev main_while0b_c_30 : Ref sig .tc := ⟨.hbm, 167, rfl⟩
abbrev main_while0b_v117 : Ref sig .tc := ⟨.hbm, 168, rfl⟩
abbrev main_while0b_c_31 : Ref sig .tc := ⟨.hbm, 169, rfl⟩
abbrev main_while0b_v118 : Ref sig .tc := ⟨.hbm, 170, rfl⟩
abbrev main_while0b_v119 : Ref sig .tc := ⟨.hbm, 171, rfl⟩
abbrev main_while0b_c_32 : Ref sig .tc := ⟨.hbm, 172, rfl⟩
abbrev main_while0b_v120 : Ref sig .tc := ⟨.hbm, 173, rfl⟩
abbrev main_while0b_v121 : Ref sig .tc := ⟨.hbm, 174, rfl⟩
abbrev main_while0b_c_33 : Ref sig .tc := ⟨.hbm, 175, rfl⟩
abbrev main_while0b_c_34 : Ref sig .tc := ⟨.hbm, 176, rfl⟩
abbrev main_while0b_v122 : Ref sig .tc := ⟨.hbm, 177, rfl⟩
abbrev main_while0b_c_35 : Ref sig .tc := ⟨.hbm, 178, rfl⟩
abbrev main_while0b_v123 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_v98 : Ref sig .tc := ⟨.hbm, 185, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S17408x1024 : Shape := ⟨2, ![17408, 1024]⟩
abbrev S17408x4 : Shape := ⟨2, ![17408, 4]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S8x8704 : Shape := ⟨2, ![8, 8704]⟩
abbrev S2176 : Shape := ⟨1, ![2176]⟩
abbrev S2176x1 : Shape := ⟨2, ![2176, 1]⟩
abbrev S1x2176x1x1 : Shape := ⟨4, ![1, 2176, 1, 1]⟩
abbrev S1x2176x4x1 : Shape := ⟨4, ![1, 2176, 4, 1]⟩
abbrev S2176x4 : Shape := ⟨2, ![2176, 4]⟩
abbrev S1x8704 : Shape := ⟨2, ![1, 8704]⟩
abbrev S_ : Shape := ⟨0, ![]⟩
abbrev S8x8704x1 : Shape := ⟨3, ![8, 8704, 1]⟩
abbrev S1 : Shape := ⟨1, ![1]⟩
abbrev S1x1x1 : Shape := ⟨3, ![1, 1, 1]⟩
abbrev S32 : Shape := ⟨1, ![32]⟩
abbrev S1x1x32 : Shape := ⟨3, ![1, 1, 32]⟩
abbrev S8x8704x32 : Shape := ⟨3, ![8, 8704, 32]⟩
abbrev S8x32 : Shape := ⟨2, ![8, 32]⟩
abbrev S8x8712 : Shape := ⟨2, ![8, 8712]⟩
abbrev S8x1x8712 : Shape := ⟨3, ![8, 1, 8712]⟩
abbrev S4x32x1x2048 : Shape := ⟨4, ![4, 32, 1, 2048]⟩
abbrev S4x32x1x1024 : Shape := ⟨4, ![4, 32, 1, 1024]⟩
abbrev S1x1x8712 : Shape := ⟨3, ![1, 1, 8712]⟩
abbrev S2176x1024 : Shape := ⟨2, ![2176, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S304x1024 : Shape := ⟨2, ![304, 1024]⟩
abbrev S1x1 : Shape := ⟨2, ![1, 1]⟩
abbrev S1x1024 : Shape := ⟨2, ![1, 1024]⟩
abbrev S8x1024 : Shape := ⟨2, ![8, 1024]⟩
abbrev S1024x2048 : Shape := ⟨2, ![1024, 2048]⟩
abbrev S304x2048 : Shape := ⟨2, ![304, 2048]⟩
abbrev S1x2048 : Shape := ⟨2, ![1, 2048]⟩
abbrev S1024x1024 : Shape := ⟨2, ![1024, 1024]⟩

abbrev nBuf : Space → Nat
  | .hbm => 87
  | .vmem => 13
  | .smem => 6
  | _ => 0

abbrev bufTy : (tb : Table) → Fin (tcTables nBuf tb) → BufTy
  | .hbm, ⟨0, _⟩ => ⟨S17408x1024, .f32⟩
  | .hbm, ⟨1, _⟩ => ⟨S17408x4, .i32⟩
  | .hbm, ⟨2, _⟩ => ⟨S17408x4, .f32⟩
  | .hbm, ⟨3, _⟩ => ⟨S4x32x1024x2048, .f32⟩
  | .hbm, ⟨4, _⟩ => ⟨S4x32x2048, .f32⟩
  | .hbm, ⟨5, _⟩ => ⟨S4x32x1024x1024, .f32⟩
  | .hbm, ⟨6, _⟩ => ⟨S4x32x1024, .f32⟩
  | .hbm, ⟨7, _⟩ => ⟨S4x32x1024x2048, .bf16⟩
  | .hbm, ⟨8, _⟩ => ⟨S4x32x1024x1024, .bf16⟩
  | .hbm, ⟨9, _⟩ => ⟨S8x8704, .i32⟩
  | .hbm, ⟨10, _⟩ => ⟨S8x8704, .f32⟩
  | .hbm, ⟨11, _⟩ => ⟨S2176, .i32⟩
  | .hbm, ⟨12, _⟩ => ⟨S2176x1, .i32⟩
  | .hbm, ⟨13, _⟩ => ⟨S1x2176x1x1, .i32⟩
  | .hbm, ⟨14, _⟩ => ⟨S1x2176x4x1, .i32⟩
  | .hbm, ⟨15, _⟩ => ⟨S2176x4, .i32⟩
  | .hbm, ⟨16, _⟩ => ⟨S1x8704, .i32⟩
  | .hbm, ⟨17, _⟩ => ⟨S8x8704, .i32⟩
  | .hbm, ⟨18, _⟩ => ⟨S8x8704, .i32⟩
  | .hbm, ⟨19, _⟩ => ⟨S8x8704, .i32⟩
  | .hbm, ⟨20, _⟩ => ⟨S8x8704, .i32⟩
  | .hbm, ⟨21, _⟩ => ⟨S_, .i32⟩
  | .hbm, ⟨22, _⟩ => ⟨S8x8704, .i32⟩
  | .hbm, ⟨23, _⟩ => ⟨S8x8704, .i1⟩
  | .hbm, ⟨24, _⟩ => ⟨S_, .i32⟩
  | .hbm, ⟨25, _⟩ => ⟨S8x8704, .i32⟩
  | .hbm, ⟨26, _⟩ => ⟨S8x8704, .i32⟩
  | .hbm, ⟨27, _⟩ => ⟨S8x8704, .i32⟩
  | .hbm, ⟨28, _⟩ => ⟨S8x8704x1, .i32⟩
  | .hbm, ⟨29, _⟩ => ⟨S1, .i32⟩
  | .hbm, ⟨30, _⟩ => ⟨S_, .i32⟩
  | .hbm, ⟨31, _⟩ => ⟨S8x8704x1, .i32⟩
  | .hbm, ⟨32, _⟩ => ⟨S8x8704x1, .i1⟩
  | .hbm, ⟨33, _⟩ => ⟨S1x1x1, .i32⟩
  | .hbm, ⟨34, _⟩ => ⟨S8x8704x1, .i32⟩
  | .hbm, ⟨35, _⟩ => ⟨S8x8704x1, .i1⟩
  | .hbm, ⟨36, _⟩ => ⟨S8x8704x1, .i1⟩
  | .hbm, ⟨37, _⟩ => ⟨S_, .i1⟩
  | .hbm, ⟨38, _⟩ => ⟨S8x8704, .i1⟩
  | .hbm, ⟨39, _⟩ => ⟨S8x8704, .i32⟩
  | .hbm, ⟨40, _⟩ => ⟨S_, .i32⟩
  | .hbm, ⟨41, _⟩ => ⟨S8x8704, .i32⟩
  | .hbm, ⟨42, _⟩ => ⟨S8x8704, .i32⟩
  | .hbm, ⟨43, _⟩ => ⟨S_, .i32⟩
  | .hbm, ⟨44, _⟩ => ⟨S8x8704, .i32⟩
  | .hbm, ⟨45, _⟩ => ⟨S8x8704, .i1⟩
  | .hbm, ⟨46, _⟩ => ⟨S_, .i32⟩
  | .hbm, ⟨47, _⟩ => ⟨S8x8704, .i32⟩
  | .hbm, ⟨48, _⟩ => ⟨S8x8704, .i32⟩
  | .hbm, ⟨49, _⟩ => ⟨S8x8704, .i32⟩
  | .hbm, ⟨50, _⟩ => ⟨S8x8704x1, .i32⟩
  | .hbm, ⟨51, _⟩ => ⟨S1, .i32⟩
  | .hbm, ⟨52, _⟩ => ⟨S_, .i32⟩
  | .hbm, ⟨53, _⟩ => ⟨S8x8704x1, .i32⟩
  | .hbm, ⟨54, _⟩ => ⟨S8x8704x1, .i1⟩
  | .hbm, ⟨55, _⟩ => ⟨S1x1x1, .i32⟩
  | .hbm, ⟨56, _⟩ => ⟨S8x8704x1, .i32⟩
  | .hbm, ⟨57, _⟩ => ⟨S8x8704x1, .i1⟩
  | .hbm, ⟨58, _⟩ => ⟨S8x8704x1, .i1⟩
  | .hbm, ⟨59, _⟩ => ⟨S_, .i1⟩
  | .hbm, ⟨60, _⟩ => ⟨S8x8704, .i1⟩
  | .hbm, ⟨61, _⟩ => ⟨S8x8704, .f32⟩
  | .hbm, ⟨62, _⟩ => ⟨S_, .f32⟩
  | .hbm, ⟨63, _⟩ => ⟨S8x8704, .f32⟩
  | .hbm, ⟨64, _⟩ => ⟨S8x8704, .f32⟩
  | .hbm, ⟨65, _⟩ => ⟨S8x8704x1, .i32⟩
  | .hbm, ⟨66, _⟩ => ⟨S32, .i32⟩
  | .hbm, ⟨67, _⟩ => ⟨S1x1x32, .i32⟩
  | .hbm, ⟨68, _⟩ => ⟨S8x8704x32, .i32⟩
  | .hbm, ⟨69, _⟩ => ⟨S8x8704x32, .i32⟩
  | .hbm, ⟨70, _⟩ => ⟨S8x8704x32, .i1⟩
  | .hbm, ⟨71, _⟩ => ⟨S8x8704x32, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S8x32, .i32⟩
  | .hbm, ⟨76, _⟩ => ⟨S_, .i32⟩
  | .hbm, ⟨77, _⟩ => ⟨S_, .i32⟩
  | .hbm, ⟨78, _⟩ => ⟨S8x8712, .i32⟩
  | .hbm, ⟨79, _⟩ => ⟨S8x1x8712, .i32⟩
  | .hbm, ⟨80, _⟩ => ⟨S_, .i32⟩
  | .hbm, ⟨81, _⟩ => ⟨S_, .f32⟩
  | .hbm, ⟨82, _⟩ => ⟨S8x8712, .f32⟩
  | .hbm, ⟨83, _⟩ => ⟨S8x1x8712, .f32⟩
  | .hbm, ⟨84, _⟩ => ⟨S4x32x1x2048, .f32⟩
  | .hbm, ⟨85, _⟩ => ⟨S4x32x1x1024, .f32⟩
  | .hbm, ⟨86, _⟩ => ⟨S17408x1024, .f32⟩
  | .local _ .vmem, ⟨0, _⟩ => ⟨S2176x1024, .f32⟩
  | .local _ .vmem, ⟨1, _⟩ => ⟨S1x1x1024x2048, .bf16⟩
  | .local _ .vmem, ⟨2, _⟩ => ⟨S1x1x1024x2048, .bf16⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1024x1024, .bf16⟩
  | .local _ .vmem, ⟨6, _⟩ => ⟨S1x1x1024x1024, .bf16⟩
  | .local _ .vmem, ⟨7, _⟩ => ⟨S1x1x1x1024, .f32⟩
  | .local _ .vmem, ⟨8, _⟩ => ⟨S1x1x1x1024, .f32⟩
  | .local _ .vmem, ⟨9, _⟩ => ⟨S2176x1024, .f32⟩
  | .local _ .vmem, ⟨10, _⟩ => ⟨S2176x1024, .f32⟩
  | .local _ .vmem, ⟨11, _⟩ => ⟨S304x1024, .f32⟩
  | .local _ .vmem, ⟨12, _⟩ => ⟨S304x1024, .f32⟩
  | .local _ .smem, ⟨0, _⟩ => ⟨S8x32, .i32⟩
  | .local _ .smem, ⟨1, _⟩ => ⟨S8x32, .i32⟩
  | .local _ .smem, ⟨2, _⟩ => ⟨S1x1x8712, .i32⟩
  | .local _ .smem, ⟨3, _⟩ => ⟨S1x1x8712, .i32⟩
  | .local _ .smem, ⟨4, _⟩ => ⟨S1x1x8712, .f32⟩
  | .local _ .smem, ⟨5, _⟩ => ⟨S1x1x8712, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1_0 : Ref sig .tc := ⟨.hbm, 18, rfl⟩
abbrev main_v10 : Ref sig .tc := ⟨.hbm, 19, rfl⟩
abbrev main_v11 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_c_4 : Ref sig .tc := ⟨.hbm, 40, rfl⟩
abbrev main_call1_v14 : Ref sig .tc := ⟨.hbm, 41, rfl⟩
abbrev main_v12 : Ref sig .tc := ⟨.hbm, 42, rfl⟩
abbrev main_call2_c : Ref sig .tc := ⟨.hbm, 43, rfl⟩
abbrev main_call2_v0 : Ref sig .tc := ⟨.hbm, 44, rfl⟩
abbrev main_call2_v1 : Ref sig .tc := ⟨.hbm, 45, rfl⟩
abbrev main_call2_c_0 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_c_1 : Ref sig .tc := ⟨.hbm, 51, rfl⟩
abbrev main_call2_c_2 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_3 : Ref sig .tc := ⟨.hbm, 59, rfl⟩
abbrev main_call2_v12 : Ref sig .tc := ⟨.hbm, 60, rfl⟩
abbrev main_call2_v13 : Ref sig .tc := ⟨.hbm, 61, rfl⟩
abbrev main_call2_cst : Ref sig .tc := ⟨.hbm, 62, rfl⟩
abbrev main_call2_v14 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_c : Ref sig .tc := ⟨.hbm, 72, rfl⟩
abbrev main_call3_call0_c : Ref sig .tc := ⟨.hbm, 73, rfl⟩
abbrev main_call3_call0_v0 : Ref sig .tc := ⟨.hbm, 74, rfl⟩
abbrev main_v22 : Ref sig .tc := ⟨.hbm, 75, rfl⟩
abbrev main_c_0 : Ref sig .tc := ⟨.hbm, 76, rfl⟩
abbrev main_call4_v0 : Ref sig .tc := ⟨.hbm, 77, rfl⟩
abbrev main_v24 : Ref sig .tc := ⟨.hbm, 78, rfl⟩
abbrev main_v25 : Ref sig .tc := ⟨.hbm, 79, rfl⟩
abbrev main_c_1 : Ref sig .tc := ⟨.hbm, 80, rfl⟩
abbrev main_call5_v0 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v23 : Ref sig .tc := ⟨.smem, 0, rfl⟩
abbrev main_v21 : Ref sig .tc := ⟨.smem, 1, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 32], ![false, false]⟩

abbrev pre0 : Pipeline.Prefetch sig := ⟨2, ![main_v23.idx, main_v21.idx], fun | 0 => main_v23.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let v8 : Index := Scalar.indexCast arg0
  let arg1 : BitVec 32 := BitVec.ofNat 32 (i 1).val
  let v9 : Index := Scalar.indexCast arg1
  ![v8.toNat, v9.toNat]
@[reducible] def k0_t1_loop (v13 : BitVec 32) : Scf.Loop 32 :=
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_14 : BitVec 32 := 1#32
  ⟨c0_i32_12, v37, c1_i32_14⟩

@[reducible] def k0_t2_loop (v13 : BitVec 32) (k0_t1 : Fin (k0_t1_loop v13).trips) : Scf.Loop 32 :=
  let c0_i32_26 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_28 : BitVec 32 := 1#32
  ⟨c0_i32_26, v65, c1_i32_28⟩
def k0_mult1 (v13 : BitVec 32) (k0_t1 : Fin (k0_t1_loop v13).trips) (k0_t2 : Fin (k0_t2_loop v13 k0_t1).trips) : BitVec 32 :=
  let c0_i32_26 : BitVec 32 := 0#32
  let c1_i32_28 : BitVec 32 := 1#32
  let arg15 : BitVec 32 := Scf.iv c0_i32_26 c1_i32_28 k0_t2
  let c8_i32_63 : BitVec 32 := 8#32
  let v112 : BitVec 32 := Scalar.muli arg15 c8_i32_63
  v112
def k0_off2 (v10 : BitVec 32) (v13 : BitVec 32) (k0_t1 : Fin (k0_t1_loop v13).trips) (k0_t2 : Fin (k0_t2_loop v13 k0_t1).trips) : Fin 3 → Nat :=
  let c0_65 : Index := 0#32
  let c0_66 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t2
  let c8_i32_63 : BitVec 32 := 8#32
  let v112 : BitVec 32 := Scalar.muli arg15 c8_i32_63
  let v113 : BitVec 32 := v112
  let v114 : BitVec 32 := Scalar.addi v39 v113
  let c0_i32_64 : BitVec 32 := 0#32
  let v115 : BitVec 32 := Scalar.addi v114 c0_i32_64
  let v116 : Index := Scalar.indexCast v115
  ![0, 0, v116.toNat]
def k0_off3 (v117 : BitVec 32) : Fin 2 → Nat :=
  let v118 : Index := Scalar.indexCast v117
  let c0_67 : Index := 0#32
  ![v118.toNat, 0]

def k0_chk2 (v117 : BitVec 32) : Prop :=
  (∀ a, (k0_off3 v117) a + S1x1024.size a ≤ S2176x1024.size a)
theorem k0_off3_inb : ∀ (v117 : BitVec 32) (k0_hw2 : k0_chk2 v117), ∀ a, (k0_off3 v117) a + S1x1024.size a ≤ S2176x1024.size a := fun v117 k0_hw2 => k0_hw2

def k0_off4 (v10 : BitVec 32) (v13 : BitVec 32) (k0_t1 : Fin (k0_t1_loop v13).trips) (k0_t2 : Fin (k0_t2_loop v13 k0_t1).trips) : Fin 3 → Nat :=
  let c0_69 : Index := 0#32
  let c0_70 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t2
  let c8_i32_63 : BitVec 32 := 8#32
  let v112 : BitVec 32 := Scalar.muli arg15 c8_i32_63
  let v113 : BitVec 32 := v112
  let v120 : BitVec 32 := Scalar.addi v39 v113
  let c1_i32_68 : BitVec 32 := 1#32
  let v121 : BitVec 32 := Scalar.addi v120 c1_i32_68
  let v122 : Index := Scalar.indexCast v121
  ![0, 0, v122.toNat]
def k0_off5 (v123 : BitVec 32) : Fin 2 → Nat :=
  let v124 : Index := Scalar.indexCast v123
  let c0_71 : Index := 0#32
  ![v124.toNat, 0]

def k0_chk3 (v123 : BitVec 32) : Prop :=
  (∀ a, (k0_off5 v123) a + S1x1024.size a ≤ S2176x1024.size a)
theorem k0_off5_inb : ∀ (v123 : BitVec 32) (k0_hw3 : k0_chk3 v123), ∀ a, (k0_off5 v123) a + S1x1024.size a ≤ S2176x1024.size a := fun v123 k0_hw3 => k0_hw3

def k0_off6 (v10 : BitVec 32) (v13 : BitVec 32) (k0_t1 : Fin (k0_t1_loop v13).trips) (k0_t2 : Fin (k0_t2_loop v13 k0_t1).trips) : Fin 3 → Nat :=
  let c0_72 : Index := 0#32
  let c0_73 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t2
  let c8_i32_63 : BitVec 32 := 8#32
  let v112 : BitVec 32 := Scalar.muli arg15 c8_i32_63
  let v113 : BitVec 32 := v112
  let v126 : BitVec 32 := Scalar.addi v39 v113
  let c2_i32 : BitVec 32 := 2#32
  let v127 : BitVec 32 := Scalar.addi v126 c2_i32
  let v128 : Index := Scalar.indexCast v127
  ![0, 0, v128.toNat]
def k0_off7 (v129 : BitVec 32) : Fin 2 → Nat :=
  let v130 : Index := Scalar.indexCast v129
  let c0_74 : Index := 0#32
  ![v130.toNat, 0]

def k0_chk4 (v129 : BitVec 32) : Prop :=
  (∀ a, (k0_off7 v129) a + S1x1024.size a ≤ S2176x1024.size a)
theorem k0_off7_inb : ∀ (v129 : BitVec 32) (k0_hw4 : k0_chk4 v129), ∀ a, (k0_off7 v129) a + S1x1024.size a ≤ S2176x1024.size a := fun v129 k0_hw4 => k0_hw4

def k0_off8 (v10 : BitVec 32) (v13 : BitVec 32) (k0_t1 : Fin (k0_t1_loop v13).trips) (k0_t2 : Fin (k0_t2_loop v13 k0_t1).trips) : Fin 3 → Nat :=
  let c0_75 : Index := 0#32
  let c0_76 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t2
  let c8_i32_63 : BitVec 32 := 8#32
  let v112 : BitVec 32 := Scalar.muli arg15 c8_i32_63
  let v113 : BitVec 32 := v112
  let v132 : BitVec 32 := Scalar.addi v39 v113
  let c3_i32 : BitVec 32 := 3#32
  let v133 : BitVec 32 := Scalar.addi v132 c3_i32
  let v134 : Index := Scalar.indexCast v133
  ![0, 0, v134.toNat]
def k0_off9 (v135 : BitVec 32) : Fin 2 → Nat :=
  let v136 : Index := Scalar.indexCast v135
  let c0_77 : Index := 0#32
  ![v136.toNat, 0]

def k0_chk5 (v135 : BitVec 32) : Prop :=
  (∀ a, (k0_off9 v135) a + S1x1024.size a ≤ S2176x1024.size a)
theorem k0_off9_inb : ∀ (v135 : BitVec 32) (k0_hw5 : k0_chk5 v135), ∀ a, (k0_off9 v135) a + S1x1024.size a ≤ S2176x1024.size a := fun v135 k0_hw5 => k0_hw5

def k0_off10 (v10 : BitVec 32) (v13 : BitVec 32) (k0_t1 : Fin (k0_t1_loop v13).trips) (k0_t2 : Fin (k0_t2_loop v13 k0_t1).trips) : Fin 3 → Nat :=
  let c0_78 : Index := 0#32
  let c0_79 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t2
  let c8_i32_63 : BitVec 32 := 8#32
  let v112 : BitVec 32 := Scalar.muli arg15 c8_i32_63
  let v113 : BitVec 32 := v112
  let v138 : BitVec 32 := Scalar.addi v39 v113
  let c4_i32 : BitVec 32 := 4#32
  let v139 : BitVec 32 := Scalar.addi v138 c4_i32
  let v140 : Index := Scalar.indexCast v139
  ![0, 0, v140.toNat]
def k0_off11 (v141 : BitVec 32) : Fin 2 → Nat :=
  let v142 : Index := Scalar.indexCast v141
  let c0_80 : Index := 0#32
  ![v142.toNat, 0]

def k0_chk6 (v141 : BitVec 32) : Prop :=
  (∀ a, (k0_off11 v141) a + S1x1024.size a ≤ S2176x1024.size a)
theorem k0_off11_inb : ∀ (v141 : BitVec 32) (k0_hw6 : k0_chk6 v141), ∀ a, (k0_off11 v141) a + S1x1024.size a ≤ S2176x1024.size a := fun v141 k0_hw6 => k0_hw6

def k0_off12 (v10 : BitVec 32) (v13 : BitVec 32) (k0_t1 : Fin (k0_t1_loop v13).trips) (k0_t2 : Fin (k0_t2_loop v13 k0_t1).trips) : Fin 3 → Nat :=
  let c0_81 : Index := 0#32
  let c0_82 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t2
  let c8_i32_63 : BitVec 32 := 8#32
  let v112 : BitVec 32 := Scalar.muli arg15 c8_i32_63
  let v113 : BitVec 32 := v112
  let v144 : BitVec 32 := Scalar.addi v39 v113
  let c5_i32 : BitVec 32 := 5#32
  let v145 : BitVec 32 := Scalar.addi v144 c5_i32
  let v146 : Index := Scalar.indexCast v145
  ![0, 0, v146.toNat]
def k0_off13 (v147 : BitVec 32) : Fin 2 → Nat :=
  let v148 : Index := Scalar.indexCast v147
  let c0_83 : Index := 0#32
  ![v148.toNat, 0]

def k0_chk7 (v147 : BitVec 32) : Prop :=
  (∀ a, (k0_off13 v147) a + S1x1024.size a ≤ S2176x1024.size a)
theorem k0_off13_inb : ∀ (v147 : BitVec 32) (k0_hw7 : k0_chk7 v147), ∀ a, (k0_off13 v147) a + S1x1024.size a ≤ S2176x1024.size a := fun v147 k0_hw7 => k0_hw7

def k0_off14 (v10 : BitVec 32) (v13 : BitVec 32) (k0_t1 : Fin (k0_t1_loop v13).trips) (k0_t2 : Fin (k0_t2_loop v13 k0_t1).trips) : Fin 3 → Nat :=
  let c0_84 : Index := 0#32
  let c0_85 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t2
  let c8_i32_63 : BitVec 32 := 8#32
  let v112 : BitVec 32 := Scalar.muli arg15 c8_i32_63
  let v113 : BitVec 32 := v112
  let v150 : BitVec 32 := Scalar.addi v39 v113
  let c6_i32 : BitVec 32 := 6#32
  let v151 : BitVec 32 := Scalar.addi v150 c6_i32
  let v152 : Index := Scalar.indexCast v151
  ![0, 0, v152.toNat]
def k0_off15 (v153 : BitVec 32) : Fin 2 → Nat :=
  let v154 : Index := Scalar.indexCast v153
  let c0_86 : Index := 0#32
  ![v154.toNat, 0]

def k0_chk8 (v153 : BitVec 32) : Prop :=
  (∀ a, (k0_off15 v153) a + S1x1024.size a ≤ S2176x1024.size a)
theorem k0_off15_inb : ∀ (v153 : BitVec 32) (k0_hw8 : k0_chk8 v153), ∀ a, (k0_off15 v153) a + S1x1024.size a ≤ S2176x1024.size a := fun v153 k0_hw8 => k0_hw8

def k0_off16 (v10 : BitVec 32) (v13 : BitVec 32) (k0_t1 : Fin (k0_t1_loop v13).trips) (k0_t2 : Fin (k0_t2_loop v13 k0_t1).trips) : Fin 3 → Nat :=
  let c0_88 : Index := 0#32
  let c0_89 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t2
  let c8_i32_63 : BitVec 32 := 8#32
  let v112 : BitVec 32 := Scalar.muli arg15 c8_i32_63
  let v113 : BitVec 32 := v112
  let v156 : BitVec 32 := Scalar.addi v39 v113
  let c7_i32_87 : BitVec 32 := 7#32
  let v157 : BitVec 32 := Scalar.addi v156 c7_i32_87
  let v158 : Index := Scalar.indexCast v157
  ![0, 0, v158.toNat]
def k0_off17 (v159 : BitVec 32) : Fin 2 → Nat :=
  let v160 : Index := Scalar.indexCast v159
  let c0_90 : Index := 0#32
  ![v160.toNat, 0]

def k0_chk9 (v159 : BitVec 32) : Prop :=
  (∀ a, (k0_off17 v159) a + S1x1024.size a ≤ S2176x1024.size a)
theorem k0_off17_inb : ∀ (v159 : BitVec 32) (k0_hw9 : k0_chk9 v159), ∀ a, (k0_off17 v159) a + S1x1024.size a ≤ S2176x1024.size a := fun v159 k0_hw9 => k0_hw9

def k0_off18 (v13 : BitVec 32) (k0_t1 : Fin (k0_t1_loop v13).trips) (k0_t2 : Fin (k0_t2_loop v13 k0_t1).trips) : Fin 2 → Nat :=
  let c0_i32_26 : BitVec 32 := 0#32
  let c1_i32_28 : BitVec 32 := 1#32
  let arg15 : BitVec 32 := Scf.iv c0_i32_26 c1_i32_28 k0_t2
  let c8_i32_63 : BitVec 32 := 8#32
  let v112 : BitVec 32 := Scalar.muli arg15 c8_i32_63
  let v113 : BitVec 32 := v112
  let v163 : Index := Scalar.indexCast v113
  let c0_91 : Index := 0#32
  ![v163.toNat, 0]
@[reducible] def k0_t3_loop (v13 : BitVec 32) (k0_t1 : Fin (k0_t1_loop v13).trips) : Scf.Loop 32 :=
  let c0_i32_26 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let v62 : BitVec 32 := Scalar.addi c0_i32_26 v61
  let c1_i32_29 : BitVec 32 := 1#32
  ⟨v65, v62, c1_i32_29⟩
def k0_mult2 (v13 : BitVec 32) (k0_t1 : Fin (k0_t1_loop v13).trips) (k0_t3 : Fin (k0_t3_loop v13 k0_t1).trips) : BitVec 32 :=
  let c0_i32_26 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t3
  let c8_i32_63 : BitVec 32 := 8#32
  let v112 : BitVec 32 := Scalar.muli arg15 c8_i32_63
  v112
def k0_off19 (v10 : BitVec 32) (v13 : BitVec 32) (k0_t1 : Fin (k0_t1_loop v13).trips) (k0_t3 : Fin (k0_t3_loop v13 k0_t1).trips) : Fin 3 → Nat :=
  let c0_65 : Index := 0#32
  let c0_66 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t3
  let c8_i32_63 : BitVec 32 := 8#32
  let v112 : BitVec 32 := Scalar.muli arg15 c8_i32_63
  let v113 : BitVec 32 := v112
  let v114 : BitVec 32 := Scalar.addi v39 v113
  let c0_i32_64 : BitVec 32 := 0#32
  let v115 : BitVec 32 := Scalar.addi v114 c0_i32_64
  let v116 : Index := Scalar.indexCast v115
  ![0, 0, v116.toNat]
def k0_off20 (v117 : BitVec 32) : Fin 2 → Nat :=
  let v118 : Index := Scalar.indexCast v117
  let c0_67 : Index := 0#32
  ![v118.toNat, 0]

def k0_chk10 (v117 : BitVec 32) : Prop :=
  (∀ a, (k0_off20 v117) a + S1x1024.size a ≤ S2176x1024.size a)
theorem k0_off20_inb : ∀ (v117 : BitVec 32) (k0_hw10 : k0_chk10 v117), ∀ a, (k0_off20 v117) a + S1x1024.size a ≤ S2176x1024.size a := fun v117 k0_hw10 => k0_hw10

def k0_off21 (v10 : BitVec 32) (v13 : BitVec 32) (k0_t1 : Fin (k0_t1_loop v13).trips) (k0_t3 : Fin (k0_t3_loop v13 k0_t1).trips) : Fin 3 → Nat :=
  let c0_69 : Index := 0#32
  let c0_70 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t3
  let c8_i32_63 : BitVec 32 := 8#32
  let v112 : BitVec 32 := Scalar.muli arg15 c8_i32_63
  let v113 : BitVec 32 := v112
  let v120 : BitVec 32 := Scalar.addi v39 v113
  let c1_i32_68 : BitVec 32 := 1#32
  let v121 : BitVec 32 := Scalar.addi v120 c1_i32_68
  let v122 : Index := Scalar.indexCast v121
  ![0, 0, v122.toNat]
def k0_off22 (v123 : BitVec 32) : Fin 2 → Nat :=
  let v124 : Index := Scalar.indexCast v123
  let c0_71 : Index := 0#32
  ![v124.toNat, 0]

def k0_chk11 (v123 : BitVec 32) : Prop :=
  (∀ a, (k0_off22 v123) a + S1x1024.size a ≤ S2176x1024.size a)
theorem k0_off22_inb : ∀ (v123 : BitVec 32) (k0_hw11 : k0_chk11 v123), ∀ a, (k0_off22 v123) a + S1x1024.size a ≤ S2176x1024.size a := fun v123 k0_hw11 => k0_hw11

def k0_off23 (v10 : BitVec 32) (v13 : BitVec 32) (k0_t1 : Fin (k0_t1_loop v13).trips) (k0_t3 : Fin (k0_t3_loop v13 k0_t1).trips) : Fin 3 → Nat :=
  let c0_72 : Index := 0#32
  let c0_73 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t3
  let c8_i32_63 : BitVec 32 := 8#32
  let v112 : BitVec 32 := Scalar.muli arg15 c8_i32_63
  let v113 : BitVec 32 := v112
  let v126 : BitVec 32 := Scalar.addi v39 v113
  let c2_i32 : BitVec 32 := 2#32
  let v127 : BitVec 32 := Scalar.addi v126 c2_i32
  let v128 : Index := Scalar.indexCast v127
  ![0, 0, v128.toNat]
def k0_off24 (v129 : BitVec 32) : Fin 2 → Nat :=
  let v130 : Index := Scalar.indexCast v129
  let c0_74 : Index := 0#32
  ![v130.toNat, 0]

def k0_chk12 (v129 : BitVec 32) : Prop :=
  (∀ a, (k0_off24 v129) a + S1x1024.size a ≤ S2176x1024.size a)
theorem k0_off24_inb : ∀ (v129 : BitVec 32) (k0_hw12 : k0_chk12 v129), ∀ a, (k0_off24 v129) a + S1x1024.size a ≤ S2176x1024.size a := fun v129 k0_hw12 => k0_hw12

def k0_off25 (v10 : BitVec 32) (v13 : BitVec 32) (k0_t1 : Fin (k0_t1_loop v13).trips) (k0_t3 : Fin (k0_t3_loop v13 k0_t1).trips) : Fin 3 → Nat :=
  let c0_75 : Index := 0#32
  let c0_76 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t3
  let c8_i32_63 : BitVec 32 := 8#32
  let v112 : BitVec 32 := Scalar.muli arg15 c8_i32_63
  let v113 : BitVec 32 := v112
  let v132 : BitVec 32 := Scalar.addi v39 v113
  let c3_i32 : BitVec 32 := 3#32
  let v133 : BitVec 32 := Scalar.addi v132 c3_i32
  let v134 : Index := Scalar.indexCast v133
  ![0, 0, v134.toNat]
def k0_off26 (v135 : BitVec 32) : Fin 2 → Nat :=
  let v136 : Index := Scalar.indexCast v135
  let c0_77 : Index := 0#32
  ![v136.toNat, 0]

def k0_chk13 (v135 : BitVec 32) : Prop :=
  (∀ a, (k0_off26 v135) a + S1x1024.size a ≤ S2176x1024.size a)
theorem k0_off26_inb : ∀ (v135 : BitVec 32) (k0_hw13 : k0_chk13 v135), ∀ a, (k0_off26 v135) a + S1x1024.size a ≤ S2176x1024.size a := fun v135 k0_hw13 => k0_hw13

def k0_off27 (v10 : BitVec 32) (v13 : BitVec 32) (k0_t1 : Fin (k0_t1_loop v13).trips) (k0_t3 : Fin (k0_t3_loop v13 k0_t1).trips) : Fin 3 → Nat :=
  let c0_78 : Index := 0#32
  let c0_79 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t3
  let c8_i32_63 : BitVec 32 := 8#32
  let v112 : BitVec 32 := Scalar.muli arg15 c8_i32_63
  let v113 : BitVec 32 := v112
  let v138 : BitVec 32 := Scalar.addi v39 v113
  let c4_i32 : BitVec 32 := 4#32
  let v139 : BitVec 32 := Scalar.addi v138 c4_i32
  let v140 : Index := Scalar.indexCast v139
  ![0, 0, v140.toNat]
def k0_off28 (v141 : BitVec 32) : Fin 2 → Nat :=
  let v142 : Index := Scalar.indexCast v141
  let c0_80 : Index := 0#32
  ![v142.toNat, 0]

def k0_chk14 (v141 : BitVec 32) : Prop :=
  (∀ a, (k0_off28 v141) a + S1x1024.size a ≤ S2176x1024.size a)
theorem k0_off28_inb : ∀ (v141 : BitVec 32) (k0_hw14 : k0_chk14 v141), ∀ a, (k0_off28 v141) a + S1x1024.size a ≤ S2176x1024.size a := fun v141 k0_hw14 => k0_hw14

def k0_off29 (v10 : BitVec 32) (v13 : BitVec 32) (k0_t1 : Fin (k0_t1_loop v13).trips) (k0_t3 : Fin (k0_t3_loop v13 k0_t1).trips) : Fin 3 → Nat :=
  let c0_81 : Index := 0#32
  let c0_82 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t3
  let c8_i32_63 : BitVec 32 := 8#32
  let v112 : BitVec 32 := Scalar.muli arg15 c8_i32_63
  let v113 : BitVec 32 := v112
  let v144 : BitVec 32 := Scalar.addi v39 v113
  let c5_i32 : BitVec 32 := 5#32
  let v145 : BitVec 32 := Scalar.addi v144 c5_i32
  let v146 : Index := Scalar.indexCast v145
  ![0, 0, v146.toNat]
def k0_off30 (v147 : BitVec 32) : Fin 2 → Nat :=
  let v148 : Index := Scalar.indexCast v147
  let c0_83 : Index := 0#32
  ![v148.toNat, 0]

def k0_chk15 (v147 : BitVec 32) : Prop :=
  (∀ a, (k0_off30 v147) a + S1x1024.size a ≤ S2176x1024.size a)
theorem k0_off30_inb : ∀ (v147 : BitVec 32) (k0_hw15 : k0_chk15 v147), ∀ a, (k0_off30 v147) a + S1x1024.size a ≤ S2176x1024.size a := fun v147 k0_hw15 => k0_hw15

def k0_off31 (v10 : BitVec 32) (v13 : BitVec 32) (k0_t1 : Fin (k0_t1_loop v13).trips) (k0_t3 : Fin (k0_t3_loop v13 k0_t1).trips) : Fin 3 → Nat :=
  let c0_84 : Index := 0#32
  let c0_85 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t3
  let c8_i32_63 : BitVec 32 := 8#32
  let v112 : BitVec 32 := Scalar.muli arg15 c8_i32_63
  let v113 : BitVec 32 := v112
  let v150 : BitVec 32 := Scalar.addi v39 v113
  let c6_i32 : BitVec 32 := 6#32
  let v151 : BitVec 32 := Scalar.addi v150 c6_i32
  let v152 : Index := Scalar.indexCast v151
  ![0, 0, v152.toNat]
def k0_off32 (v153 : BitVec 32) : Fin 2 → Nat :=
  let v154 : Index := Scalar.indexCast v153
  let c0_86 : Index := 0#32
  ![v154.toNat, 0]

def k0_chk16 (v153 : BitVec 32) : Prop :=
  (∀ a, (k0_off32 v153) a + S1x1024.size a ≤ S2176x1024.size a)
theorem k0_off32_inb : ∀ (v153 : BitVec 32) (k0_hw16 : k0_chk16 v153), ∀ a, (k0_off32 v153) a + S1x1024.size a ≤ S2176x1024.size a := fun v153 k0_hw16 => k0_hw16

def k0_off33 (v10 : BitVec 32) (v13 : BitVec 32) (k0_t1 : Fin (k0_t1_loop v13).trips) (k0_t3 : Fin (k0_t3_loop v13 k0_t1).trips) : Fin 3 → Nat :=
  let c0_88 : Index := 0#32
  let c0_89 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t3
  let c8_i32_63 : BitVec 32 := 8#32
  let v112 : BitVec 32 := Scalar.muli arg15 c8_i32_63
  let v113 : BitVec 32 := v112
  let v156 : BitVec 32 := Scalar.addi v39 v113
  let c7_i32_87 : BitVec 32 := 7#32
  let v157 : BitVec 32 := Scalar.addi v156 c7_i32_87
  let v158 : Index := Scalar.indexCast v157
  ![0, 0, v158.toNat]
def k0_off34 (v159 : BitVec 32) : Fin 2 → Nat :=
  let v160 : Index := Scalar.indexCast v159
  let c0_90 : Index := 0#32
  ![v160.toNat, 0]

def k0_chk17 (v159 : BitVec 32) : Prop :=
  (∀ a, (k0_off34 v159) a + S1x1024.size a ≤ S2176x1024.size a)
theorem k0_off34_inb : ∀ (v159 : BitVec 32) (k0_hw17 : k0_chk17 v159), ∀ a, (k0_off34 v159) a + S1x1024.size a ≤ S2176x1024.size a := fun v159 k0_hw17 => k0_hw17

def k0_off35 (v13 : BitVec 32) (k0_t1 : Fin (k0_t1_loop v13).trips) (k0_t3 : Fin (k0_t3_loop v13 k0_t1).trips) : Fin 2 → Nat :=
  let c0_i32_26 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t3
  let c8_i32_63 : BitVec 32 := 8#32
  let v112 : BitVec 32 := Scalar.muli arg15 c8_i32_63
  let v113 : BitVec 32 := v112
  let v163 : Index := Scalar.indexCast v113
  let c0_91 : Index := 0#32
  ![v163.toNat, 0]
@[reducible] def k0_t4_loop (v13 : BitVec 32) (k0_t1 : Fin (k0_t1_loop v13).trips) : Scf.Loop 32 :=
  let c0_i32_59 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_61 : BitVec 32 := 1#32
  ⟨c0_i32_59, v111, c1_i32_61⟩
def k0_off36 (v10 : BitVec 32) (v13 : BitVec 32) (k0_t1 : Fin (k0_t1_loop v13).trips) (k0_t4 : Fin (k0_t4_loop v13 k0_t1).trips) : Fin 3 → Nat :=
  let c0_65 : Index := 0#32
  let c0_66 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t4
  let c8_i32_63 : BitVec 32 := 8#32
  let v112 : BitVec 32 := Scalar.muli arg15 c8_i32_63
  let c0_i32_64 : BitVec 32 := 0#32
  let v113 : BitVec 32 := Scalar.addi v112 c0_i32_64
  let v114 : BitVec 32 := Scalar.addi v39 v113
  let v115 : Index := Scalar.indexCast v114
  ![0, 0, v115.toNat]
def k0_off37 (v116 : BitVec 32) : Fin 2 → Nat :=
  let v122 : Index := Scalar.indexCast v116
  let c0_70 : Index := 0#32
  ![v122.toNat, 0]

def k0_chk18 (v116 : BitVec 32) : Prop :=
  (∀ a, (k0_off37 v116) a + S1x1024.size a ≤ S2176x1024.size a)
theorem k0_off37_inb : ∀ (v116 : BitVec 32) (k0_hw18 : k0_chk18 v116), ∀ a, (k0_off37 v116) a + S1x1024.size a ≤ S2176x1024.size a := fun v116 k0_hw18 => k0_hw18

def k0_off38 (v13 : BitVec 32) (k0_t1 : Fin (k0_t1_loop v13).trips) (k0_t4 : Fin (k0_t4_loop v13 k0_t1).trips) : Fin 2 → Nat :=
  let c0_i32_59 : BitVec 32 := 0#32
  let c1_i32_61 : BitVec 32 := 1#32
  let arg15 : BitVec 32 := Scf.iv c0_i32_59 c1_i32_61 k0_t4
  let c8_i32_63 : BitVec 32 := 8#32
  let v112 : BitVec 32 := Scalar.muli arg15 c8_i32_63
  let c0_i32_64 : BitVec 32 := 0#32
  let v113 : BitVec 32 := Scalar.addi v112 c0_i32_64
  let v125 : Index := Scalar.indexCast v113
  let c0_71 : Index := 0#32
  ![v125.toNat, 0]
def k0_off39 (v10 : BitVec 32) (v13 : BitVec 32) (k0_t1 : Fin (k0_t1_loop v13).trips) (k0_t4 : Fin (k0_t4_loop v13 k0_t1).trips) : Fin 3 → Nat :=
  let c0_75 : Index := 0#32
  let c0_76 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t4
  let c8_i32_73 : BitVec 32 := 8#32
  let v132 : BitVec 32 := Scalar.muli arg15 c8_i32_73
  let c1_i32_74 : BitVec 32 := 1#32
  let v133 : BitVec 32 := Scalar.addi v132 c1_i32_74
  let v134 : BitVec 32 := Scalar.addi v39 v133
  let v135 : Index := Scalar.indexCast v134
  ![0, 0, v135.toNat]
def k0_off40 (v136 : BitVec 32) : Fin 2 → Nat :=
  let v142 : Index := Scalar.indexCast v136
  let c0_80 : Index := 0#32
  ![v142.toNat, 0]

def k0_chk19 (v136 : BitVec 32) : Prop :=
  (∀ a, (k0_off40 v136) a + S1x1024.size a ≤ S2176x1024.size a)
theorem k0_off40_inb : ∀ (v136 : BitVec 32) (k0_hw19 : k0_chk19 v136), ∀ a, (k0_off40 v136) a + S1x1024.size a ≤ S2176x1024.size a := fun v136 k0_hw19 => k0_hw19

def k0_off41 (v13 : BitVec 32) (k0_t1 : Fin (k0_t1_loop v13).trips) (k0_t4 : Fin (k0_t4_loop v13 k0_t1).trips) : Fin 2 → Nat :=
  let c0_i32_59 : BitVec 32 := 0#32
  let c1_i32_61 : BitVec 32 := 1#32
  let arg15 : BitVec 32 := Scf.iv c0_i32_59 c1_i32_61 k0_t4
  let c8_i32_73 : BitVec 32 := 8#32
  let v132 : BitVec 32 := Scalar.muli arg15 c8_i32_73
  let c1_i32_74 : BitVec 32 := 1#32
  let v133 : BitVec 32 := Scalar.addi v132 c1_i32_74
  let v145 : Index := Scalar.indexCast v133
  let c0_81 : Index := 0#32
  ![v145.toNat, 0]
def k0_off42 (v10 : BitVec 32) (v13 : BitVec 32) (k0_t1 : Fin (k0_t1_loop v13).trips) (k0_t4 : Fin (k0_t4_loop v13 k0_t1).trips) : Fin 3 → Nat :=
  let c0_84 : Index := 0#32
  let c0_85 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t4
  let c8_i32_83 : BitVec 32 := 8#32
  let v152 : BitVec 32 := Scalar.muli arg15 c8_i32_83
  let c2_i32 : BitVec 32 := 2#32
  let v153 : BitVec 32 := Scalar.addi v152 c2_i32
  let v154 : BitVec 32 := Scalar.addi v39 v153
  let v155 : Index := Scalar.indexCast v154
  ![0, 0, v155.toNat]
def k0_off43 (v156 : BitVec 32) : Fin 2 → Nat :=
  let v162 : Index := Scalar.indexCast v156
  let c0_89 : Index := 0#32
  ![v162.toNat, 0]

def k0_chk20 (v156 : BitVec 32) : Prop :=
  (∀ a, (k0_off43 v156) a + S1x1024.size a ≤ S2176x1024.size a)
theorem k0_off43_inb : ∀ (v156 : BitVec 32) (k0_hw20 : k0_chk20 v156), ∀ a, (k0_off43 v156) a + S1x1024.size a ≤ S2176x1024.size a := fun v156 k0_hw20 => k0_hw20

def k0_off44 (v13 : BitVec 32) (k0_t1 : Fin (k0_t1_loop v13).trips) (k0_t4 : Fin (k0_t4_loop v13 k0_t1).trips) : Fin 2 → Nat :=
  let c0_i32_59 : BitVec 32 := 0#32
  let c1_i32_61 : BitVec 32 := 1#32
  let arg15 : BitVec 32 := Scf.iv c0_i32_59 c1_i32_61 k0_t4
  let c8_i32_83 : BitVec 32 := 8#32
  let v152 : BitVec 32 := Scalar.muli arg15 c8_i32_83
  let c2_i32 : BitVec 32 := 2#32
  let v153 : BitVec 32 := Scalar.addi v152 c2_i32
  let v165 : Index := Scalar.indexCast v153
  let c0_90 : Index := 0#32
  ![v165.toNat, 0]
def k0_off45 (v10 : BitVec 32) (v13 : BitVec 32) (k0_t1 : Fin (k0_t1_loop v13).trips) (k0_t4 : Fin (k0_t4_loop v13 k0_t1).trips) : Fin 3 → Nat :=
  let c0_93 : Index := 0#32
  let c0_94 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t4
  let c8_i32_92 : BitVec 32 := 8#32
  let v172 : BitVec 32 := Scalar.muli arg15 c8_i32_92
  let c3_i32 : BitVec 32 := 3#32
  let v173 : BitVec 32 := Scalar.addi v172 c3_i32
  let v174 : BitVec 32 := Scalar.addi v39 v173
  let v175 : Index := Scalar.indexCast v174
  ![0, 0, v175.toNat]
def k0_off46 (v176 : BitVec 32) : Fin 2 → Nat :=
  let v182 : Index := Scalar.indexCast v176
  let c0_98 : Index := 0#32
  ![v182.toNat, 0]

def k0_chk21 (v176 : BitVec 32) : Prop :=
  (∀ a, (k0_off46 v176) a + S1x1024.size a ≤ S2176x1024.size a)
theorem k0_off46_inb : ∀ (v176 : BitVec 32) (k0_hw21 : k0_chk21 v176), ∀ a, (k0_off46 v176) a + S1x1024.size a ≤ S2176x1024.size a := fun v176 k0_hw21 => k0_hw21

def k0_off47 (v13 : BitVec 32) (k0_t1 : Fin (k0_t1_loop v13).trips) (k0_t4 : Fin (k0_t4_loop v13 k0_t1).trips) : Fin 2 → Nat :=
  let c0_i32_59 : BitVec 32 := 0#32
  let c1_i32_61 : BitVec 32 := 1#32
  let arg15 : BitVec 32 := Scf.iv c0_i32_59 c1_i32_61 k0_t4
  let c8_i32_92 : BitVec 32 := 8#32
  let v172 : BitVec 32 := Scalar.muli arg15 c8_i32_92
  let c3_i32 : BitVec 32 := 3#32
  let v173 : BitVec 32 := Scalar.addi v172 c3_i32
  let v185 : Index := Scalar.indexCast v173
  let c0_99 : Index := 0#32
  ![v185.toNat, 0]
def k0_off48 (v10 : BitVec 32) (v13 : BitVec 32) (k0_t1 : Fin (k0_t1_loop v13).trips) (k0_t4 : Fin (k0_t4_loop v13 k0_t1).trips) : Fin 3 → Nat :=
  let c0_102 : Index := 0#32
  let c0_103 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t4
  let c8_i32_101 : BitVec 32 := 8#32
  let v192 : BitVec 32 := Scalar.muli arg15 c8_i32_101
  let c4_i32 : BitVec 32 := 4#32
  let v193 : BitVec 32 := Scalar.addi v192 c4_i32
  let v194 : BitVec 32 := Scalar.addi v39 v193
  let v195 : Index := Scalar.indexCast v194
  ![0, 0, v195.toNat]
def k0_off49 (v196 : BitVec 32) : Fin 2 → Nat :=
  let v202 : Index := Scalar.indexCast v196
  let c0_107 : Index := 0#32
  ![v202.toNat, 0]

def k0_chk22 (v196 : BitVec 32) : Prop :=
  (∀ a, (k0_off49 v196) a + S1x1024.size a ≤ S2176x1024.size a)
theorem k0_off49_inb : ∀ (v196 : BitVec 32) (k0_hw22 : k0_chk22 v196), ∀ a, (k0_off49 v196) a + S1x1024.size a ≤ S2176x1024.size a := fun v196 k0_hw22 => k0_hw22

def k0_off50 (v13 : BitVec 32) (k0_t1 : Fin (k0_t1_loop v13).trips) (k0_t4 : Fin (k0_t4_loop v13 k0_t1).trips) : Fin 2 → Nat :=
  let c0_i32_59 : BitVec 32 := 0#32
  let c1_i32_61 : BitVec 32 := 1#32
  let arg15 : BitVec 32 := Scf.iv c0_i32_59 c1_i32_61 k0_t4
  let c8_i32_101 : BitVec 32 := 8#32
  let v192 : BitVec 32 := Scalar.muli arg15 c8_i32_101
  let c4_i32 : BitVec 32 := 4#32
  let v193 : BitVec 32 := Scalar.addi v192 c4_i32
  let v205 : Index := Scalar.indexCast v193
  let c0_108 : Index := 0#32
  ![v205.toNat, 0]
def k0_off51 (v10 : BitVec 32) (v13 : BitVec 32) (k0_t1 : Fin (k0_t1_loop v13).trips) (k0_t4 : Fin (k0_t4_loop v13 k0_t1).trips) : Fin 3 → Nat :=
  let c0_111 : Index := 0#32
  let c0_112 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t4
  let c8_i32_110 : BitVec 32 := 8#32
  let v212 : BitVec 32 := Scalar.muli arg15 c8_i32_110
  let c5_i32 : BitVec 32 := 5#32
  let v213 : BitVec 32 := Scalar.addi v212 c5_i32
  let v214 : BitVec 32 := Scalar.addi v39 v213
  let v215 : Index := Scalar.indexCast v214
  ![0, 0, v215.toNat]
def k0_off52 (v216 : BitVec 32) : Fin 2 → Nat :=
  let v222 : Index := Scalar.indexCast v216
  let c0_116 : Index := 0#32
  ![v222.toNat, 0]

def k0_chk23 (v216 : BitVec 32) : Prop :=
  (∀ a, (k0_off52 v216) a + S1x1024.size a ≤ S2176x1024.size a)
theorem k0_off52_inb : ∀ (v216 : BitVec 32) (k0_hw23 : k0_chk23 v216), ∀ a, (k0_off52 v216) a + S1x1024.size a ≤ S2176x1024.size a := fun v216 k0_hw23 => k0_hw23

def k0_off53 (v13 : BitVec 32) (k0_t1 : Fin (k0_t1_loop v13).trips) (k0_t4 : Fin (k0_t4_loop v13 k0_t1).trips) : Fin 2 → Nat :=
  let c0_i32_59 : BitVec 32 := 0#32
  let c1_i32_61 : BitVec 32 := 1#32
  let arg15 : BitVec 32 := Scf.iv c0_i32_59 c1_i32_61 k0_t4
  let c8_i32_110 : BitVec 32 := 8#32
  let v212 : BitVec 32 := Scalar.muli arg15 c8_i32_110
  let c5_i32 : BitVec 32 := 5#32
  let v213 : BitVec 32 := Scalar.addi v212 c5_i32
  let v225 : Index := Scalar.indexCast v213
  let c0_117 : Index := 0#32
  ![v225.toNat, 0]
def k0_off54 (v10 : BitVec 32) (v13 : BitVec 32) (k0_t1 : Fin (k0_t1_loop v13).trips) (k0_t4 : Fin (k0_t4_loop v13 k0_t1).trips) : Fin 3 → Nat :=
  let c0_120 : Index := 0#32
  let c0_121 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t4
  let c8_i32_119 : BitVec 32 := 8#32
  let v232 : BitVec 32 := Scalar.muli arg15 c8_i32_119
  let c6_i32 : BitVec 32 := 6#32
  let v233 : BitVec 32 := Scalar.addi v232 c6_i32
  let v234 : BitVec 32 := Scalar.addi v39 v233
  let v235 : Index := Scalar.indexCast v234
  ![0, 0, v235.toNat]
def k0_off55 (v236 : BitVec 32) : Fin 2 → Nat :=
  let v242 : Index := Scalar.indexCast v236
  let c0_125 : Index := 0#32
  ![v242.toNat, 0]

def k0_chk24 (v236 : BitVec 32) : Prop :=
  (∀ a, (k0_off55 v236) a + S1x1024.size a ≤ S2176x1024.size a)
theorem k0_off55_inb : ∀ (v236 : BitVec 32) (k0_hw24 : k0_chk24 v236), ∀ a, (k0_off55 v236) a + S1x1024.size a ≤ S2176x1024.size a := fun v236 k0_hw24 => k0_hw24

def k0_off56 (v13 : BitVec 32) (k0_t1 : Fin (k0_t1_loop v13).trips) (k0_t4 : Fin (k0_t4_loop v13 k0_t1).trips) : Fin 2 → Nat :=
  let c0_i32_59 : BitVec 32 := 0#32
  let c1_i32_61 : BitVec 32 := 1#32
  let arg15 : BitVec 32 := Scf.iv c0_i32_59 c1_i32_61 k0_t4
  let c8_i32_119 : BitVec 32 := 8#32
  let v232 : BitVec 32 := Scalar.muli arg15 c8_i32_119
  let c6_i32 : BitVec 32 := 6#32
  let v233 : BitVec 32 := Scalar.addi v232 c6_i32
  let v245 : Index := Scalar.indexCast v233
  let c0_126 : Index := 0#32
  ![v245.toNat, 0]
def k0_off57 (v10 : BitVec 32) (v13 : BitVec 32) (k0_t1 : Fin (k0_t1_loop v13).trips) (k0_t4 : Fin (k0_t4_loop v13 k0_t1).trips) : Fin 3 → Nat :=
  let c0_130 : Index := 0#32
  let c0_131 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t4
  let c8_i32_128 : BitVec 32 := 8#32
  let v252 : BitVec 32 := Scalar.muli arg15 c8_i32_128
  let c7_i32_129 : BitVec 32 := 7#32
  let v253 : BitVec 32 := Scalar.addi v252 c7_i32_129
  let v254 : BitVec 32 := Scalar.addi v39 v253
  let v255 : Index := Scalar.indexCast v254
  ![0, 0, v255.toNat]
def k0_off58 (v256 : BitVec 32) : Fin 2 → Nat :=
  let v262 : Index := Scalar.indexCast v256
  let c0_135 : Index := 0#32
  ![v262.toNat, 0]

def k0_chk25 (v256 : BitVec 32) : Prop :=
  (∀ a, (k0_off58 v256) a + S1x1024.size a ≤ S2176x1024.size a)
theorem k0_off58_inb : ∀ (v256 : BitVec 32) (k0_hw25 : k0_chk25 v256), ∀ a, (k0_off58 v256) a + S1x1024.size a ≤ S2176x1024.size a := fun v256 k0_hw25 => k0_hw25

def k0_off59 (v13 : BitVec 32) (k0_t1 : Fin (k0_t1_loop v13).trips) (k0_t4 : Fin (k0_t4_loop v13 k0_t1).trips) : Fin 2 → Nat :=
  let c0_i32_59 : BitVec 32 := 0#32
  let c1_i32_61 : BitVec 32 := 1#32
  let arg15 : BitVec 32 := Scf.iv c0_i32_59 c1_i32_61 k0_t4
  let c8_i32_128 : BitVec 32 := 8#32
  let v252 : BitVec 32 := Scalar.muli arg15 c8_i32_128
  let c7_i32_129 : BitVec 32 := 7#32
  let v253 : BitVec 32 := Scalar.addi v252 c7_i32_129
  let v265 : Index := Scalar.indexCast v253
  let c0_136 : Index := 0#32
  ![v265.toNat, 0]
@[reducible] def k0_t5_loop (v13 : BitVec 32) (k0_t1 : Fin (k0_t1_loop v13).trips) : Scf.Loop 32 :=
  let c0_i32_59 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let v108 : BitVec 32 := Scalar.addi c0_i32_59 v107
  let c1_i32_62 : BitVec 32 := 1#32
  ⟨v111, v108, c1_i32_62⟩
def k0_off60 (v10 : BitVec 32) (v13 : BitVec 32) (k0_t1 : Fin (k0_t1_loop v13).trips) (k0_t5 : Fin (k0_t5_loop v13 k0_t1).trips) : Fin 3 → Nat :=
  let c0_65 : Index := 0#32
  let c0_66 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_63 : BitVec 32 := 8#32
  let v112 : BitVec 32 := Scalar.muli arg15 c8_i32_63
  let c0_i32_64 : BitVec 32 := 0#32
  let v113 : BitVec 32 := Scalar.addi v112 c0_i32_64
  let v114 : BitVec 32 := Scalar.addi v39 v113
  let v115 : Index := Scalar.indexCast v114
  ![0, 0, v115.toNat]
def k0_off61 (v116 : BitVec 32) : Fin 2 → Nat :=
  let v122 : Index := Scalar.indexCast v116
  let c0_70 : Index := 0#32
  ![v122.toNat, 0]

def k0_chk26 (v116 : BitVec 32) : Prop :=
  (∀ a, (k0_off61 v116) a + S1x1024.size a ≤ S2176x1024.size a)
theorem k0_off61_inb : ∀ (v116 : BitVec 32) (k0_hw26 : k0_chk26 v116), ∀ a, (k0_off61 v116) a + S1x1024.size a ≤ S2176x1024.size a := fun v116 k0_hw26 => k0_hw26

def k0_off62 (v13 : BitVec 32) (k0_t1 : Fin (k0_t1_loop v13).trips) (k0_t5 : Fin (k0_t5_loop v13 k0_t1).trips) : Fin 2 → Nat :=
  let c0_i32_59 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_63 : BitVec 32 := 8#32
  let v112 : BitVec 32 := Scalar.muli arg15 c8_i32_63
  let c0_i32_64 : BitVec 32 := 0#32
  let v113 : BitVec 32 := Scalar.addi v112 c0_i32_64
  let v125 : Index := Scalar.indexCast v113
  let c0_71 : Index := 0#32
  ![v125.toNat, 0]
def k0_off63 (v10 : BitVec 32) (v13 : BitVec 32) (k0_t1 : Fin (k0_t1_loop v13).trips) (k0_t5 : Fin (k0_t5_loop v13 k0_t1).trips) : Fin 3 → Nat :=
  let c0_75 : Index := 0#32
  let c0_76 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_73 : BitVec 32 := 8#32
  let v132 : BitVec 32 := Scalar.muli arg15 c8_i32_73
  let c1_i32_74 : BitVec 32 := 1#32
  let v133 : BitVec 32 := Scalar.addi v132 c1_i32_74
  let v134 : BitVec 32 := Scalar.addi v39 v133
  let v135 : Index := Scalar.indexCast v134
  ![0, 0, v135.toNat]
def k0_off64 (v136 : BitVec 32) : Fin 2 → Nat :=
  let v142 : Index := Scalar.indexCast v136
  let c0_80 : Index := 0#32
  ![v142.toNat, 0]

def k0_chk27 (v136 : BitVec 32) : Prop :=
  (∀ a, (k0_off64 v136) a + S1x1024.size a ≤ S2176x1024.size a)
theorem k0_off64_inb : ∀ (v136 : BitVec 32) (k0_hw27 : k0_chk27 v136), ∀ a, (k0_off64 v136) a + S1x1024.size a ≤ S2176x1024.size a := fun v136 k0_hw27 => k0_hw27

def k0_off65 (v13 : BitVec 32) (k0_t1 : Fin (k0_t1_loop v13).trips) (k0_t5 : Fin (k0_t5_loop v13 k0_t1).trips) : Fin 2 → Nat :=
  let c0_i32_59 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_73 : BitVec 32 := 8#32
  let v132 : BitVec 32 := Scalar.muli arg15 c8_i32_73
  let c1_i32_74 : BitVec 32 := 1#32
  let v133 : BitVec 32 := Scalar.addi v132 c1_i32_74
  let v145 : Index := Scalar.indexCast v133
  let c0_81 : Index := 0#32
  ![v145.toNat, 0]
def k0_off66 (v10 : BitVec 32) (v13 : BitVec 32) (k0_t1 : Fin (k0_t1_loop v13).trips) (k0_t5 : Fin (k0_t5_loop v13 k0_t1).trips) : Fin 3 → Nat :=
  let c0_84 : Index := 0#32
  let c0_85 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_83 : BitVec 32 := 8#32
  let v152 : BitVec 32 := Scalar.muli arg15 c8_i32_83
  let c2_i32 : BitVec 32 := 2#32
  let v153 : BitVec 32 := Scalar.addi v152 c2_i32
  let v154 : BitVec 32 := Scalar.addi v39 v153
  let v155 : Index := Scalar.indexCast v154
  ![0, 0, v155.toNat]
def k0_off67 (v156 : BitVec 32) : Fin 2 → Nat :=
  let v162 : Index := Scalar.indexCast v156
  let c0_89 : Index := 0#32
  ![v162.toNat, 0]

def k0_chk28 (v156 : BitVec 32) : Prop :=
  (∀ a, (k0_off67 v156) a + S1x1024.size a ≤ S2176x1024.size a)
theorem k0_off67_inb : ∀ (v156 : BitVec 32) (k0_hw28 : k0_chk28 v156), ∀ a, (k0_off67 v156) a + S1x1024.size a ≤ S2176x1024.size a := fun v156 k0_hw28 => k0_hw28

def k0_off68 (v13 : BitVec 32) (k0_t1 : Fin (k0_t1_loop v13).trips) (k0_t5 : Fin (k0_t5_loop v13 k0_t1).trips) : Fin 2 → Nat :=
  let c0_i32_59 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_83 : BitVec 32 := 8#32
  let v152 : BitVec 32 := Scalar.muli arg15 c8_i32_83
  let c2_i32 : BitVec 32 := 2#32
  let v153 : BitVec 32 := Scalar.addi v152 c2_i32
  let v165 : Index := Scalar.indexCast v153
  let c0_90 : Index := 0#32
  ![v165.toNat, 0]
def k0_off69 (v10 : BitVec 32) (v13 : BitVec 32) (k0_t1 : Fin (k0_t1_loop v13).trips) (k0_t5 : Fin (k0_t5_loop v13 k0_t1).trips) : Fin 3 → Nat :=
  let c0_93 : Index := 0#32
  let c0_94 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_92 : BitVec 32 := 8#32
  let v172 : BitVec 32 := Scalar.muli arg15 c8_i32_92
  let c3_i32 : BitVec 32 := 3#32
  let v173 : BitVec 32 := Scalar.addi v172 c3_i32
  let v174 : BitVec 32 := Scalar.addi v39 v173
  let v175 : Index := Scalar.indexCast v174
  ![0, 0, v175.toNat]
def k0_off70 (v176 : BitVec 32) : Fin 2 → Nat :=
  let v182 : Index := Scalar.indexCast v176
  let c0_98 : Index := 0#32
  ![v182.toNat, 0]

def k0_chk29 (v176 : BitVec 32) : Prop :=
  (∀ a, (k0_off70 v176) a + S1x1024.size a ≤ S2176x1024.size a)
theorem k0_off70_inb : ∀ (v176 : BitVec 32) (k0_hw29 : k0_chk29 v176), ∀ a, (k0_off70 v176) a + S1x1024.size a ≤ S2176x1024.size a := fun v176 k0_hw29 => k0_hw29

def k0_off71 (v13 : BitVec 32) (k0_t1 : Fin (k0_t1_loop v13).trips) (k0_t5 : Fin (k0_t5_loop v13 k0_t1).trips) : Fin 2 → Nat :=
  let c0_i32_59 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_92 : BitVec 32 := 8#32
  let v172 : BitVec 32 := Scalar.muli arg15 c8_i32_92
  let c3_i32 : BitVec 32 := 3#32
  let v173 : BitVec 32 := Scalar.addi v172 c3_i32
  let v185 : Index := Scalar.indexCast v173
  let c0_99 : Index := 0#32
  ![v185.toNat, 0]
def k0_off72 (v10 : BitVec 32) (v13 : BitVec 32) (k0_t1 : Fin (k0_t1_loop v13).trips) (k0_t5 : Fin (k0_t5_loop v13 k0_t1).trips) : Fin 3 → Nat :=
  let c0_102 : Index := 0#32
  let c0_103 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_101 : BitVec 32 := 8#32
  let v192 : BitVec 32 := Scalar.muli arg15 c8_i32_101
  let c4_i32 : BitVec 32 := 4#32
  let v193 : BitVec 32 := Scalar.addi v192 c4_i32
  let v194 : BitVec 32 := Scalar.addi v39 v193
  let v195 : Index := Scalar.indexCast v194
  ![0, 0, v195.toNat]
def k0_off73 (v196 : BitVec 32) : Fin 2 → Nat :=
  let v202 : Index := Scalar.indexCast v196
  let c0_107 : Index := 0#32
  ![v202.toNat, 0]

def k0_chk30 (v196 : BitVec 32) : Prop :=
  (∀ a, (k0_off73 v196) a + S1x1024.size a ≤ S2176x1024.size a)
theorem k0_off73_inb : ∀ (v196 : BitVec 32) (k0_hw30 : k0_chk30 v196), ∀ a, (k0_off73 v196) a + S1x1024.size a ≤ S2176x1024.size a := fun v196 k0_hw30 => k0_hw30

def k0_off74 (v13 : BitVec 32) (k0_t1 : Fin (k0_t1_loop v13).trips) (k0_t5 : Fin (k0_t5_loop v13 k0_t1).trips) : Fin 2 → Nat :=
  let c0_i32_59 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_101 : BitVec 32 := 8#32
  let v192 : BitVec 32 := Scalar.muli arg15 c8_i32_101
  let c4_i32 : BitVec 32 := 4#32
  let v193 : BitVec 32 := Scalar.addi v192 c4_i32
  let v205 : Index := Scalar.indexCast v193
  let c0_108 : Index := 0#32
  ![v205.toNat, 0]
def k0_off75 (v10 : BitVec 32) (v13 : BitVec 32) (k0_t1 : Fin (k0_t1_loop v13).trips) (k0_t5 : Fin (k0_t5_loop v13 k0_t1).trips) : Fin 3 → Nat :=
  let c0_111 : Index := 0#32
  let c0_112 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_110 : BitVec 32 := 8#32
  let v212 : BitVec 32 := Scalar.muli arg15 c8_i32_110
  let c5_i32 : BitVec 32 := 5#32
  let v213 : BitVec 32 := Scalar.addi v212 c5_i32
  let v214 : BitVec 32 := Scalar.addi v39 v213
  let v215 : Index := Scalar.indexCast v214
  ![0, 0, v215.toNat]
def k0_off76 (v216 : BitVec 32) : Fin 2 → Nat :=
  let v222 : Index := Scalar.indexCast v216
  let c0_116 : Index := 0#32
  ![v222.toNat, 0]

def k0_chk31 (v216 : BitVec 32) : Prop :=
  (∀ a, (k0_off76 v216) a + S1x1024.size a ≤ S2176x1024.size a)
theorem k0_off76_inb : ∀ (v216 : BitVec 32) (k0_hw31 : k0_chk31 v216), ∀ a, (k0_off76 v216) a + S1x1024.size a ≤ S2176x1024.size a := fun v216 k0_hw31 => k0_hw31

def k0_off77 (v13 : BitVec 32) (k0_t1 : Fin (k0_t1_loop v13).trips) (k0_t5 : Fin (k0_t5_loop v13 k0_t1).trips) : Fin 2 → Nat :=
  let c0_i32_59 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_110 : BitVec 32 := 8#32
  let v212 : BitVec 32 := Scalar.muli arg15 c8_i32_110
  let c5_i32 : BitVec 32 := 5#32
  let v213 : BitVec 32 := Scalar.addi v212 c5_i32
  let v225 : Index := Scalar.indexCast v213
  let c0_117 : Index := 0#32
  ![v225.toNat, 0]
def k0_off78 (v10 : BitVec 32) (v13 : BitVec 32) (k0_t1 : Fin (k0_t1_loop v13).trips) (k0_t5 : Fin (k0_t5_loop v13 k0_t1).trips) : Fin 3 → Nat :=
  let c0_120 : Index := 0#32
  let c0_121 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_119 : BitVec 32 := 8#32
  let v232 : BitVec 32 := Scalar.muli arg15 c8_i32_119
  let c6_i32 : BitVec 32 := 6#32
  let v233 : BitVec 32 := Scalar.addi v232 c6_i32
  let v234 : BitVec 32 := Scalar.addi v39 v233
  let v235 : Index := Scalar.indexCast v234
  ![0, 0, v235.toNat]
def k0_off79 (v236 : BitVec 32) : Fin 2 → Nat :=
  let v242 : Index := Scalar.indexCast v236
  let c0_125 : Index := 0#32
  ![v242.toNat, 0]

def k0_chk32 (v236 : BitVec 32) : Prop :=
  (∀ a, (k0_off79 v236) a + S1x1024.size a ≤ S2176x1024.size a)
theorem k0_off79_inb : ∀ (v236 : BitVec 32) (k0_hw32 : k0_chk32 v236), ∀ a, (k0_off79 v236) a + S1x1024.size a ≤ S2176x1024.size a := fun v236 k0_hw32 => k0_hw32

def k0_off80 (v13 : BitVec 32) (k0_t1 : Fin (k0_t1_loop v13).trips) (k0_t5 : Fin (k0_t5_loop v13 k0_t1).trips) : Fin 2 → Nat :=
  let c0_i32_59 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_119 : BitVec 32 := 8#32
  let v232 : BitVec 32 := Scalar.muli arg15 c8_i32_119
  let c6_i32 : BitVec 32 := 6#32
  let v233 : BitVec 32 := Scalar.addi v232 c6_i32
  let v245 : Index := Scalar.indexCast v233
  let c0_126 : Index := 0#32
  ![v245.toNat, 0]
def k0_off81 (v10 : BitVec 32) (v13 : BitVec 32) (k0_t1 : Fin (k0_t1_loop v13).trips) (k0_t5 : Fin (k0_t5_loop v13 k0_t1).trips) : Fin 3 → Nat :=
  let c0_130 : Index := 0#32
  let c0_131 : Index := 0#32
  let c0_i32_12 : BitVec 32 := 0#32
  let c1_i32_14 : BitVec 32 := 1#32
  let arg14 : BitVec 32 := Scf.iv c0_i32_12 c1_i32_14 k0_t1
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_128 : BitVec 32 := 8#32
  let v252 : BitVec 32 := Scalar.muli arg15 c8_i32_128
  let c7_i32_129 : BitVec 32 := 7#32
  let v253 : BitVec 32 := Scalar.addi v252 c7_i32_129
  let v254 : BitVec 32 := Scalar.addi v39 v253
  let v255 : Index := Scalar.indexCast v254
  ![0, 0, v255.toNat]
def k0_off82 (v256 : BitVec 32) : Fin 2 → Nat :=
  let v262 : Index := Scalar.indexCast v256
  let c0_135 : Index := 0#32
  ![v262.toNat, 0]

def k0_chk33 (v256 : BitVec 32) : Prop :=
  (∀ a, (k0_off82 v256) a + S1x1024.size a ≤ S2176x1024.size a)
theorem k0_off82_inb : ∀ (v256 : BitVec 32) (k0_hw33 : k0_chk33 v256), ∀ a, (k0_off82 v256) a + S1x1024.size a ≤ S2176x1024.size a := fun v256 k0_hw33 => k0_hw33

def k0_off83 (v13 : BitVec 32) (k0_t1 : Fin (k0_t1_loop v13).trips) (k0_t5 : Fin (k0_t5_loop v13 k0_t1).trips) : Fin 2 → Nat :=
  let c0_i32_59 : BitVec 32 := 0#32
  let c304_i32_18 : BitVec 32 := 304#32
  let c0_i32_12 : BitVec 32 := 0#32
  let c1_i32_14 : BitVec 32 := 1#32
  let arg14 : BitVec 32 := Scf.iv c0_i32_12 c1_i32_14 k0_t1
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t5
  let c8_i32_128 : BitVec 32 := 8#32
  let v252 : BitVec 32 := Scalar.muli arg15 c8_i32_128
  let c7_i32_129 : BitVec 32 := 7#32
  let v253 : BitVec 32 := Scalar.addi v252 c7_i32_129
  let v265 : Index := Scalar.indexCast v253
  let c0_136 : Index := 0#32
  ![v265.toNat, 0]
@[reducible] def k0_t6_loop (v13 : BitVec 32) : Scf.Loop 32 :=
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let v34 : BitVec 32 := Scalar.addi c0_i32_12 v33
  let c1_i32_15 : BitVec 32 := 1#32
  ⟨v37, v34, c1_i32_15⟩
@[reducible] def k0_t7_loop (v13 : BitVec 32) (k0_t6 : Fin (k0_t6_loop v13).trips) : Scf.Loop 32 :=
  let c0_i32_26 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_28 : BitVec 32 := 1#32
  ⟨c0_i32_26, v65, c1_i32_28⟩
def k0_mult3 (v13 : BitVec 32) (k0_t6 : Fin (k0_t6_loop v13).trips) (k0_t7 : Fin (k0_t7_loop v13 k0_t6).trips) : BitVec 32 :=
  let c0_i32_26 : BitVec 32 := 0#32
  let c1_i32_28 : BitVec 32 := 1#32
  let arg15 : BitVec 32 := Scf.iv c0_i32_26 c1_i32_28 k0_t7
  let c8_i32_63 : BitVec 32 := 8#32
  let v112 : BitVec 32 := Scalar.muli arg15 c8_i32_63
  v112
def k0_off84 (v10 : BitVec 32) (v13 : BitVec 32) (k0_t6 : Fin (k0_t6_loop v13).trips) (k0_t7 : Fin (k0_t7_loop v13 k0_t6).trips) : Fin 3 → Nat :=
  let c0_65 : Index := 0#32
  let c0_66 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t7
  let c8_i32_63 : BitVec 32 := 8#32
  let v112 : BitVec 32 := Scalar.muli arg15 c8_i32_63
  let v113 : BitVec 32 := v112
  let v114 : BitVec 32 := Scalar.addi v39 v113
  let c0_i32_64 : BitVec 32 := 0#32
  let v115 : BitVec 32 := Scalar.addi v114 c0_i32_64
  let v116 : Index := Scalar.indexCast v115
  ![0, 0, v116.toNat]
def k0_off85 (v117 : BitVec 32) : Fin 2 → Nat :=
  let v118 : Index := Scalar.indexCast v117
  let c0_67 : Index := 0#32
  ![v118.toNat, 0]

def k0_chk34 (v117 : BitVec 32) : Prop :=
  (∀ a, (k0_off85 v117) a + S1x1024.size a ≤ S2176x1024.size a)
theorem k0_off85_inb : ∀ (v117 : BitVec 32) (k0_hw34 : k0_chk34 v117), ∀ a, (k0_off85 v117) a + S1x1024.size a ≤ S2176x1024.size a := fun v117 k0_hw34 => k0_hw34

def k0_off86 (v10 : BitVec 32) (v13 : BitVec 32) (k0_t6 : Fin (k0_t6_loop v13).trips) (k0_t7 : Fin (k0_t7_loop v13 k0_t6).trips) : Fin 3 → Nat :=
  let c0_69 : Index := 0#32
  let c0_70 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t7
  let c8_i32_63 : BitVec 32 := 8#32
  let v112 : BitVec 32 := Scalar.muli arg15 c8_i32_63
  let v113 : BitVec 32 := v112
  let v120 : BitVec 32 := Scalar.addi v39 v113
  let c1_i32_68 : BitVec 32 := 1#32
  let v121 : BitVec 32 := Scalar.addi v120 c1_i32_68
  let v122 : Index := Scalar.indexCast v121
  ![0, 0, v122.toNat]
def k0_off87 (v123 : BitVec 32) : Fin 2 → Nat :=
  let v124 : Index := Scalar.indexCast v123
  let c0_71 : Index := 0#32
  ![v124.toNat, 0]

def k0_chk35 (v123 : BitVec 32) : Prop :=
  (∀ a, (k0_off87 v123) a + S1x1024.size a ≤ S2176x1024.size a)
theorem k0_off87_inb : ∀ (v123 : BitVec 32) (k0_hw35 : k0_chk35 v123), ∀ a, (k0_off87 v123) a + S1x1024.size a ≤ S2176x1024.size a := fun v123 k0_hw35 => k0_hw35

def k0_off88 (v10 : BitVec 32) (v13 : BitVec 32) (k0_t6 : Fin (k0_t6_loop v13).trips) (k0_t7 : Fin (k0_t7_loop v13 k0_t6).trips) : Fin 3 → Nat :=
  let c0_72 : Index := 0#32
  let c0_73 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t7
  let c8_i32_63 : BitVec 32 := 8#32
  let v112 : BitVec 32 := Scalar.muli arg15 c8_i32_63
  let v113 : BitVec 32 := v112
  let v126 : BitVec 32 := Scalar.addi v39 v113
  let c2_i32 : BitVec 32 := 2#32
  let v127 : BitVec 32 := Scalar.addi v126 c2_i32
  let v128 : Index := Scalar.indexCast v127
  ![0, 0, v128.toNat]
def k0_off89 (v129 : BitVec 32) : Fin 2 → Nat :=
  let v130 : Index := Scalar.indexCast v129
  let c0_74 : Index := 0#32
  ![v130.toNat, 0]

def k0_chk36 (v129 : BitVec 32) : Prop :=
  (∀ a, (k0_off89 v129) a + S1x1024.size a ≤ S2176x1024.size a)
theorem k0_off89_inb : ∀ (v129 : BitVec 32) (k0_hw36 : k0_chk36 v129), ∀ a, (k0_off89 v129) a + S1x1024.size a ≤ S2176x1024.size a := fun v129 k0_hw36 => k0_hw36

def k0_off90 (v10 : BitVec 32) (v13 : BitVec 32) (k0_t6 : Fin (k0_t6_loop v13).trips) (k0_t7 : Fin (k0_t7_loop v13 k0_t6).trips) : Fin 3 → Nat :=
  let c0_75 : Index := 0#32
  let c0_76 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t7
  let c8_i32_63 : BitVec 32 := 8#32
  let v112 : BitVec 32 := Scalar.muli arg15 c8_i32_63
  let v113 : BitVec 32 := v112
  let v132 : BitVec 32 := Scalar.addi v39 v113
  let c3_i32 : BitVec 32 := 3#32
  let v133 : BitVec 32 := Scalar.addi v132 c3_i32
  let v134 : Index := Scalar.indexCast v133
  ![0, 0, v134.toNat]
def k0_off91 (v135 : BitVec 32) : Fin 2 → Nat :=
  let v136 : Index := Scalar.indexCast v135
  let c0_77 : Index := 0#32
  ![v136.toNat, 0]

def k0_chk37 (v135 : BitVec 32) : Prop :=
  (∀ a, (k0_off91 v135) a + S1x1024.size a ≤ S2176x1024.size a)
theorem k0_off91_inb : ∀ (v135 : BitVec 32) (k0_hw37 : k0_chk37 v135), ∀ a, (k0_off91 v135) a + S1x1024.size a ≤ S2176x1024.size a := fun v135 k0_hw37 => k0_hw37

def k0_off92 (v10 : BitVec 32) (v13 : BitVec 32) (k0_t6 : Fin (k0_t6_loop v13).trips) (k0_t7 : Fin (k0_t7_loop v13 k0_t6).trips) : Fin 3 → Nat :=
  let c0_78 : Index := 0#32
  let c0_79 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t7
  let c8_i32_63 : BitVec 32 := 8#32
  let v112 : BitVec 32 := Scalar.muli arg15 c8_i32_63
  let v113 : BitVec 32 := v112
  let v138 : BitVec 32 := Scalar.addi v39 v113
  let c4_i32 : BitVec 32 := 4#32
  let v139 : BitVec 32 := Scalar.addi v138 c4_i32
  let v140 : Index := Scalar.indexCast v139
  ![0, 0, v140.toNat]
def k0_off93 (v141 : BitVec 32) : Fin 2 → Nat :=
  let v142 : Index := Scalar.indexCast v141
  let c0_80 : Index := 0#32
  ![v142.toNat, 0]

def k0_chk38 (v141 : BitVec 32) : Prop :=
  (∀ a, (k0_off93 v141) a + S1x1024.size a ≤ S2176x1024.size a)
theorem k0_off93_inb : ∀ (v141 : BitVec 32) (k0_hw38 : k0_chk38 v141), ∀ a, (k0_off93 v141) a + S1x1024.size a ≤ S2176x1024.size a := fun v141 k0_hw38 => k0_hw38

def k0_off94 (v10 : BitVec 32) (v13 : BitVec 32) (k0_t6 : Fin (k0_t6_loop v13).trips) (k0_t7 : Fin (k0_t7_loop v13 k0_t6).trips) : Fin 3 → Nat :=
  let c0_81 : Index := 0#32
  let c0_82 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t7
  let c8_i32_63 : BitVec 32 := 8#32
  let v112 : BitVec 32 := Scalar.muli arg15 c8_i32_63
  let v113 : BitVec 32 := v112
  let v144 : BitVec 32 := Scalar.addi v39 v113
  let c5_i32 : BitVec 32 := 5#32
  let v145 : BitVec 32 := Scalar.addi v144 c5_i32
  let v146 : Index := Scalar.indexCast v145
  ![0, 0, v146.toNat]
def k0_off95 (v147 : BitVec 32) : Fin 2 → Nat :=
  let v148 : Index := Scalar.indexCast v147
  let c0_83 : Index := 0#32
  ![v148.toNat, 0]

def k0_chk39 (v147 : BitVec 32) : Prop :=
  (∀ a, (k0_off95 v147) a + S1x1024.size a ≤ S2176x1024.size a)
theorem k0_off95_inb : ∀ (v147 : BitVec 32) (k0_hw39 : k0_chk39 v147), ∀ a, (k0_off95 v147) a + S1x1024.size a ≤ S2176x1024.size a := fun v147 k0_hw39 => k0_hw39

def k0_off96 (v10 : BitVec 32) (v13 : BitVec 32) (k0_t6 : Fin (k0_t6_loop v13).trips) (k0_t7 : Fin (k0_t7_loop v13 k0_t6).trips) : Fin 3 → Nat :=
  let c0_84 : Index := 0#32
  let c0_85 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t7
  let c8_i32_63 : BitVec 32 := 8#32
  let v112 : BitVec 32 := Scalar.muli arg15 c8_i32_63
  let v113 : BitVec 32 := v112
  let v150 : BitVec 32 := Scalar.addi v39 v113
  let c6_i32 : BitVec 32 := 6#32
  let v151 : BitVec 32 := Scalar.addi v150 c6_i32
  let v152 : Index := Scalar.indexCast v151
  ![0, 0, v152.toNat]
def k0_off97 (v153 : BitVec 32) : Fin 2 → Nat :=
  let v154 : Index := Scalar.indexCast v153
  let c0_86 : Index := 0#32
  ![v154.toNat, 0]

def k0_chk40 (v153 : BitVec 32) : Prop :=
  (∀ a, (k0_off97 v153) a + S1x1024.size a ≤ S2176x1024.size a)
theorem k0_off97_inb : ∀ (v153 : BitVec 32) (k0_hw40 : k0_chk40 v153), ∀ a, (k0_off97 v153) a + S1x1024.size a ≤ S2176x1024.size a := fun v153 k0_hw40 => k0_hw40

def k0_off98 (v10 : BitVec 32) (v13 : BitVec 32) (k0_t6 : Fin (k0_t6_loop v13).trips) (k0_t7 : Fin (k0_t7_loop v13 k0_t6).trips) : Fin 3 → Nat :=
  let c0_88 : Index := 0#32
  let c0_89 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c1_i32_28 : BitVec 32 := 1#32
  let arg15 : BitVec 32 := Scf.iv c0_i32_26 c1_i32_28 k0_t7
  let c8_i32_63 : BitVec 32 := 8#32
  let v112 : BitVec 32 := Scalar.muli arg15 c8_i32_63
  let v113 : BitVec 32 := v112
  let v156 : BitVec 32 := Scalar.addi v39 v113
  let c7_i32_87 : BitVec 32 := 7#32
  let v157 : BitVec 32 := Scalar.addi v156 c7_i32_87
  let v158 : Index := Scalar.indexCast v157
  ![0, 0, v158.toNat]
def k0_off99 (v159 : BitVec 32) : Fin 2 → Nat :=
  let v160 : Index := Scalar.indexCast v159
  let c0_90 : Index := 0#32
  ![v160.toNat, 0]

def k0_chk41 (v159 : BitVec 32) : Prop :=
  (∀ a, (k0_off99 v159) a + S1x1024.size a ≤ S2176x1024.size a)
theorem k0_off99_inb : ∀ (v159 : BitVec 32) (k0_hw41 : k0_chk41 v159), ∀ a, (k0_off99 v159) a + S1x1024.size a ≤ S2176x1024.size a := fun v159 k0_hw41 => k0_hw41

def k0_off100 (v13 : BitVec 32) (k0_t6 : Fin (k0_t6_loop v13).trips) (k0_t7 : Fin (k0_t7_loop v13 k0_t6).trips) : Fin 2 → Nat :=
  let c0_i32_26 : BitVec 32 := 0#32
  let c1_i32_28 : BitVec 32 := 1#32
  let arg15 : BitVec 32 := Scf.iv c0_i32_26 c1_i32_28 k0_t7
  let c8_i32_63 : BitVec 32 := 8#32
  let v112 : BitVec 32 := Scalar.muli arg15 c8_i32_63
  let v113 : BitVec 32 := v112
  let v163 : Index := Scalar.indexCast v113
  let c0_91 : Index := 0#32
  ![v163.toNat, 0]
@[reducible] def k0_t8_loop (v13 : BitVec 32) (k0_t6 : Fin (k0_t6_loop v13).trips) : Scf.Loop 32 :=
  let c0_i32_26 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let v62 : BitVec 32 := Scalar.addi c0_i32_26 v61
  let c1_i32_29 : BitVec 32 := 1#32
  ⟨v65, v62, c1_i32_29⟩
def k0_mult4 (v13 : BitVec 32) (k0_t6 : Fin (k0_t6_loop v13).trips) (k0_t8 : Fin (k0_t8_loop v13 k0_t6).trips) : BitVec 32 :=
  let c0_i32_26 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t8
  let c8_i32_63 : BitVec 32 := 8#32
  let v112 : BitVec 32 := Scalar.muli arg15 c8_i32_63
  v112
def k0_off101 (v10 : BitVec 32) (v13 : BitVec 32) (k0_t6 : Fin (k0_t6_loop v13).trips) (k0_t8 : Fin (k0_t8_loop v13 k0_t6).trips) : Fin 3 → Nat :=
  let c0_65 : Index := 0#32
  let c0_66 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t8
  let c8_i32_63 : BitVec 32 := 8#32
  let v112 : BitVec 32 := Scalar.muli arg15 c8_i32_63
  let v113 : BitVec 32 := v112
  let v114 : BitVec 32 := Scalar.addi v39 v113
  let c0_i32_64 : BitVec 32 := 0#32
  let v115 : BitVec 32 := Scalar.addi v114 c0_i32_64
  let v116 : Index := Scalar.indexCast v115
  ![0, 0, v116.toNat]
def k0_off102 (v117 : BitVec 32) : Fin 2 → Nat :=
  let v118 : Index := Scalar.indexCast v117
  let c0_67 : Index := 0#32
  ![v118.toNat, 0]

def k0_chk42 (v117 : BitVec 32) : Prop :=
  (∀ a, (k0_off102 v117) a + S1x1024.size a ≤ S2176x1024.size a)
theorem k0_off102_inb : ∀ (v117 : BitVec 32) (k0_hw42 : k0_chk42 v117), ∀ a, (k0_off102 v117) a + S1x1024.size a ≤ S2176x1024.size a := fun v117 k0_hw42 => k0_hw42

def k0_off103 (v10 : BitVec 32) (v13 : BitVec 32) (k0_t6 : Fin (k0_t6_loop v13).trips) (k0_t8 : Fin (k0_t8_loop v13 k0_t6).trips) : Fin 3 → Nat :=
  let c0_69 : Index := 0#32
  let c0_70 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t8
  let c8_i32_63 : BitVec 32 := 8#32
  let v112 : BitVec 32 := Scalar.muli arg15 c8_i32_63
  let v113 : BitVec 32 := v112
  let v120 : BitVec 32 := Scalar.addi v39 v113
  let c1_i32_68 : BitVec 32 := 1#32
  let v121 : BitVec 32 := Scalar.addi v120 c1_i32_68
  let v122 : Index := Scalar.indexCast v121
  ![0, 0, v122.toNat]
def k0_off104 (v123 : BitVec 32) : Fin 2 → Nat :=
  let v124 : Index := Scalar.indexCast v123
  let c0_71 : Index := 0#32
  ![v124.toNat, 0]

def k0_chk43 (v123 : BitVec 32) : Prop :=
  (∀ a, (k0_off104 v123) a + S1x1024.size a ≤ S2176x1024.size a)
theorem k0_off104_inb : ∀ (v123 : BitVec 32) (k0_hw43 : k0_chk43 v123), ∀ a, (k0_off104 v123) a + S1x1024.size a ≤ S2176x1024.size a := fun v123 k0_hw43 => k0_hw43

def k0_off105 (v10 : BitVec 32) (v13 : BitVec 32) (k0_t6 : Fin (k0_t6_loop v13).trips) (k0_t8 : Fin (k0_t8_loop v13 k0_t6).trips) : Fin 3 → Nat :=
  let c0_72 : Index := 0#32
  let c0_73 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t8
  let c8_i32_63 : BitVec 32 := 8#32
  let v112 : BitVec 32 := Scalar.muli arg15 c8_i32_63
  let v113 : BitVec 32 := v112
  let v126 : BitVec 32 := Scalar.addi v39 v113
  let c2_i32 : BitVec 32 := 2#32
  let v127 : BitVec 32 := Scalar.addi v126 c2_i32
  let v128 : Index := Scalar.indexCast v127
  ![0, 0, v128.toNat]
def k0_off106 (v129 : BitVec 32) : Fin 2 → Nat :=
  let v130 : Index := Scalar.indexCast v129
  let c0_74 : Index := 0#32
  ![v130.toNat, 0]

def k0_chk44 (v129 : BitVec 32) : Prop :=
  (∀ a, (k0_off106 v129) a + S1x1024.size a ≤ S2176x1024.size a)
theorem k0_off106_inb : ∀ (v129 : BitVec 32) (k0_hw44 : k0_chk44 v129), ∀ a, (k0_off106 v129) a + S1x1024.size a ≤ S2176x1024.size a := fun v129 k0_hw44 => k0_hw44

def k0_off107 (v10 : BitVec 32) (v13 : BitVec 32) (k0_t6 : Fin (k0_t6_loop v13).trips) (k0_t8 : Fin (k0_t8_loop v13 k0_t6).trips) : Fin 3 → Nat :=
  let c0_75 : Index := 0#32
  let c0_76 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t8
  let c8_i32_63 : BitVec 32 := 8#32
  let v112 : BitVec 32 := Scalar.muli arg15 c8_i32_63
  let v113 : BitVec 32 := v112
  let v132 : BitVec 32 := Scalar.addi v39 v113
  let c3_i32 : BitVec 32 := 3#32
  let v133 : BitVec 32 := Scalar.addi v132 c3_i32
  let v134 : Index := Scalar.indexCast v133
  ![0, 0, v134.toNat]
def k0_off108 (v135 : BitVec 32) : Fin 2 → Nat :=
  let v136 : Index := Scalar.indexCast v135
  let c0_77 : Index := 0#32
  ![v136.toNat, 0]

def k0_chk45 (v135 : BitVec 32) : Prop :=
  (∀ a, (k0_off108 v135) a + S1x1024.size a ≤ S2176x1024.size a)
theorem k0_off108_inb : ∀ (v135 : BitVec 32) (k0_hw45 : k0_chk45 v135), ∀ a, (k0_off108 v135) a + S1x1024.size a ≤ S2176x1024.size a := fun v135 k0_hw45 => k0_hw45

def k0_off109 (v10 : BitVec 32) (v13 : BitVec 32) (k0_t6 : Fin (k0_t6_loop v13).trips) (k0_t8 : Fin (k0_t8_loop v13 k0_t6).trips) : Fin 3 → Nat :=
  let c0_78 : Index := 0#32
  let c0_79 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t8
  let c8_i32_63 : BitVec 32 := 8#32
  let v112 : BitVec 32 := Scalar.muli arg15 c8_i32_63
  let v113 : BitVec 32 := v112
  let v138 : BitVec 32 := Scalar.addi v39 v113
  let c4_i32 : BitVec 32 := 4#32
  let v139 : BitVec 32 := Scalar.addi v138 c4_i32
  let v140 : Index := Scalar.indexCast v139
  ![0, 0, v140.toNat]
def k0_off110 (v141 : BitVec 32) : Fin 2 → Nat :=
  let v142 : Index := Scalar.indexCast v141
  let c0_80 : Index := 0#32
  ![v142.toNat, 0]

def k0_chk46 (v141 : BitVec 32) : Prop :=
  (∀ a, (k0_off110 v141) a + S1x1024.size a ≤ S2176x1024.size a)
theorem k0_off110_inb : ∀ (v141 : BitVec 32) (k0_hw46 : k0_chk46 v141), ∀ a, (k0_off110 v141) a + S1x1024.size a ≤ S2176x1024.size a := fun v141 k0_hw46 => k0_hw46

def k0_off111 (v10 : BitVec 32) (v13 : BitVec 32) (k0_t6 : Fin (k0_t6_loop v13).trips) (k0_t8 : Fin (k0_t8_loop v13 k0_t6).trips) : Fin 3 → Nat :=
  let c0_81 : Index := 0#32
  let c0_82 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t8
  let c8_i32_63 : BitVec 32 := 8#32
  let v112 : BitVec 32 := Scalar.muli arg15 c8_i32_63
  let v113 : BitVec 32 := v112
  let v144 : BitVec 32 := Scalar.addi v39 v113
  let c5_i32 : BitVec 32 := 5#32
  let v145 : BitVec 32 := Scalar.addi v144 c5_i32
  let v146 : Index := Scalar.indexCast v145
  ![0, 0, v146.toNat]
def k0_off112 (v147 : BitVec 32) : Fin 2 → Nat :=
  let v148 : Index := Scalar.indexCast v147
  let c0_83 : Index := 0#32
  ![v148.toNat, 0]

def k0_chk47 (v147 : BitVec 32) : Prop :=
  (∀ a, (k0_off112 v147) a + S1x1024.size a ≤ S2176x1024.size a)
theorem k0_off112_inb : ∀ (v147 : BitVec 32) (k0_hw47 : k0_chk47 v147), ∀ a, (k0_off112 v147) a + S1x1024.size a ≤ S2176x1024.size a := fun v147 k0_hw47 => k0_hw47

def k0_off113 (v10 : BitVec 32) (v13 : BitVec 32) (k0_t6 : Fin (k0_t6_loop v13).trips) (k0_t8 : Fin (k0_t8_loop v13 k0_t6).trips) : Fin 3 → Nat :=
  let c0_84 : Index := 0#32
  let c0_85 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t8
  let c8_i32_63 : BitVec 32 := 8#32
  let v112 : BitVec 32 := Scalar.muli arg15 c8_i32_63
  let v113 : BitVec 32 := v112
  let v150 : BitVec 32 := Scalar.addi v39 v113
  let c6_i32 : BitVec 32 := 6#32
  let v151 : BitVec 32 := Scalar.addi v150 c6_i32
  let v152 : Index := Scalar.indexCast v151
  ![0, 0, v152.toNat]
def k0_off114 (v153 : BitVec 32) : Fin 2 → Nat :=
  let v154 : Index := Scalar.indexCast v153
  let c0_86 : Index := 0#32
  ![v154.toNat, 0]

def k0_chk48 (v153 : BitVec 32) : Prop :=
  (∀ a, (k0_off114 v153) a + S1x1024.size a ≤ S2176x1024.size a)
theorem k0_off114_inb : ∀ (v153 : BitVec 32) (k0_hw48 : k0_chk48 v153), ∀ a, (k0_off114 v153) a + S1x1024.size a ≤ S2176x1024.size a := fun v153 k0_hw48 => k0_hw48

def k0_off115 (v10 : BitVec 32) (v13 : BitVec 32) (k0_t6 : Fin (k0_t6_loop v13).trips) (k0_t8 : Fin (k0_t8_loop v13 k0_t6).trips) : Fin 3 → Nat :=
  let c0_88 : Index := 0#32
  let c0_89 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_26 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t8
  let c8_i32_63 : BitVec 32 := 8#32
  let v112 : BitVec 32 := Scalar.muli arg15 c8_i32_63
  let v113 : BitVec 32 := v112
  let v156 : BitVec 32 := Scalar.addi v39 v113
  let c7_i32_87 : BitVec 32 := 7#32
  let v157 : BitVec 32 := Scalar.addi v156 c7_i32_87
  let v158 : Index := Scalar.indexCast v157
  ![0, 0, v158.toNat]
def k0_off116 (v159 : BitVec 32) : Fin 2 → Nat :=
  let v160 : Index := Scalar.indexCast v159
  let c0_90 : Index := 0#32
  ![v160.toNat, 0]

def k0_chk49 (v159 : BitVec 32) : Prop :=
  (∀ a, (k0_off116 v159) a + S1x1024.size a ≤ S2176x1024.size a)
theorem k0_off116_inb : ∀ (v159 : BitVec 32) (k0_hw49 : k0_chk49 v159), ∀ a, (k0_off116 v159) a + S1x1024.size a ≤ S2176x1024.size a := fun v159 k0_hw49 => k0_hw49

def k0_off117 (v13 : BitVec 32) (k0_t6 : Fin (k0_t6_loop v13).trips) (k0_t8 : Fin (k0_t8_loop v13 k0_t6).trips) : Fin 2 → Nat :=
  let c0_i32_26 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v61 : BitVec 32 := Scalar.subi v60 c0_i32_26
  let c1_i32_27 : BitVec 32 := 1#32
  let v63 : BitVec 32 := Scalar.divsi v61 c1_i32_27
  let v64 : BitVec 32 := Scalar.muli v63 c1_i32_27
  let v65 : BitVec 32 := Scalar.addi c0_i32_26 v64
  let c1_i32_29 : BitVec 32 := 1#32
  let arg15 : BitVec 32 := Scf.iv v65 c1_i32_29 k0_t8
  let c8_i32_63 : BitVec 32 := 8#32
  let v112 : BitVec 32 := Scalar.muli arg15 c8_i32_63
  let v113 : BitVec 32 := v112
  let v163 : Index := Scalar.indexCast v113
  let c0_91 : Index := 0#32
  ![v163.toNat, 0]
@[reducible] def k0_t9_loop (v13 : BitVec 32) (k0_t6 : Fin (k0_t6_loop v13).trips) : Scf.Loop 32 :=
  let c0_i32_59 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_61 : BitVec 32 := 1#32
  ⟨c0_i32_59, v111, c1_i32_61⟩
def k0_off118 (v10 : BitVec 32) (v13 : BitVec 32) (k0_t6 : Fin (k0_t6_loop v13).trips) (k0_t9 : Fin (k0_t9_loop v13 k0_t6).trips) : Fin 3 → Nat :=
  let c0_65 : Index := 0#32
  let c0_66 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t9
  let c8_i32_63 : BitVec 32 := 8#32
  let v112 : BitVec 32 := Scalar.muli arg15 c8_i32_63
  let c0_i32_64 : BitVec 32 := 0#32
  let v113 : BitVec 32 := Scalar.addi v112 c0_i32_64
  let v114 : BitVec 32 := Scalar.addi v39 v113
  let v115 : Index := Scalar.indexCast v114
  ![0, 0, v115.toNat]
def k0_off119 (v116 : BitVec 32) : Fin 2 → Nat :=
  let v122 : Index := Scalar.indexCast v116
  let c0_70 : Index := 0#32
  ![v122.toNat, 0]

def k0_chk50 (v116 : BitVec 32) : Prop :=
  (∀ a, (k0_off119 v116) a + S1x1024.size a ≤ S2176x1024.size a)
theorem k0_off119_inb : ∀ (v116 : BitVec 32) (k0_hw50 : k0_chk50 v116), ∀ a, (k0_off119 v116) a + S1x1024.size a ≤ S2176x1024.size a := fun v116 k0_hw50 => k0_hw50

def k0_off120 (v13 : BitVec 32) (k0_t6 : Fin (k0_t6_loop v13).trips) (k0_t9 : Fin (k0_t9_loop v13 k0_t6).trips) : Fin 2 → Nat :=
  let c0_i32_59 : BitVec 32 := 0#32
  let c1_i32_61 : BitVec 32 := 1#32
  let arg15 : BitVec 32 := Scf.iv c0_i32_59 c1_i32_61 k0_t9
  let c8_i32_63 : BitVec 32 := 8#32
  let v112 : BitVec 32 := Scalar.muli arg15 c8_i32_63
  let c0_i32_64 : BitVec 32 := 0#32
  let v113 : BitVec 32 := Scalar.addi v112 c0_i32_64
  let v125 : Index := Scalar.indexCast v113
  let c0_71 : Index := 0#32
  ![v125.toNat, 0]
def k0_off121 (v10 : BitVec 32) (v13 : BitVec 32) (k0_t6 : Fin (k0_t6_loop v13).trips) (k0_t9 : Fin (k0_t9_loop v13 k0_t6).trips) : Fin 3 → Nat :=
  let c0_75 : Index := 0#32
  let c0_76 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t9
  let c8_i32_73 : BitVec 32 := 8#32
  let v132 : BitVec 32 := Scalar.muli arg15 c8_i32_73
  let c1_i32_74 : BitVec 32 := 1#32
  let v133 : BitVec 32 := Scalar.addi v132 c1_i32_74
  let v134 : BitVec 32 := Scalar.addi v39 v133
  let v135 : Index := Scalar.indexCast v134
  ![0, 0, v135.toNat]
def k0_off122 (v136 : BitVec 32) : Fin 2 → Nat :=
  let v142 : Index := Scalar.indexCast v136
  let c0_80 : Index := 0#32
  ![v142.toNat, 0]

def k0_chk51 (v136 : BitVec 32) : Prop :=
  (∀ a, (k0_off122 v136) a + S1x1024.size a ≤ S2176x1024.size a)
theorem k0_off122_inb : ∀ (v136 : BitVec 32) (k0_hw51 : k0_chk51 v136), ∀ a, (k0_off122 v136) a + S1x1024.size a ≤ S2176x1024.size a := fun v136 k0_hw51 => k0_hw51

def k0_off123 (v13 : BitVec 32) (k0_t6 : Fin (k0_t6_loop v13).trips) (k0_t9 : Fin (k0_t9_loop v13 k0_t6).trips) : Fin 2 → Nat :=
  let c0_i32_59 : BitVec 32 := 0#32
  let c1_i32_61 : BitVec 32 := 1#32
  let arg15 : BitVec 32 := Scf.iv c0_i32_59 c1_i32_61 k0_t9
  let c8_i32_73 : BitVec 32 := 8#32
  let v132 : BitVec 32 := Scalar.muli arg15 c8_i32_73
  let c1_i32_74 : BitVec 32 := 1#32
  let v133 : BitVec 32 := Scalar.addi v132 c1_i32_74
  let v145 : Index := Scalar.indexCast v133
  let c0_81 : Index := 0#32
  ![v145.toNat, 0]
def k0_off124 (v10 : BitVec 32) (v13 : BitVec 32) (k0_t6 : Fin (k0_t6_loop v13).trips) (k0_t9 : Fin (k0_t9_loop v13 k0_t6).trips) : Fin 3 → Nat :=
  let c0_84 : Index := 0#32
  let c0_85 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t9
  let c8_i32_83 : BitVec 32 := 8#32
  let v152 : BitVec 32 := Scalar.muli arg15 c8_i32_83
  let c2_i32 : BitVec 32 := 2#32
  let v153 : BitVec 32 := Scalar.addi v152 c2_i32
  let v154 : BitVec 32 := Scalar.addi v39 v153
  let v155 : Index := Scalar.indexCast v154
  ![0, 0, v155.toNat]
def k0_off125 (v156 : BitVec 32) : Fin 2 → Nat :=
  let v162 : Index := Scalar.indexCast v156
  let c0_89 : Index := 0#32
  ![v162.toNat, 0]

def k0_chk52 (v156 : BitVec 32) : Prop :=
  (∀ a, (k0_off125 v156) a + S1x1024.size a ≤ S2176x1024.size a)
theorem k0_off125_inb : ∀ (v156 : BitVec 32) (k0_hw52 : k0_chk52 v156), ∀ a, (k0_off125 v156) a + S1x1024.size a ≤ S2176x1024.size a := fun v156 k0_hw52 => k0_hw52

def k0_off126 (v13 : BitVec 32) (k0_t6 : Fin (k0_t6_loop v13).trips) (k0_t9 : Fin (k0_t9_loop v13 k0_t6).trips) : Fin 2 → Nat :=
  let c0_i32_59 : BitVec 32 := 0#32
  let c1_i32_61 : BitVec 32 := 1#32
  let arg15 : BitVec 32 := Scf.iv c0_i32_59 c1_i32_61 k0_t9
  let c8_i32_83 : BitVec 32 := 8#32
  let v152 : BitVec 32 := Scalar.muli arg15 c8_i32_83
  let c2_i32 : BitVec 32 := 2#32
  let v153 : BitVec 32 := Scalar.addi v152 c2_i32
  let v165 : Index := Scalar.indexCast v153
  let c0_90 : Index := 0#32
  ![v165.toNat, 0]
def k0_off127 (v10 : BitVec 32) (v13 : BitVec 32) (k0_t6 : Fin (k0_t6_loop v13).trips) (k0_t9 : Fin (k0_t9_loop v13 k0_t6).trips) : Fin 3 → Nat :=
  let c0_93 : Index := 0#32
  let c0_94 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t9
  let c8_i32_92 : BitVec 32 := 8#32
  let v172 : BitVec 32 := Scalar.muli arg15 c8_i32_92
  let c3_i32 : BitVec 32 := 3#32
  let v173 : BitVec 32 := Scalar.addi v172 c3_i32
  let v174 : BitVec 32 := Scalar.addi v39 v173
  let v175 : Index := Scalar.indexCast v174
  ![0, 0, v175.toNat]
def k0_off128 (v176 : BitVec 32) : Fin 2 → Nat :=
  let v182 : Index := Scalar.indexCast v176
  let c0_98 : Index := 0#32
  ![v182.toNat, 0]

def k0_chk53 (v176 : BitVec 32) : Prop :=
  (∀ a, (k0_off128 v176) a + S1x1024.size a ≤ S2176x1024.size a)
theorem k0_off128_inb : ∀ (v176 : BitVec 32) (k0_hw53 : k0_chk53 v176), ∀ a, (k0_off128 v176) a + S1x1024.size a ≤ S2176x1024.size a := fun v176 k0_hw53 => k0_hw53

def k0_off129 (v13 : BitVec 32) (k0_t6 : Fin (k0_t6_loop v13).trips) (k0_t9 : Fin (k0_t9_loop v13 k0_t6).trips) : Fin 2 → Nat :=
  let c0_i32_59 : BitVec 32 := 0#32
  let c1_i32_61 : BitVec 32 := 1#32
  let arg15 : BitVec 32 := Scf.iv c0_i32_59 c1_i32_61 k0_t9
  let c8_i32_92 : BitVec 32 := 8#32
  let v172 : BitVec 32 := Scalar.muli arg15 c8_i32_92
  let c3_i32 : BitVec 32 := 3#32
  let v173 : BitVec 32 := Scalar.addi v172 c3_i32
  let v185 : Index := Scalar.indexCast v173
  let c0_99 : Index := 0#32
  ![v185.toNat, 0]
def k0_off130 (v10 : BitVec 32) (v13 : BitVec 32) (k0_t6 : Fin (k0_t6_loop v13).trips) (k0_t9 : Fin (k0_t9_loop v13 k0_t6).trips) : Fin 3 → Nat :=
  let c0_102 : Index := 0#32
  let c0_103 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t9
  let c8_i32_101 : BitVec 32 := 8#32
  let v192 : BitVec 32 := Scalar.muli arg15 c8_i32_101
  let c4_i32 : BitVec 32 := 4#32
  let v193 : BitVec 32 := Scalar.addi v192 c4_i32
  let v194 : BitVec 32 := Scalar.addi v39 v193
  let v195 : Index := Scalar.indexCast v194
  ![0, 0, v195.toNat]
def k0_off131 (v196 : BitVec 32) : Fin 2 → Nat :=
  let v202 : Index := Scalar.indexCast v196
  let c0_107 : Index := 0#32
  ![v202.toNat, 0]

def k0_chk54 (v196 : BitVec 32) : Prop :=
  (∀ a, (k0_off131 v196) a + S1x1024.size a ≤ S2176x1024.size a)
theorem k0_off131_inb : ∀ (v196 : BitVec 32) (k0_hw54 : k0_chk54 v196), ∀ a, (k0_off131 v196) a + S1x1024.size a ≤ S2176x1024.size a := fun v196 k0_hw54 => k0_hw54

def k0_off132 (v13 : BitVec 32) (k0_t6 : Fin (k0_t6_loop v13).trips) (k0_t9 : Fin (k0_t9_loop v13 k0_t6).trips) : Fin 2 → Nat :=
  let c0_i32_59 : BitVec 32 := 0#32
  let c1_i32_61 : BitVec 32 := 1#32
  let arg15 : BitVec 32 := Scf.iv c0_i32_59 c1_i32_61 k0_t9
  let c8_i32_101 : BitVec 32 := 8#32
  let v192 : BitVec 32 := Scalar.muli arg15 c8_i32_101
  let c4_i32 : BitVec 32 := 4#32
  let v193 : BitVec 32 := Scalar.addi v192 c4_i32
  let v205 : Index := Scalar.indexCast v193
  let c0_108 : Index := 0#32
  ![v205.toNat, 0]
def k0_off133 (v10 : BitVec 32) (v13 : BitVec 32) (k0_t6 : Fin (k0_t6_loop v13).trips) (k0_t9 : Fin (k0_t9_loop v13 k0_t6).trips) : Fin 3 → Nat :=
  let c0_111 : Index := 0#32
  let c0_112 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t9
  let c8_i32_110 : BitVec 32 := 8#32
  let v212 : BitVec 32 := Scalar.muli arg15 c8_i32_110
  let c5_i32 : BitVec 32 := 5#32
  let v213 : BitVec 32 := Scalar.addi v212 c5_i32
  let v214 : BitVec 32 := Scalar.addi v39 v213
  let v215 : Index := Scalar.indexCast v214
  ![0, 0, v215.toNat]
def k0_off134 (v216 : BitVec 32) : Fin 2 → Nat :=
  let v222 : Index := Scalar.indexCast v216
  let c0_116 : Index := 0#32
  ![v222.toNat, 0]

def k0_chk55 (v216 : BitVec 32) : Prop :=
  (∀ a, (k0_off134 v216) a + S1x1024.size a ≤ S2176x1024.size a)
theorem k0_off134_inb : ∀ (v216 : BitVec 32) (k0_hw55 : k0_chk55 v216), ∀ a, (k0_off134 v216) a + S1x1024.size a ≤ S2176x1024.size a := fun v216 k0_hw55 => k0_hw55

def k0_off135 (v13 : BitVec 32) (k0_t6 : Fin (k0_t6_loop v13).trips) (k0_t9 : Fin (k0_t9_loop v13 k0_t6).trips) : Fin 2 → Nat :=
  let c0_i32_59 : BitVec 32 := 0#32
  let c1_i32_61 : BitVec 32 := 1#32
  let arg15 : BitVec 32 := Scf.iv c0_i32_59 c1_i32_61 k0_t9
  let c8_i32_110 : BitVec 32 := 8#32
  let v212 : BitVec 32 := Scalar.muli arg15 c8_i32_110
  let c5_i32 : BitVec 32 := 5#32
  let v213 : BitVec 32 := Scalar.addi v212 c5_i32
  let v225 : Index := Scalar.indexCast v213
  let c0_117 : Index := 0#32
  ![v225.toNat, 0]
def k0_off136 (v10 : BitVec 32) (v13 : BitVec 32) (k0_t6 : Fin (k0_t6_loop v13).trips) (k0_t9 : Fin (k0_t9_loop v13 k0_t6).trips) : Fin 3 → Nat :=
  let c0_120 : Index := 0#32
  let c0_121 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t9
  let c8_i32_119 : BitVec 32 := 8#32
  let v232 : BitVec 32 := Scalar.muli arg15 c8_i32_119
  let c6_i32 : BitVec 32 := 6#32
  let v233 : BitVec 32 := Scalar.addi v232 c6_i32
  let v234 : BitVec 32 := Scalar.addi v39 v233
  let v235 : Index := Scalar.indexCast v234
  ![0, 0, v235.toNat]
def k0_off137 (v236 : BitVec 32) : Fin 2 → Nat :=
  let v242 : Index := Scalar.indexCast v236
  let c0_125 : Index := 0#32
  ![v242.toNat, 0]

def k0_chk56 (v236 : BitVec 32) : Prop :=
  (∀ a, (k0_off137 v236) a + S1x1024.size a ≤ S2176x1024.size a)
theorem k0_off137_inb : ∀ (v236 : BitVec 32) (k0_hw56 : k0_chk56 v236), ∀ a, (k0_off137 v236) a + S1x1024.size a ≤ S2176x1024.size a := fun v236 k0_hw56 => k0_hw56

def k0_off138 (v13 : BitVec 32) (k0_t6 : Fin (k0_t6_loop v13).trips) (k0_t9 : Fin (k0_t9_loop v13 k0_t6).trips) : Fin 2 → Nat :=
  let c0_i32_59 : BitVec 32 := 0#32
  let c1_i32_61 : BitVec 32 := 1#32
  let arg15 : BitVec 32 := Scf.iv c0_i32_59 c1_i32_61 k0_t9
  let c8_i32_119 : BitVec 32 := 8#32
  let v232 : BitVec 32 := Scalar.muli arg15 c8_i32_119
  let c6_i32 : BitVec 32 := 6#32
  let v233 : BitVec 32 := Scalar.addi v232 c6_i32
  let v245 : Index := Scalar.indexCast v233
  let c0_126 : Index := 0#32
  ![v245.toNat, 0]
def k0_off139 (v10 : BitVec 32) (v13 : BitVec 32) (k0_t6 : Fin (k0_t6_loop v13).trips) (k0_t9 : Fin (k0_t9_loop v13 k0_t6).trips) : Fin 3 → Nat :=
  let c0_130 : Index := 0#32
  let c0_131 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c1_i32_61 : BitVec 32 := 1#32
  let arg15 : BitVec 32 := Scf.iv c0_i32_59 c1_i32_61 k0_t9
  let c8_i32_128 : BitVec 32 := 8#32
  let v252 : BitVec 32 := Scalar.muli arg15 c8_i32_128
  let c7_i32_129 : BitVec 32 := 7#32
  let v253 : BitVec 32 := Scalar.addi v252 c7_i32_129
  let v254 : BitVec 32 := Scalar.addi v39 v253
  let v255 : Index := Scalar.indexCast v254
  ![0, 0, v255.toNat]
def k0_off140 (v256 : BitVec 32) : Fin 2 → Nat :=
  let v262 : Index := Scalar.indexCast v256
  let c0_135 : Index := 0#32
  ![v262.toNat, 0]

def k0_chk57 (v256 : BitVec 32) : Prop :=
  (∀ a, (k0_off140 v256) a + S1x1024.size a ≤ S2176x1024.size a)
theorem k0_off140_inb : ∀ (v256 : BitVec 32) (k0_hw57 : k0_chk57 v256), ∀ a, (k0_off140 v256) a + S1x1024.size a ≤ S2176x1024.size a := fun v256 k0_hw57 => k0_hw57

def k0_off141 (v13 : BitVec 32) (k0_t6 : Fin (k0_t6_loop v13).trips) (k0_t9 : Fin (k0_t9_loop v13 k0_t6).trips) : Fin 2 → Nat :=
  let c0_i32_59 : BitVec 32 := 0#32
  let c1_i32_61 : BitVec 32 := 1#32
  let arg15 : BitVec 32 := Scf.iv c0_i32_59 c1_i32_61 k0_t9
  let c8_i32_128 : BitVec 32 := 8#32
  let v252 : BitVec 32 := Scalar.muli arg15 c8_i32_128
  let c7_i32_129 : BitVec 32 := 7#32
  let v253 : BitVec 32 := Scalar.addi v252 c7_i32_129
  let v265 : Index := Scalar.indexCast v253
  let c0_136 : Index := 0#32
  ![v265.toNat, 0]
@[reducible] def k0_t10_loop (v13 : BitVec 32) (k0_t6 : Fin (k0_t6_loop v13).trips) : Scf.Loop 32 :=
  let c0_i32_59 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let v108 : BitVec 32 := Scalar.addi c0_i32_59 v107
  let c1_i32_62 : BitVec 32 := 1#32
  ⟨v111, v108, c1_i32_62⟩
def k0_off142 (v10 : BitVec 32) (v13 : BitVec 32) (k0_t6 : Fin (k0_t6_loop v13).trips) (k0_t10 : Fin (k0_t10_loop v13 k0_t6).trips) : Fin 3 → Nat :=
  let c0_65 : Index := 0#32
  let c0_66 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_63 : BitVec 32 := 8#32
  let v112 : BitVec 32 := Scalar.muli arg15 c8_i32_63
  let c0_i32_64 : BitVec 32 := 0#32
  let v113 : BitVec 32 := Scalar.addi v112 c0_i32_64
  let v114 : BitVec 32 := Scalar.addi v39 v113
  let v115 : Index := Scalar.indexCast v114
  ![0, 0, v115.toNat]
def k0_off143 (v116 : BitVec 32) : Fin 2 → Nat :=
  let v122 : Index := Scalar.indexCast v116
  let c0_70 : Index := 0#32
  ![v122.toNat, 0]

def k0_chk58 (v116 : BitVec 32) : Prop :=
  (∀ a, (k0_off143 v116) a + S1x1024.size a ≤ S2176x1024.size a)
theorem k0_off143_inb : ∀ (v116 : BitVec 32) (k0_hw58 : k0_chk58 v116), ∀ a, (k0_off143 v116) a + S1x1024.size a ≤ S2176x1024.size a := fun v116 k0_hw58 => k0_hw58

def k0_off144 (v13 : BitVec 32) (k0_t6 : Fin (k0_t6_loop v13).trips) (k0_t10 : Fin (k0_t10_loop v13 k0_t6).trips) : Fin 2 → Nat :=
  let c0_i32_59 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_63 : BitVec 32 := 8#32
  let v112 : BitVec 32 := Scalar.muli arg15 c8_i32_63
  let c0_i32_64 : BitVec 32 := 0#32
  let v113 : BitVec 32 := Scalar.addi v112 c0_i32_64
  let v125 : Index := Scalar.indexCast v113
  let c0_71 : Index := 0#32
  ![v125.toNat, 0]
def k0_off145 (v10 : BitVec 32) (v13 : BitVec 32) (k0_t6 : Fin (k0_t6_loop v13).trips) (k0_t10 : Fin (k0_t10_loop v13 k0_t6).trips) : Fin 3 → Nat :=
  let c0_75 : Index := 0#32
  let c0_76 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_73 : BitVec 32 := 8#32
  let v132 : BitVec 32 := Scalar.muli arg15 c8_i32_73
  let c1_i32_74 : BitVec 32 := 1#32
  let v133 : BitVec 32 := Scalar.addi v132 c1_i32_74
  let v134 : BitVec 32 := Scalar.addi v39 v133
  let v135 : Index := Scalar.indexCast v134
  ![0, 0, v135.toNat]
def k0_off146 (v136 : BitVec 32) : Fin 2 → Nat :=
  let v142 : Index := Scalar.indexCast v136
  let c0_80 : Index := 0#32
  ![v142.toNat, 0]

def k0_chk59 (v136 : BitVec 32) : Prop :=
  (∀ a, (k0_off146 v136) a + S1x1024.size a ≤ S2176x1024.size a)
theorem k0_off146_inb : ∀ (v136 : BitVec 32) (k0_hw59 : k0_chk59 v136), ∀ a, (k0_off146 v136) a + S1x1024.size a ≤ S2176x1024.size a := fun v136 k0_hw59 => k0_hw59

def k0_off147 (v13 : BitVec 32) (k0_t6 : Fin (k0_t6_loop v13).trips) (k0_t10 : Fin (k0_t10_loop v13 k0_t6).trips) : Fin 2 → Nat :=
  let c0_i32_59 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_73 : BitVec 32 := 8#32
  let v132 : BitVec 32 := Scalar.muli arg15 c8_i32_73
  let c1_i32_74 : BitVec 32 := 1#32
  let v133 : BitVec 32 := Scalar.addi v132 c1_i32_74
  let v145 : Index := Scalar.indexCast v133
  let c0_81 : Index := 0#32
  ![v145.toNat, 0]
def k0_off148 (v10 : BitVec 32) (v13 : BitVec 32) (k0_t6 : Fin (k0_t6_loop v13).trips) (k0_t10 : Fin (k0_t10_loop v13 k0_t6).trips) : Fin 3 → Nat :=
  let c0_84 : Index := 0#32
  let c0_85 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_83 : BitVec 32 := 8#32
  let v152 : BitVec 32 := Scalar.muli arg15 c8_i32_83
  let c2_i32 : BitVec 32 := 2#32
  let v153 : BitVec 32 := Scalar.addi v152 c2_i32
  let v154 : BitVec 32 := Scalar.addi v39 v153
  let v155 : Index := Scalar.indexCast v154
  ![0, 0, v155.toNat]
def k0_off149 (v156 : BitVec 32) : Fin 2 → Nat :=
  let v162 : Index := Scalar.indexCast v156
  let c0_89 : Index := 0#32
  ![v162.toNat, 0]

def k0_chk60 (v156 : BitVec 32) : Prop :=
  (∀ a, (k0_off149 v156) a + S1x1024.size a ≤ S2176x1024.size a)
theorem k0_off149_inb : ∀ (v156 : BitVec 32) (k0_hw60 : k0_chk60 v156), ∀ a, (k0_off149 v156) a + S1x1024.size a ≤ S2176x1024.size a := fun v156 k0_hw60 => k0_hw60

def k0_off150 (v13 : BitVec 32) (k0_t6 : Fin (k0_t6_loop v13).trips) (k0_t10 : Fin (k0_t10_loop v13 k0_t6).trips) : Fin 2 → Nat :=
  let c0_i32_59 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_83 : BitVec 32 := 8#32
  let v152 : BitVec 32 := Scalar.muli arg15 c8_i32_83
  let c2_i32 : BitVec 32 := 2#32
  let v153 : BitVec 32 := Scalar.addi v152 c2_i32
  let v165 : Index := Scalar.indexCast v153
  let c0_90 : Index := 0#32
  ![v165.toNat, 0]
def k0_off151 (v10 : BitVec 32) (v13 : BitVec 32) (k0_t6 : Fin (k0_t6_loop v13).trips) (k0_t10 : Fin (k0_t10_loop v13 k0_t6).trips) : Fin 3 → Nat :=
  let c0_93 : Index := 0#32
  let c0_94 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_92 : BitVec 32 := 8#32
  let v172 : BitVec 32 := Scalar.muli arg15 c8_i32_92
  let c3_i32 : BitVec 32 := 3#32
  let v173 : BitVec 32 := Scalar.addi v172 c3_i32
  let v174 : BitVec 32 := Scalar.addi v39 v173
  let v175 : Index := Scalar.indexCast v174
  ![0, 0, v175.toNat]
def k0_off152 (v176 : BitVec 32) : Fin 2 → Nat :=
  let v182 : Index := Scalar.indexCast v176
  let c0_98 : Index := 0#32
  ![v182.toNat, 0]

def k0_chk61 (v176 : BitVec 32) : Prop :=
  (∀ a, (k0_off152 v176) a + S1x1024.size a ≤ S2176x1024.size a)
theorem k0_off152_inb : ∀ (v176 : BitVec 32) (k0_hw61 : k0_chk61 v176), ∀ a, (k0_off152 v176) a + S1x1024.size a ≤ S2176x1024.size a := fun v176 k0_hw61 => k0_hw61

def k0_off153 (v13 : BitVec 32) (k0_t6 : Fin (k0_t6_loop v13).trips) (k0_t10 : Fin (k0_t10_loop v13 k0_t6).trips) : Fin 2 → Nat :=
  let c0_i32_59 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_92 : BitVec 32 := 8#32
  let v172 : BitVec 32 := Scalar.muli arg15 c8_i32_92
  let c3_i32 : BitVec 32 := 3#32
  let v173 : BitVec 32 := Scalar.addi v172 c3_i32
  let v185 : Index := Scalar.indexCast v173
  let c0_99 : Index := 0#32
  ![v185.toNat, 0]
def k0_off154 (v10 : BitVec 32) (v13 : BitVec 32) (k0_t6 : Fin (k0_t6_loop v13).trips) (k0_t10 : Fin (k0_t10_loop v13 k0_t6).trips) : Fin 3 → Nat :=
  let c0_102 : Index := 0#32
  let c0_103 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_101 : BitVec 32 := 8#32
  let v192 : BitVec 32 := Scalar.muli arg15 c8_i32_101
  let c4_i32 : BitVec 32 := 4#32
  let v193 : BitVec 32 := Scalar.addi v192 c4_i32
  let v194 : BitVec 32 := Scalar.addi v39 v193
  let v195 : Index := Scalar.indexCast v194
  ![0, 0, v195.toNat]
def k0_off155 (v196 : BitVec 32) : Fin 2 → Nat :=
  let v202 : Index := Scalar.indexCast v196
  let c0_107 : Index := 0#32
  ![v202.toNat, 0]

def k0_chk62 (v196 : BitVec 32) : Prop :=
  (∀ a, (k0_off155 v196) a + S1x1024.size a ≤ S2176x1024.size a)
theorem k0_off155_inb : ∀ (v196 : BitVec 32) (k0_hw62 : k0_chk62 v196), ∀ a, (k0_off155 v196) a + S1x1024.size a ≤ S2176x1024.size a := fun v196 k0_hw62 => k0_hw62

def k0_off156 (v13 : BitVec 32) (k0_t6 : Fin (k0_t6_loop v13).trips) (k0_t10 : Fin (k0_t10_loop v13 k0_t6).trips) : Fin 2 → Nat :=
  let c0_i32_59 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_101 : BitVec 32 := 8#32
  let v192 : BitVec 32 := Scalar.muli arg15 c8_i32_101
  let c4_i32 : BitVec 32 := 4#32
  let v193 : BitVec 32 := Scalar.addi v192 c4_i32
  let v205 : Index := Scalar.indexCast v193
  let c0_108 : Index := 0#32
  ![v205.toNat, 0]
def k0_off157 (v10 : BitVec 32) (v13 : BitVec 32) (k0_t6 : Fin (k0_t6_loop v13).trips) (k0_t10 : Fin (k0_t10_loop v13 k0_t6).trips) : Fin 3 → Nat :=
  let c0_111 : Index := 0#32
  let c0_112 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_110 : BitVec 32 := 8#32
  let v212 : BitVec 32 := Scalar.muli arg15 c8_i32_110
  let c5_i32 : BitVec 32 := 5#32
  let v213 : BitVec 32 := Scalar.addi v212 c5_i32
  let v214 : BitVec 32 := Scalar.addi v39 v213
  let v215 : Index := Scalar.indexCast v214
  ![0, 0, v215.toNat]
def k0_off158 (v216 : BitVec 32) : Fin 2 → Nat :=
  let v222 : Index := Scalar.indexCast v216
  let c0_116 : Index := 0#32
  ![v222.toNat, 0]

def k0_chk63 (v216 : BitVec 32) : Prop :=
  (∀ a, (k0_off158 v216) a + S1x1024.size a ≤ S2176x1024.size a)
theorem k0_off158_inb : ∀ (v216 : BitVec 32) (k0_hw63 : k0_chk63 v216), ∀ a, (k0_off158 v216) a + S1x1024.size a ≤ S2176x1024.size a := fun v216 k0_hw63 => k0_hw63

def k0_off159 (v13 : BitVec 32) (k0_t6 : Fin (k0_t6_loop v13).trips) (k0_t10 : Fin (k0_t10_loop v13 k0_t6).trips) : Fin 2 → Nat :=
  let c0_i32_59 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_110 : BitVec 32 := 8#32
  let v212 : BitVec 32 := Scalar.muli arg15 c8_i32_110
  let c5_i32 : BitVec 32 := 5#32
  let v213 : BitVec 32 := Scalar.addi v212 c5_i32
  let v225 : Index := Scalar.indexCast v213
  let c0_117 : Index := 0#32
  ![v225.toNat, 0]
def k0_off160 (v10 : BitVec 32) (v13 : BitVec 32) (k0_t6 : Fin (k0_t6_loop v13).trips) (k0_t10 : Fin (k0_t10_loop v13 k0_t6).trips) : Fin 3 → Nat :=
  let c0_120 : Index := 0#32
  let c0_121 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_119 : BitVec 32 := 8#32
  let v232 : BitVec 32 := Scalar.muli arg15 c8_i32_119
  let c6_i32 : BitVec 32 := 6#32
  let v233 : BitVec 32 := Scalar.addi v232 c6_i32
  let v234 : BitVec 32 := Scalar.addi v39 v233
  let v235 : Index := Scalar.indexCast v234
  ![0, 0, v235.toNat]
def k0_off161 (v236 : BitVec 32) : Fin 2 → Nat :=
  let v242 : Index := Scalar.indexCast v236
  let c0_125 : Index := 0#32
  ![v242.toNat, 0]

def k0_chk64 (v236 : BitVec 32) : Prop :=
  (∀ a, (k0_off161 v236) a + S1x1024.size a ≤ S2176x1024.size a)
theorem k0_off161_inb : ∀ (v236 : BitVec 32) (k0_hw64 : k0_chk64 v236), ∀ a, (k0_off161 v236) a + S1x1024.size a ≤ S2176x1024.size a := fun v236 k0_hw64 => k0_hw64

def k0_off162 (v13 : BitVec 32) (k0_t6 : Fin (k0_t6_loop v13).trips) (k0_t10 : Fin (k0_t10_loop v13 k0_t6).trips) : Fin 2 → Nat :=
  let c0_i32_59 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_119 : BitVec 32 := 8#32
  let v232 : BitVec 32 := Scalar.muli arg15 c8_i32_119
  let c6_i32 : BitVec 32 := 6#32
  let v233 : BitVec 32 := Scalar.addi v232 c6_i32
  let v245 : Index := Scalar.indexCast v233
  let c0_126 : Index := 0#32
  ![v245.toNat, 0]
def k0_off163 (v10 : BitVec 32) (v13 : BitVec 32) (k0_t6 : Fin (k0_t6_loop v13).trips) (k0_t10 : Fin (k0_t10_loop v13 k0_t6).trips) : Fin 3 → Nat :=
  let c0_130 : Index := 0#32
  let c0_131 : Index := 0#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_16 : BitVec 32 := 304#32
  let v38 : BitVec 32 := Scalar.muli arg14 c304_i32_16
  let v39 : BitVec 32 := Scalar.addi v10 v38
  let c0_i32_59 : BitVec 32 := 0#32
  let c304_i32_18 : BitVec 32 := 304#32
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_128 : BitVec 32 := 8#32
  let v252 : BitVec 32 := Scalar.muli arg15 c8_i32_128
  let c7_i32_129 : BitVec 32 := 7#32
  let v253 : BitVec 32 := Scalar.addi v252 c7_i32_129
  let v254 : BitVec 32 := Scalar.addi v39 v253
  let v255 : Index := Scalar.indexCast v254
  ![0, 0, v255.toNat]
def k0_off164 (v256 : BitVec 32) : Fin 2 → Nat :=
  let v262 : Index := Scalar.indexCast v256
  let c0_135 : Index := 0#32
  ![v262.toNat, 0]

def k0_chk65 (v256 : BitVec 32) : Prop :=
  (∀ a, (k0_off164 v256) a + S1x1024.size a ≤ S2176x1024.size a)
theorem k0_off164_inb : ∀ (v256 : BitVec 32) (k0_hw65 : k0_chk65 v256), ∀ a, (k0_off164 v256) a + S1x1024.size a ≤ S2176x1024.size a := fun v256 k0_hw65 => k0_hw65

def k0_off165 (v13 : BitVec 32) (k0_t6 : Fin (k0_t6_loop v13).trips) (k0_t10 : Fin (k0_t10_loop v13 k0_t6).trips) : Fin 2 → Nat :=
  let c0_i32_59 : BitVec 32 := 0#32
  let c304_i32_18 : BitVec 32 := 304#32
  let c0_i32_12 : BitVec 32 := 0#32
  let c304_i32 : BitVec 32 := 304#32
  let v14 : BitVec 32 := Scalar.addi v13 c304_i32
  let c1_i32 : BitVec 32 := 1#32
  let v15 : BitVec 32 := Scalar.subi v14 c1_i32
  let c0_i32_5 : BitVec 32 := 0#32
  let v17 : BitVec 1 := Scalar.cmpi .sgt v15 c0_i32_5
  let v18 : BitVec 32 := Scalar.extui v17
  let c0_i32_6 : BitVec 32 := 0#32
  let v19 : BitVec 1 := Scalar.cmpi .slt v15 c0_i32_6
  let v20 : BitVec 32 := Scalar.extui v19
  let v21 : BitVec 32 := Scalar.subi v18 v20
  let c304_i32_4 : BitVec 32 := 304#32
  let c0_i32_7 : BitVec 32 := 0#32
  let v22 : BitVec 1 := Scalar.cmpi .sgt c304_i32_4 c0_i32_7
  let v23 : BitVec 32 := Scalar.extui v22
  let c0_i32_8 : BitVec 32 := 0#32
  let v24 : BitVec 1 := Scalar.cmpi .slt c304_i32_4 c0_i32_8
  let v25 : BitVec 32 := Scalar.extui v24
  let v26 : BitVec 32 := Scalar.subi v23 v25
  let v27 : BitVec 1 := Scalar.cmpi .ne v21 v26
  let v28 : BitVec 32 := Scalar.remsi v15 c304_i32_4
  let c0_i32_9 : BitVec 32 := 0#32
  let v29 : BitVec 1 := Scalar.cmpi .ne v28 c0_i32_9
  let v30 : BitVec 1 := Scalar.andi v27 v29
  let v16 : BitVec 32 := Scalar.divsi v15 c304_i32_4
  let c1_i32_10 : BitVec 32 := 1#32
  let v31 : BitVec 32 := Scalar.subi v16 c1_i32_10
  let v32 : BitVec 32 := Scalar.select v30 v31 v16
  let v33 : BitVec 32 := Scalar.subi v32 c0_i32_12
  let c1_i32_13 : BitVec 32 := 1#32
  let v35 : BitVec 32 := Scalar.divsi v33 c1_i32_13
  let v36 : BitVec 32 := Scalar.muli v35 c1_i32_13
  let v37 : BitVec 32 := Scalar.addi c0_i32_12 v36
  let c1_i32_15 : BitVec 32 := 1#32
  let arg14 : BitVec 32 := Scf.iv v37 c1_i32_15 k0_t6
  let c304_i32_17 : BitVec 32 := 304#32
  let v40 : BitVec 32 := Scalar.muli arg14 c304_i32_17
  let v41 : BitVec 32 := Scalar.subi v13 v40
  let v42 : BitVec 32 := Scalar.minsi c304_i32_18 v41
  let c7_i32 : BitVec 32 := 7#32
  let v43 : BitVec 32 := Scalar.addi v42 c7_i32
  let c0_i32_19 : BitVec 32 := 0#32
  let v45 : BitVec 1 := Scalar.cmpi .sgt v43 c0_i32_19
  let v46 : BitVec 32 := Scalar.extui v45
  let c0_i32_20 : BitVec 32 := 0#32
  let v47 : BitVec 1 := Scalar.cmpi .slt v43 c0_i32_20
  let v48 : BitVec 32 := Scalar.extui v47
  let v49 : BitVec 32 := Scalar.subi v46 v48
  let c8_i32 : BitVec 32 := 8#32
  let c0_i32_21 : BitVec 32 := 0#32
  let v50 : BitVec 1 := Scalar.cmpi .sgt c8_i32 c0_i32_21
  let v51 : BitVec 32 := Scalar.extui v50
  let c0_i32_22 : BitVec 32 := 0#32
  let v52 : BitVec 1 := Scalar.cmpi .slt c8_i32 c0_i32_22
  let v53 : BitVec 32 := Scalar.extui v52
  let v54 : BitVec 32 := Scalar.subi v51 v53
  let v55 : BitVec 1 := Scalar.cmpi .ne v49 v54
  let v56 : BitVec 32 := Scalar.remsi v43 c8_i32
  let c0_i32_23 : BitVec 32 := 0#32
  let v57 : BitVec 1 := Scalar.cmpi .ne v56 c0_i32_23
  let v58 : BitVec 1 := Scalar.andi v55 v57
  let v44 : BitVec 32 := Scalar.divsi v43 c8_i32
  let c1_i32_24 : BitVec 32 := 1#32
  let v59 : BitVec 32 := Scalar.subi v44 c1_i32_24
  let v60 : BitVec 32 := Scalar.select v58 v59 v44
  let v107 : BitVec 32 := Scalar.subi v60 c0_i32_59
  let c1_i32_60 : BitVec 32 := 1#32
  let v109 : BitVec 32 := Scalar.divsi v107 c1_i32_60
  let v110 : BitVec 32 := Scalar.muli v109 c1_i32_60
  let v111 : BitVec 32 := Scalar.addi c0_i32_59 v110
  let c1_i32_62 : BitVec 32 := 1#32
  let arg15 : BitVec 32 := Scf.iv v111 c1_i32_62 k0_t10
  let c8_i32_128 : BitVec 32 := 8#32
  let v252 : BitVec 32 := Scalar.muli arg15 c8_i32_128
  let c7_i32_129 : BitVec 32 := 7#32
  let v253 : BitVec 32 := Scalar.addi v252 c7_i32_129
  let v265 : Index := Scalar.indexCast v253
  let c0_136 : Index := 0#32
  ![v265.toNat, 0]

def k0_chk1_0 (v10 : BitVec 32) (v13 : BitVec 32) : Prop :=
  ((k0_t1_loop v13).OK) ∧
  (∀ k0_t1 : Fin (k0_t1_loop v13).trips, (k0_t2_loop v13 k0_t1).OK) ∧
  (∀ (k0_t1 : Fin (k0_t1_loop v13).trips) (k0_t2 : Fin (k0_t2_loop v13 k0_t1).trips), 8 ∣ (k0_mult1 v13 k0_t1 k0_t2).toNat) ∧
  (∀ (k0_t1 : Fin (k0_t1_loop v13).trips) (k0_t2 : Fin (k0_t2_loop v13 k0_t1).trips), ∀ a, (k0_off2 v10 v13 k0_t1 k0_t2) a + S1x1x1.size a ≤ S1x1x8712.size a) ∧
  (∀ (k0_t1 : Fin (k0_t1_loop v13).trips) (k0_t2 : Fin (k0_t2_loop v13 k0_t1).trips), ∀ a, (k0_off4 v10 v13 k0_t1 k0_t2) a + S1x1x1.size a ≤ S1x1x8712.size a) ∧
  (∀ (k0_t1 : Fin (k0_t1_loop v13).trips) (k0_t2 : Fin (k0_t2_loop v13 k0_t1).trips), ∀ a, (k0_off6 v10 v13 k0_t1 k0_t2) a + S1x1x1.size a ≤ S1x1x8712.size a) ∧
  (∀ (k0_t1 : Fin (k0_t1_loop v13).trips) (k0_t2 : Fin (k0_t2_loop v13 k0_t1).trips), ∀ a, (k0_off8 v10 v13 k0_t1 k0_t2) a + S1x1x1.size a ≤ S1x1x8712.size a) ∧
  (∀ (k0_t1 : Fin (k0_t1_loop v13).trips) (k0_t2 : Fin (k0_t2_loop v13 k0_t1).trips), ∀ a, (k0_off10 v10 v13 k0_t1 k0_t2) a + S1x1x1.size a ≤ S1x1x8712.size a) ∧
  (∀ (k0_t1 : Fin (k0_t1_loop v13).trips) (k0_t2 : Fin (k0_t2_loop v13 k0_t1).trips), ∀ a, (k0_off12 v10 v13 k0_t1 k0_t2) a + S1x1x1.size a ≤ S1x1x8712.size a) ∧
  (∀ (k0_t1 : Fin (k0_t1_loop v13).trips) (k0_t2 : Fin (k0_t2_loop v13 k0_t1).trips), ∀ a, (k0_off14 v10 v13 k0_t1 k0_t2) a + S1x1x1.size a ≤ S1x1x8712.size a) ∧
  (∀ (k0_t1 : Fin (k0_t1_loop v13).trips) (k0_t2 : Fin (k0_t2_loop v13 k0_t1).trips), ∀ a, (k0_off16 v10 v13 k0_t1 k0_t2) a + S1x1x1.size a ≤ S1x1x8712.size a) ∧
  (∀ (k0_t1 : Fin (k0_t1_loop v13).trips) (k0_t2 : Fin (k0_t2_loop v13 k0_t1).trips), ∀ a, (k0_off18 v13 k0_t1 k0_t2) a + S8x1024.size a ≤ S304x1024.size a) ∧
  (∀ k0_t1 : Fin (k0_t1_loop v13).trips, (k0_t3_loop v13 k0_t1).OK) ∧
  (∀ (k0_t1 : Fin (k0_t1_loop v13).trips) (k0_t3 : Fin (k0_t3_loop v13 k0_t1).trips), 8 ∣ (k0_mult2 v13 k0_t1 k0_t3).toNat) ∧
  (∀ (k0_t1 : Fin (k0_t1_loop v13).trips) (k0_t3 : Fin (k0_t3_loop v13 k0_t1).trips), ∀ a, (k0_off19 v10 v13 k0_t1 k0_t3) a + S1x1x1.size a ≤ S1x1x8712.size a) ∧
  (∀ (k0_t1 : Fin (k0_t1_loop v13).trips) (k0_t3 : Fin (k0_t3_loop v13 k0_t1).trips), ∀ a, (k0_off21 v10 v13 k0_t1 k0_t3) a + S1x1x1.size a ≤ S1x1x8712.size a) ∧
  (∀ (k0_t1 : Fin (k0_t1_loop v13).trips) (k0_t3 : Fin (k0_t3_loop v13 k0_t1).trips), ∀ a, (k0_off23 v10 v13 k0_t1 k0_t3) a + S1x1x1.size a ≤ S1x1x8712.size a) ∧
  (∀ (k0_t1 : Fin (k0_t1_loop v13).trips) (k0_t3 : Fin (k0_t3_loop v13 k0_t1).trips), ∀ a, (k0_off25 v10 v13 k0_t1 k0_t3) a + S1x1x1.size a ≤ S1x1x8712.size a) ∧
  (∀ (k0_t1 : Fin (k0_t1_loop v13).trips) (k0_t3 : Fin (k0_t3_loop v13 k0_t1).trips), ∀ a, (k0_off27 v10 v13 k0_t1 k0_t3) a + S1x1x1.size a ≤ S1x1x8712.size a) ∧
  (∀ (k0_t1 : Fin (k0_t1_loop v13).trips) (k0_t3 : Fin (k0_t3_loop v13 k0_t1).trips), ∀ a, (k0_off29 v10 v13 k0_t1 k0_t3) a + S1x1x1.size a ≤ S1x1x8712.size a) ∧
  (∀ (k0_t1 : Fin (k0_t1_loop v13).trips) (k0_t3 : Fin (k0_t3_loop v13 k0_t1).trips), ∀ a, (k0_off31 v10 v13 k0_t1 k0_t3) a + S1x1x1.size a ≤ S1x1x8712.size a) ∧
  (∀ (k0_t1 : Fin (k0_t1_loop v13).trips) (k0_t3 : Fin (k0_t3_loop v13 k0_t1).trips), ∀ a, (k0_off33 v10 v13 k0_t1 k0_t3) a + S1x1x1.size a ≤ S1x1x8712.size a) ∧
  (∀ (k0_t1 : Fin (k0_t1_loop v13).trips) (k0_t3 : Fin (k0_t3_loop v13 k0_t1).trips), ∀ a, (k0_off35 v13 k0_t1 k0_t3) a + S8x1024.size a ≤ S304x1024.size a) ∧
  (∀ k0_t1 : Fin (k0_t1_loop v13).trips, (k0_t4_loop v13 k0_t1).OK) ∧
  (∀ (k0_t1 : Fin (k0_t1_loop v13).trips) (k0_t4 : Fin (k0_t4_loop v13 k0_t1).trips), ∀ a, (k0_off36 v10 v13 k0_t1 k0_t4) a + S1x1x1.size a ≤ S1x1x8712.size a) ∧
  (∀ (k0_t1 : Fin (k0_t1_loop v13).trips) (k0_t4 : Fin (k0_t4_loop v13 k0_t1).trips), ∀ a, (k0_off38 v13 k0_t1 k0_t4) a + S1x1024.size a ≤ S304x1024.size a) ∧
  (∀ (k0_t1 : Fin (k0_t1_loop v13).trips) (k0_t4 : Fin (k0_t4_loop v13 k0_t1).trips), ∀ a, (k0_off39 v10 v13 k0_t1 k0_t4) a + S1x1x1.size a ≤ S1x1x8712.size a) ∧
  (∀ (k0_t1 : Fin (k0_t1_loop v13).trips) (k0_t4 : Fin (k0_t4_loop v13 k0_t1).trips), ∀ a, (k0_off41 v13 k0_t1 k0_t4) a + S1x1024.size a ≤ S304x1024.size a) ∧
  (∀ (k0_t1 : Fin (k0_t1_loop v13).trips) (k0_t4 : Fin (k0_t4_loop v13 k0_t1).trips), ∀ a, (k0_off42 v10 v13 k0_t1 k0_t4) a + S1x1x1.size a ≤ S1x1x8712.size a) ∧
  (∀ (k0_t1 : Fin (k0_t1_loop v13).trips) (k0_t4 : Fin (k0_t4_loop v13 k0_t1).trips), ∀ a, (k0_off44 v13 k0_t1 k0_t4) a + S1x1024.size a ≤ S304x1024.size a) ∧
  (∀ (k0_t1 : Fin (k0_t1_loop v13).trips) (k0_t4 : Fin (k0_t4_loop v13 k0_t1).trips), ∀ a, (k0_off45 v10 v13 k0_t1 k0_t4) a + S1x1x1.size a ≤ S1x1x8712.size a) ∧
  (∀ (k0_t1 : Fin (k0_t1_loop v13).trips) (k0_t4 : Fin (k0_t4_loop v13 k0_t1).trips), ∀ a, (k0_off47 v13 k0_t1 k0_t4) a + S1x1024.size a ≤ S304x1024.size a)
def k0_chk1_1 (v10 : BitVec 32) (v13 : BitVec 32) : Prop :=
  (∀ (k0_t1 : Fin (k0_t1_loop v13).trips) (k0_t4 : Fin (k0_t4_loop v13 k0_t1).trips), ∀ a, (k0_off48 v10 v13 k0_t1 k0_t4) a + S1x1x1.size a ≤ S1x1x8712.size a) ∧
  (∀ (k0_t1 : Fin (k0_t1_loop v13).trips) (k0_t4 : Fin (k0_t4_loop v13 k0_t1).trips), ∀ a, (k0_off50 v13 k0_t1 k0_t4) a + S1x1024.size a ≤ S304x1024.size a) ∧
  (∀ (k0_t1 : Fin (k0_t1_loop v13).trips) (k0_t4 : Fin (k0_t4_loop v13 k0_t1).trips), ∀ a, (k0_off51 v10 v13 k0_t1 k0_t4) a + S1x1x1.size a ≤ S1x1x8712.size a) ∧
  (∀ (k0_t1 : Fin (k0_t1_loop v13).trips) (k0_t4 : Fin (k0_t4_loop v13 k0_t1).trips), ∀ a, (k0_off53 v13 k0_t1 k0_t4) a + S1x1024.size a ≤ S304x1024.size a) ∧
  (∀ (k0_t1 : Fin (k0_t1_loop v13).trips) (k0_t4 : Fin (k0_t4_loop v13 k0_t1).trips), ∀ a, (k0_off54 v10 v13 k0_t1 k0_t4) a + S1x1x1.size a ≤ S1x1x8712.size a) ∧
  (∀ (k0_t1 : Fin (k0_t1_loop v13).trips) (k0_t4 : Fin (k0_t4_loop v13 k0_t1).trips), ∀ a, (k0_off56 v13 k0_t1 k0_t4) a + S1x1024.size a ≤ S304x1024.size a) ∧
  (∀ (k0_t1 : Fin (k0_t1_loop v13).trips) (k0_t4 : Fin (k0_t4_loop v13 k0_t1).trips), ∀ a, (k0_off57 v10 v13 k0_t1 k0_t4) a + S1x1x1.size a ≤ S1x1x8712.size a) ∧
  (∀ (k0_t1 : Fin (k0_t1_loop v13).trips) (k0_t4 : Fin (k0_t4_loop v13 k0_t1).trips), ∀ a, (k0_off59 v13 k0_t1 k0_t4) a + S1x1024.size a ≤ S304x1024.size a) ∧
  (∀ k0_t1 : Fin (k0_t1_loop v13).trips, (k0_t5_loop v13 k0_t1).OK) ∧
  (∀ (k0_t1 : Fin (k0_t1_loop v13).trips) (k0_t5 : Fin (k0_t5_loop v13 k0_t1).trips), ∀ a, (k0_off60 v10 v13 k0_t1 k0_t5) a + S1x1x1.size a ≤ S1x1x8712.size a) ∧
  (∀ (k0_t1 : Fin (k0_t1_loop v13).trips) (k0_t5 : Fin (k0_t5_loop v13 k0_t1).trips), ∀ a, (k0_off62 v13 k0_t1 k0_t5) a + S1x1024.size a ≤ S304x1024.size a) ∧
  (∀ (k0_t1 : Fin (k0_t1_loop v13).trips) (k0_t5 : Fin (k0_t5_loop v13 k0_t1).trips), ∀ a, (k0_off63 v10 v13 k0_t1 k0_t5) a + S1x1x1.size a ≤ S1x1x8712.size a) ∧
  (∀ (k0_t1 : Fin (k0_t1_loop v13).trips) (k0_t5 : Fin (k0_t5_loop v13 k0_t1).trips), ∀ a, (k0_off65 v13 k0_t1 k0_t5) a + S1x1024.size a ≤ S304x1024.size a) ∧
  (∀ (k0_t1 : Fin (k0_t1_loop v13).trips) (k0_t5 : Fin (k0_t5_loop v13 k0_t1).trips), ∀ a, (k0_off66 v10 v13 k0_t1 k0_t5) a + S1x1x1.size a ≤ S1x1x8712.size a) ∧
  (∀ (k0_t1 : Fin (k0_t1_loop v13).trips) (k0_t5 : Fin (k0_t5_loop v13 k0_t1).trips), ∀ a, (k0_off68 v13 k0_t1 k0_t5) a + S1x1024.size a ≤ S304x1024.size a) ∧
  (∀ (k0_t1 : Fin (k0_t1_loop v13).trips) (k0_t5 : Fin (k0_t5_loop v13 k0_t1).trips), ∀ a, (k0_off69 v10 v13 k0_t1 k0_t5) a + S1x1x1.size a ≤ S1x1x8712.size a) ∧
  (∀ (k0_t1 : Fin (k0_t1_loop v13).trips) (k0_t5 : Fin (k0_t5_loop v13 k0_t1).trips), ∀ a, (k0_off71 v13 k0_t1 k0_t5) a + S1x1024.size a ≤ S304x1024.size a) ∧
  (∀ (k0_t1 : Fin (k0_t1_loop v13).trips) (k0_t5 : Fin (k0_t5_loop v13 k0_t1).trips), ∀ a, (k0_off72 v10 v13 k0_t1 k0_t5) a + S1x1x1.size a ≤ S1x1x8712.size a) ∧
  (∀ (k0_t1 : Fin (k0_t1_loop v13).trips) (k0_t5 : Fin (k0_t5_loop v13 k0_t1).trips), ∀ a, (k0_off74 v13 k0_t1 k0_t5) a + S1x1024.size a ≤ S304x1024.size a) ∧
  (∀ (k0_t1 : Fin (k0_t1_loop v13).trips) (k0_t5 : Fin (k0_t5_loop v13 k0_t1).trips), ∀ a, (k0_off75 v10 v13 k0_t1 k0_t5) a + S1x1x1.size a ≤ S1x1x8712.size a) ∧
  (∀ (k0_t1 : Fin (k0_t1_loop v13).trips) (k0_t5 : Fin (k0_t5_loop v13 k0_t1).trips), ∀ a, (k0_off77 v13 k0_t1 k0_t5) a + S1x1024.size a ≤ S304x1024.size a) ∧
  (∀ (k0_t1 : Fin (k0_t1_loop v13).trips) (k0_t5 : Fin (k0_t5_loop v13 k0_t1).trips), ∀ a, (k0_off78 v10 v13 k0_t1 k0_t5) a + S1x1x1.size a ≤ S1x1x8712.size a) ∧
  (∀ (k0_t1 : Fin (k0_t1_loop v13).trips) (k0_t5 : Fin (k0_t5_loop v13 k0_t1).trips), ∀ a, (k0_off80 v13 k0_t1 k0_t5) a + S1x1024.size a ≤ S304x1024.size a) ∧
  (∀ (k0_t1 : Fin (k0_t1_loop v13).trips) (k0_t5 : Fin (k0_t5_loop v13 k0_t1).trips), ∀ a, (k0_off81 v10 v13 k0_t1 k0_t5) a + S1x1x1.size a ≤ S1x1x8712.size a) ∧
  (∀ (k0_t1 : Fin (k0_t1_loop v13).trips) (k0_t5 : Fin (k0_t5_loop v13 k0_t1).trips), ∀ a, (k0_off83 v13 k0_t1 k0_t5) a + S1x1024.size a ≤ S304x1024.size a) ∧
  ((k0_t6_loop v13).OK) ∧
  (∀ k0_t6 : Fin (k0_t6_loop v13).trips, (k0_t7_loop v13 k0_t6).OK) ∧
  (∀ (k0_t6 : Fin (k0_t6_loop v13).trips) (k0_t7 : Fin (k0_t7_loop v13 k0_t6).trips), 8 ∣ (k0_mult3 v13 k0_t6 k0_t7).toNat) ∧
  (∀ (k0_t6 : Fin (k0_t6_loop v13).trips) (k0_t7 : Fin (k0_t7_loop v13 k0_t6).trips), ∀ a, (k0_off84 v10 v13 k0_t6 k0_t7) a + S1x1x1.size a ≤ S1x1x8712.size a) ∧
  (∀ (k0_t6 : Fin (k0_t6_loop v13).trips) (k0_t7 : Fin (k0_t7_loop v13 k0_t6).trips), ∀ a, (k0_off86 v10 v13 k0_t6 k0_t7) a + S1x1x1.size a ≤ S1x1x8712.size a) ∧
  (∀ (k0_t6 : Fin (k0_t6_loop v13).trips) (k0_t7 : Fin (k0_t7_loop v13 k0_t6).trips), ∀ a, (k0_off88 v10 v13 k0_t6 k0_t7) a + S1x1x1.size a ≤ S1x1x8712.size a) ∧
  (∀ (k0_t6 : Fin (k0_t6_loop v13).trips) (k0_t7 : Fin (k0_t7_loop v13 k0_t6).trips), ∀ a, (k0_off90 v10 v13 k0_t6 k0_t7) a + S1x1x1.size a ≤ S1x1x8712.size a)
def k0_chk1_2 (v10 : BitVec 32) (v13 : BitVec 32) : Prop :=
  (∀ (k0_t6 : Fin (k0_t6_loop v13).trips) (k0_t7 : Fin (k0_t7_loop v13 k0_t6).trips), ∀ a, (k0_off92 v10 v13 k0_t6 k0_t7) a + S1x1x1.size a ≤ S1x1x8712.size a) ∧
  (∀ (k0_t6 : Fin (k0_t6_loop v13).trips) (k0_t7 : Fin (k0_t7_loop v13 k0_t6).trips), ∀ a, (k0_off94 v10 v13 k0_t6 k0_t7) a + S1x1x1.size a ≤ S1x1x8712.size a) ∧
  (∀ (k0_t6 : Fin (k0_t6_loop v13).trips) (k0_t7 : Fin (k0_t7_loop v13 k0_t6).trips), ∀ a, (k0_off96 v10 v13 k0_t6 k0_t7) a + S1x1x1.size a ≤ S1x1x8712.size a) ∧
  (∀ (k0_t6 : Fin (k0_t6_loop v13).trips) (k0_t7 : Fin (k0_t7_loop v13 k0_t6).trips), ∀ a, (k0_off98 v10 v13 k0_t6 k0_t7) a + S1x1x1.size a ≤ S1x1x8712.size a) ∧
  (∀ (k0_t6 : Fin (k0_t6_loop v13).trips) (k0_t7 : Fin (k0_t7_loop v13 k0_t6).trips), ∀ a, (k0_off100 v13 k0_t6 k0_t7) a + S8x1024.size a ≤ S304x1024.size a) ∧
  (∀ k0_t6 : Fin (k0_t6_loop v13).trips, (k0_t8_loop v13 k0_t6).OK) ∧
  (∀ (k0_t6 : Fin (k0_t6_loop v13).trips) (k0_t8 : Fin (k0_t8_loop v13 k0_t6).trips), 8 ∣ (k0_mult4 v13 k0_t6 k0_t8).toNat) ∧
  (∀ (k0_t6 : Fin (k0_t6_loop v13).trips) (k0_t8 : Fin (k0_t8_loop v13 k0_t6).trips), ∀ a, (k0_off101 v10 v13 k0_t6 k0_t8) a + S1x1x1.size a ≤ S1x1x8712.size a) ∧
  (∀ (k0_t6 : Fin (k0_t6_loop v13).trips) (k0_t8 : Fin (k0_t8_loop v13 k0_t6).trips), ∀ a, (k0_off103 v10 v13 k0_t6 k0_t8) a + S1x1x1.size a ≤ S1x1x8712.size a) ∧
  (∀ (k0_t6 : Fin (k0_t6_loop v13).trips) (k0_t8 : Fin (k0_t8_loop v13 k0_t6).trips), ∀ a, (k0_off105 v10 v13 k0_t6 k0_t8) a + S1x1x1.size a ≤ S1x1x8712.size a) ∧
  (∀ (k0_t6 : Fin (k0_t6_loop v13).trips) (k0_t8 : Fin (k0_t8_loop v13 k0_t6).trips), ∀ a, (k0_off107 v10 v13 k0_t6 k0_t8) a + S1x1x1.size a ≤ S1x1x8712.size a) ∧
  (∀ (k0_t6 : Fin (k0_t6_loop v13).trips) (k0_t8 : Fin (k0_t8_loop v13 k0_t6).trips), ∀ a, (k0_off109 v10 v13 k0_t6 k0_t8) a + S1x1x1.size a ≤ S1x1x8712.size a) ∧
  (∀ (k0_t6 : Fin (k0_t6_loop v13).trips) (k0_t8 : Fin (k0_t8_loop v13 k0_t6).trips), ∀ a, (k0_off111 v10 v13 k0_t6 k0_t8) a + S1x1x1.size a ≤ S1x1x8712.size a) ∧
  (∀ (k0_t6 : Fin (k0_t6_loop v13).trips) (k0_t8 : Fin (k0_t8_loop v13 k0_t6).trips), ∀ a, (k0_off113 v10 v13 k0_t6 k0_t8) a + S1x1x1.size a ≤ S1x1x8712.size a) ∧
  (∀ (k0_t6 : Fin (k0_t6_loop v13).trips) (k0_t8 : Fin (k0_t8_loop v13 k0_t6).trips), ∀ a, (k0_off115 v10 v13 k0_t6 k0_t8) a + S1x1x1.size a ≤ S1x1x8712.size a) ∧
  (∀ (k0_t6 : Fin (k0_t6_loop v13).trips) (k0_t8 : Fin (k0_t8_loop v13 k0_t6).trips), ∀ a, (k0_off117 v13 k0_t6 k0_t8) a + S8x1024.size a ≤ S304x1024.size a) ∧
  (∀ k0_t6 : Fin (k0_t6_loop v13).trips, (k0_t9_loop v13 k0_t6).OK) ∧
  (∀ (k0_t6 : Fin (k0_t6_loop v13).trips) (k0_t9 : Fin (k0_t9_loop v13 k0_t6).trips), ∀ a, (k0_off118 v10 v13 k0_t6 k0_t9) a + S1x1x1.size a ≤ S1x1x8712.size a) ∧
  (∀ (k0_t6 : Fin (k0_t6_loop v13).trips) (k0_t9 : Fin (k0_t9_loop v13 k0_t6).trips), ∀ a, (k0_off120 v13 k0_t6 k0_t9) a + S1x1024.size a ≤ S304x1024.size a) ∧
  (∀ (k0_t6 : Fin (k0_t6_loop v13).trips) (k0_t9 : Fin (k0_t9_loop v13 k0_t6).trips), ∀ a, (k0_off121 v10 v13 k0_t6 k0_t9) a + S1x1x1.size a ≤ S1x1x8712.size a) ∧
  (∀ (k0_t6 : Fin (k0_t6_loop v13).trips) (k0_t9 : Fin (k0_t9_loop v13 k0_t6).trips), ∀ a, (k0_off123 v13 k0_t6 k0_t9) a + S1x1024.size a ≤ S304x1024.size a) ∧
  (∀ (k0_t6 : Fin (k0_t6_loop v13).trips) (k0_t9 : Fin (k0_t9_loop v13 k0_t6).trips), ∀ a, (k0_off124 v10 v13 k0_t6 k0_t9) a + S1x1x1.size a ≤ S1x1x8712.size a) ∧
  (∀ (k0_t6 : Fin (k0_t6_loop v13).trips) (k0_t9 : Fin (k0_t9_loop v13 k0_t6).trips), ∀ a, (k0_off126 v13 k0_t6 k0_t9) a + S1x1024.size a ≤ S304x1024.size a) ∧
  (∀ (k0_t6 : Fin (k0_t6_loop v13).trips) (k0_t9 : Fin (k0_t9_loop v13 k0_t6).trips), ∀ a, (k0_off127 v10 v13 k0_t6 k0_t9) a + S1x1x1.size a ≤ S1x1x8712.size a) ∧
  (∀ (k0_t6 : Fin (k0_t6_loop v13).trips) (k0_t9 : Fin (k0_t9_loop v13 k0_t6).trips), ∀ a, (k0_off129 v13 k0_t6 k0_t9) a + S1x1024.size a ≤ S304x1024.size a) ∧
  (∀ (k0_t6 : Fin (k0_t6_loop v13).trips) (k0_t9 : Fin (k0_t9_loop v13 k0_t6).trips), ∀ a, (k0_off130 v10 v13 k0_t6 k0_t9) a + S1x1x1.size a ≤ S1x1x8712.size a) ∧
  (∀ (k0_t6 : Fin (k0_t6_loop v13).trips) (k0_t9 : Fin (k0_t9_loop v13 k0_t6).trips), ∀ a, (k0_off132 v13 k0_t6 k0_t9) a + S1x1024.size a ≤ S304x1024.size a) ∧
  (∀ (k0_t6 : Fin (k0_t6_loop v13).trips) (k0_t9 : Fin (k0_t9_loop v13 k0_t6).trips), ∀ a, (k0_off133 v10 v13 k0_t6 k0_t9) a + S1x1x1.size a ≤ S1x1x8712.size a) ∧
  (∀ (k0_t6 : Fin (k0_t6_loop v13).trips) (k0_t9 : Fin (k0_t9_loop v13 k0_t6).trips), ∀ a, (k0_off135 v13 k0_t6 k0_t9) a + S1x1024.size a ≤ S304x1024.size a) ∧
  (∀ (k0_t6 : Fin (k0_t6_loop v13).trips) (k0_t9 : Fin (k0_t9_loop v13 k0_t6).trips), ∀ a, (k0_off136 v10 v13 k0_t6 k0_t9) a + S1x1x1.size a ≤ S1x1x8712.size a) ∧
  (∀ (k0_t6 : Fin (k0_t6_loop v13).trips) (k0_t9 : Fin (k0_t9_loop v13 k0_t6).trips), ∀ a, (k0_off138 v13 k0_t6 k0_t9) a + S1x1024.size a ≤ S304x1024.size a) ∧
  (∀ (k0_t6 : Fin (k0_t6_loop v13).trips) (k0_t9 : Fin (k0_t9_loop v13 k0_t6).trips), ∀ a, (k0_off139 v10 v13 k0_t6 k0_t9) a + S1x1x1.size a ≤ S1x1x8712.size a)
def k0_chk1_3 (v10 : BitVec 32) (v13 : BitVec 32) : Prop :=
  (∀ (k0_t6 : Fin (k0_t6_loop v13).trips) (k0_t9 : Fin (k0_t9_loop v13 k0_t6).trips), ∀ a, (k0_off141 v13 k0_t6 k0_t9) a + S1x1024.size a ≤ S304x1024.size a) ∧
  (∀ k0_t6 : Fin (k0_t6_loop v13).trips, (k0_t10_loop v13 k0_t6).OK) ∧
  (∀ (k0_t6 : Fin (k0_t6_loop v13).trips) (k0_t10 : Fin (k0_t10_loop v13 k0_t6).trips), ∀ a, (k0_off142 v10 v13 k0_t6 k0_t10) a + S1x1x1.size a ≤ S1x1x8712.size a) ∧
  (∀ (k0_t6 : Fin (k0_t6_loop v13).trips) (k0_t10 : Fin (k0_t10_loop v13 k0_t6).trips), ∀ a, (k0_off144 v13 k0_t6 k0_t10) a + S1x1024.size a ≤ S304x1024.size a) ∧
  (∀ (k0_t6 : Fin (k0_t6_loop v13).trips) (k0_t10 : Fin (k0_t10_loop v13 k0_t6).trips), ∀ a, (k0_off145 v10 v13 k0_t6 k0_t10) a + S1x1x1.size a ≤ S1x1x8712.size a) ∧
  (∀ (k0_t6 : Fin (k0_t6_loop v13).trips) (k0_t10 : Fin (k0_t10_loop v13 k0_t6).trips), ∀ a, (k0_off147 v13 k0_t6 k0_t10) a + S1x1024.size a ≤ S304x1024.size a) ∧
  (∀ (k0_t6 : Fin (k0_t6_loop v13).trips) (k0_t10 : Fin (k0_t10_loop v13 k0_t6).trips), ∀ a, (k0_off148 v10 v13 k0_t6 k0_t10) a + S1x1x1.size a ≤ S1x1x8712.size a) ∧
  (∀ (k0_t6 : Fin (k0_t6_loop v13).trips) (k0_t10 : Fin (k0_t10_loop v13 k0_t6).trips), ∀ a, (k0_off150 v13 k0_t6 k0_t10) a + S1x1024.size a ≤ S304x1024.size a) ∧
  (∀ (k0_t6 : Fin (k0_t6_loop v13).trips) (k0_t10 : Fin (k0_t10_loop v13 k0_t6).trips), ∀ a, (k0_off151 v10 v13 k0_t6 k0_t10) a + S1x1x1.size a ≤ S1x1x8712.size a) ∧
  (∀ (k0_t6 : Fin (k0_t6_loop v13).trips) (k0_t10 : Fin (k0_t10_loop v13 k0_t6).trips), ∀ a, (k0_off153 v13 k0_t6 k0_t10) a + S1x1024.size a ≤ S304x1024.size a) ∧
  (∀ (k0_t6 : Fin (k0_t6_loop v13).trips) (k0_t10 : Fin (k0_t10_loop v13 k0_t6).trips), ∀ a, (k0_off154 v10 v13 k0_t6 k0_t10) a + S1x1x1.size a ≤ S1x1x8712.size a) ∧
  (∀ (k0_t6 : Fin (k0_t6_loop v13).trips) (k0_t10 : Fin (k0_t10_loop v13 k0_t6).trips), ∀ a, (k0_off156 v13 k0_t6 k0_t10) a + S1x1024.size a ≤ S304x1024.size a) ∧
  (∀ (k0_t6 : Fin (k0_t6_loop v13).trips) (k0_t10 : Fin (k0_t10_loop v13 k0_t6).trips), ∀ a, (k0_off157 v10 v13 k0_t6 k0_t10) a + S1x1x1.size a ≤ S1x1x8712.size a) ∧
  (∀ (k0_t6 : Fin (k0_t6_loop v13).trips) (k0_t10 : Fin (k0_t10_loop v13 k0_t6).trips), ∀ a, (k0_off159 v13 k0_t6 k0_t10) a + S1x1024.size a ≤ S304x1024.size a) ∧
  (∀ (k0_t6 : Fin (k0_t6_loop v13).trips) (k0_t10 : Fin (k0_t10_loop v13 k0_t6).trips), ∀ a, (k0_off160 v10 v13 k0_t6 k0_t10) a + S1x1x1.size a ≤ S1x1x8712.size a) ∧
  (∀ (k0_t6 : Fin (k0_t6_loop v13).trips) (k0_t10 : Fin (k0_t10_loop v13 k0_t6).trips), ∀ a, (k0_off162 v13 k0_t6 k0_t10) a + S1x1024.size a ≤ S304x1024.size a) ∧
  (∀ (k0_t6 : Fin (k0_t6_loop v13).trips) (k0_t10 : Fin (k0_t10_loop v13 k0_t6).trips), ∀ a, (k0_off163 v10 v13 k0_t6 k0_t10) a + S1x1x1.size a ≤ S1x1x8712.size a) ∧
  (∀ (k0_t6 : Fin (k0_t6_loop v13).trips) (k0_t10 : Fin (k0_t10_loop v13 k0_t6).trips), ∀ a, (k0_off165 v13 k0_t6 k0_t10) a + S1x1024.size a ≤ S304x1024.size a)
def k0_chk1 (v10 : BitVec 32) (v13 : BitVec 32) : Prop :=
  k0_chk1_0 v10 v13 ∧
  k0_chk1_1 v10 v13 ∧
  k0_chk1_2 v10 v13 ∧
  k0_chk1_3 v10 v13
theorem k0_t1_ok : ∀ (v10 : BitVec 32) (v13 : BitVec 32) (k0_hw1 : k0_chk1 v10 v13), (k0_t1_loop v13).OK := fun v10 v13 k0_hw1 => k0_hw1.1.1
theorem k0_t2_ok : ∀ (v10 : BitVec 32) (v13 : BitVec 32) (k0_hw1 : k0_chk1 v10 v13) (k0_t1 : Fin (k0_t1_loop v13).trips), (k0_t2_loop v13 k0_t1).OK := fun v10 v13 k0_hw1 k0_t1 => k0_hw1.1.2.1 k0_t1
theorem k0_mult1_dvd : ∀ (v10 : BitVec 32) (v13 : BitVec 32) (k0_hw1 : k0_chk1 v10 v13) (k0_t1 : Fin (k0_t1_loop v13).trips) (k0_t2 : Fin (k0_t2_loop v13 k0_t1).trips), 8 ∣ (k0_mult1 v13 k0_t1 k0_t2).toNat := fun v10 v13 k0_hw1 k0_t1 k0_t2 => k0_hw1.1.2.2.1 k0_t1 k0_t2
theorem k0_off2_inb : ∀ (v10 : BitVec 32) (v13 : BitVec 32) (k0_hw1 : k0_chk1 v10 v13) (k0_t1 : Fin (k0_t1_loop v13).trips) (k0_t2 : Fin (k0_t2_loop v13 k0_t1).trips), ∀ a, (k0_off2 v10 v13 k0_t1 k0_t2) a + S1x1x1.size a ≤ S1x1x8712.size a := fun v10 v13 k0_hw1 k0_t1 k0_t2 => k0_hw1.1.2.2.2.1 k0_t1 k0_t2
theorem k0_off4_inb : ∀ (v10 : BitVec 32) (v13 : BitVec 32) (k0_hw1 : k0_chk1 v10 v13) (k0_t1 : Fin (k0_t1_loop v13).trips) (k0_t2 : Fin (k0_t2_loop v13 k0_t1).trips), ∀ a, (k0_off4 v10 v13 k0_t1 k0_t2) a + S1x1x1.size a ≤ S1x1x8712.size a := fun v10 v13 k0_hw1 k0_t1 k0_t2 => k0_hw1.1.2.2.2.2.1 k0_t1 k0_t2
theorem k0_off6_inb : ∀ (v10 : BitVec 32) (v13 : BitVec 32) (k0_hw1 : k0_chk1 v10 v13) (k0_t1 : Fin (k0_t1_loop v13).trips) (k0_t2 : Fin (k0_t2_loop v13 k0_t1).trips), ∀ a, (k0_off6 v10 v13 k0_t1 k0_t2) a + S1x1x1.size a ≤ S1x1x8712.size a := fun v10 v13 k0_hw1 k0_t1 k0_t2 => k0_hw1.1.2.2.2.2.2.1 k0_t1 k0_t2
theorem k0_off8_inb : ∀ (v10 : BitVec 32) (v13 : BitVec 32) (k0_hw1 : k0_chk1 v10 v13) (k0_t1 : Fin (k0_t1_loop v13).trips) (k0_t2 : Fin (k0_t2_loop v13 k0_t1).trips), ∀ a, (k0_off8 v10 v13 k0_t1 k0_t2) a + S1x1x1.size a ≤ S1x1x8712.size a := fun v10 v13 k0_hw1 k0_t1 k0_t2 => k0_hw1.1.2.2.2.2.2.2.1 k0_t1 k0_t2
theorem k0_off10_inb : ∀ (v10 : BitVec 32) (v13 : BitVec 32) (k0_hw1 : k0_chk1 v10 v13) (k0_t1 : Fin (k0_t1_loop v13).trips) (k0_t2 : Fin (k0_t2_loop v13 k0_t1).trips), ∀ a, (k0_off10 v10 v13 k0_t1 k0_t2) a + S1x1x1.size a ≤ S1x1x8712.size a := fun v10 v13 k0_hw1 k0_t1 k0_t2 => k0_hw1.1.2.2.2.2.2.2.2.1 k0_t1 k0_t2
theorem k0_off12_inb : ∀ (v10 : BitVec 32) (v13 : BitVec 32) (k0_hw1 : k0_chk1 v10 v13) (k0_t1 : Fin (k0_t1_loop v13).trips) (k0_t2 : Fin (k0_t2_loop v13 k0_t1).trips), ∀ a, (k0_off12 v10 v13 k0_t1 k0_t2) a + S1x1x1.size a ≤ S1x1x8712.size a := fun v10 v13 k0_hw1 k0_t1 k0_t2 => k0_hw1.1.2.2.2.2.2.2.2.2.1 k0_t1 k0_t2
theorem k0_off14_inb : ∀ (v10 : BitVec 32) (v13 : BitVec 32) (k0_hw1 : k0_chk1 v10 v13) (k0_t1 : Fin (k0_t1_loop v13).trips) (k0_t2 : Fin (k0_t2_loop v13 k0_t1).trips), ∀ a, (k0_off14 v10 v13 k0_t1 k0_t2) a + S1x1x1.size a ≤ S1x1x8712.size a := fun v10 v13 k0_hw1 k0_t1 k0_t2 => k0_hw1.1.2.2.2.2.2.2.2.2.2.1 k0_t1 k0_t2
theorem k0_off16_inb : ∀ (v10 : BitVec 32) (v13 : BitVec 32) (k0_hw1 : k0_chk1 v10 v13) (k0_t1 : Fin (k0_t1_loop v13).trips) (k0_t2 : Fin (k0_t2_loop v13 k0_t1).trips), ∀ a, (k0_off16 v10 v13 k0_t1 k0_t2) a + S1x1x1.size a ≤ S1x1x8712.size a := fun v10 v13 k0_hw1 k0_t1 k0_t2 => k0_hw1.1.2.2.2.2.2.2.2.2.2.2.1 k0_t1 k0_t2
theorem k0_off18_inb : ∀ (v10 : BitVec 32) (v13 : BitVec 32) (k0_hw1 : k0_chk1 v10 v13) (k0_t1 : Fin (k0_t1_loop v13).trips) (k0_t2 : Fin (k0_t2_loop v13 k0_t1).trips), ∀ a, (k0_off18 v13 k0_t1 k0_t2) a + S8x1024.size a ≤ S304x1024.size a := fun v10 v13 k0_hw1 k0_t1 k0_t2 => k0_hw1.1.2.2.2.2.2.2.2.2.2.2.2.1 k0_t1 k0_t2
theorem k0_t3_ok : ∀ (v10 : BitVec 32) (v13 : BitVec 32) (k0_hw1 : k0_chk1 v10 v13) (k0_t1 : Fin (k0_t1_loop v13).trips), (k0_t3_loop v13 k0_t1).OK := fun v10 v13 k0_hw1 k0_t1 => k0_hw1.1.2.2.2.2.2.2.2.2.2.2.2.2.1 k0_t1
theorem k0_mult2_dvd : ∀ (v10 : BitVec 32) (v13 : BitVec 32) (k0_hw1 : k0_chk1 v10 v13) (k0_t1 : Fin (k0_t1_loop v13).trips) (k0_t3 : Fin (k0_t3_loop v13 k0_t1).trips), 8 ∣ (k0_mult2 v13 k0_t1 k0_t3).toNat := fun v10 v13 k0_hw1 k0_t1 k0_t3 => k0_hw1.1.2.2.2.2.2.2.2.2.2.2.2.2.2.1 k0_t1 k0_t3
theorem k0_off19_inb : ∀ (v10 : BitVec 32) (v13 : BitVec 32) (k0_hw1 : k0_chk1 v10 v13) (k0_t1 : Fin (k0_t1_loop v13).trips) (k0_t3 : Fin (k0_t3_loop v13 k0_t1).trips), ∀ a, (k0_off19 v10 v13 k0_t1 k0_t3) a + S1x1x1.size a ≤ S1x1x8712.size a := fun v10 v13 k0_hw1 k0_t1 k0_t3 => k0_hw1.1.2.2.2.2.2.2.2.2.2.2.2.2.2.2.1 k0_t1 k0_t3
theorem k0_off21_inb : ∀ (v10 : BitVec 32) (v13 : BitVec 32) (k0_hw1 : k0_chk1 v10 v13) (k0_t1 : Fin (k0_t1_loop v13).trips) (k0_t3 : Fin (k0_t3_loop v13 k0_t1).trips), ∀ a, (k0_off21 v10 v13 k0_t1 k0_t3) a + S1x1x1.size a ≤ S1x1x8712.size a := fun v10 v13 k0_hw1 k0_t1 k0_t3 => k0_hw1.1.2.2.2.2.2.2.2.2.2.2.2.2.2.2.2.1 k0_t1 k0_t3
theorem k0_off23_inb : ∀ (v10 : BitVec 32) (v13 : BitVec 32) (k0_hw1 : k0_chk1 v10 v13) (k0_t1 : Fin (k0_t1_loop v13).trips) (k0_t3 : Fin (k0_t3_loop v13 k0_t1).trips), ∀ a, (k0_off23 v10 v13 k0_t1 k0_t3) a + S1x1x1.size a ≤ S1x1x8712.size a := fun v10 v13 k0_hw1 k0_t1 k0_t3 => k0_hw1.1.2.2.2.2.2.2.2.2.2.2.2.2.2.2.2.2.1 k0_t1 k0_t3
theorem k0_off25_inb : ∀ (v10 : BitVec 32) (v13 : BitVec 32) (k0_hw1 : k0_chk1 v10 v13) (k0_t1 : Fin (k0_t1_loop v13).trips) (k0_t3 : Fin (k0_t3_loop v13 k0_t1).trips), ∀ a, (k0_off25 v10 v13 k0_t1 k0_t3) a + S1x1x1.size a ≤ S1x1x8712.size a := fun v10 v13 k0_hw1 k0_t1 k0_t3 => k0_hw1.1.2.2.2.2.2.2.2.2.2.2.2.2.2.2.2.2.2.1 k0_t1 k0_t3
theorem k0_off27_inb : ∀ (v10 : BitVec 32) (v13 : BitVec 32) (k0_hw1 : k0_chk1 v10 v13) (k0_t1 : Fin (k0_t1_loop v13).trips) (k0_t3 : Fin (k0_t3_loop v13 k0_t1).trips), ∀ a, (k0_off27 v10 v13 k0_t1 k0_t3) a + S1x1x1.size a ≤ S1x1x8712.size a := fun v10 v13 k0_hw1 k0_t1 k0_t3 => k0_hw1.1.2.2.2.2.2.2.2.2.2.2.2.2.2.2.2.2.2.2.1 k0_t1 k0_t3
theorem k0_off29_inb : ∀ (v10 : BitVec 32) (v13 : BitVec 32) (k0_hw1 : k0_chk1 v10 v13) (k0_t1 : Fin (k0_t1_loop v13).trips) (k0_t3 : Fin (k0_t3_loop v13 k0_t1).trips), ∀ a, (k0_off29 v10 v13 k0_t1 k0_t3) a + S1x1x1.size a ≤ S1x1x8712.size a := fun v10 v13 k0_hw1 k0_t1 k0_t3 => k0_hw1.1.2.2.2.2.2.2.2.2.2.2.2.2.2.2.2.2.2.2.2.1 k0_t1 k0_t3
theorem k0_off31_inb : ∀ (v10 : BitVec 32) (v13 : BitVec 32) (k0_hw1 : k0_chk1 v10 v13) (k0_t1 : Fin (k0_t1_loop v13).trips) (k0_t3 : Fin (k0_t3_loop v13 k0_t1).trips), ∀ a, (k0_off31 v10 v13 k0_t1 k0_t3) a + S1x1x1.size a ≤ S1x1x8712.size a := fun v10 v13 k0_hw1 k0_t1 k0_t3 => k0_hw1.1.2.2.2.2.2.2.2.2.2.2.2.2.2.2.2.2.2.2.2.2.1 k0_t1 k0_t3
theorem k0_off33_inb : ∀ (v10 : BitVec 32) (v13 : BitVec 32) (k0_hw1 : k0_chk1 v10 v13) (k0_t1 : Fin (k0_t1_loop v13).trips) (k0_t3 : Fin (k0_t3_loop v13 k0_t1).trips), ∀ a, (k0_off33 v10 v13 k0_t1 k0_t3) a + S1x1x1.size a ≤ S1x1x8712.size a := fun v10 v13 k0_hw1 k0_t1 k0_t3 => k0_hw1.1.2.2.2.2.2.2.2.2.2.2.2.2.2.2.2.2.2.2.2.2.2.1 k0_t1 k0_t3
theorem k0_off35_inb : ∀ (v10 : BitVec 32) (v13 : BitVec 32) (k0_hw1 : k0_chk1 v10 v13) (k0_t1 : Fin (k0_t1_loop v13).trips) (k0_t3 : Fin (k0_t3_loop v13 k0_t1).trips), ∀ a, (k0_off35 v13 k0_t1 k0_t3) a + S8x1024.size a ≤ S304x1024.size a := fun v10 v13 k0_hw1 k0_t1 k0_t3 => k0_hw1.1.2.2.2.2.2.2.2.2.2.2.2.2.2.2.2.2.2.2.2.2.2.2.1 k0_t1 k0_t3
theorem k0_t4_ok : ∀ (v10 : BitVec 32) (v13 : BitVec 32) (k0_hw1 : k0_chk1 v10 v13) (k0_t1 : Fin (k0_t1_loop v13).trips), (k0_t4_loop v13 k0_t1).OK := fun v10 v13 k0_hw1 k0_t1 => k0_hw1.1.2.2.2.2.2.2.2.2.2.2.2.2.2.2.2.2.2.2.2.2.2.2.2.1 k0_t1
theorem k0_off36_inb : ∀ (v10 : BitVec 32) (v13 : BitVec 32) (k0_hw1 : k0_chk1 v10 v13) (k0_t1 : Fin (k0_t1_loop v13).trips) (k0_t4 : Fin (k0_t4_loop v13 k0_t1).trips), ∀ a, (k0_off36 v10 v13 k0_t1 k0_t4) a + S1x1x1.size a ≤ S1x1x8712.size a := fun v10 v13 k0_hw1 k0_t1 k0_t4 => k0_hw1.1.2.2.2.2.2.2.2.2.2.2.2.2.2.2.2.2.2.2.2.2.2.2.2.2.1 k0_t1 k0_t4
theorem k0_off38_inb : ∀ (v10 : BitVec 32) (v13 : BitVec 32) (k0_hw1 : k0_chk1 v10 v13) (k0_t1 : Fin (k0_t1_loop v13).trips) (k0_t4 : Fin (k0_t4_loop v13 k0_t1).trips), ∀ a, (k0_off38 v13 k0_t1 k0_t4) a + S1x1024.size a ≤ S304x1024.size a := fun v10 v13 k0_hw1 k0_t1 k0_t4 => k0_hw1.1.2.2.2.2.2.2.2.2.2.2.2.2.2.2.2.2.2.2.2.2.2.2.2.2.2.1 k0_t1 k0_t4
theorem k0_off39_inb : ∀ (v10 : BitVec 32) (v13 : BitVec 32) (k0_hw1 : k0_chk1 v10 v13) (k0_t1 : Fin (k0_t1_loop v13).trips) (k0_t4 : Fin (k0_t4_loop v13 k0_t1).trips), ∀ a, (k0_off39 v10 v13 k0_t1 k0_t4) a + S1x1x1.size a ≤ S1x1x8712.size a := fun v10 v13 k0_hw1 k0_t1 k0_t4 => k0_hw1.1.2.2.2.2.2.2.2.2.2.2.2.2.2.2.2.2.2.2.2.2.2.2.2.2.2.2.1 k0_t1 k0_t4
theorem k0_off41_inb : ∀ (v10 : BitVec 32) (v13 : BitVec 32) (k0_hw1 : k0_chk1 v10 v13) (k0_t1 : Fin (k0_t1_loop v13).trips) (k0_t4 : Fin (k0_t4_loop v13 k0_t1).trips), ∀ a, (k0_off41 v13 k0_t1 k0_t4) a + S1x1024.size a ≤ S304x1024.size a := fun v10 v13 k0_hw1 k0_t1 k0_t4 => k0_hw1.1.2.2.2.2.2.2.2.2.2.2.2.2.2.2.2.2.2.2.2.2.2.2.2.2.2.2.2.1 k0_t1 k0_t4
theorem k0_off42_inb : ∀ (v10 : BitVec 32) (v13 : BitVec 32) (k0_hw1 : k0_chk1 v10 v13) (k0_t1 : Fin (k0_t1_loop v13).trips) (k0_t4 : Fin (k0_t4_loop v13 k0_t1).trips), ∀ a, (k0_off42 v10 v13 k0_t1 k0_t4) a + S1x1x1.size a ≤ S1x1x8712.size a := fun v10 v13 k0_hw1 k0_t1 k0_t4 => k0_hw1.1.2.2.2.2.2.2.2.2.2.2.2.2.2.2.2.2.2.2.2.2.2.2.2.2.2.2.2.2.1 k0_t1 k0_t4
theorem k0_off44_inb : ∀ (v10 : BitVec 32) (v13 : BitVec 32) (k0_hw1 : k0_chk1 v10 v13) (k0_t1 : Fin (k0_t1_loop v13).trips) (k0_t4 : Fin (k0_t4_loop v13 k0_t1).trips), ∀ a, (k0_off44 v13 k0_t1 k0_t4) a + S1x1024.size a ≤ S304x1024.size a := fun v10 v13 k0_hw1 k0_t1 k0_t4 => k0_hw1.1.2.2.2.2.2.2.2.2.2.2.2.2.2.2.2.2.2.2.2.2.2.2.2.2.2.2.2.2.2.1 k0_t1 k0_t4
theorem k0_off45_inb : ∀ (v10 : BitVec 32) (v13 : BitVec 32) (k0_hw1 : k0_chk1 v10 v13) (k0_t1 : Fin (k0_t1_loop v13).trips) (k0_t4 : Fin (k0_t4_loop v13 k0_t1).trips), ∀ a, (k0_off45 v10 v13 k0_t1 k0_t4) a + S1x1x1.size a ≤ S1x1x8712.size a := fun v10 v13 k0_hw1 k0_t1 k0_t4 => k0_hw1.1.2.2.2.2.2.2.2.2.2.2.2.2.2.2.2.2.2.2.2.2.2.2.2.2.2.2.2.2.2.2.1 k0_t1 k0_t4
theorem k0_off47_inb : ∀ (v10 : BitVec 32) (v13 : BitVec 32) (k0_hw1 : k0_chk1 v10 v13) (k0_t1 : Fin (k0_t1_loop v13).trips) (k0_t4 : Fin (k0_t4_loop v13 k0_t1).trips), ∀ a, (k0_off47 v13 k0_t1 k0_t4) a + S1x1024.size a ≤ S304x1024.size a := fun v10 v13 k0_hw1 k0_t1 k0_t4 => k0_hw1.1.2.2.2.2.2.2.2.2.2.2.2.2.2.2.2.2.2.2.2.2.2.2.2.2.2.2.2.2.2.2.2 k0_t1 k0_t4
theorem k0_off48_inb : ∀ (v10 : BitVec 32) (v13 : BitVec 32) (k0_hw1 : k0_chk1 v10 v13) (k0_t1 : Fin (k0_t1_loop v13).trips) (k0_t4 : Fin (k0_t4_loop v13 k0_t1).trips), ∀ a, (k0_off48 v10 v13 k0_t1 k0_t4) a + S1x1x1.size a ≤ S1x1x8712.size a := fun v10 v13 k0_hw1 k0_t1 k0_t4 => k0_hw1.2.1.1 k0_t1 k0_t4
theorem k0_off50_inb : ∀ (v10 : BitVec 32) (v13 : BitVec 32) (k0_hw1 : k0_chk1 v10 v13) (k0_t1 : Fin (k0_t1_loop v13).trips) (k0_t4 : Fin (k0_t4_loop v13 k0_t1).trips), ∀ a, (k0_off50 v13 k0_t1 k0_t4) a + S1x1024.size a ≤ S304x1024.size a := fun v10 v13 k0_hw1 k0_t1 k0_t4 => k0_hw1.2.1.2.1 k0_t1 k0_t4
theorem k0_off51_inb : ∀ (v10 : BitVec 32) (v13 : BitVec 32) (k0_hw1 : k0_chk1 v10 v13) (k0_t1 : Fin (k0_t1_loop v13).trips) (k0_t4 : Fin (k0_t4_loop v13 k0_t1).trips), ∀ a, (k0_off51 v10 v13 k0_t1 k0_t4) a + S1x1x1.size a ≤ S1x1x8712.size a := fun v10 v13 k0_hw1 k0_t1 k0_t4 => k0_hw1.2.1.2.2.1 k0_t1 k0_t4
theorem k0_off53_inb : ∀ (v10 : BitVec 32) (v13 : BitVec 32) (k0_hw1 : k0_chk1 v10 v13) (k0_t1 : Fin (k0_t1_loop v13).trips) (k0_t4 : Fin (k0_t4_loop v13 k0_t1).trips), ∀ a, (k0_off53 v13 k0_t1 k0_t4) a + S1x1024.size a ≤ S304x1024.size a := fun v10 v13 k0_hw1 k0_t1 k0_t4 => k0_hw1.2.1.2.2.2.1 k0_t1 k0_t4
theorem k0_off54_inb : ∀ (v10 : BitVec 32) (v13 : BitVec 32) (k0_hw1 : k0_chk1 v10 v13) (k0_t1 : Fin (k0_t1_loop v13).trips) (k0_t4 : Fin (k0_t4_loop v13 k0_t1).trips), ∀ a, (k0_off54 v10 v13 k0_t1 k0_t4) a + S1x1x1.size a ≤ S1x1x8712.size a := fun v10 v13 k0_hw1 k0_t1 k0_t4 => k0_hw1.2.1.2.2.2.2.1 k0_t1 k0_t4
theorem k0_off56_inb : ∀ (v10 : BitVec 32) (v13 : BitVec 32) (k0_hw1 : k0_chk1 v10 v13) (k0_t1 : Fin (k0_t1_loop v13).trips) (k0_t4 : Fin (k0_t4_loop v13 k0_t1).trips), ∀ a, (k0_off56 v13 k0_t1 k0_t4) a + S1x1024.size a ≤ S304x1024.size a := fun v10 v13 k0_hw1 k0_t1 k0_t4 => k0_hw1.2.1.2.2.2.2.2.1 k0_t1 k0_t4
theorem k0_off57_inb : ∀ (v10 : BitVec 32) (v13 : BitVec 32) (k0_hw1 : k0_chk1 v10 v13) (k0_t1 : Fin (k0_t1_loop v13).trips) (k0_t4 : Fin (k0_t4_loop v13 k0_t1).trips), ∀ a, (k0_off57 v10 v13 k0_t1 k0_t4) a + S1x1x1.size a ≤ S1x1x8712.size a := fun v10 v13 k0_hw1 k0_t1 k0_t4 => k0_hw1.2.1.2.2.2.2.2.2.1 k0_t1 k0_t4
theorem k0_off59_inb : ∀ (v10 : BitVec 32) (v13 : BitVec 32) (k0_hw1 : k0_chk1 v10 v13) (k0_t1 : Fin (k0_t1_loop v13).trips) (k0_t4 : Fin (k0_t4_loop v13 k0_t1).trips), ∀ a, (k0_off59 v13 k0_t1 k0_t4) a + S1x1024.size a ≤ S304x1024.size a := fun v10 v13 k0_hw1 k0_t1 k0_t4 => k0_hw1.2.1.2.2.2.2.2.2.2.1 k0_t1 k0_t4
theorem k0_t5_ok : ∀ (v10 : BitVec 32) (v13 : BitVec 32) (k0_hw1 : k0_chk1 v10 v13) (k0_t1 : Fin (k0_t1_loop v13).trips), (k0_t5_loop v13 k0_t1).OK := fun v10 v13 k0_hw1 k0_t1 => k0_hw1.2.1.2.2.2.2.2.2.2.2.1 k0_t1
theorem k0_off60_inb : ∀ (v10 : BitVec 32) (v13 : BitVec 32) (k0_hw1 : k0_chk1 v10 v13) (k0_t1 : Fin (k0_t1_loop v13).trips) (k0_t5 : Fin (k0_t5_loop v13 k0_t1).trips), ∀ a, (k0_off60 v10 v13 k0_t1 k0_t5) a + S1x1x1.size a ≤ S1x1x8712.size a := fun v10 v13 k0_hw1 k0_t1 k0_t5 => k0_hw1.2.1.2.2.2.2.2.2.2.2.2.1 k0_t1 k0_t5
theorem k0_off62_inb : ∀ (v10 : BitVec 32) (v13 : BitVec 32) (k0_hw1 : k0_chk1 v10 v13) (k0_t1 : Fin (k0_t1_loop v13).trips) (k0_t5 : Fin (k0_t5_loop v13 k0_t1).trips), ∀ a, (k0_off62 v13 k0_t1 k0_t5) a + S1x1024.size a ≤ S304x1024.size a := fun v10 v13 k0_hw1 k0_t1 k0_t5 => k0_hw1.2.1.2.2.2.2.2.2.2.2.2.2.1 k0_t1 k0_t5
theorem k0_off63_inb : ∀ (v10 : BitVec 32) (v13 : BitVec 32) (k0_hw1 : k0_chk1 v10 v13) (k0_t1 : Fin (k0_t1_loop v13).trips) (k0_t5 : Fin (k0_t5_loop v13 k0_t1).trips), ∀ a, (k0_off63 v10 v13 k0_t1 k0_t5) a + S1x1x1.size a ≤ S1x1x8712.size a := fun v10 v13 k0_hw1 k0_t1 k0_t5 => k0_hw1.2.1.2.2.2.2.2.2.2.2.2.2.2.1 k0_t1 k0_t5
theorem k0_off65_inb : ∀ (v10 : BitVec 32) (v13 : BitVec 32) (k0_hw1 : k0_chk1 v10 v13) (k0_t1 : Fin (k0_t1_loop v13).trips) (k0_t5 : Fin (k0_t5_loop v13 k0_t1).trips), ∀ a, (k0_off65 v13 k0_t1 k0_t5) a + S1x1024.size a ≤ S304x1024.size a := fun v10 v13 k0_hw1 k0_t1 k0_t5 => k0_hw1.2.1.2.2.2.2.2.2.2.2.2.2.2.2.1 k0_t1 k0_t5
theorem k0_off66_inb : ∀ (v10 : BitVec 32) (v13 : BitVec 32) (k0_hw1 : k0_chk1 v10 v13) (k0_t1 : Fin (k0_t1_loop v13).trips) (k0_t5 : Fin (k0_t5_loop v13 k0_t1).trips), ∀ a, (k0_off66 v10 v13 k0_t1 k0_t5) a + S1x1x1.size a ≤ S1x1x8712.size a := fun v10 v13 k0_hw1 k0_t1 k0_t5 => k0_hw1.2.1.2.2.2.2.2.2.2.2.2.2.2.2.2.1 k0_t1 k0_t5
theorem k0_off68_inb : ∀ (v10 : BitVec 32) (v13 : BitVec 32) (k0_hw1 : k0_chk1 v10 v13) (k0_t1 : Fin (k0_t1_loop v13).trips) (k0_t5 : Fin (k0_t5_loop v13 k0_t1).trips), ∀ a, (k0_off68 v13 k0_t1 k0_t5) a + S1x1024.size a ≤ S304x1024.size a := fun v10 v13 k0_hw1 k0_t1 k0_t5 => k0_hw1.2.1.2.2.2.2.2.2.2.2.2.2.2.2.2.2.1 k0_t1 k0_t5
theorem k0_off69_inb : ∀ (v10 : BitVec 32) (v13 : BitVec 32) (k0_hw1 : k0_chk1 v10 v13) (k0_t1 : Fin (k0_t1_loop v13).trips) (k0_t5 : Fin (k0_t5_loop v13 k0_t1).trips), ∀ a, (k0_off69 v10 v13 k0_t1 k0_t5) a + S1x1x1.size a ≤ S1x1x8712.size a := fun v10 v13 k0_hw1 k0_t1 k0_t5 => k0_hw1.2.1.2.2.2.2.2.2.2.2.2.2.2.2.2.2.2.1 k0_t1 k0_t5
theorem k0_off71_inb : ∀ (v10 : BitVec 32) (v13 : BitVec 32) (k0_hw1 : k0_chk1 v10 v13) (k0_t1 : Fin (k0_t1_loop v13).trips) (k0_t5 : Fin (k0_t5_loop v13 k0_t1).trips), ∀ a, (k0_off71 v13 k0_t1 k0_t5) a + S1x1024.size a ≤ S304x1024.size a := fun v10 v13 k0_hw1 k0_t1 k0_t5 => k0_hw1.2.1.2.2.2.2.2.2.2.2.2.2.2.2.2.2.2.2.1 k0_t1 k0_t5
theorem k0_off72_inb : ∀ (v10 : BitVec 32) (v13 : BitVec 32) (k0_hw1 : k0_chk1 v10 v13) (k0_t1 : Fin (k0_t1_loop v13).trips) (k0_t5 : Fin (k0_t5_loop v13 k0_t1).trips), ∀ a, (k0_off72 v10 v13 k0_t1 k0_t5) a + S1x1x1.size a ≤ S1x1x8712.size a := fun v10 v13 k0_hw1 k0_t1 k0_t5 => k0_hw1.2.1.2.2.2.2.2.2.2.2.2.2.2.2.2.2.2.2.2.1 k0_t1 k0_t5
theorem k0_off74_inb : ∀ (v10 : BitVec 32) (v13 : BitVec 32) (k0_hw1 : k0_chk1 v10 v13) (k0_t1 : Fin (k0_t1_loop v13).trips) (k0_t5 : Fin (k0_t5_loop v13 k0_t1).trips), ∀ a, (k0_off74 v13 k0_t1 k0_t5) a + S1x1024.size a ≤ S304x1024.size a := fun v10 v13 k0_hw1 k0_t1 k0_t5 => k0_hw1.2.1.2.2.2.2.2.2.2.2.2.2.2.2.2.2.2.2.2.2.1 k0_t1 k0_t5
theorem k0_off75_inb : ∀ (v10 : BitVec 32) (v13 : BitVec 32) (k0_hw1 : k0_chk1 v10 v13) (k0_t1 : Fin (k0_t1_loop v13).trips) (k0_t5 : Fin (k0_t5_loop v13 k0_t1).trips), ∀ a, (k0_off75 v10 v13 k0_t1 k0_t5) a + S1x1x1.size a ≤ S1x1x8712.size a := fun v10 v13 k0_hw1 k0_t1 k0_t5 => k0_hw1.2.1.2.2.2.2.2.2.2.2.2.2.2.2.2.2.2.2.2.2.2.1 k0_t1 k0_t5
theorem k0_off77_inb : ∀ (v10 : BitVec 32) (v13 : BitVec 32) (k0_hw1 : k0_chk1 v10 v13) (k0_t1 : Fin (k0_t1_loop v13).trips) (k0_t5 : Fin (k0_t5_loop v13 k0_t1).trips), ∀ a, (k0_off77 v13 k0_t1 k0_t5) a + S1x1024.size a ≤ S304x1024.size a := fun v10 v13 k0_hw1 k0_t1 k0_t5 => k0_hw1.2.1.2.2.2.2.2.2.2.2.2.2.2.2.2.2.2.2.2.2.2.2.1 k0_t1 k0_t5
theorem k0_off78_inb : ∀ (v10 : BitVec 32) (v13 : BitVec 32) (k0_hw1 : k0_chk1 v10 v13) (k0_t1 : Fin (k0_t1_loop v13).trips) (k0_t5 : Fin (k0_t5_loop v13 k0_t1).trips), ∀ a, (k0_off78 v10 v13 k0_t1 k0_t5) a + S1x1x1.size a ≤ S1x1x8712.size a := fun v10 v13 k0_hw1 k0_t1 k0_t5 => k0_hw1.2.1.2.2.2.2.2.2.2.2.2.2.2.2.2.2.2.2.2.2.2.2.2.1 k0_t1 k0_t5
theorem k0_off80_inb : ∀ (v10 : BitVec 32) (v13 : BitVec 32) (k0_hw1 : k0_chk1 v10 v13) (k0_t1 : Fin (k0_t1_loop v13).trips) (k0_t5 : Fin (k0_t5_loop v13 k0_t1).trips), ∀ a, (k0_off80 v13 k0_t1 k0_t5) a + S1x1024.size a ≤ S304x1024.size a := fun v10 v13 k0_hw1 k0_t1 k0_t5 => k0_hw1.2.1.2.2.2.2.2.2.2.2.2.2.2.2.2.2.2.2.2.2.2.2.2.2.1 k0_t1 k0_t5
theorem k0_off81_inb : ∀ (v10 : BitVec 32) (v13 : BitVec 32) (k0_hw1 : k0_chk1 v10 v13) (k0_t1 : Fin (k0_t1_loop v13).trips) (k0_t5 : Fin (k0_t5_loop v13 k0_t1).trips), ∀ a, (k0_off81 v10 v13 k0_t1 k0_t5) a + S1x1x1.size a ≤ S1x1x8712.size a := fun v10 v13 k0_hw1 k0_t1 k0_t5 => k0_hw1.2.1.2.2.2.2.2.2.2.2.2.2.2.2.2.2.2.2.2.2.2.2.2.2.2.1 k0_t1 k0_t5
theorem k0_off83_inb : ∀ (v10 : BitVec 32) (v13 : BitVec 32) (k0_hw1 : k0_chk1 v10 v13) (k0_t1 : Fin (k0_t1_loop v13).trips) (k0_t5 : Fin (k0_t5_loop v13 k0_t1).trips), ∀ a, (k0_off83 v13 k0_t1 k0_t5) a + S1x1024.size a ≤ S304x1024.size a := fun v10 v13 k0_hw1 k0_t1 k0_t5 => k0_hw1.2.1.2.2.2.2.2.2.2.2.2.2.2.2.2.2.2.2.2.2.2.2.2.2.2.2.1 k0_t1 k0_t5
theorem k0_t6_ok : ∀ (v10 : BitVec 32) (v13 : BitVec 32) (k0_hw1 : k0_chk1 v10 v13), (k0_t6_loop v13).OK := fun v10 v13 k0_hw1 => k0_hw1.2.1.2.2.2.2.2.2.2.2.2.2.2.2.2.2.2.2.2.2.2.2.2.2.2.2.2.1
theorem k0_t7_ok : ∀ (v10 : BitVec 32) (v13 : BitVec 32) (k0_hw1 : k0_chk1 v10 v13) (k0_t6 : Fin (k0_t6_loop v13).trips), (k0_t7_loop v13 k0_t6).OK := fun v10 v13 k0_hw1 k0_t6 => k0_hw1.2.1.2.2.2.2.2.2.2.2.2.2.2.2.2.2.2.2.2.2.2.2.2.2.2.2.2.2.1 k0_t6
theorem k0_mult3_dvd : ∀ (v10 : BitVec 32) (v13 : BitVec 32) (k0_hw1 : k0_chk1 v10 v13) (k0_t6 : Fin (k0_t6_loop v13).trips) (k0_t7 : Fin (k0_t7_loop v13 k0_t6).trips), 8 ∣ (k0_mult3 v13 k0_t6 k0_t7).toNat := fun v10 v13 k0_hw1 k0_t6 k0_t7 => k0_hw1.2.1.2.2.2.2.2.2.2.2.2.2.2.2.2.2.2.2.2.2.2.2.2.2.2.2.2.2.2.1 k0_t6 k0_t7
theorem k0_off84_inb : ∀ (v10 : BitVec 32) (v13 : BitVec 32) (k0_hw1 : k0_chk1 v10 v13) (k0_t6 : Fin (k0_t6_loop v13).trips) (k0_t7 : Fin (k0_t7_loop v13 k0_t6).trips), ∀ a, (k0_off84 v10 v13 k0_t6 k0_t7) a + S1x1x1.size a ≤ S1x1x8712.size a := fun v10 v13 k0_hw1 k0_t6 k0_t7 => k0_hw1.2.1.2.2.2.2.2.2.2.2.2.2.2.2.2.2.2.2.2.2.2.2.2.2.2.2.2.2.2.2.1 k0_t6 k0_t7
theorem k0_off86_inb : ∀ (v10 : BitVec 32) (v13 : BitVec 32) (k0_hw1 : k0_chk1 v10 v13) (k0_t6 : Fin (k0_t6_loop v13).trips) (k0_t7 : Fin (k0_t7_loop v13 k0_t6).trips), ∀ a, (k0_off86 v10 v13 k0_t6 k0_t7) a + S1x1x1.size a ≤ S1x1x8712.size a := fun v10 v13 k0_hw1 k0_t6 k0_t7 => k0_hw1.2.1.2.2.2.2.2.2.2.2.2.2.2.2.2.2.2.2.2.2.2.2.2.2.2.2.2.2.2.2.2.1 k0_t6 k0_t7
theorem k0_off88_inb : ∀ (v10 : BitVec 32) (v13 : BitVec 32) (k0_hw1 : k0_chk1 v10 v13) (k0_t6 : Fin (k0_t6_loop v13).trips) (k0_t7 : Fin (k0_t7_loop v13 k0_t6).trips), ∀ a, (k0_off88 v10 v13 k0_t6 k0_t7) a + S1x1x1.size a ≤ S1x1x8712.size a := fun v10 v13 k0_hw1 k0_t6 k0_t7 => k0_hw1.2.1.2.2.2.2.2.2.2.2.2.2.2.2.2.2.2.2.2.2.2.2.2.2.2.2.2.2.2.2.2.2.1 k0_t6 k0_t7
theorem k0_off90_inb : ∀ (v10 : BitVec 32) (v13 : BitVec 32) (k0_hw1 : k0_chk1 v10 v13) (k0_t6 : Fin (k0_t6_loop v13).trips) (k0_t7 : Fin (k0_t7_loop v13 k0_t6).trips), ∀ a, (k0_off90 v10 v13 k0_t6 k0_t7) a + S1x1x1.size a ≤ S1x1x8712.size a := fun v10 v13 k0_hw1 k0_t6 k0_t7 => k0_hw1.2.1.2.2.2.2.2.2.2.2.2.2.2.2.2.2.2.2.2.2.2.2.2.2.2.2.2.2.2.2.2.2.2 k0_t6 k0_t7
theorem k0_off92_inb : ∀ (v10 : BitVec 32) (v13 : BitVec 32) (k0_hw1 : k0_chk1 v10 v13) (k0_t6 : Fin (k0_t6_loop v13).trips) (k0_t7 : Fin (k0_t7_loop v13 k0_t6).trips), ∀ a, (k0_off92 v10 v13 k0_t6 k0_t7) a + S1x1x1.size a ≤ S1x1x8712.size a := fun v10 v13 k0_hw1 k0_t6 k0_t7 => k0_hw1.2.2.1.1 k0_t6 k0_t7
theorem k0_off94_inb : ∀ (v10 : BitVec 32) (v13 : BitVec 32) (k0_hw1 : k0_chk1 v10 v13) (k0_t6 : Fin (k0_t6_loop v13).trips) (k0_t7 : Fin (k0_t7_loop v13 k0_t6).trips), ∀ a, (k0_off94 v10 v13 k0_t6 k0_t7) a + S1x1x1.size a ≤ S1x1x8712.size a := fun v10 v13 k0_hw1 k0_t6 k0_t7 => k0_hw1.2.2.1.2.1 k0_t6 k0_t7
theorem k0_off96_inb : ∀ (v10 : BitVec 32) (v13 : BitVec 32) (k0_hw1 : k0_chk1 v10 v13) (k0_t6 : Fin (k0_t6_loop v13).trips) (k0_t7 : Fin (k0_t7_loop v13 k0_t6).trips), ∀ a, (k0_off96 v10 v13 k0_t6 k0_t7) a + S1x1x1.size a ≤ S1x1x8712.size a := fun v10 v13 k0_hw1 k0_t6 k0_t7 => k0_hw1.2.2.1.2.2.1 k0_t6 k0_t7
theorem k0_off98_inb : ∀ (v10 : BitVec 32) (v13 : BitVec 32) (k0_hw1 : k0_chk1 v10 v13) (k0_t6 : Fin (k0_t6_loop v13).trips) (k0_t7 : Fin (k0_t7_loop v13 k0_t6).trips), ∀ a, (k0_off98 v10 v13 k0_t6 k0_t7) a + S1x1x1.size a ≤ S1x1x8712.size a := fun v10 v13 k0_hw1 k0_t6 k0_t7 => k0_hw1.2.2.1.2.2.2.1 k0_t6 k0_t7
theorem k0_off100_inb : ∀ (v10 : BitVec 32) (v13 : BitVec 32) (k0_hw1 : k0_chk1 v10 v13) (k0_t6 : Fin (k0_t6_loop v13).trips) (k0_t7 : Fin (k0_t7_loop v13 k0_t6).trips), ∀ a, (k0_off100 v13 k0_t6 k0_t7) a + S8x1024.size a ≤ S304x1024.size a := fun v10 v13 k0_hw1 k0_t6 k0_t7 => k0_hw1.2.2.1.2.2.2.2.1 k0_t6 k0_t7
theorem k0_t8_ok : ∀ (v10 : BitVec 32) (v13 : BitVec 32) (k0_hw1 : k0_chk1 v10 v13) (k0_t6 : Fin (k0_t6_loop v13).trips), (k0_t8_loop v13 k0_t6).OK := fun v10 v13 k0_hw1 k0_t6 => k0_hw1.2.2.1.2.2.2.2.2.1 k0_t6
theorem k0_mult4_dvd : ∀ (v10 : BitVec 32) (v13 : BitVec 32) (k0_hw1 : k0_chk1 v10 v13) (k0_t6 : Fin (k0_t6_loop v13).trips) (k0_t8 : Fin (k0_t8_loop v13 k0_t6).trips), 8 ∣ (k0_mult4 v13 k0_t6 k0_t8).toNat := fun v10 v13 k0_hw1 k0_t6 k0_t8 => k0_hw1.2.2.1.2.2.2.2.2.2.1 k0_t6 k0_t8
theorem k0_off101_inb : ∀ (v10 : BitVec 32) (v13 : BitVec 32) (k0_hw1 : k0_chk1 v10 v13) (k0_t6 : Fin (k0_t6_loop v13).trips) (k0_t8 : Fin (k0_t8_loop v13 k0_t6).trips), ∀ a, (k0_off101 v10 v13 k0_t6 k0_t8) a + S1x1x1.size a ≤ S1x1x8712.size a := fun v10 v13 k0_hw1 k0_t6 k0_t8 => k0_hw1.2.2.1.2.2.2.2.2.2.2.1 k0_t6 k0_t8
theorem k0_off103_inb : ∀ (v10 : BitVec 32) (v13 : BitVec 32) (k0_hw1 : k0_chk1 v10 v13) (k0_t6 : Fin (k0_t6_loop v13).trips) (k0_t8 : Fin (k0_t8_loop v13 k0_t6).trips), ∀ a, (k0_off103 v10 v13 k0_t6 k0_t8) a + S1x1x1.size a ≤ S1x1x8712.size a := fun v10 v13 k0_hw1 k0_t6 k0_t8 => k0_hw1.2.2.1.2.2.2.2.2.2.2.2.1 k0_t6 k0_t8
theorem k0_off105_inb : ∀ (v10 : BitVec 32) (v13 : BitVec 32) (k0_hw1 : k0_chk1 v10 v13) (k0_t6 : Fin (k0_t6_loop v13).trips) (k0_t8 : Fin (k0_t8_loop v13 k0_t6).trips), ∀ a, (k0_off105 v10 v13 k0_t6 k0_t8) a + S1x1x1.size a ≤ S1x1x8712.size a := fun v10 v13 k0_hw1 k0_t6 k0_t8 => k0_hw1.2.2.1.2.2.2.2.2.2.2.2.2.1 k0_t6 k0_t8
theorem k0_off107_inb : ∀ (v10 : BitVec 32) (v13 : BitVec 32) (k0_hw1 : k0_chk1 v10 v13) (k0_t6 : Fin (k0_t6_loop v13).trips) (k0_t8 : Fin (k0_t8_loop v13 k0_t6).trips), ∀ a, (k0_off107 v10 v13 k0_t6 k0_t8) a + S1x1x1.size a ≤ S1x1x8712.size a := fun v10 v13 k0_hw1 k0_t6 k0_t8 => k0_hw1.2.2.1.2.2.2.2.2.2.2.2.2.2.1 k0_t6 k0_t8
theorem k0_off109_inb : ∀ (v10 : BitVec 32) (v13 : BitVec 32) (k0_hw1 : k0_chk1 v10 v13) (k0_t6 : Fin (k0_t6_loop v13).trips) (k0_t8 : Fin (k0_t8_loop v13 k0_t6).trips), ∀ a, (k0_off109 v10 v13 k0_t6 k0_t8) a + S1x1x1.size a ≤ S1x1x8712.size a := fun v10 v13 k0_hw1 k0_t6 k0_t8 => k0_hw1.2.2.1.2.2.2.2.2.2.2.2.2.2.2.1 k0_t6 k0_t8
theorem k0_off111_inb : ∀ (v10 : BitVec 32) (v13 : BitVec 32) (k0_hw1 : k0_chk1 v10 v13) (k0_t6 : Fin (k0_t6_loop v13).trips) (k0_t8 : Fin (k0_t8_loop v13 k0_t6).trips), ∀ a, (k0_off111 v10 v13 k0_t6 k0_t8) a + S1x1x1.size a ≤ S1x1x8712.size a := fun v10 v13 k0_hw1 k0_t6 k0_t8 => k0_hw1.2.2.1.2.2.2.2.2.2.2.2.2.2.2.2.1 k0_t6 k0_t8
theorem k0_off113_inb : ∀ (v10 : BitVec 32) (v13 : BitVec 32) (k0_hw1 : k0_chk1 v10 v13) (k0_t6 : Fin (k0_t6_loop v13).trips) (k0_t8 : Fin (k0_t8_loop v13 k0_t6).trips), ∀ a, (k0_off113 v10 v13 k0_t6 k0_t8) a + S1x1x1.size a ≤ S1x1x8712.size a := fun v10 v13 k0_hw1 k0_t6 k0_t8 => k0_hw1.2.2.1.2.2.2.2.2.2.2.2.2.2.2.2.2.1 k0_t6 k0_t8
theorem k0_off115_inb : ∀ (v10 : BitVec 32) (v13 : BitVec 32) (k0_hw1 : k0_chk1 v10 v13) (k0_t6 : Fin (k0_t6_loop v13).trips) (k0_t8 : Fin (k0_t8_loop v13 k0_t6).trips), ∀ a, (k0_off115 v10 v13 k0_t6 k0_t8) a + S1x1x1.size a ≤ S1x1x8712.size a := fun v10 v13 k0_hw1 k0_t6 k0_t8 => k0_hw1.2.2.1.2.2.2.2.2.2.2.2.2.2.2.2.2.2.1 k0_t6 k0_t8
theorem k0_off117_inb : ∀ (v10 : BitVec 32) (v13 : BitVec 32) (k0_hw1 : k0_chk1 v10 v13) (k0_t6 : Fin (k0_t6_loop v13).trips) (k0_t8 : Fin (k0_t8_loop v13 k0_t6).trips), ∀ a, (k0_off117 v13 k0_t6 k0_t8) a + S8x1024.size a ≤ S304x1024.size a := fun v10 v13 k0_hw1 k0_t6 k0_t8 => k0_hw1.2.2.1.2.2.2.2.2.2.2.2.2.2.2.2.2.2.2.1 k0_t6 k0_t8
theorem k0_t9_ok : ∀ (v10 : BitVec 32) (v13 : BitVec 32) (k0_hw1 : k0_chk1 v10 v13) (k0_t6 : Fin (k0_t6_loop v13).trips), (k0_t9_loop v13 k0_t6).OK := fun v10 v13 k0_hw1 k0_t6 => k0_hw1.2.2.1.2.2.2.2.2.2.2.2.2.2.2.2.2.2.2.2.1 k0_t6
theorem k0_off118_inb : ∀ (v10 : BitVec 32) (v13 : BitVec 32) (k0_hw1 : k0_chk1 v10 v13) (k0_t6 : Fin (k0_t6_loop v13).trips) (k0_t9 : Fin (k0_t9_loop v13 k0_t6).trips), ∀ a, (k0_off118 v10 v13 k0_t6 k0_t9) a + S1x1x1.size a ≤ S1x1x8712.size a := fun v10 v13 k0_hw1 k0_t6 k0_t9 => k0_hw1.2.2.1.2.2.2.2.2.2.2.2.2.2.2.2.2.2.2.2.2.1 k0_t6 k0_t9
theorem k0_off120_inb : ∀ (v10 : BitVec 32) (v13 : BitVec 32) (k0_hw1 : k0_chk1 v10 v13) (k0_t6 : Fin (k0_t6_loop v13).trips) (k0_t9 : Fin (k0_t9_loop v13 k0_t6).trips), ∀ a, (k0_off120 v13 k0_t6 k0_t9) a + S1x1024.size a ≤ S304x1024.size a := fun v10 v13 k0_hw1 k0_t6 k0_t9 => k0_hw1.2.2.1.2.2.2.2.2.2.2.2.2.2.2.2.2.2.2.2.2.2.1 k0_t6 k0_t9
theorem k0_off121_inb : ∀ (v10 : BitVec 32) (v13 : BitVec 32) (k0_hw1 : k0_chk1 v10 v13) (k0_t6 : Fin (k0_t6_loop v13).trips) (k0_t9 : Fin (k0_t9_loop v13 k0_t6).trips), ∀ a, (k0_off121 v10 v13 k0_t6 k0_t9) a + S1x1x1.size a ≤ S1x1x8712.size a := fun v10 v13 k0_hw1 k0_t6 k0_t9 => k0_hw1.2.2.1.2.2.2.2.2.2.2.2.2.2.2.2.2.2.2.2.2.2.2.1 k0_t6 k0_t9
theorem k0_off123_inb : ∀ (v10 : BitVec 32) (v13 : BitVec 32) (k0_hw1 : k0_chk1 v10 v13) (k0_t6 : Fin (k0_t6_loop v13).trips) (k0_t9 : Fin (k0_t9_loop v13 k0_t6).trips), ∀ a, (k0_off123 v13 k0_t6 k0_t9) a + S1x1024.size a ≤ S304x1024.size a := fun v10 v13 k0_hw1 k0_t6 k0_t9 => k0_hw1.2.2.1.2.2.2.2.2.2.2.2.2.2.2.2.2.2.2.2.2.2.2.2.1 k0_t6 k0_t9
theorem k0_off124_inb : ∀ (v10 : BitVec 32) (v13 : BitVec 32) (k0_hw1 : k0_chk1 v10 v13) (k0_t6 : Fin (k0_t6_loop v13).trips) (k0_t9 : Fin (k0_t9_loop v13 k0_t6).trips), ∀ a, (k0_off124 v10 v13 k0_t6 k0_t9) a + S1x1x1.size a ≤ S1x1x8712.size a := fun v10 v13 k0_hw1 k0_t6 k0_t9 => k0_hw1.2.2.1.2.2.2.2.2.2.2.2.2.2.2.2.2.2.2.2.2.2.2.2.2.1 k0_t6 k0_t9
theorem k0_off126_inb : ∀ (v10 : BitVec 32) (v13 : BitVec 32) (k0_hw1 : k0_chk1 v10 v13) (k0_t6 : Fin (k0_t6_loop v13).trips) (k0_t9 : Fin (k0_t9_loop v13 k0_t6).trips), ∀ a, (k0_off126 v13 k0_t6 k0_t9) a + S1x1024.size a ≤ S304x1024.size a := fun v10 v13 k0_hw1 k0_t6 k0_t9 => k0_hw1.2.2.1.2.2.2.2.2.2.2.2.2.2.2.2.2.2.2.2.2.2.2.2.2.2.1 k0_t6 k0_t9
theorem k0_off127_inb : ∀ (v10 : BitVec 32) (v13 : BitVec 32) (k0_hw1 : k0_chk1 v10 v13) (k0_t6 : Fin (k0_t6_loop v13).trips) (k0_t9 : Fin (k0_t9_loop v13 k0_t6).trips), ∀ a, (k0_off127 v10 v13 k0_t6 k0_t9) a + S1x1x1.size a ≤ S1x1x8712.size a := fun v10 v13 k0_hw1 k0_t6 k0_t9 => k0_hw1.2.2.1.2.2.2.2.2.2.2.2.2.2.2.2.2.2.2.2.2.2.2.2.2.2.2.1 k0_t6 k0_t9
theorem k0_off129_inb : ∀ (v10 : BitVec 32) (v13 : BitVec 32) (k0_hw1 : k0_chk1 v10 v13) (k0_t6 : Fin (k0_t6_loop v13).trips) (k0_t9 : Fin (k0_t9_loop v13 k0_t6).trips), ∀ a, (k0_off129 v13 k0_t6 k0_t9) a + S1x1024.size a ≤ S304x1024.size a := fun v10 v13 k0_hw1 k0_t6 k0_t9 => k0_hw1.2.2.1.2.2.2.2.2.2.2.2.2.2.2.2.2.2.2.2.2.2.2.2.2.2.2.2.1 k0_t6 k0_t9
theorem k0_off130_inb : ∀ (v10 : BitVec 32) (v13 : BitVec 32) (k0_hw1 : k0_chk1 v10 v13) (k0_t6 : Fin (k0_t6_loop v13).trips) (k0_t9 : Fin (k0_t9_loop v13 k0_t6).trips), ∀ a, (k0_off130 v10 v13 k0_t6 k0_t9) a + S1x1x1.size a ≤ S1x1x8712.size a := fun v10 v13 k0_hw1 k0_t6 k0_t9 => k0_hw1.2.2.1.2.2.2.2.2.2.2.2.2.2.2.2.2.2.2.2.2.2.2.2.2.2.2.2.2.1 k0_t6 k0_t9
theorem k0_off132_inb : ∀ (v10 : BitVec 32) (v13 : BitVec 32) (k0_hw1 : k0_chk1 v10 v13) (k0_t6 : Fin (k0_t6_loop v13).trips) (k0_t9 : Fin (k0_t9_loop v13 k0_t6).trips), ∀ a, (k0_off132 v13 k0_t6 k0_t9) a + S1x1024.size a ≤ S304x1024.size a := fun v10 v13 k0_hw1 k0_t6 k0_t9 => k0_hw1.2.2.1.2.2.2.2.2.2.2.2.2.2.2.2.2.2.2.2.2.2.2.2.2.2.2.2.2.2.1 k0_t6 k0_t9
theorem k0_off133_inb : ∀ (v10 : BitVec 32) (v13 : BitVec 32) (k0_hw1 : k0_chk1 v10 v13) (k0_t6 : Fin (k0_t6_loop v13).trips) (k0_t9 : Fin (k0_t9_loop v13 k0_t6).trips), ∀ a, (k0_off133 v10 v13 k0_t6 k0_t9) a + S1x1x1.size a ≤ S1x1x8712.size a := fun v10 v13 k0_hw1 k0_t6 k0_t9 => k0_hw1.2.2.1.2.2.2.2.2.2.2.2.2.2.2.2.2.2.2.2.2.2.2.2.2.2.2.2.2.2.2.1 k0_t6 k0_t9
theorem k0_off135_inb : ∀ (v10 : BitVec 32) (v13 : BitVec 32) (k0_hw1 : k0_chk1 v10 v13) (k0_t6 : Fin (k0_t6_loop v13).trips) (k0_t9 : Fin (k0_t9_loop v13 k0_t6).trips), ∀ a, (k0_off135 v13 k0_t6 k0_t9) a + S1x1024.size a ≤ S304x1024.size a := fun v10 v13 k0_hw1 k0_t6 k0_t9 => k0_hw1.2.2.1.2.2.2.2.2.2.2.2.2.2.2.2.2.2.2.2.2.2.2.2.2.2.2.2.2.2.2.2.1 k0_t6 k0_t9
theorem k0_off136_inb : ∀ (v10 : BitVec 32) (v13 : BitVec 32) (k0_hw1 : k0_chk1 v10 v13) (k0_t6 : Fin (k0_t6_loop v13).trips) (k0_t9 : Fin (k0_t9_loop v13 k0_t6).trips), ∀ a, (k0_off136 v10 v13 k0_t6 k0_t9) a + S1x1x1.size a ≤ S1x1x8712.size a := fun v10 v13 k0_hw1 k0_t6 k0_t9 => k0_hw1.2.2.1.2.2.2.2.2.2.2.2.2.2.2.2.2.2.2.2.2.2.2.2.2.2.2.2.2.2.2.2.2.1 k0_t6 k0_t9
theorem k0_off138_inb : ∀ (v10 : BitVec 32) (v13 : BitVec 32) (k0_hw1 : k0_chk1 v10 v13) (k0_t6 : Fin (k0_t6_loop v13).trips) (k0_t9 : Fin (k0_t9_loop v13 k0_t6).trips), ∀ a, (k0_off138 v13 k0_t6 k0_t9) a + S1x1024.size a ≤ S304x1024.size a := fun v10 v13 k0_hw1 k0_t6 k0_t9 => k0_hw1.2.2.1.2.2.2.2.2.2.2.2.2.2.2.2.2.2.2.2.2.2.2.2.2.2.2.2.2.2.2.2.2.2.1 k0_t6 k0_t9
theorem k0_off139_inb : ∀ (v10 : BitVec 32) (v13 : BitVec 32) (k0_hw1 : k0_chk1 v10 v13) (k0_t6 : Fin (k0_t6_loop v13).trips) (k0_t9 : Fin (k0_t9_loop v13 k0_t6).trips), ∀ a, (k0_off139 v10 v13 k0_t6 k0_t9) a + S1x1x1.size a ≤ S1x1x8712.size a := fun v10 v13 k0_hw1 k0_t6 k0_t9 => k0_hw1.2.2.1.2.2.2.2.2.2.2.2.2.2.2.2.2.2.2.2.2.2.2.2.2.2.2.2.2.2.2.2.2.2.2 k0_t6 k0_t9
theorem k0_off141_inb : ∀ (v10 : BitVec 32) (v13 : BitVec 32) (k0_hw1 : k0_chk1 v10 v13) (k0_t6 : Fin (k0_t6_loop v13).trips) (k0_t9 : Fin (k0_t9_loop v13 k0_t6).trips), ∀ a, (k0_off141 v13 k0_t6 k0_t9) a + S1x1024.size a ≤ S304x1024.size a := fun v10 v13 k0_hw1 k0_t6 k0_t9 => k0_hw1.2.2.2.1 k0_t6 k0_t9
theorem k0_t10_ok : ∀ (v10 : BitVec 32) (v13 : BitVec 32) (k0_hw1 : k0_chk1 v10 v13) (k0_t6 : Fin (k0_t6_loop v13).trips), (k0_t10_loop v13 k0_t6).OK := fun v10 v13 k0_hw1 k0_t6 => k0_hw1.2.2.2.2.1 k0_t6
theorem k0_off142_inb : ∀ (v10 : BitVec 32) (v13 : BitVec 32) (k0_hw1 : k0_chk1 v10 v13) (k0_t6 : Fin (k0_t6_loop v13).trips) (k0_t10 : Fin (k0_t10_loop v13 k0_t6).trips), ∀ a, (k0_off142 v10 v13 k0_t6 k0_t10) a + S1x1x1.size a ≤ S1x1x8712.size a := fun v10 v13 k0_hw1 k0_t6 k0_t10 => k0_hw1.2.2.2.2.2.1 k0_t6 k0_t10
theorem k0_off144_inb : ∀ (v10 : BitVec 32) (v13 : BitVec 32) (k0_hw1 : k0_chk1 v10 v13) (k0_t6 : Fin (k0_t6_loop v13).trips) (k0_t10 : Fin (k0_t10_loop v13 k0_t6).trips), ∀ a, (k0_off144 v13 k0_t6 k0_t10) a + S1x1024.size a ≤ S304x1024.size a := fun v10 v13 k0_hw1 k0_t6 k0_t10 => k0_hw1.2.2.2.2.2.2.1 k0_t6 k0_t10
theorem k0_off145_inb : ∀ (v10 : BitVec 32) (v13 : BitVec 32) (k0_hw1 : k0_chk1 v10 v13) (k0_t6 : Fin (k0_t6_loop v13).trips) (k0_t10 : Fin (k0_t10_loop v13 k0_t6).trips), ∀ a, (k0_off145 v10 v13 k0_t6 k0_t10) a + S1x1x1.size a ≤ S1x1x8712.size a := fun v10 v13 k0_hw1 k0_t6 k0_t10 => k0_hw1.2.2.2.2.2.2.2.1 k0_t6 k0_t10
theorem k0_off147_inb : ∀ (v10 : BitVec 32) (v13 : BitVec 32) (k0_hw1 : k0_chk1 v10 v13) (k0_t6 : Fin (k0_t6_loop v13).trips) (k0_t10 : Fin (k0_t10_loop v13 k0_t6).trips), ∀ a, (k0_off147 v13 k0_t6 k0_t10) a + S1x1024.size a ≤ S304x1024.size a := fun v10 v13 k0_hw1 k0_t6 k0_t10 => k0_hw1.2.2.2.2.2.2.2.2.1 k0_t6 k0_t10
theorem k0_off148_inb : ∀ (v10 : BitVec 32) (v13 : BitVec 32) (k0_hw1 : k0_chk1 v10 v13) (k0_t6 : Fin (k0_t6_loop v13).trips) (k0_t10 : Fin (k0_t10_loop v13 k0_t6).trips), ∀ a, (k0_off148 v10 v13 k0_t6 k0_t10) a + S1x1x1.size a ≤ S1x1x8712.size a := fun v10 v13 k0_hw1 k0_t6 k0_t10 => k0_hw1.2.2.2.2.2.2.2.2.2.1 k0_t6 k0_t10
theorem k0_off150_inb : ∀ (v10 : BitVec 32) (v13 : BitVec 32) (k0_hw1 : k0_chk1 v10 v13) (k0_t6 : Fin (k0_t6_loop v13).trips) (k0_t10 : Fin (k0_t10_loop v13 k0_t6).trips), ∀ a, (k0_off150 v13 k0_t6 k0_t10) a + S1x1024.size a ≤ S304x1024.size a := fun v10 v13 k0_hw1 k0_t6 k0_t10 => k0_hw1.2.2.2.2.2.2.2.2.2.2.1 k0_t6 k0_t10
theorem k0_off151_inb : ∀ (v10 : BitVec 32) (v13 : BitVec 32) (k0_hw1 : k0_chk1 v10 v13) (k0_t6 : Fin (k0_t6_loop v13).trips) (k0_t10 : Fin (k0_t10_loop v13 k0_t6).trips), ∀ a, (k0_off151 v10 v13 k0_t6 k0_t10) a + S1x1x1.size a ≤ S1x1x8712.size a := fun v10 v13 k0_hw1 k0_t6 k0_t10 => k0_hw1.2.2.2.2.2.2.2.2.2.2.2.1 k0_t6 k0_t10
theorem k0_off153_inb : ∀ (v10 : BitVec 32) (v13 : BitVec 32) (k0_hw1 : k0_chk1 v10 v13) (k0_t6 : Fin (k0_t6_loop v13).trips) (k0_t10 : Fin (k0_t10_loop v13 k0_t6).trips), ∀ a, (k0_off153 v13 k0_t6 k0_t10) a + S1x1024.size a ≤ S304x1024.size a := fun v10 v13 k0_hw1 k0_t6 k0_t10 => k0_hw1.2.2.2.2.2.2.2.2.2.2.2.2.1 k0_t6 k0_t10
theorem k0_off154_inb : ∀ (v10 : BitVec 32) (v13 : BitVec 32) (k0_hw1 : k0_chk1 v10 v13) (k0_t6 : Fin (k0_t6_loop v13).trips) (k0_t10 : Fin (k0_t10_loop v13 k0_t6).trips), ∀ a, (k0_off154 v10 v13 k0_t6 k0_t10) a + S1x1x1.size a ≤ S1x1x8712.size a := fun v10 v13 k0_hw1 k0_t6 k0_t10 => k0_hw1.2.2.2.2.2.2.2.2.2.2.2.2.2.1 k0_t6 k0_t10
theorem k0_off156_inb : ∀ (v10 : BitVec 32) (v13 : BitVec 32) (k0_hw1 : k0_chk1 v10 v13) (k0_t6 : Fin (k0_t6_loop v13).trips) (k0_t10 : Fin (k0_t10_loop v13 k0_t6).trips), ∀ a, (k0_off156 v13 k0_t6 k0_t10) a + S1x1024.size a ≤ S304x1024.size a := fun v10 v13 k0_hw1 k0_t6 k0_t10 => k0_hw1.2.2.2.2.2.2.2.2.2.2.2.2.2.2.1 k0_t6 k0_t10
theorem k0_off157_inb : ∀ (v10 : BitVec 32) (v13 : BitVec 32) (k0_hw1 : k0_chk1 v10 v13) (k0_t6 : Fin (k0_t6_loop v13).trips) (k0_t10 : Fin (k0_t10_loop v13 k0_t6).trips), ∀ a, (k0_off157 v10 v13 k0_t6 k0_t10) a + S1x1x1.size a ≤ S1x1x8712.size a := fun v10 v13 k0_hw1 k0_t6 k0_t10 => k0_hw1.2.2.2.2.2.2.2.2.2.2.2.2.2.2.2.1 k0_t6 k0_t10
theorem k0_off159_inb : ∀ (v10 : BitVec 32) (v13 : BitVec 32) (k0_hw1 : k0_chk1 v10 v13) (k0_t6 : Fin (k0_t6_loop v13).trips) (k0_t10 : Fin (k0_t10_loop v13 k0_t6).trips), ∀ a, (k0_off159 v13 k0_t6 k0_t10) a + S1x1024.size a ≤ S304x1024.size a := fun v10 v13 k0_hw1 k0_t6 k0_t10 => k0_hw1.2.2.2.2.2.2.2.2.2.2.2.2.2.2.2.2.1 k0_t6 k0_t10
theorem k0_off160_inb : ∀ (v10 : BitVec 32) (v13 : BitVec 32) (k0_hw1 : k0_chk1 v10 v13) (k0_t6 : Fin (k0_t6_loop v13).trips) (k0_t10 : Fin (k0_t10_loop v13 k0_t6).trips), ∀ a, (k0_off160 v10 v13 k0_t6 k0_t10) a + S1x1x1.size a ≤ S1x1x8712.size a := fun v10 v13 k0_hw1 k0_t6 k0_t10 => k0_hw1.2.2.2.2.2.2.2.2.2.2.2.2.2.2.2.2.2.1 k0_t6 k0_t10
theorem k0_off162_inb : ∀ (v10 : BitVec 32) (v13 : BitVec 32) (k0_hw1 : k0_chk1 v10 v13) (k0_t6 : Fin (k0_t6_loop v13).trips) (k0_t10 : Fin (k0_t10_loop v13 k0_t6).trips), ∀ a, (k0_off162 v13 k0_t6 k0_t10) a + S1x1024.size a ≤ S304x1024.size a := fun v10 v13 k0_hw1 k0_t6 k0_t10 => k0_hw1.2.2.2.2.2.2.2.2.2.2.2.2.2.2.2.2.2.2.1 k0_t6 k0_t10
theorem k0_off163_inb : ∀ (v10 : BitVec 32) (v13 : BitVec 32) (k0_hw1 : k0_chk1 v10 v13) (k0_t6 : Fin (k0_t6_loop v13).trips) (k0_t10 : Fin (k0_t10_loop v13 k0_t6).trips), ∀ a, (k0_off163 v10 v13 k0_t6 k0_t10) a + S1x1x1.size a ≤ S1x1x8712.size a := fun v10 v13 k0_hw1 k0_t6 k0_t10 => k0_hw1.2.2.2.2.2.2.2.2.2.2.2.2.2.2.2.2.2.2.2.1 k0_t6 k0_t10
theorem k0_off165_inb : ∀ (v10 : BitVec 32) (v13 : BitVec 32) (k0_hw1 : k0_chk1 v10 v13) (k0_t6 : Fin (k0_t6_loop v13).trips) (k0_t10 : Fin (k0_t10_loop v13 k0_t6).trips), ∀ a, (k0_off165 v13 k0_t6 k0_t10) a + S1x1024.size a ≤ S304x1024.size a := fun v10 v13 k0_hw1 k0_t6 k0_t10 => k0_hw1.2.2.2.2.2.2.2.2.2.2.2.2.2.2.2.2.2.2.2.2 k0_t6 k0_t10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .smem S1x1x8712 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .smem S1x1x8712 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2176x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S17408x1024 : Shape := ⟨2, ![17408, 1024]⟩
abbrev S17408x4 : Shape := ⟨2, ![17408, 4]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S1x32x1024x2048 : Shape := ⟨4, ![1, 32, 1024, 2048]⟩
abbrev S32x1024x2048 : Shape := ⟨3, ![32, 1024, 2048]⟩
abbrev S17408x32x2048 : Shape := ⟨3, ![17408, 32, 2048]⟩
abbrev S1x32x2048 : Shape := ⟨3, ![1, 32, 2048]⟩
abbrev S32x2048 : Shape := ⟨2, ![32, 2048]⟩
abbrev S17408x32x1024 : Shape := ⟨3, ![17408, 32, 1024]⟩
abbrev S_ : Shape := ⟨0, ![]⟩
abbrev S1x32x1024x1024 : Shape := ⟨4, ![1, 32, 1024, 1024]⟩
abbrev S32x1024x1024 : Shape := ⟨3, ![32, 1024, 1024]⟩
abbrev S32x1024x17408 : Shape := ⟨3, ![32, 1024, 17408]⟩
abbrev S1x32x1024 : Shape := ⟨3, ![1, 32, 1024]⟩
abbrev S32x1024 : Shape := ⟨2, ![32, 1024]⟩
abbrev S17408x4x1 : Shape := ⟨3, ![17408, 4, 1]⟩
abbrev S32 : Shape := ⟨1, ![32]⟩
abbrev S1x1x32 : Shape := ⟨3, ![1, 1, 32]⟩
abbrev S17408x4x32 : Shape := ⟨3, ![17408, 4, 32]⟩
abbrev S17408x4x32x1 : Shape := ⟨4, ![17408, 4, 32, 1]⟩
abbrev S17408x1x32x1024 : Shape := ⟨4, ![17408, 1, 32, 1024]⟩
abbrev S17408x4x32x1024 : Shape := ⟨4, ![17408, 4, 32, 1024]⟩

abbrev nBuf : Space → Nat
  | .hbm => 72
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x4, .i32⟩
  | .hbm, ⟨2, _⟩ => ⟨S17408x4, .f32⟩
  | .hbm, ⟨3, _⟩ => ⟨S4x32x1024x2048, .f32⟩
  | .hbm, ⟨4, _⟩ => ⟨S4x32x2048, .f32⟩
  | .hbm, ⟨5, _⟩ => ⟨S4x32x1024x1024, .f32⟩
  | .hbm, ⟨6, _⟩ => ⟨S4x32x1024, .f32⟩
  | .hbm, ⟨7, _⟩ => ⟨S1x32x1024x2048, .f32⟩
  | .hbm, ⟨8, _⟩ => ⟨S32x1024x2048, .f32⟩
  | .hbm, ⟨9, _⟩ => ⟨S17408x32x2048, .f32⟩
  | .hbm, ⟨10, _⟩ => ⟨S1x32x2048, .f32⟩
  | .hbm, ⟨11, _⟩ => ⟨S32x2048, .f32⟩
  | .hbm, ⟨12, _⟩ => ⟨S1x32x2048, .f32⟩
  | .hbm, ⟨13, _⟩ => ⟨S17408x32x2048, .f32⟩
  | .hbm, ⟨14, _⟩ => ⟨S17408x32x2048, .f32⟩
  | .hbm, ⟨15, _⟩ => ⟨S17408x32x1024, .f32⟩
  | .hbm, ⟨16, _⟩ => ⟨S_, .f32⟩
  | .hbm, ⟨17, _⟩ => ⟨S17408x32x1024, .f32⟩
  | .hbm, ⟨18, _⟩ => ⟨S17408x32x1024, .f32⟩
  | .hbm, ⟨19, _⟩ => ⟨S17408x32x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S17408x32x1024, .f32⟩
  | .hbm, ⟨24, _⟩ => ⟨S17408x32x1024, .f32⟩
  | .hbm, ⟨25, _⟩ => ⟨S_, .f32⟩
  | .hbm, ⟨26, _⟩ => ⟨S17408x32x1024, .f32⟩
  | .hbm, ⟨27, _⟩ => ⟨S17408x32x1024, .f32⟩
  | .hbm, ⟨28, _⟩ => ⟨S_, .f32⟩
  | .hbm, ⟨29, _⟩ => ⟨S17408x32x1024, .f32⟩
  | .hbm, ⟨30, _⟩ => ⟨S17408x32x1024, .f32⟩
  | .hbm, ⟨31, _⟩ => ⟨S17408x32x1024, .f32⟩
  | .hbm, ⟨32, _⟩ => ⟨S17408x32x1024, .f32⟩
  | .hbm, ⟨33, _⟩ => ⟨S_, .f32⟩
  | .hbm, ⟨34, _⟩ => ⟨S17408x32x1024, .f32⟩
  | .hbm, ⟨35, _⟩ => ⟨S17408x32x1024, .f32⟩
  | .hbm, ⟨36, _⟩ => ⟨S_, .f32⟩
  | .hbm, ⟨37, _⟩ => ⟨S17408x32x1024, .f32⟩
  | .hbm, ⟨38, _⟩ => ⟨S17408x32x1024, .f32⟩
  | .hbm, ⟨39, _⟩ => ⟨S17408x32x1024, .f32⟩
  | .hbm, ⟨40, _⟩ => ⟨S_, .f32⟩
  | .hbm, ⟨41, _⟩ => ⟨S17408x32x1024, .f32⟩
  | .hbm, ⟨42, _⟩ => ⟨S17408x32x1024, .f32⟩
  | .hbm, ⟨43, _⟩ => ⟨S17408x32x1024, .f32⟩
  | .hbm, ⟨44, _⟩ => ⟨S1x32x1024x1024, .f32⟩
  | .hbm, ⟨45, _⟩ => ⟨S32x1024x1024, .f32⟩
  | .hbm, ⟨46, _⟩ => ⟨S32x1024x17408, .f32⟩
  | .hbm, ⟨47, _⟩ => ⟨S17408x32x1024, .f32⟩
  | .hbm, ⟨48, _⟩ => ⟨S1x32x1024, .f32⟩
  | .hbm, ⟨49, _⟩ => ⟨S32x1024, .f32⟩
  | .hbm, ⟨50, _⟩ => ⟨S1x32x1024, .f32⟩
  | .hbm, ⟨51, _⟩ => ⟨S17408x32x1024, .f32⟩
  | .hbm, ⟨52, _⟩ => ⟨S17408x32x1024, .f32⟩
  | .hbm, ⟨53, _⟩ => ⟨S17408x4x1, .i32⟩
  | .hbm, ⟨54, _⟩ => ⟨S32, .i32⟩
  | .hbm, ⟨55, _⟩ => ⟨S1x1x32, .i32⟩
  | .hbm, ⟨56, _⟩ => ⟨S17408x4x32, .i32⟩
  | .hbm, ⟨57, _⟩ => ⟨S17408x4x32, .i32⟩
  | .hbm, ⟨58, _⟩ => ⟨S17408x4x32, .i1⟩
  | .hbm, ⟨59, _⟩ => ⟨S17408x4x1, .f32⟩
  | .hbm, ⟨60, _⟩ => ⟨S_, .f32⟩
  | .hbm, ⟨61, _⟩ => ⟨S_, .f32⟩
  | .hbm, ⟨62, _⟩ => ⟨S17408x4x32, .f32⟩
  | .hbm, ⟨63, _⟩ => ⟨S17408x4x32, .f32⟩
  | .hbm, ⟨64, _⟩ => ⟨S17408x4x32, .f32⟩
  | .hbm, ⟨65, _⟩ => ⟨S17408x4x32x1, .f32⟩
  | .hbm, ⟨66, _⟩ => ⟨S17408x1x32x1024, .f32⟩
  | .hbm, ⟨67, _⟩ => ⟨S17408x4x32x1024, .f32⟩
  | .hbm, ⟨68, _⟩ => ⟨S17408x4x32x1024, .f32⟩
  | .hbm, ⟨69, _⟩ => ⟨S17408x4x32x1024, .f32⟩
  | .hbm, ⟨70, _⟩ => ⟨S_, .f32⟩
  | .hbm, ⟨71, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.RgSpec.lean ====
/-
  The recurrence of the layer as plain functions of time and lane: what one batch row's values are, without arrays,
  tiles or programs. Time is a natural number, a lane is `Fin 1024`. `V` bundles the inputs of one batch row.
-/
module

public import Idealize.ShloMosaic.Lib.Pointwise

@[expose] public section

noncomputable section

namespace Cert.Rg

open Idealize.ShloMosaic
open scoped BigOperators

/-- The inputs of one batch row: the tokens by time, and the layer's weights by coordinate. -/
structure V where
  /-- token `t`, feature `k` -/
  x : ℕ → Fin 1024 → EReal
  /-- input projection: columns below 1024 give the gate branch, the others the recurrent branch -/
  win : Fin 1024 → Fin 2048 → EReal
  /-- convolution weights by tap -/
  cw : Fin 4 → Fin 1024 → EReal
  /-- convolution bias -/
  cb : Fin 1024 → EReal
  /-- block-diagonal weights of the recurrence gate -/
  wa : Fin 4 → Fin 256 → Fin 256 → EReal
  /-- bias of the recurrence gate -/
  ba : Fin 1024 → EReal
  /-- block-diagonal weights of the input gate -/
  wi : Fin 4 → Fin 256 → Fin 256 → EReal
  /-- bias of the input gate -/
  bi : Fin 1024 → EReal
  /-- the decay parameter -/
  lam : Fin 1024 → EReal

/-- The lane of the block `n` with position `k` in it. -/
def lane (n : Fin 4) (k : Fin 256) : Fin 1024 := ⟨256 * n.val + k.val, by omega⟩

/-- The block a lane lies in. -/
def blk (d : Fin 1024) : Fin 4 := ⟨d.val / 256, by omega⟩

/-- A lane's position in its block. -/
def pos (d : Fin 1024) : Fin 256 := ⟨d.val % 256, by omega⟩

/-- `1 / (1 + e^(-z))`. -/
def sg (z : EReal) : EReal := Ideal.div 1 (1 + Ideal.exp (-z))

/-- `max z 0 + log (1 + e^(-|z|))`. -/
def sp (z : EReal) : EReal := max z 0 + Ideal.log1p (Ideal.exp (-max z (-z)))

/-- The tanh form of gelu, over the two literals the programs carry. -/
def gl (z : EReal) : EReal :=
  z * (Ideal.ofBits .f32 0x3F000000#32 * (1 + Ideal.tanh (Ideal.ofBits .f32 0x3F4C422A#32
    * (z + Ideal.ofBits .f32 0x3D372713#32 * (z * z * z)))))

namespace V

variable (v : V)

/-- The input projection at time `t`, column `j`. -/
def proj (t : ℕ) (j : Fin 2048) : EReal := ∑ k : Fin 1024, v.x t k * v.win k j

/-- The gate branch. -/
def y (t : ℕ) (d : Fin 1024) : EReal := gl (v.proj t ⟨d.val, by omega⟩)

/-- The recurrent branch before the convolution. -/
def u (t : ℕ) (d : Fin 1024) : EReal := v.proj t ⟨1024 + d.val, by omega⟩

/-- The recurrent branch `s` steps back; zero before the start. -/
def ush (s t : ℕ) (d : Fin 1024) : EReal := if s ≤ t then v.u (t - s) d else 0

/-- The causal convolution of width four. -/
def conv (t : ℕ) (d : Fin 1024) : EReal :=
  v.cb d + (v.ush 3 t d * v.cw 0 d + v.ush 2 t d * v.cw 1 d + v.ush 1 t d * v.cw 2 d + v.ush 0 t d * v.cw 3 d)

/-- The recurrence gate. -/
def r (t : ℕ) (d : Fin 1024) : EReal :=
  sg ((∑ k : Fin 256, v.conv t (lane (blk d) k) * v.wa (blk d) k (pos d)) + v.ba d)

/-- The input gate. -/
def i (t : ℕ) (d : Fin 1024) : EReal :=
  sg ((∑ k : Fin 256, v.conv t (lane (blk d) k) * v.wi (blk d) k (pos d)) + v.bi d)

/-- The logarithm of the decay. -/
def la (t : ℕ) (d : Fin 1024) : EReal := Ideal.ofBits .f32 0xC1000000#32 * v.r t d * sp (-v.lam d)

/-- The decay. -/
def a (t : ℕ) (d : Fin 1024) : EReal := Ideal.exp (v.la t d)

/-- What enters the state at time `t`. -/
def b (t : ℕ) (d : Fin 1024) : EReal :=
  Ideal.sqrt (-(Ideal.exp (Ideal.ofBits .f32 0x40000000#32 * v.la t d) - 1)) * v.i t d * v.conv t d

/-- The state before time `t`: zero at the start, then `h_(t+1) = a_t h_t + b_t`. -/
def h : ℕ → Fin 1024 → EReal
  | 0, _ => 0
  | t + 1, d => v.a t d * h t d + v.b t d

end V

end Cert.Rg

end
-- ==== Proof.RgElem.lean ====
/-
  The scalar identities on the extended reals that the two spellings of the layer differ by.
-/
module

public import proofs.«01_k».proof.Proof.RgSpec

@[expose] public section

noncomputable section

namespace Cert.Rg

open Idealize.ShloMosaic

/-- The literal minus eight. -/
theorem lit_neg8 : Ideal.ofBits .f32 0xC1000000#32 = ((-8 : ℝ) : EReal) := by
  simp [Ideal.ofBits, Ideal.ieee]
  rw [← EReal.coe_mul]; norm_num

/-- The literal two. -/
theorem lit_two : Ideal.ofBits .f32 0x40000000#32 = ((2 : ℝ) : EReal) := by
  simp [Ideal.ofBits, Ideal.ieee]
  rw [← EReal.coe_mul]; norm_num

/-- The sigmoid is nonnegative. -/
theorem sg_nonneg (z : EReal) : 0 ≤ sg z := by
  change 0 ≤ Ideal.logistic z
  induction z using EReal.rec with
  | bot => simp
  | top => simp
  | coe z => rw [Ideal.logistic_coe]; exact_mod_cast (by positivity)

/-- The softplus is nonnegative. -/
theorem sp_nonneg (z : EReal) : 0 ≤ sp z := by
  unfold sp
  refine add_nonneg (le_max_right _ _) ?_
  have key : ∀ w : EReal, 0 ≤ Ideal.log1p (Ideal.exp w) := by
    intro w
    induction w using EReal.rec with
    | bot =>
      rw [Ideal.exp_bot, Ideal.log1p, add_zero, ← EReal.coe_one, Ideal.log_coe, if_neg (by norm_num), Real.log_one]
      exact le_refl _
    | top =>
      rw [Ideal.exp_top, Ideal.log1p, EReal.add_top_of_ne_bot (show (1 : EReal) ≠ ⊥ from EReal.coe_ne_bot 1), Ideal.log_top]
      exact le_top
    | coe w =>
      have h1 : (1 : EReal) + ((Real.exp w : ℝ) : EReal) = ((1 + Real.exp w : ℝ) : EReal) := by push_cast; rfl
      have h2 := Real.exp_pos w
      rw [Ideal.exp_coe, Ideal.log1p, h1, Ideal.log_coe, if_neg (by linarith)]
      exact_mod_cast Real.log_nonneg (by linarith)
  exact key _

/-- The logarithm of the decay is not positive. -/
theorem la_nonpos (v : V) (t : ℕ) (d : Fin 1024) : v.la t d ≤ 0 := by
  have h1 : 0 ≤ v.r t d * sp (-v.lam d) := mul_nonneg (sg_nonneg _) (sp_nonneg _)
  unfold V.la
  rw [lit_neg8, mul_assoc]
  exact mul_nonpos_of_nonpos_of_nonneg (by exact_mod_cast (by norm_num : (-8 : ℝ) ≤ 0)) h1

/-- The decay is nonnegative. -/
theorem a_nonneg (v : V) (t : ℕ) (d : Fin 1024) : 0 ≤ v.a t d := by
  unfold V.a
  generalize v.la t d = L
  induction L using EReal.rec with
  | bot => simp
  | top => simp
  | coe L => rw [Ideal.exp_coe]; exact_mod_cast (Real.exp_pos L).le

/-- The decay is finite. -/
theorem a_ne_top (v : V) (t : ℕ) (d : Fin 1024) : v.a t d ≠ ⊤ := by
  have h := la_nonpos v t d
  unfold V.a
  revert h
  generalize v.la t d = L
  intro h
  induction L using EReal.rec with
  | bot => simp
  | top => simp at h
  | coe L => rw [Ideal.exp_coe]; exact EReal.coe_ne_top _

/-- At a nonpositive logarithm, `-tanh L (e^L e^L + 1)` is `1 - e^(2L)`. -/
theorem gap_eq (L : EReal) (h : L ≤ 0) :
    (0 - Ideal.tanh L) * (Ideal.exp L * Ideal.exp L + 1)
      = -(Ideal.exp (Ideal.ofBits .f32 0x40000000#32 * L) - 1) := by
  rw [lit_two]
  induction L using EReal.rec with
  | top => simp at h
  | bot =>
    rw [EReal.coe_mul_bot_of_pos (by norm_num)]
    simp
  | coe L =>
    rw [← EReal.coe_mul, Ideal.exp_coe, Ideal.exp_coe, Ideal.tanh_coe]
    have e : ((0 - Real.tanh L) * (Real.exp L * Real.exp L + 1) : ℝ) = -(Real.exp (2 * L) - 1) := by
      rw [Real.tanh_eq_sinh_div_cosh, Real.sinh_eq, Real.cosh_eq, two_mul, Real.exp_add, Real.exp_neg]
      have := Real.exp_pos L
      field_simp
      ring
    exact_mod_cast congrArg (fun r : ℝ => (r : EReal)) e

/-- The kernel's order of gelu's factors. -/
theorem gl_eq (z : EReal) :
    Ideal.ofBits .f32 0x3F000000#32 * z * (1 + Ideal.tanh (Ideal.ofBits .f32 0x3F4C422A#32
      * (z + Ideal.ofBits .f32 0x3D372713#32 * (z * z * z)))) = gl z := by
  unfold gl
  rw [mul_comm (Ideal.ofBits .f32 0x3F000000#32) z, mul_assoc]

end Cert.Rg

end
-- ==== Proof.RgScan.lean ====
/-
  The doubling scan of an affine recurrence: after the steps 1, 2, 4, … the pair of arrays applied to any state is the
  recurrence over the last so many positions.
-/
module

public import proofs.«01_k».proof.Proof.RgElem

@[expose] public section

noncomputable section

namespace Cert.Rg

open Idealize.ShloMosaic

/-- The recurrence over the last `n` positions ending at `r` (fewer where the tile starts later), from the state `h`. -/
def fold (a b : ℕ → EReal) : ℕ → ℕ → EReal → EReal
  | 0, _, h => h
  | _ + 1, 0, h => a 0 * h + b 0
  | n + 1, r + 1, h => a (r + 1) * fold a b n r h + b (r + 1)

/-- A longer window reaching before the start is the window from the start. -/
theorem fold_sat (a b : ℕ → EReal) (n m r : ℕ) (h : EReal) (hn : r < n) (hm : r < m) :
    fold a b n r h = fold a b m r h := by
  induction r generalizing n m with
  | zero =>
    obtain ⟨n, rfl⟩ := Nat.exists_eq_succ_of_ne_zero (by omega : n ≠ 0)
    obtain ⟨m, rfl⟩ := Nat.exists_eq_succ_of_ne_zero (by omega : m ≠ 0)
    rfl
  | succ r ih =>
    obtain ⟨n, rfl⟩ := Nat.exists_eq_succ_of_ne_zero (by omega : n ≠ 0)
    obtain ⟨m, rfl⟩ := Nat.exists_eq_succ_of_ne_zero (by omega : m ≠ 0)
    simp only [Nat.succ_eq_add_one, fold]
    rw [ih n m (by omega) (by omega)]

/-- A window of `n + m` positions is the last `n` of them after the `m` before. -/
theorem fold_split (a b : ℕ → EReal) (n m r : ℕ) (h : EReal) (hr : n ≤ r) :
    fold a b n r (fold a b m (r - n) h) = fold a b (n + m) r h := by
  induction n generalizing r with
  | zero => simp [fold]
  | succ n ih =>
    obtain ⟨r, rfl⟩ := Nat.exists_eq_succ_of_ne_zero (by omega : r ≠ 0)
    rw [show n + 1 + m = (n + m) + 1 by omega]
    simp only [Nat.succ_eq_add_one, fold]
    rw [show r + 1 - (n + 1) = r - n by omega, ih r (by omega)]

/-- What the pair of arrays is worth after the window has length `n`: finite nonnegative factors, and the recurrence over
    the last `n` positions of any state. -/
structure Inv (a b : ℕ → EReal) (n : ℕ) (A B : Fin 256 → EReal) : Prop where
  nonneg : ∀ r, 0 ≤ A r
  fin : ∀ r, A r ≠ ⊤
  eq : ∀ r h, A r * h + B r = fold a b n r.val h

/-- The start of the scan: the factors and terms themselves. -/
theorem Inv.start {a b : ℕ → EReal} {A B : Fin 256 → EReal} (ha : ∀ r : Fin 256, A r = a r) (hb : ∀ r : Fin 256, B r = b r)
    (h0 : ∀ r, 0 ≤ a r) (h1 : ∀ r, a r ≠ ⊤) : Inv a b 1 A B where
  nonneg r := by rw [ha]; exact h0 _
  fin r := by rw [ha]; exact h1 _
  eq r h := by
    rw [ha, hb]
    rcases r with ⟨_ | r, hr⟩ <;> rfl

/-- One doubling step. -/
theorem Inv.step {a b : ℕ → EReal} {n : ℕ} {A B A' B' : Fin 256 → EReal} (H : Inv a b n A B)
    (hA : ∀ r : Fin 256, A' r = A r * (if n ≤ r.val then A ⟨r.val - n, by omega⟩ else 1))
    (hB : ∀ r : Fin 256, B' r = A r * (if n ≤ r.val then B ⟨r.val - n, by omega⟩ else 0) + B r) :
    Inv a b (n + n) A' B' where
  nonneg r := by
    rw [hA]; split
    · exact mul_nonneg (H.nonneg _) (H.nonneg _)
    · rw [mul_one]; exact H.nonneg _
  fin r := by
    rw [hA]; split
    · lift A r to ℝ using ⟨H.fin r, ne_of_gt (lt_of_lt_of_le EReal.bot_lt_zero (H.nonneg r))⟩ with x
      lift A ⟨r.val - n, by omega⟩ to ℝ using
        ⟨H.fin _, ne_of_gt (lt_of_lt_of_le EReal.bot_lt_zero (H.nonneg _))⟩ with y
      rw [← EReal.coe_mul]; exact EReal.coe_ne_top _
    · rw [mul_one]; exact H.fin _
  eq r h := by
    rw [hA, hB]; split
    · rename_i hr
      rw [← fold_split a b n n r.val h hr, ← H.eq r, ← H.eq ⟨r.val - n, by omega⟩ h,
        EReal.left_distrib_of_nonneg_of_ne_top (H.nonneg r) (H.fin r), mul_assoc, add_assoc]
    · rename_i hr
      rw [mul_one, mul_zero, zero_add, H.eq, fold_sat a b n (n + n) r.val h (by omega) (by omega)]

/-- A full window is the recurrence of the layer from the state before the tile. -/
theorem fold_h (v : V) (t0 : ℕ) (d : Fin 1024) (n r : ℕ) (hr : r < n) :
    fold (fun r => v.a (t0 + r) d) (fun r => v.b (t0 + r) d) n r (v.h t0 d) = v.h (t0 + r + 1) d := by
  induction r generalizing n with
  | zero =>
    obtain ⟨n, rfl⟩ := Nat.exists_eq_succ_of_ne_zero (by omega : n ≠ 0)
    rfl
  | succ r ih =>
    obtain ⟨n, rfl⟩ := Nat.exists_eq_succ_of_ne_zero (by omega : n ≠ 0)
    simp only [Nat.succ_eq_add_one, fold]
    rw [ih n (by omega), show t0 + (r + 1) + 1 = (t0 + r + 1) + 1 by omega]
    rfl

end Cert.Rg

end
-- ==== Proof.RgTile.lean ====
/-
  The kernel's body on one tile as named vectors: the composed payloads of its stores, over the block of tokens, the
  weights held in the scratch, and the two carried rows-of-eight.
-/
module

public import proofs.«01_k».proof.Proof.Gen.KernelIdeal.Skeleton
public import proofs.«01_k».proof.Proof.RgScan

@[expose] public section

noncomputable section

namespace Cert.KernelIdeal.Rg

open Idealize.ShloMosaic Cert.KernelIdeal Cert.KernelIdeal.Gen

/-- What a tile reads: the tokens, the weights (rounded once into the scratch), and the two carried blocks. -/
structure In where
  /-- the tokens -/
  x : Vec Ideal S256x1024 .f32
  /-- convolution weights -/
  cw : Vec Ideal S4x1024 .f32
  /-- convolution bias -/
  cb : Vec Ideal S1x1024 .f32
  /-- recurrence gate's bias -/
  ba : Vec Ideal S1x1024 .f32
  /-- input gate's bias -/
  bi : Vec Ideal S1x1024 .f32
  /-- decay parameter -/
  lam : Vec Ideal S1x1024 .f32
  /-- input projection -/
  win : Vec Ideal S1024x2048 .bf16
  /-- recurrence gate's weights -/
  wa : Vec Ideal S4x256x256 .bf16
  /-- input gate's weights -/
  wi : Vec Ideal S4x256x256 .bf16
  /-- the last eight rows of the recurrent branch before the tile -/
  uc : Vec Ideal S8x1024 .f32
  /-- the last eight states before the tile -/
  hc : Vec Ideal S8x1024 .f32

namespace In

variable (I : In)

/-- Block `n` of a block-diagonal weight. -/
abbrev wblk (w : Vec Ideal S4x256x256 .bf16) (n : ℕ) (hn : ∀ a, (![n, 0, 0] : Fin 3 → ℕ) a + S1x256x256.size a ≤ S4x256x256.size a) :
    Vec Ideal S1x256x256 .bf16 :=
  View.ld w (Rect.unit (s := S4x256x256) ![n, 0, 0] S1x256x256.size hn)

/-- The row before the tile of the carried states. -/
abbrev hrow : Vec Ideal S1x1024 .f32 := View.ld I.hc (Rect.unit (s := S8x1024) ![7, 0] S1x1024.size inb_S8x1024_S1x1024_7_0)

/-- Row numbers of the carried block. -/
abbrev rows8 : IVec S8x1024 32 := iota .tc S8x1024 32 [0] iota_S8x1024_d0_w32

/-- Row numbers of the tile. -/
abbrev rows : IVec S256x1024 32 := iota .tc S256x1024 32 [0] iota_S256x1024_d0_w32

/-- The gate branch. -/
def y : FVec Ideal S256x1024 .f32 := k0_pay13 I.x I.win

/-- The recurrent branch. -/
def u : FVec Ideal S256x1024 .f32 := k0_pay14 I.x I.win

/-- The convolution. -/
def conv : FVec Ideal S256x1024 .f32 := k0_pay17 I.uc rows8 I.u I.cw (k0_pay15 I.cb) (k0_pay16 I.cw)

/-- The convolution's first block of lanes. -/
def conv0 : FVec Ideal S256x256 .bf16 := k0_pay18 I.uc rows8 I.u I.cw (k0_pay15 I.cb) (k0_pay16 I.cw)

/-- The recurrence gate before the sigmoid. -/
def rpre : FVec Ideal S256x1024 .f32 :=
  k0_pay27 I.conv (k0_pay19 I.uc rows8 I.u I.cw (k0_pay15 I.cb) (k0_pay16 I.cw) (wblk I.wa 0 inb_S4x256x256_S1x256x256_0_0_0))
    (wblk I.wa 1 inb_S4x256x256_S1x256x256_1_0_0) (wblk I.wa 2 inb_S4x256x256_S1x256x256_2_0_0)
    (wblk I.wa 3 inb_S4x256x256_S1x256x256_3_0_0) I.ba

/-- The input gate. -/
def ig : FVec Ideal S256x1024 .f32 :=
  k0_pay28 (k0_pay20 I.conv0 (wblk I.wi 0 inb_S4x256x256_S1x256x256_0_0_0)) (k0_pay22 I.conv (wblk I.wi 1 inb_S4x256x256_S1x256x256_1_0_0))
    (k0_pay24 I.conv (wblk I.wi 2 inb_S4x256x256_S1x256x256_2_0_0)) (k0_pay26 I.conv (wblk I.wi 3 inb_S4x256x256_S1x256x256_3_0_0)) I.bi

/-- The decay. -/
def a : FVec Ideal S256x1024 .f32 := k0_pay30 I.rpre I.lam

/-- The factor `√(1 - a²)`. -/
def g : FVec Ideal S256x1024 .f32 := k0_pay31 I.rpre I.lam

/-- The scan's factors at window eight. -/
def a8 : FVec Ideal S256x1024 .f32 := k0_pay38 I.a

/-- The shifted factors at window eight. -/
def a8s : FVec Ideal S256x1024 .f32 := k0_pay40 I.a

/-- The scan's terms at window eight. -/
def b8 : FVec Ideal S256x1024 .f32 := k0_pay37 I.conv I.ig I.a I.g

/-- The scan's terms at window 128. -/
def b128 : FVec Ideal S256x1024 .f32 := k0_pay47 rows I.b8 I.a8 k0_pay39 I.a8s 8#32

/-- The scan's factors at window 128. -/
def a128 : FVec Ideal S256x1024 .f32 := k0_pay48 rows I.a8 I.a8s

/-- The states of the tile. -/
def h : FVec Ideal S256x1024 .f32 := k0_pay1 I.hrow I.b128 I.a128 (k0_pay49 rows) (k0_pay50 rows I.a8 I.a8s)

/-- The gated states, the first result's block. -/
def o : FVec Ideal S256x1024 .bf16 := k0_pay2 I.hrow I.y I.b128 I.a128 (k0_pay49 rows) (k0_pay50 rows I.a8 I.a8s)

/-- The last eight rows of the recurrent branch, as the carried block. -/
def un : FVec Ideal S8x1024 .f32 := k0_pay3 I.u

/-- The last eight states, as the carried block. -/
def hn : FVec Ideal S8x1024 .f32 := k0_pay4 I.hrow I.b128 I.a128 (k0_pay49 rows) (k0_pay50 rows I.a8 I.a8s)

/-- The last eight rows of the recurrent branch, as a result's block. -/
def uo : FVec Ideal S1x8x1024 .f32 := k0_pay5 I.u

/-- The last eight states, as a result's block. -/
def ho : FVec Ideal S1x8x1024 .f32 := k0_pay6 I.hrow I.b128 I.a128 (k0_pay49 rows) (k0_pay50 rows I.a8 I.a8s)

end In

end Cert.KernelIdeal.Rg

end
-- ==== Proof.RgRead1.lean ====
/-
  The tile's vectors read at an index, part one: the projections and the convolution.
-/
module

public import proofs.«01_k».proof.Proof.RgTile
public import Idealize.ShloMosaic.Lib.WordCmp

@[expose] public section

set_option maxRecDepth 16384

noncomputable section

namespace Cert.KernelIdeal.Rg

open Idealize.ShloMosaic Idealize.ShloMosaic.WordCmp Cert.KernelIdeal Cert.KernelIdeal.Gen Cert.Rg
open scoped BigOperators

/-- The tile's inputs are the layer's, at the times `t0`, `t0 + 1`, …; the carried blocks hold what came before. -/
structure Ok (v : V) (t0 : ℕ) (I : In) : Prop where
  hx : ∀ (r : Fin 256) (k : Fin 1024), I.x (ix2 r k) = v.x (t0 + r.val) k
  hwin : ∀ (k : Fin 1024) (j : Fin 2048), I.win (ix2 k j) = v.win k j
  hcw : ∀ (p : Fin 4) (d : Fin 1024), I.cw (ix2 p d) = v.cw p d
  hcb : ∀ d : Fin 1024, I.cb (ix2 0 d) = v.cb d
  hba : ∀ d : Fin 1024, I.ba (ix2 0 d) = v.ba d
  hbi : ∀ d : Fin 1024, I.bi (ix2 0 d) = v.bi d
  hlam : ∀ d : Fin 1024, I.lam (ix2 0 d) = v.lam d
  hwa : ∀ (n : Fin 4) (k j : Fin 256), I.wa (ix3 n k j) = v.wa n k j
  hwi : ∀ (n : Fin 4) (k j : Fin 256), I.wi (ix3 n k j) = v.wi n k j
  huc : ∀ (r : Fin 8) (d : Fin 1024), I.uc (ix2 r d) = v.ush (8 - r.val) t0 d
  hhc : ∀ d : Fin 1024, I.hc (ix2 7 d) = v.h t0 d

variable {v : V} {t0 : ℕ} {I : In} (H : Ok v t0 I)
include H

/-- The input projection at an index. -/
theorem Ok.proj (r : Fin 256) (j : Fin 2048) : k0_pay12 I.x I.win (ix2 r j) = v.proj (t0 + r.val) j := by
  unfold_payloads
  pointwise [dot_S256x1024_S1024x2048_S256x2048_1_0_0_1_n_n]
  unfold V.proj
  exact Finset.sum_congr rfl fun k _ => by rw [H.hx, H.hwin]

/-- The recurrent branch at an index. -/
theorem Ok.u (r : Fin 256) (d : Fin 1024) : I.u (ix2 r d) = v.u (t0 + r.val) d := by
  unfold In.u k0_pay14
  pointwise
  exact H.proj r _

/-- The gate branch at an index. -/
theorem Ok.y (r : Fin 256) (d : Fin 1024) : I.y (ix2 r d) = v.y (t0 + r.val) d := by
  unfold In.y k0_pay13
  pointwise
  rw [H.proj]
  exact gl_eq _

end Cert.KernelIdeal.Rg

namespace Cert.KernelIdeal.Rg

open Idealize.ShloMosaic Idealize.ShloMosaic.WordCmp Cert.KernelIdeal Cert.KernelIdeal.Gen Cert.Rg
open scoped BigOperators

/-- A selection by a decided proposition's bit. -/
theorem sel_ofBool {α : Type} (p : Prop) [Decidable p] (a b : α) : Scalar.select (BitVec.ofBool (decide p)) a b = if p then a else b := by
  by_cases h : p <;> simp [h, Scalar.select]

/-- The rows of `x` some back, the first ones from the carried block `c`. -/
def shift (s : BitVec 32) (x : FVec Ideal S256x1024 .f32) (c : Vec Ideal S8x1024 .f32) : FVec Ideal S256x1024 .f32 :=
  concatenate S256x1024 0 [⟨S8x1024, select (cmpi .slt In.rows8 (broadcast S8x1024 s))
        (dynamicRotate 0 s none c rotates_S8x1024_d0)
        (extractStridedSlice S8x1024 ![0, 0] (dynamicRotate 0 s none x rotates_S256x1024_d0) slices_S256x1024_o0_0_S8x1024)⟩,
      ⟨S248x1024, extractStridedSlice S248x1024 ![8, 0] (dynamicRotate 0 s none x rotates_S256x1024_d0) slices_S256x1024_o8_0_S248x1024⟩]
      concatenates_S8x1024_S248x1024_S256x1024_d0

/-- The shifted rows at an index. -/
theorem shift_at (x : FVec Ideal S256x1024 .f32) (c : Vec Ideal S8x1024 .f32) (s : ℕ) (h0 : 0 < s) (h8 : s < 8) (r : Fin 256) (d : Fin 1024) :
    shift (BitVec.ofNat 32 s) x c (ix2 r d)
      = if h : s ≤ r.val then x (ix2 ⟨r.val - s, by omega⟩ d) else c (ix2 ⟨r.val + 8 - s, by omega⟩ d) := by
  have hr := r.isLt
  unfold shift
  pointwise
  simp only [cmpi_slt_ofNat (w := 32) (a := r.val) (b := s) (by omega) (by omega), sel_ofBool,
    toNat_ofNat_of_lt (w := 32) (a := s) (by omega)]
  have e : ∀ (p q : ℕ) (hp : p < 256) (hq : q < 256), p = q → x (ix2 ⟨p, hp⟩ d) = x (ix2 ⟨q, hq⟩ d) := by
    intro p q hp hq h; subst h; rfl
  have e' : ∀ (p q : ℕ) (hp : p < 8) (hq : q < 8), p = q → c (ix2 ⟨p, hp⟩ d) = c (ix2 ⟨q, hq⟩ d) := by
    intro p q hp hq h; subst h; rfl
  split
  · split
    · rw [dif_neg (by omega)]; exact e' _ _ _ _ (by omega)
    · rw [dif_pos (by omega)]; exact e _ _ _ _ (by omega)
  · rw [dif_pos (by omega)]; exact e _ _ _ _ (by omega)

/-- The convolution as sums of shifted rows. -/
theorem conv_eq (I : In) : I.conv = addf (addf (addf (addf (broadcastTo S256x1024 (k0_pay15 I.cb) broadcasts_S1x1024_S256x1024)
      (mulf (broadcastTo S256x1024 (k0_pay16 I.cw) broadcasts_S1x1024_S256x1024) I.u))
      (mulf (broadcastTo S256x1024 (extractStridedSlice S1x1024 ![2, 0] I.cw slices_S4x1024_o2_0_S1x1024) broadcasts_S1x1024_S256x1024) (shift 1#32 I.u I.uc)))
      (mulf (broadcastTo S256x1024 (extractStridedSlice S1x1024 ![1, 0] I.cw slices_S4x1024_o1_0_S1x1024) broadcasts_S1x1024_S256x1024) (shift 2#32 I.u I.uc)))
      (mulf (broadcastTo S256x1024 (extractStridedSlice S1x1024 ![0, 0] I.cw slices_S4x1024_o0_0_S1x1024) broadcasts_S1x1024_S256x1024) (shift 3#32 I.u I.uc)) := rfl

variable {v : V} {t0 : ℕ} {I : In} (H : Ok v t0 I)
include H

/-- The shifted recurrent branch at an index. -/
theorem Ok.shift (s : ℕ) (h0 : 0 < s) (h8 : s < 8) (r : Fin 256) (d : Fin 1024) :
    shift (BitVec.ofNat 32 s) I.u I.uc (ix2 r d) = v.ush s (t0 + r.val) d := by
  rw [shift_at _ _ s h0 h8]
  split
  · rw [H.u, V.ush, if_pos (by omega)]
    congr 1
    show t0 + (r.val - s) = _
    omega
  · rw [H.huc]
    unfold V.ush
    have e : t0 - (8 - (r.val + 8 - s)) = t0 + r.val - s := by omega
    show (if 8 - (r.val + 8 - s) ≤ t0 then v.u (t0 - (8 - (r.val + 8 - s))) d else 0) = _
    rw [e]
    exact if_congr (by omega) rfl rfl

/-- The convolution at an index. -/
theorem Ok.conv (r : Fin 256) (d : Fin 1024) : I.conv (ix2 r d) = v.conv (t0 + r.val) d := by
  rw [conv_eq]
  unfold k0_pay15 k0_pay16
  pointwise
  rw [H.shift 1 (by omega) (by omega), H.shift 2 (by omega) (by omega), H.shift 3 (by omega) (by omega), H.u, H.hcb,
    H.hcw, H.hcw, H.hcw, H.hcw]
  unfold V.conv
  rw [show v.ush 0 (t0 + r.val) d = v.u (t0 + r.val) d from if_pos (Nat.zero_le _),
    mul_comm (v.cw 3 d), mul_comm (v.cw 2 d), mul_comm (v.cw 1 d), mul_comm (v.cw 0 d)]
  ac_rfl

omit H in
/-- The four blocks' products beside each other, at a lane: the product of the lane's own block. -/
theorem gate_at (C : FVec Ideal S256x1024 .f32) (W : Vec Ideal S4x256x256 .bf16) (p0 p1 p2 p3 : FVec Ideal S256x256 .f32)
    (r : Fin 256) (h0 : ∀ j, p0 (ix2 r j) = ∑ k : Fin 256, C (ix2 r (lane 0 k)) * W (ix3 0 k j))
    (h1 : ∀ j, p1 (ix2 r j) = ∑ k : Fin 256, C (ix2 r (lane 1 k)) * W (ix3 1 k j))
    (h2 : ∀ j, p2 (ix2 r j) = ∑ k : Fin 256, C (ix2 r (lane 2 k)) * W (ix3 2 k j))
    (h3 : ∀ j, p3 (ix2 r j) = ∑ k : Fin 256, C (ix2 r (lane 3 k)) * W (ix3 3 k j)) (d : Fin 1024) :
    concatenate S256x1024 1 [⟨S256x256, p0⟩, ⟨S256x256, p1⟩, ⟨S256x256, p2⟩, ⟨S256x256, p3⟩]
        concatenates_S256x256_S256x256_S256x256_S256x256_S256x1024_d1 (ix2 r d)
      = ∑ k : Fin 256, C (ix2 r (lane (blk d) k)) * W (ix3 (blk d) k (pos d)) := by
  have hd := d.isLt
  pointwise
  have go : ∀ (n : Fin 4) (q : ℕ) (hq : q < 256) (p : FVec Ideal S256x256 .f32), d.val = 256 * n.val + q →
      (∀ j, p (ix2 r j) = ∑ k : Fin 256, C (ix2 r (lane n k)) * W (ix3 n k j)) →
      p (ix2 r ⟨q, hq⟩) = ∑ k : Fin 256, C (ix2 r (lane (blk d) k)) * W (ix3 (blk d) k (pos d)) := by
    intro n q hq p h hp
    have e1 : blk d = n := Fin.ext (by show d.val / 256 = n.val; omega)
    have e2 : pos d = ⟨q, hq⟩ := Fin.ext (by show d.val % 256 = q; omega)
    rw [hp, e1, e2]
  split
  · exact go 0 _ _ _ (by simp) h0
  split
  · exact go 1 _ _ _ (by show d.val = 256 * 1 + (d.val - 256); omega) h1
  split
  · exact go 2 _ _ _ (by show d.val = 256 * 2 + (d.val - 256 - 256); omega) h2
  · exact go 3 _ _ _ (by show d.val = 256 * 3 + (d.val - 256 - 256 - 256); omega) h3

omit H in
/-- Block 0's product at an index. -/
theorem block0_at (C : FVec Ideal S256x1024 .f32) (W : Vec Ideal S4x256x256 .bf16) (r j : Fin 256) :
    matmul (φ₂ := .bf16) dot_S256x256_S256x256_S256x256_1_0_0_1_n_n none
      (truncf .bf16 (extractStridedSlice S256x256 ![0, 0] C slices_S256x1024_o0_0_S256x256) bitsLt_bf16_f32)
      (shapeCast S256x256 (In.wblk W 0 inb_S4x256x256_S1x256x256_0_0_0) shapeCasts_S1x256x256_S256x256)
      (constant S256x256 .f32 0x00000000#32) (ix2 r j)
      = ∑ k : Fin 256, C (ix2 r (lane 0 k)) * W (ix3 0 k j) := by
  unfold In.wblk
  pointwise [dot_S256x256_S256x256_S256x256_1_0_0_1_n_n]
  refine Finset.sum_congr rfl fun k _ => congr (congrArg _ (congrArg _ (congrArg _ (Fin.ext ?_)))) rfl
  show _ = 256 * (0 : Fin 4).val + k.val
  first | (show k.val = 256 * 0 + k.val; omega) | (show 0 + k.val = 256 * 0 + k.val; omega) | (show k.val + 0 = 256 * 0 + k.val; omega)

omit H in
/-- Block 1's product at an index. -/
theorem block1_at (C : FVec Ideal S256x1024 .f32) (W : Vec Ideal S4x256x256 .bf16) (r j : Fin 256) :
    matmul (φ₂ := .bf16) dot_S256x256_S256x256_S256x256_1_0_0_1_n_n none
      (truncf .bf16 (extractStridedSlice S256x256 ![0, 256] C slices_S256x1024_o0_256_S256x256) bitsLt_bf16_f32)
      (shapeCast S256x256 (In.wblk W 1 inb_S4x256x256_S1x256x256_1_0_0) shapeCasts_S1x256x256_S256x256)
      (constant S256x256 .f32 0x00000000#32) (ix2 r j)
      = ∑ k : Fin 256, C (ix2 r (lane 1 k)) * W (ix3 1 k j) := by
  unfold In.wblk
  pointwise [dot_S256x256_S256x256_S256x256_1_0_0_1_n_n]
  refine Finset.sum_congr rfl fun k _ => congr (congrArg _ (congrArg _ (congrArg _ (Fin.ext ?_)))) rfl
  show _ = 256 * (1 : Fin 4).val + k.val
  first | (show k.val = 256 * 0 + k.val; omega) | (show 256 + k.val = 256 * 1 + k.val; omega) | (show k.val + 256 = 256 * 1 + k.val; omega)

omit H in
/-- Block 2's product at an index. -/
theorem block2_at (C : FVec Ideal S256x1024 .f32) (W : Vec Ideal S4x256x256 .bf16) (r j : Fin 256) :
    matmul (φ₂ := .bf16) dot_S256x256_S256x256_S256x256_1_0_0_1_n_n none
      (truncf .bf16 (extractStridedSlice S256x256 ![0, 512] C slices_S256x1024_o0_512_S256x256) bitsLt_bf16_f32)
      (shapeCast S256x256 (In.wblk W 2 inb_S4x256x256_S1x256x256_2_0_0) shapeCasts_S1x256x256_S256x256)
      (constant S256x256 .f32 0x00000000#32) (ix2 r j)
      = ∑ k : Fin 256, C (ix2 r (lane 2 k)) * W (ix3 2 k j) := by
  unfold In.wblk
  pointwise [dot_S256x256_S256x256_S256x256_1_0_0_1_n_n]
  refine Finset.sum_congr rfl fun k _ => congr (congrArg _ (congrArg _ (congrArg _ (Fin.ext ?_)))) rfl
  show _ = 256 * (2 : Fin 4).val + k.val
  first | (show k.val = 256 * 0 + k.val; omega) | (show 512 + k.val = 256 * 2 + k.val; omega) | (show k.val + 512 = 256 * 2 + k.val; omega)

omit H in
/-- Block 3's product at an index. -/
theorem block3_at (C : FVec Ideal S256x1024 .f32) (W : Vec Ideal S4x256x256 .bf16) (r j : Fin 256) :
    matmul (φ₂ := .bf16) dot_S256x256_S256x256_S256x256_1_0_0_1_n_n none
      (truncf .bf16 (extractStridedSlice S256x256 ![0, 768] C slices_S256x1024_o0_768_S256x256) bitsLt_bf16_f32)
      (shapeCast S256x256 (In.wblk W 3 inb_S4x256x256_S1x256x256_3_0_0) shapeCasts_S1x256x256_S256x256)
      (constant S256x256 .f32 0x00000000#32) (ix2 r j)
      = ∑ k : Fin 256, C (ix2 r (lane 3 k)) * W (ix3 3 k j) := by
  unfold In.wblk
  pointwise [dot_S256x256_S256x256_S256x256_1_0_0_1_n_n]
  refine Finset.sum_congr rfl fun k _ => congr (congrArg _ (congrArg _ (congrArg _ (Fin.ext ?_)))) rfl
  show _ = 256 * (3 : Fin 4).val + k.val
  first | (show k.val = 256 * 0 + k.val; omega) | (show 768 + k.val = 256 * 3 + k.val; omega) | (show k.val + 768 = 256 * 3 + k.val; omega)

/-- The recurrence gate before the sigmoid, at an index. -/
theorem Ok.rpre (r : Fin 256) (d : Fin 1024) : I.rpre (ix2 r d)
    = (∑ k : Fin 256, v.conv (t0 + r.val) (lane (blk d) k) * v.wa (blk d) k (pos d)) + v.ba d := by
  have key := gate_at I.conv I.wa _ _ _ _ r (block0_at I.conv I.wa r) (block1_at I.conv I.wa r) (block2_at I.conv I.wa r) (block3_at I.conv I.wa r) d
  refine (congrArg (fun z : EReal => z + broadcastTo S256x1024 (shapeCast S1x1024 I.ba shapeCasts_S1x1024_S1x1024) broadcasts_S1x1024_S256x1024 (ix2 r d)) key).trans ?_
  pointwise
  rw [H.hba]
  congr 1
  exact Finset.sum_congr rfl fun k _ => by rw [H.conv, H.hwa]

/-- The input gate at an index. -/
theorem Ok.ig (r : Fin 256) (d : Fin 1024) : I.ig (ix2 r d) = v.i (t0 + r.val) d := by
  have key := gate_at I.conv I.wi _ _ _ _ r (block0_at I.conv I.wi r)
    (block1_at I.conv I.wi r)
    (block2_at I.conv I.wi r)
    (block3_at I.conv I.wi r) d
  refine (congrArg (fun z : EReal => Ideal.div (Ideal.ofBits .f32 0x3F800000#32) (Ideal.ofBits .f32 0x3F800000#32 + Ideal.exp (Ideal.ofBits .f32 0x00000000#32
    - (z + broadcastTo S256x1024 (shapeCast S1x1024 I.bi shapeCasts_S1x1024_S1x1024) broadcasts_S1x1024_S256x1024 (ix2 r d))))) key).trans ?_
  pointwise
  rw [H.hbi]
  unfold V.i sg
  rw [zero_sub]
  congr 5
  exact Finset.sum_congr rfl fun k _ => by rw [H.conv, H.hwi]

end Cert.KernelIdeal.Rg

end
-- ==== Proof.RgRead2.lean ====
/-
  The tile's vectors read at an index, part two: the decay, the scan and the states.
-/
module

public import proofs.«01_k».proof.Proof.RgRead1

@[expose] public section

set_option maxRecDepth 16384

noncomputable section

namespace Cert.KernelIdeal.Rg

open Idealize.ShloMosaic Idealize.ShloMosaic.WordCmp Cert.KernelIdeal Cert.KernelIdeal.Gen Cert.Rg
open scoped BigOperators

/-- The vector some rows back, the first rows at a constant. -/
def back (s : BitVec 32) (A : FVec Ideal S256x1024 .f32) (e : BitVec 32) : FVec Ideal S256x1024 .f32 :=
  select (cmpi .sge In.rows (broadcast S256x1024 s)) (dynamicRotate 0 s none A rotates_S256x1024_d0)
    (broadcast S256x1024 (Scalar.ofBits (F := Ideal) .f32 e))

/-- One doubling of the scan's factors. -/
def stepA (s : BitVec 32) (A : FVec Ideal S256x1024 .f32) : FVec Ideal S256x1024 .f32 := mulf A (back s A 0x3F800000#32)

/-- One doubling of the scan's terms. -/
def stepB (s : BitVec 32) (A B : FVec Ideal S256x1024 .f32) : FVec Ideal S256x1024 .f32 := addf (mulf A (back s B 0x00000000#32)) B

/-- The rows back, at an index. -/
theorem back_at (A : FVec Ideal S256x1024 .f32) (e : BitVec 32) (s : ℕ) (h0 : 0 < s) (hs : s < 256) (r : Fin 256) (d : Fin 1024) :
    back (BitVec.ofNat 32 s) A e (ix2 r d) = if s ≤ r.val then A (ix2 ⟨r.val - s, by omega⟩ d) else Ideal.ofBits .f32 e := by
  have hr := r.isLt
  unfold back
  pointwise
  rw [cmpi_sge_ofNat (w := 32) (a := r.val) (b := s) (by omega) (by omega), sel_ofBool]
  refine if_ctx_congr Iff.rfl (fun h => ?_) (fun _ => rfl)
  have e' : ∀ (p q : ℕ) (hp : p < 256) (hq : q < 256), p = q → A (ix2 ⟨p, hp⟩ d) = A (ix2 ⟨q, hq⟩ d) := by
    intro p q hp hq h; subst h; rfl
  refine e' _ _ _ _ ?_
  rw [toNat_ofNat_of_lt (w := 32) (a := s) (by omega)]
  omega

/-- A lane's column. -/
abbrev col (A : FVec Ideal S256x1024 .f32) (d : Fin 1024) : Fin 256 → EReal := fun r => A (ix2 r d)

/-- One doubling keeps the scan's invariant. -/
theorem step_inv {a b : ℕ → EReal} {A B : FVec Ideal S256x1024 .f32} {d : Fin 1024} (s : ℕ) (h0 : 0 < s) (hs : s < 256)
    (H : Inv a b s (col A d) (col B d)) :
    Inv a b (s + s) (col (stepA (BitVec.ofNat 32 s) A) d) (col (stepB (BitVec.ofNat 32 s) A B) d) := by
  have l1 : Ideal.ofBits .f32 0x3F800000#32 = (1 : EReal) := by
    simp [Ideal.ofBits, Ideal.ieee]; rw [← EReal.coe_mul]; norm_num
  have l0 : Ideal.ofBits .f32 0x00000000#32 = (0 : EReal) := by simp [Ideal.ofBits, Ideal.ieee]
  refine H.step (fun r => ?_) (fun r => ?_)
  · show A (ix2 r d) * back (BitVec.ofNat 32 s) A 0x3F800000#32 (ix2 r d) = _
    rw [back_at A _ s h0 hs, l1]
  · show A (ix2 r d) * back (BitVec.ofNat 32 s) B 0x00000000#32 (ix2 r d) + B (ix2 r d) = _
    rw [back_at B _ s h0 hs, l0]

/-- The scan's factors, doubled from one row to `2 ^ n`. -/
def scA (A : FVec Ideal S256x1024 .f32) : ℕ → FVec Ideal S256x1024 .f32
  | 0 => A
  | n + 1 => stepA (BitVec.ofNat 32 (2 ^ n)) (scA A n)

/-- The scan's terms, doubled from one row to `2 ^ n`. -/
def scB (A B : FVec Ideal S256x1024 .f32) : ℕ → FVec Ideal S256x1024 .f32
  | 0 => B
  | n + 1 => stepB (BitVec.ofNat 32 (2 ^ n)) (scA A n) (scB A B n)

/-- The scan's invariant after `n` doublings. -/
theorem sc_inv {a b : ℕ → EReal} {A B : FVec Ideal S256x1024 .f32} {d : Fin 1024} (H : Inv a b 1 (col A d) (col B d)) :
    ∀ n, n ≤ 8 → Inv a b (2 ^ n) (col (scA A n) d) (col (scB A B n) d)
  | 0, _ => H
  | n + 1, h => by
      have h2 : 2 ^ n < 256 := lt_of_le_of_lt (Nat.pow_le_pow_right (by omega) (by omega : n ≤ 7)) (by norm_num)
      rw [show 2 ^ (n + 1) = 2 ^ n + 2 ^ n by rw [pow_succ]; omega]
      exact step_inv (2 ^ n) (by positivity) h2 (sc_inv H n (by omega))

/-- The terms before the scan. -/
def b0 (I : In) : FVec Ideal S256x1024 .f32 := mulf (mulf I.g I.ig) I.conv

theorem a8_eq (I : In) : I.a8 = scA I.a 3 := rfl
theorem a8s_eq (I : In) : I.a8s = back 8#32 (scA I.a 3) 0x3F800000#32 := rfl
theorem b8_eq (I : In) : I.b8 = scB I.a (b0 I) 3 := rfl
theorem a128_eq (I : In) : I.a128 = scA I.a 7 := rfl
theorem b128_eq (I : In) : I.b128 = scB I.a (b0 I) 7 := rfl

/-- The tile's states are the last doubling's terms and the carried state through its factors. -/
theorem h_eq (I : In) : I.h = addf (scB I.a (b0 I) 8) (mulf (scA I.a 8) (broadcastTo S256x1024 I.hrow broadcasts_S1x1024_S256x1024)) := rfl

variable {v : V} {t0 : ℕ} {I : In} (H : Ok v t0 I)
include H

/-- The logarithm of the decay at an index. -/
theorem Ok.la (r : Fin 256) (d : Fin 1024) : k0_pay29 I.rpre I.lam (ix2 r d) = v.la (t0 + r.val) d := by
  unfold k0_pay29
  pointwise
  rw [H.rpre, H.hlam]
  unfold V.la V.r sg sp
  simp only [zero_sub]
  rfl

/-- The decay at an index. -/
theorem Ok.a (r : Fin 256) (d : Fin 1024) : I.a (ix2 r d) = v.a (t0 + r.val) d := by
  unfold In.a k0_pay30
  pointwise
  rw [H.la]
  rfl

/-- The terms before the scan at an index. -/
theorem Ok.b0 (r : Fin 256) (d : Fin 1024) : b0 I (ix2 r d) = v.b (t0 + r.val) d := by
  unfold Rg.b0 In.g k0_pay31 k0_pay30
  pointwise
  rw [H.la, H.ig, H.conv, gap_eq _ (la_nonpos v _ _)]
  rfl

/-- The states at an index. -/
theorem Ok.h (r : Fin 256) (d : Fin 1024) : I.h (ix2 r d) = v.h (t0 + r.val + 1) d := by
  have J := sc_inv (a := fun r => v.a (t0 + r) d) (b := fun r => v.b (t0 + r) d) (A := I.a) (B := Rg.b0 I) (d := d)
    (Inv.start (fun r => H.a r d) (fun r => H.b0 r d) (fun r => a_nonneg v _ d) (fun r => a_ne_top v _ d)) 8 le_rfl
  rw [h_eq, ← fold_h v t0 d 256 r.val r.isLt]
  refine Eq.trans ?_ (J.eq r (v.h t0 d))
  rw [add_comm]
  show _ + scA I.a 8 (ix2 r d) * _ = _
  unfold In.hrow
  pointwise
  rw [H.hhc]

/-- The gated states at an index. -/
theorem Ok.o (r : Fin 256) (d : Fin 1024) : I.o (ix2 r d) = v.h (t0 + r.val + 1) d * v.y (t0 + r.val) d := by
  show I.h (ix2 r d) * I.y (ix2 r d) = _
  rw [H.h, H.y]

/-- The carried rows at an index. -/
theorem Ok.un (r : Fin 8) (d : Fin 1024) : I.un (ix2 r d) = v.u (t0 + 248 + r.val) d := by
  unfold In.un k0_pay3
  pointwise
  rw [H.u]
  exact congrArg (fun n => v.u n d) (by show t0 + (248 + r.val) = _; omega)

/-- The carried states at an index. -/
theorem Ok.hn (r : Fin 8) (d : Fin 1024) : I.hn (ix2 r d) = v.h (t0 + 249 + r.val) d := by
  have e : I.hn = shapeCast S8x1024 (extractStridedSlice S8x1024 ![248, 0] I.h slices_S256x1024_o248_0_S8x1024) shapeCasts_S8x1024_S8x1024 := rfl
  rw [e]
  pointwise
  rw [H.h]
  exact congrArg (fun n => v.h n d) (by show t0 + (248 + r.val) + 1 = _; omega)

/-- The second result's block at an index. -/
theorem Ok.uo (r : Fin 8) (d : Fin 1024) : I.uo (ix3 0 r d) = v.u (t0 + 248 + r.val) d := by
  unfold In.uo k0_pay5
  pointwise
  rw [H.u]
  exact congrArg (fun n => v.u n d) (by show t0 + (248 + r.val) = _; omega)

/-- The third result's block at an index. -/
theorem Ok.ho (r : Fin 8) (d : Fin 1024) : I.ho (ix3 0 r d) = v.h (t0 + 249 + r.val) d := by
  have e : I.ho = shapeCast S1x8x1024 (extractStridedSlice S8x1024 ![248, 0] I.h slices_S256x1024_o248_0_S8x1024) shapeCasts_S8x1024_S1x8x1024 := rfl
  rw [e]
  pointwise
  rw [H.h]
  exact congrArg (fun n => v.h n d) (by show t0 + (248 + r.val) + 1 = _; omega)

end Cert.KernelIdeal.Rg

end
-- ==== Proof.RgBody.lean ====
/-
  What the kernel's run leaves at a grid point is the tile's named vectors, over the point's blocks and the state before.
-/
module

public import proofs.«01_k».proof.Proof.RgTile
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Rg

open Idealize.ShloMosaic Idealize.ShloMosaic.TcCoe Idealize.SL.Sem Cert.KernelIdeal Cert.KernelIdeal.Gen Cert.KernelIdeal.Value

variable (m : (ℓ : Loc nD τ sig) → Buf (Elt Ideal) ℓ)

/-- The state a grid point leaves: the three results' blocks, the three weights, the two carried blocks. -/
abbrev St : Type := Vec Ideal S256x1024 .bf16 × Vec Ideal S1x8x1024 .f32 × Vec Ideal S1x8x1024 .f32 × Vec Ideal S1024x2048 .bf16 ×
  Vec Ideal S4x256x256 .bf16 × Vec Ideal S4x256x256 .bf16 × Vec Ideal S8x1024 .f32 × Vec Ideal S8x1024 .f32

/-- The tile of a point inside a row: the weights and the carried blocks of the state before. -/
def tileB (c : Dev nD) (t : Fin cfg0.N) (acc : St) : In where
  x := iblk m c 0 t
  cw := iblk m c 2 t
  cb := iblk m c 3 t
  ba := iblk m c 5 t
  bi := iblk m c 7 t
  lam := iblk m c 8 t
  win := acc.2.2.2.1
  wa := acc.2.2.2.2.1
  wi := acc.2.2.2.2.2.1
  uc := acc.2.2.2.2.2.2.1
  hc := acc.2.2.2.2.2.2.2

/-- The tile of a row's first point: nothing is carried. -/
def tileC (c : Dev nD) (t : Fin cfg0.N) (acc : St) : In where
  __ := tileB m c t acc
  uc := (k0_pay10 : FVec Ideal S8x1024 .f32)
  hc := (k0_pay11 : FVec Ideal S8x1024 .f32)

/-- The tile of a core's first point: the weights are rounded from their blocks. -/
def tileA (c : Dev nD) (t : Fin cfg0.N) : In where
  x := iblk m c 0 t
  cw := iblk m c 2 t
  cb := iblk m c 3 t
  ba := iblk m c 5 t
  bi := iblk m c 7 t
  lam := iblk m c 8 t
  win := k0_pay7 (iblk m c 1 t)
  wa := k0_pay8 (iblk m c 4 t)
  wi := k0_pay9 (iblk m c 6 t)
  uc := (k0_pay10 : FVec Ideal S8x1024 .f32)
  hc := (k0_pay11 : FVec Ideal S8x1024 .f32)

/-- What a tile leaves as the state. -/
def In.st (I : In) : St := (I.o, I.uo, I.ho, I.win, I.wa, I.wi, I.un, I.hn)

/-- A point inside a row: the first result's block. -/
theorem st_B_o (c : Dev nD) (t : Fin cfg0.N) (acc : St) (h0 : ¬t.val % 64 = 0) (h1 : ¬t.val % 32 = 0) :
    (stAt0 m c t.val t.isLt acc).1 = (tileB m c t acc).o := by
  rw [stAt0_B m c t acc h0 h1]
  frame_out
  try simp only [read_unread_whole]
  try simp (disch := decide) only [View.readCov_fill]
  try rfl

/-- A point inside a row: the second result's block. -/
theorem st_B_uo (c : Dev nD) (t : Fin cfg0.N) (acc : St) (h0 : ¬t.val % 64 = 0) (h1 : ¬t.val % 32 = 0) :
    (stAt0 m c t.val t.isLt acc).2.1 = (tileB m c t acc).uo := by
  rw [stAt0_B m c t acc h0 h1]
  frame_out
  try simp only [read_unread_whole]
  try simp (disch := decide) only [View.readCov_fill]
  try rfl

/-- A point inside a row: the third result's block. -/
theorem st_B_ho (c : Dev nD) (t : Fin cfg0.N) (acc : St) (h0 : ¬t.val % 64 = 0) (h1 : ¬t.val % 32 = 0) :
    (stAt0 m c t.val t.isLt acc).2.2.1 = (tileB m c t acc).ho := by
  rw [stAt0_B m c t acc h0 h1]
  frame_out
  try simp only [read_unread_whole]
  try simp (disch := decide) only [View.readCov_fill]
  try rfl

/-- A point inside a row: the input projection. -/
theorem st_B_win (c : Dev nD) (t : Fin cfg0.N) (acc : St) (h0 : ¬t.val % 64 = 0) (h1 : ¬t.val % 32 = 0) :
    (stAt0 m c t.val t.isLt acc).2.2.2.1 = (tileB m c t acc).win := by
  rw [stAt0_B m c t acc h0 h1]
  frame_out
  try simp only [read_unread_whole]
  try simp (disch := decide) only [View.readCov_fill]
  try rfl

/-- A point inside a row: the recurrence gate's weights. -/
theorem st_B_wa (c : Dev nD) (t : Fin cfg0.N) (acc : St) (h0 : ¬t.val % 64 = 0) (h1 : ¬t.val % 32 = 0) :
    (stAt0 m c t.val t.isLt acc).2.2.2.2.1 = (tileB m c t acc).wa := by
  rw [stAt0_B m c t acc h0 h1]
  frame_out
  try simp only [read_unread_whole]
  try simp (disch := decide) only [View.readCov_fill]
  try rfl

/-- A point inside a row: the input gate's weights. -/
theorem st_B_wi (c : Dev nD) (t : Fin cfg0.N) (acc : St) (h0 : ¬t.val % 64 = 0) (h1 : ¬t.val % 32 = 0) :
    (stAt0 m c t.val t.isLt acc).2.2.2.2.2.1 = (tileB m c t acc).wi := by
  rw [stAt0_B m c t acc h0 h1]
  frame_out
  try simp only [read_unread_whole]
  try simp (disch := decide) only [View.readCov_fill]
  try rfl

/-- A point inside a row: the carried rows. -/
theorem st_B_un (c : Dev nD) (t : Fin cfg0.N) (acc : St) (h0 : ¬t.val % 64 = 0) (h1 : ¬t.val % 32 = 0) :
    (stAt0 m c t.val t.isLt acc).2.2.2.2.2.2.1 = (tileB m c t acc).un := by
  rw [stAt0_B m c t acc h0 h1]
  frame_out
  try simp only [read_unread_whole]
  try simp (disch := decide) only [View.readCov_fill]
  try rfl

/-- A point inside a row: the carried states. -/
theorem st_B_hn (c : Dev nD) (t : Fin cfg0.N) (acc : St) (h0 : ¬t.val % 64 = 0) (h1 : ¬t.val % 32 = 0) :
    (stAt0 m c t.val t.isLt acc).2.2.2.2.2.2.2 = (tileB m c t acc).hn := by
  rw [stAt0_B m c t acc h0 h1]
  frame_out
  try simp only [read_unread_whole]
  try simp (disch := decide) only [View.readCov_fill]
  try rfl

/-- A point inside a row: the whole state. -/
theorem st_B (c : Dev nD) (t : Fin cfg0.N) (acc : St) (h0 : ¬t.val % 64 = 0) (h1 : ¬t.val % 32 = 0) :
    stAt0 m c t.val t.isLt acc = (tileB m c t acc).st :=
  Prod.ext (st_B_o m c t acc h0 h1) (Prod.ext (st_B_uo m c t acc h0 h1) (Prod.ext (st_B_ho m c t acc h0 h1)
    (Prod.ext (st_B_win m c t acc h0 h1) (Prod.ext (st_B_wa m c t acc h0 h1) (Prod.ext (st_B_wi m c t acc h0 h1)
      (Prod.ext (st_B_un m c t acc h0 h1) (st_B_hn m c t acc h0 h1)))))))

/-- A row's first point: the first result's block. -/
theorem st_C_o (c : Dev nD) (t : Fin cfg0.N) (acc : St) (h0 : ¬t.val % 64 = 0) (h1 : t.val % 32 = 0) :
    (stAt0 m c t.val t.isLt acc).1 = (tileC m c t acc).o := by
  rw [stAt0_C m c t acc h0 h1]
  frame_out
  try simp only [read_unread_whole]
  try simp (disch := decide) only [View.readCov_fill]
  try rfl

/-- A row's first point: the second result's block. -/
theorem st_C_uo (c : Dev nD) (t : Fin cfg0.N) (acc : St) (h0 : ¬t.val % 64 = 0) (h1 : t.val % 32 = 0) :
    (stAt0 m c t.val t.isLt acc).2.1 = (tileC m c t acc).uo := by
  rw [stAt0_C m c t acc h0 h1]
  frame_out
  try simp only [read_unread_whole]
  try simp (disch := decide) only [View.readCov_fill]
  try rfl

/-- A row's first point: the third result's block. -/
theorem st_C_ho (c : Dev nD) (t : Fin cfg0.N) (acc : St) (h0 : ¬t.val % 64 = 0) (h1 : t.val % 32 = 0) :
    (stAt0 m c t.val t.isLt acc).2.2.1 = (tileC m c t acc).ho := by
  rw [stAt0_C m c t acc h0 h1]
  frame_out
  try simp only [read_unread_whole]
  try simp (disch := decide) only [View.readCov_fill]
  try rfl

/-- A row's first point: the input projection. -/
theorem st_C_win (c : Dev nD) (t : Fin cfg0.N) (acc : St) (h0 : ¬t.val % 64 = 0) (h1 : t.val % 32 = 0) :
    (stAt0 m c t.val t.isLt acc).2.2.2.1 = (tileC m c t acc).win := by
  rw [stAt0_C m c t acc h0 h1]
  frame_out
  try simp only [read_unread_whole]
  try simp (disch := decide) only [View.readCov_fill]
  try rfl

/-- A row's first point: the recurrence gate's weights. -/
theorem st_C_wa (c : Dev nD) (t : Fin cfg0.N) (acc : St) (h0 : ¬t.val % 64 = 0) (h1 : t.val % 32 = 0) :
    (stAt0 m c t.val t.isLt acc).2.2.2.2.1 = (tileC m c t acc).wa := by
  rw [stAt0_C m c t acc h0 h1]
  frame_out
  try simp only [read_unread_whole]
  try simp (disch := decide) only [View.readCov_fill]
  try rfl

/-- A row's first point: the input gate's weights. -/
theorem st_C_wi (c : Dev nD) (t : Fin cfg0.N) (acc : St) (h0 : ¬t.val % 64 = 0) (h1 : t.val % 32 = 0) :
    (stAt0 m c t.val t.isLt acc).2.2.2.2.2.1 = (tileC m c t acc).wi := by
  rw [stAt0_C m c t acc h0 h1]
  frame_out
  try simp only [read_unread_whole]
  try simp (disch := decide) only [View.readCov_fill]
  try rfl

/-- A row's first point: the carried rows. -/
theorem st_C_un (c : Dev nD) (t : Fin cfg0.N) (acc : St) (h0 : ¬t.val % 64 = 0) (h1 : t.val % 32 = 0) :
    (stAt0 m c t.val t.isLt acc).2.2.2.2.2.2.1 = (tileC m c t acc).un := by
  rw [stAt0_C m c t acc h0 h1]
  frame_out
  try simp only [read_unread_whole]
  try simp (disch := decide) only [View.readCov_fill]
  try rfl

/-- A row's first point: the carried states. -/
theorem st_C_hn (c : Dev nD) (t : Fin cfg0.N) (acc : St) (h0 : ¬t.val % 64 = 0) (h1 : t.val % 32 = 0) :
    (stAt0 m c t.val t.isLt acc).2.2.2.2.2.2.2 = (tileC m c t acc).hn := by
  rw [stAt0_C m c t acc h0 h1]
  frame_out
  try simp only [read_unread_whole]
  try simp (disch := decide) only [View.readCov_fill]
  try rfl

/-- A row's first point: the whole state. -/
theorem st_C (c : Dev nD) (t : Fin cfg0.N) (acc : St) (h0 : ¬t.val % 64 = 0) (h1 : t.val % 32 = 0) :
    stAt0 m c t.val t.isLt acc = (tileC m c t acc).st :=
  Prod.ext (st_C_o m c t acc h0 h1) (Prod.ext (st_C_uo m c t acc h0 h1) (Prod.ext (st_C_ho m c t acc h0 h1)
    (Prod.ext (st_C_win m c t acc h0 h1) (Prod.ext (st_C_wa m c t acc h0 h1) (Prod.ext (st_C_wi m c t acc h0 h1)
      (Prod.ext (st_C_un m c t acc h0 h1) (st_C_hn m c t acc h0 h1)))))))

/-- A core's first point: the first result's block. -/
theorem st_A_o (c : Dev nD) (t : Fin cfg0.N) (acc : St) (h0 : t.val % 64 = 0) (h1 : t.val % 32 = 0) :
    (stAt0 m c t.val t.isLt acc).1 = (tileA m c t).o := by
  rw [stAt0_A m c t acc h0 h1]
  frame_out
  try simp only [read_unread_whole]
  try simp (disch := decide) only [View.readCov_fill]
  try rfl

/-- A core's first point: the second result's block. -/
theorem st_A_uo (c : Dev nD) (t : Fin cfg0.N) (acc : St) (h0 : t.val % 64 = 0) (h1 : t.val % 32 = 0) :
    (stAt0 m c t.val t.isLt acc).2.1 = (tileA m c t).uo := by
  rw [stAt0_A m c t acc h0 h1]
  frame_out
  try simp only [read_unread_whole]
  try simp (disch := decide) only [View.readCov_fill]
  try rfl

/-- A core's first point: the third result's block. -/
theorem st_A_ho (c : Dev nD) (t : Fin cfg0.N) (acc : St) (h0 : t.val % 64 = 0) (h1 : t.val % 32 = 0) :
    (stAt0 m c t.val t.isLt acc).2.2.1 = (tileA m c t).ho := by
  rw [stAt0_A m c t acc h0 h1]
  frame_out
  try simp only [read_unread_whole]
  try simp (disch := decide) only [View.readCov_fill]
  try rfl

/-- A core's first point: the input projection. -/
theorem st_A_win (c : Dev nD) (t : Fin cfg0.N) (acc : St) (h0 : t.val % 64 = 0) (h1 : t.val % 32 = 0) :
    (stAt0 m c t.val t.isLt acc).2.2.2.1 = (tileA m c t).win := by
  rw [stAt0_A m c t acc h0 h1]
  frame_out
  try simp only [read_unread_whole]
  try simp (disch := decide) only [View.readCov_fill]
  try rfl

/-- A core's first point: the recurrence gate's weights. -/
theorem st_A_wa (c : Dev nD) (t : Fin cfg0.N) (acc : St) (h0 : t.val % 64 = 0) (h1 : t.val % 32 = 0) :
    (stAt0 m c t.val t.isLt acc).2.2.2.2.1 = (tileA m c t).wa := by
  rw [stAt0_A m c t acc h0 h1]
  frame_out
  try simp only [read_unread_whole]
  try simp (disch := decide) only [View.readCov_fill]
  try rfl

/-- A core's first point: the input gate's weights. -/
theorem st_A_wi (c : Dev nD) (t : Fin cfg0.N) (acc : St) (h0 : t.val % 64 = 0) (h1 : t.val % 32 = 0) :
    (stAt0 m c t.val t.isLt acc).2.2.2.2.2.1 = (tileA m c t).wi := by
  rw [stAt0_A m c t acc h0 h1]
  frame_out
  try simp only [read_unread_whole]
  try simp (disch := decide) only [View.readCov_fill]
  try rfl

/-- A core's first point: the carried rows. -/
theorem st_A_un (c : Dev nD) (t : Fin cfg0.N) (acc : St) (h0 : t.val % 64 = 0) (h1 : t.val % 32 = 0) :
    (stAt0 m c t.val t.isLt acc).2.2.2.2.2.2.1 = (tileA m c t).un := by
  rw [stAt0_A m c t acc h0 h1]
  frame_out
  try simp only [read_unread_whole]
  try simp (disch := decide) only [View.readCov_fill]
  try rfl

/-- A core's first point: the carried states. -/
theorem st_A_hn (c : Dev nD) (t : Fin cfg0.N) (acc : St) (h0 : t.val % 64 = 0) (h1 : t.val % 32 = 0) :
    (stAt0 m c t.val t.isLt acc).2.2.2.2.2.2.2 = (tileA m c t).hn := by
  rw [stAt0_A m c t acc h0 h1]
  frame_out
  try simp only [read_unread_whole]
  try simp (disch := decide) only [View.readCov_fill]
  try rfl

/-- A core's first point: the whole state. -/
theorem st_A (c : Dev nD) (t : Fin cfg0.N) (acc : St) (h0 : t.val % 64 = 0) (h1 : t.val % 32 = 0) :
    stAt0 m c t.val t.isLt acc = In.st (tileA m c t) :=
  Prod.ext (st_A_o m c t acc h0 h1) (Prod.ext (st_A_uo m c t acc h0 h1) (Prod.ext (st_A_ho m c t acc h0 h1)
    (Prod.ext (st_A_win m c t acc h0 h1) (Prod.ext (st_A_wa m c t acc h0 h1) (Prod.ext (st_A_wi m c t acc h0 h1)
      (Prod.ext (st_A_un m c t acc h0 h1) (st_A_hn m c t acc h0 h1)))))))

end Cert.KernelIdeal.Rg

end
-- ==== Proof.RgKernel.lean ====
/-
  The kernel's results, read at an index: the recurrence's values. By induction over the grid's points, each row of tokens
  (a batch element) swept by 32 tiles.
-/
module

public import proofs.«01_k».proof.Proof.RgRead2
public import proofs.«01_k».proof.Proof.RgBody

@[expose] public section

set_option maxRecDepth 16384

noncomputable section

namespace Cert.KernelIdeal.Rg

open Idealize.ShloMosaic Idealize.ShloMosaic.TcCoe Idealize.SL.Sem Cert.KernelIdeal Cert.KernelIdeal.Gen Cert.KernelIdeal.Value Cert.Rg

variable (m : (ℓ : Loc nD τ sig) → Buf (Elt Ideal) ℓ) (c : Dev nD)

/-- The layer's arguments for batch element `b`, read off the memory. -/
def spec (b : ℕ) : V where
  x t k := m ((c : Thread nD τ).loc main_arg0) (ix2 ⟨(8192 * b + t) % 16384, Nat.mod_lt _ (by decide)⟩ k)
  win k j := m ((c : Thread nD τ).loc main_arg1) (ix2 k j)
  cw p d := m ((c : Thread nD τ).loc main_arg2) (ix2 p d)
  cb d := m ((c : Thread nD τ).loc main_arg3) (ix1 d)
  wa n k j := m ((c : Thread nD τ).loc main_arg4) (ix3 n k j)
  ba d := m ((c : Thread nD τ).loc main_arg5) (ix1 d)
  wi n k j := m ((c : Thread nD τ).loc main_arg6) (ix3 n k j)
  bi d := m ((c : Thread nD τ).loc main_arg7) (ix1 d)
  lam d := m ((c : Thread nD τ).loc main_arg8) (ix1 d)

theorem idx0_facts : ∀ t : Fin cfg0.N, win0_0.index t (0 : Fin 2) = t.val ∧ win0_0.index t (1 : Fin 2) = 0 :=
  (by decide +kernel : ∀ t : Fin grid0.N, _)

theorem idx1_facts : ∀ t : Fin cfg0.N, win0_1.index t (0 : Fin 2) = 0 ∧ win0_1.index t (1 : Fin 2) = 0 :=
  (by decide +kernel : ∀ t : Fin grid0.N, _)
theorem idx2_facts : ∀ t : Fin cfg0.N, win0_2.index t (0 : Fin 2) = 0 ∧ win0_2.index t (1 : Fin 2) = 0 :=
  (by decide +kernel : ∀ t : Fin grid0.N, _)
theorem idx3_facts : ∀ t : Fin cfg0.N, win0_3.index t (0 : Fin 2) = 0 ∧ win0_3.index t (1 : Fin 2) = 0 :=
  (by decide +kernel : ∀ t : Fin grid0.N, _)
theorem idx4_facts : ∀ t : Fin cfg0.N, win0_4.index t (0 : Fin 3) = 0 ∧ win0_4.index t (1 : Fin 3) = 0 ∧ win0_4.index t (2 : Fin 3) = 0 :=
  (by decide +kernel : ∀ t : Fin grid0.N, _)
theorem idx5_facts : ∀ t : Fin cfg0.N, win0_5.index t (0 : Fin 2) = 0 ∧ win0_5.index t (1 : Fin 2) = 0 :=
  (by decide +kernel : ∀ t : Fin grid0.N, _)
theorem idx6_facts : ∀ t : Fin cfg0.N, win0_6.index t (0 : Fin 3) = 0 ∧ win0_6.index t (1 : Fin 3) = 0 ∧ win0_6.index t (2 : Fin 3) = 0 :=
  (by decide +kernel : ∀ t : Fin grid0.N, _)
theorem idx7_facts : ∀ t : Fin cfg0.N, win0_7.index t (0 : Fin 2) = 0 ∧ win0_7.index t (1 : Fin 2) = 0 :=
  (by decide +kernel : ∀ t : Fin grid0.N, _)
theorem idx8_facts : ∀ t : Fin cfg0.N, win0_8.index t (0 : Fin 2) = 0 ∧ win0_8.index t (1 : Fin 2) = 0 :=
  (by decide +kernel : ∀ t : Fin grid0.N, _)

/-- The tokens' block at a point. -/
theorem blk_x (t : Fin cfg0.N) (r : Fin 256) (k : Fin 1024) :
    iblk m c 0 t (ix2 r k) = (spec m c (t.val / 32)).x (256 * (t.val % 32) + r.val) k := by
  have hN : t.val < 64 := lt_of_lt_of_eq t.isLt (show cfg0.N = 64 from N_0)
  obtain ⟨e0, e1⟩ := idx0_facts t
  have hr := r.isLt
  unfold spec
  dsimp only
  blk_ext [iblk, Gen.V, idx0_facts t, e0, e1]

theorem blk_win (t : Fin cfg0.N) (k : Fin 1024) (j : Fin 2048) : iblk m c 1 t (ix2 k j) = m ((c : Thread nD τ).loc main_arg1) (ix2 k j) := by
  obtain ⟨e0, e1⟩ := idx1_facts t
  blk_ext [iblk, Gen.V, e0, e1]
theorem blk_cw (t : Fin cfg0.N) (k : Fin 4) (j : Fin 1024) : iblk m c 2 t (ix2 k j) = m ((c : Thread nD τ).loc main_arg2) (ix2 k j) := by
  obtain ⟨e0, e1⟩ := idx2_facts t
  blk_ext [iblk, Gen.V, e0, e1]
theorem blk_cb (t : Fin cfg0.N) (j : Fin 1024) : iblk m c 3 t (ix2 0 j) = m ((c : Thread nD τ).loc main_arg3) (ix1 j) := by
  obtain ⟨e0, e1⟩ := idx3_facts t
  blk_ext! [iblk, Gen.V, e0, e1]
theorem blk_wa (t : Fin cfg0.N) (n : Fin 4) (k j : Fin 256) : iblk m c 4 t (ix3 n k j) = m ((c : Thread nD τ).loc main_arg4) (ix3 n k j) := by
  obtain ⟨e0, e1, e2⟩ := idx4_facts t
  blk_ext [iblk, Gen.V, e0, e1, e2]
theorem blk_ba (t : Fin cfg0.N) (j : Fin 1024) : iblk m c 5 t (ix2 0 j) = m ((c : Thread nD τ).loc main_arg5) (ix1 j) := by
  obtain ⟨e0, e1⟩ := idx5_facts t
  blk_ext! [iblk, Gen.V, e0, e1]
theorem blk_wi (t : Fin cfg0.N) (n : Fin 4) (k j : Fin 256) : iblk m c 6 t (ix3 n k j) = m ((c : Thread nD τ).loc main_arg6) (ix3 n k j) := by
  obtain ⟨e0, e1, e2⟩ := idx6_facts t
  blk_ext [iblk, Gen.V, e0, e1, e2]
theorem blk_bi (t : Fin cfg0.N) (j : Fin 1024) : iblk m c 7 t (ix2 0 j) = m ((c : Thread nD τ).loc main_arg7) (ix1 j) := by
  obtain ⟨e0, e1⟩ := idx7_facts t
  blk_ext! [iblk, Gen.V, e0, e1]
theorem blk_lam (t : Fin cfg0.N) (j : Fin 1024) : iblk m c 8 t (ix2 0 j) = m ((c : Thread nD τ).loc main_arg8) (ix1 j) := by
  obtain ⟨e0, e1⟩ := idx8_facts t
  blk_ext! [iblk, Gen.V, e0, e1]

/-- The weights of a tile are the layer's, whatever the batch element. -/
structure Wok (I : In) : Prop where
  hwin : ∀ (k : Fin 1024) (j : Fin 2048), I.win (ix2 k j) = m ((c : Thread nD τ).loc main_arg1) (ix2 k j)
  hwa : ∀ (n : Fin 4) (k j : Fin 256), I.wa (ix3 n k j) = m ((c : Thread nD τ).loc main_arg4) (ix3 n k j)
  hwi : ∀ (n : Fin 4) (k j : Fin 256), I.wi (ix3 n k j) = m ((c : Thread nD τ).loc main_arg6) (ix3 n k j)

/-- A core's first tile is the layer's. -/
theorem ok_A (t : Fin cfg0.N) (h : t.val % 32 = 0) :
    Ok (spec m c (t.val / 32)) (256 * (t.val % 32)) (tileA m c t) where
  hx := blk_x m c t
  hwin k j := by
    show k0_pay7 (iblk m c 1 t) (ix2 k j) = _
    unfold_payloads; pointwise; exact blk_win m c t k j
  hcw := blk_cw m c t
  hcb := blk_cb m c t
  hba := blk_ba m c t
  hbi := blk_bi m c t
  hlam := blk_lam m c t
  hwa n k j := by
    show k0_pay8 (iblk m c 4 t) (ix3 n k j) = _
    unfold_payloads; pointwise; exact blk_wa m c t n k j
  hwi n k j := by
    show k0_pay9 (iblk m c 6 t) (ix3 n k j) = _
    unfold_payloads; pointwise; exact blk_wi m c t n k j
  huc r d := by
    show k0_pay10 (ix2 r d) = _
    rw [h]
    unfold_payloads; pointwise
    exact (if_neg (by have := r.isLt; omega)).symm
  hhc d := by
    show k0_pay11 (ix2 7 d) = _
    rw [h]
    unfold_payloads; pointwise
    rfl

/-- A row's first tile is the layer's, the weights being so. -/
theorem ok_C (t : Fin cfg0.N) (h : t.val % 32 = 0) (I : In) (b t0 : ℕ) (H : Ok (spec m c b) t0 I) :
    Ok (spec m c (t.val / 32)) (256 * (t.val % 32)) (tileC m c t I.st) where
  hx := blk_x m c t
  hwin := H.hwin
  hcw := blk_cw m c t
  hcb := blk_cb m c t
  hba := blk_ba m c t
  hbi := blk_bi m c t
  hlam := blk_lam m c t
  hwa := H.hwa
  hwi := H.hwi
  huc := (ok_A m c t h).huc
  hhc := (ok_A m c t h).hhc

/-- A tile inside a row is the layer's, the tile before being so. -/
theorem ok_B (t : Fin cfg0.N) (h : ¬t.val % 32 = 0) (I : In) (n : ℕ) (hn : t.val = n + 1) (H : Ok (spec m c (n / 32)) (256 * (n % 32)) I) :
    Ok (spec m c (t.val / 32)) (256 * (t.val % 32)) (tileB m c t I.st) where
  hx := blk_x m c t
  hwin := H.hwin
  hcw := blk_cw m c t
  hcb := blk_cb m c t
  hba := blk_ba m c t
  hbi := blk_bi m c t
  hlam := blk_lam m c t
  hwa := H.hwa
  hwi := H.hwi
  huc r d := by
    have hr := r.isLt
    refine (H.un r d).trans ?_
    rw [show t.val / 32 = n / 32 by omega]
    unfold V.ush
    rw [if_pos (by omega)]
    exact congrArg (fun n' => (spec m c (n / 32)).u n' d) (by omega)
  hhc d := by
    refine (H.hn 7 d).trans ?_
    rw [show t.val / 32 = n / 32 by omega]
    exact congrArg (fun n' => (spec m c (n / 32)).h n' d) (by show 256 * (n % 32) + 249 + 7 = _; omega)

/-- What every point leaves is a tile of the layer. -/
theorem outs_ok : ∀ (n : ℕ) (hn : n < cfg0.N), ∃ I : In, Ok (spec m c (n / 32)) (256 * (n % 32)) I ∧ outsAt0 m c n hn = I.st
  | 0, hn => ⟨tileA m c ⟨0, hn⟩, ok_A m c ⟨0, hn⟩ rfl, (outsAt0_zero m c hn).trans (st_A m c ⟨0, hn⟩ _ rfl rfl)⟩
  | n + 1, hn => by
      have hN : n + 1 < 64 := lt_of_lt_of_eq hn (show cfg0.N = 64 from N_0)
      obtain ⟨I, H, e⟩ := outs_ok n (Nat.lt_of_succ_lt hn)
      by_cases h : (n + 1) % 32 = 0
      · refine ⟨tileC m c ⟨n + 1, hn⟩ I.st, ok_C m c ⟨n + 1, hn⟩ h I _ _ H, ?_⟩
        rw [outsAt0_succ, e]
        exact st_C m c ⟨n + 1, hn⟩ _ (by show ¬(n + 1) % 64 = 0; omega) h
      · refine ⟨tileB m c ⟨n + 1, hn⟩ I.st, ok_B m c ⟨n + 1, hn⟩ h I n rfl H, ?_⟩
        rw [outsAt0_succ, e]
        exact st_B m c ⟨n + 1, hn⟩ _ (by show ¬(n + 1) % 64 = 0; omega) h

/-- The first result: the gated states. -/
theorem G9_at (i : Fin 16384) (d : Fin 1024) : G9 m c (ix2 i d)
    = (spec m c (i.val / 8192)).h (i.val % 8192 + 1) d * (spec m c (i.val / 8192)).y (i.val % 8192) d := by
  have hi := i.isLt
  have hd := d.isLt
  have hp : pt9Of (ix2 i d) = i.val / 256 := by
    show 1 * (i.val / 256 - 0) + 1 * (d.val / 1024 - 0) = _; omega
  have hb : i.val / 256 < cfg0.N := lt_of_lt_of_eq (show i.val / 256 < 64 by omega) (show 64 = cfg0.N from N_0.symm)
  obtain ⟨I, H, e⟩ := outs_ok m c (i.val / 256) hb
  have e' := (outsAt0_sweep m c (i.val / 256) hb).symm.trans e
  have hl : loc9Of (ix2 i d) = ix2 ⟨i.val % 256, by omega⟩ d := by
    funext a; apply Fin.ext
    match a with
    | ⟨0, _⟩ => rfl
    | ⟨1, _⟩ => show d.val % 1024 = d.val; omega
  unfold G9
  rw [dif_pos (by rw [hp]; exact hb), fold0_congr m c _ _ _ (by rw [Nat.zero_add]; exact hb) hp, e', hl]
  refine (H.o ⟨i.val % 256, by omega⟩ d).trans ?_
  rw [show i.val / 256 / 32 = i.val / 8192 by omega,
    show 256 * (i.val / 256 % 32) + (⟨i.val % 256, by omega⟩ : Fin 256).val = i.val % 8192 by show _ + i.val % 256 = _; omega]

/-- The second result: the last rows of the recurrent branch. -/
theorem G10_at (b : Fin 2) (r : Fin 8) (d : Fin 1024) : G10 m c (ix3 b r d) = (spec m c b.val).u (8184 + r.val) d := by
  have hb' := b.isLt
  have hr := r.isLt
  have hd := d.isLt
  have hp : pt10Of (ix3 b r d) = 32 * b.val + 31 := by
    show 32 * (1 * (b.val / 1 - 0) + 1 * (r.val / 8 - 0) + 1 * (d.val / 1024 - 0)) + 31 = _; omega
  have hb : 32 * b.val + 31 < cfg0.N := lt_of_lt_of_eq (show 32 * b.val + 31 < 64 by omega) (show 64 = cfg0.N from N_0.symm)
  obtain ⟨I, H, e⟩ := outs_ok m c (32 * b.val + 31) hb
  have e' := (outsAt0_sweep m c (32 * b.val + 31) hb).symm.trans e
  have hl : loc10Of (ix3 b r d) = ix3 0 r d := by
    funext a; apply Fin.ext
    match a with
    | ⟨0, _⟩ => show b.val % 1 = 0; omega
    | ⟨1, _⟩ => show r.val % 8 = r.val; omega
    | ⟨2, _⟩ => show d.val % 1024 = d.val; omega
  unfold G10
  rw [dif_pos (by rw [hp]; exact hb), fold0_congr m c _ _ _ (by rw [Nat.zero_add]; exact hb) hp, e', hl]
  refine (H.uo r d).trans ?_
  rw [show (32 * b.val + 31) / 32 = b.val by omega, show 256 * ((32 * b.val + 31) % 32) + 248 + r.val = 8184 + r.val by omega]

/-- The third result: the last states. -/
theorem G11_at (b : Fin 2) (r : Fin 8) (d : Fin 1024) : G11 m c (ix3 b r d) = (spec m c b.val).h (8185 + r.val) d := by
  have hb' := b.isLt
  have hr := r.isLt
  have hd := d.isLt
  have hp : pt11Of (ix3 b r d) = 32 * b.val + 31 := by
    show 32 * (1 * (b.val / 1 - 0) + 1 * (r.val / 8 - 0) + 1 * (d.val / 1024 - 0)) + 31 = _; omega
  have hb : 32 * b.val + 31 < cfg0.N := lt_of_lt_of_eq (show 32 * b.val + 31 < 64 by omega) (show 64 = cfg0.N from N_0.symm)
  obtain ⟨I, H, e⟩ := outs_ok m c (32 * b.val + 31) hb
  have e' := (outsAt0_sweep m c (32 * b.val + 31) hb).symm.trans e
  have hl : loc11Of (ix3 b r d) = ix3 0 r d := by
    funext a; apply Fin.ext
    match a with
    | ⟨0, _⟩ => show b.val % 1 = 0; omega
    | ⟨1, _⟩ => show r.val % 8 = r.val; omega
    | ⟨2, _⟩ => show d.val % 1024 = d.val; omega
  unfold G11
  rw [dif_pos (by rw [hp]; exact hb), fold0_congr m c _ _ _ (by rw [Nat.zero_add]; exact hb) hp, e', hl]
  refine (H.ho r d).trans ?_
  rw [show (32 * b.val + 31) / 32 = b.val by omega, show 256 * ((32 * b.val + 31) % 32) + 249 + r.val = 8185 + r.val by omega]

end Cert.KernelIdeal.Rg

end
-- ==== Proof.RgRefPre.lean ====
/-
  The reference's arrays before its loop, read at an index: the projections, the convolution, the gates, the decay and the
  recurrence's terms.
-/
module

public import proofs.«01_k».proof.Proof.RgScan
public import proofs.«01_k».proof.Proof.Gen.ReferenceIdeal.Run
public import Idealize.ShloMosaic.Lib.StableHlo.ReadAt

@[expose] public section

set_option maxRecDepth 16384

noncomputable section

namespace Cert.ReferenceIdeal.Rg

open Idealize.ShloMosaic Idealize.ShloMosaic.TcCoe Idealize.ShloMosaic.StableHlo Idealize.SL.Sem Cert.ReferenceIdeal Cert.ReferenceIdeal.Gen Cert.ReferenceIdeal.Value Cert.Rg
open scoped BigOperators

variable (m : (ℓ : Loc nD τ sig) → Buf (Elt Ideal) ℓ) (c : Dev nD)

/-- The layer's arguments for batch element `b`, read off the memory. -/
def spec (b : ℕ) : V where
  x t k := m ((c : Thread nD τ).loc main_arg0) (ix2 ⟨(8192 * b + t) % 16384, Nat.mod_lt _ (by decide)⟩ k)
  win k j := m ((c : Thread nD τ).loc main_arg1) (ix2 k j)
  cw p d := m ((c : Thread nD τ).loc main_arg2) (ix2 p d)
  cb d := m ((c : Thread nD τ).loc main_arg3) (ix1 d)
  wa n k j := m ((c : Thread nD τ).loc main_arg4) (ix3 n k j)
  ba d := m ((c : Thread nD τ).loc main_arg5) (ix1 d)
  wi n k j := m ((c : Thread nD τ).loc main_arg6) (ix3 n k j)
  bi d := m ((c : Thread nD τ).loc main_arg7) (ix1 d)
  lam d := m ((c : Thread nD τ).loc main_arg8) (ix1 d)

/-- The memory after the first stretch of host lines: projections, convolution and the first gate's product. -/
def W1 : Valuation τ sig (Elt Ideal) := after main_part0_ops0 (launchContents m c)

/-- The memory after the gates and the softplus of the decay parameter. -/
def W2 : Valuation τ sig (Elt Ideal) := after hostOps0_1 (after main_part1_ops0 (W1 m c))

/-- The memory where the loop starts. -/
theorem entry_eq : entryContents preI m c = after hostOps0_2 (W2 m c) := by
  unfold entryContents preI W2 W1
  rfl

/-- A real number, under its plain type. -/
abbrev er (z : EReal) : EReal := z

/-- A token's row of the flattened input. -/
theorem row_eq (b : Fin 2) (t : Fin 8192) (h : b.val * 8192 + t.val < 16384) :
    (⟨b.val * 8192 + t.val, h⟩ : Fin 16384) = ⟨(8192 * b.val + t.val) % 16384, Nat.mod_lt _ (by decide)⟩ :=
  Fin.ext (by show b.val * 8192 + t.val = (8192 * b.val + t.val) % 16384; have := b.isLt; have := t.isLt; omega)

/-- The input projection over the flattened input's rows. -/
theorem proj_eq (b : Fin 2) (t : Fin 8192) (j : Fin 2048) (h : b.val * 8192 + t.val < 16384) :
    (spec m c b.val).proj t.val j
      = ∑ k : Fin 1024, er (m ((c : Thread nD τ).loc main_arg0) (ix2 ⟨b.val * 8192 + t.val, h⟩ k)) * er (m ((c : Thread nD τ).loc main_arg1) (ix2 k j)) := by
  rw [row_eq]
  rfl

set_option maxHeartbeats 4000000 in
/-- The recurrent branch, where the concatenations read it. -/
theorem up_u (b : Fin 2) (t : Fin 8192) (d : Fin 1024) :
    upto main_part0_ops0 (launchContents m c) 23 (Proc.devRef .tc main_v16) (ix3 b t d) = (spec m c b.val).u t.val d := by
  after_reads_at
  exact (proj_eq m c b t _ _).symm

set_option maxHeartbeats 4000000 in
/-- The zero rows in front of it. -/
theorem up_z (b : Fin 2) (t : Fin 3) (d : Fin 1024) :
    upto main_part0_ops0 (launchContents m c) 23 (Proc.devRef .tc main_v17) (ix3 b t d) = (0 : EReal) := by
  after_reads_at

set_option maxHeartbeats 4000000 in
/-- The recurrent branch. -/
theorem W1_u (b : Fin 2) (t : Fin 8192) (d : Fin 1024) :
    W1 m c (Proc.devRef .tc main_v16) (ix3 b t d) = (spec m c b.val).u t.val d := by
  unfold W1
  after_reads_at
  exact (proj_eq m c b t _ _).symm

set_option maxHeartbeats 4000000 in
/-- The gate branch. -/
theorem W1_y (b : Fin 2) (t : Fin 8192) (d : Fin 1024) :
    W1 m c (Proc.devRef .tc main_v15) (ix3 b t d) = (spec m c b.val).y t.val d := by
  unfold W1
  after_reads_at
  exact congrArg gl (proj_eq m c b t _ (by have := b.isLt; have := t.isLt; omega)).symm

/-- A shifted read of the branch behind three zero rows is the branch some steps back. -/
theorem shift (b : Fin 2) (t : Fin 8192) (d : Fin 1024) (p s : ℕ) (hs : p + s = 3) :
    (if h : p + t.val < 3 then upto main_part0_ops0 (launchContents m c) 23 (Proc.devRef .tc main_v17) (ix3 b ⟨p + t.val, h⟩ d)
      else upto main_part0_ops0 (launchContents m c) 23 (Proc.devRef .tc main_v16) (ix3 b ⟨p + t.val - 3, by omega⟩ d))
      = (spec m c b.val).ush s t.val d := by
  unfold V.ush
  by_cases h : p + t.val < 3
  · rw [dif_pos h, up_z, if_neg (by omega)]
  · rw [dif_neg h, up_u, if_pos (by omega)]
    exact congrArg (fun t => (spec m c b.val).u t d) (by show p + t.val - 3 = t.val - s; omega)

set_option maxHeartbeats 4000000 in
/-- The convolution. -/
theorem W1_conv (b : Fin 2) (t : Fin 8192) (d : Fin 1024) :
    W1 m c (Proc.devRef .tc main_v50) (ix3 b t d) = (spec m c b.val).conv t.val d := by
  unfold W1
  after_reads_at
  have e0 := shift m c b t d 0 3 rfl
  simp only [Nat.zero_add] at e0
  have e3 : (spec m c b.val).u t.val d = (spec m c b.val).ush 0 t.val d := by
    unfold V.ush; rw [if_pos (Nat.zero_le _)]; rfl
  refine congrArg₂ (· + ·) rfl (congrArg₂ (· + ·) (congrArg₂ (· + ·) (congrArg₂ (· + ·) ?_ ?_) ?_) ?_)
  · exact congrArg₂ (· * ·) e0 rfl
  · exact congrArg₂ (· * ·) (shift m c b t d 1 2 rfl) rfl
  · exact congrArg₂ (· * ·) (shift m c b t d 2 1 rfl) rfl
  · exact congrArg₂ (· * ·) ((up_u m c b t d).trans e3) rfl

/-- The memory before the first gate's product. -/
def W0 : Valuation τ sig (Elt Ideal) := upto main_part0_ops0 (launchContents m c) 57

theorem W1_split : W1 m c = after (main_part0_ops0.drop 57) (W0 m c) := by
  unfold W1 W0
  rw [upto, ← after_append, List.take_append_drop]

variable (W : Valuation τ sig (Elt Ideal))

theorem W0_v50 : after (main_part0_ops0.drop 57) W (Proc.devRef .tc main_v50) = W (Proc.devRef .tc main_v50) := by
  simp only [main_part0_ops0, List.drop_succ_cons, List.drop_zero]
  after_reads_simp

theorem lane_eq (n : Fin 4) (k : Fin 256) (h : n.val * 256 + k.val < 1024) : (⟨n.val * 256 + k.val, h⟩ : Fin 1024) = lane n k :=
  Fin.ext (by show n.val * 256 + k.val = 256 * n.val + k.val; omega)

/-- The convolution, its lanes by block and position. -/
theorem W0_v51 (b : Fin 2) (t : Fin 8192) (n : Fin 4) (k : Fin 256) :
    after (main_part0_ops0.drop 57) W (Proc.devRef .tc main_v51) (ix4 b t n k) = W (Proc.devRef .tc main_v50) (ix3 b t (lane n k)) := by
  simp only [main_part0_ops0, List.drop_succ_cons, List.drop_zero]
  after_reads_at
  rw [lane_eq]

/-- The first gate's product over the convolution. -/
theorem W0_v53 (b : Fin 2) (t : Fin 8192) (n : Fin 4) (k : Fin 256) :
    after (main_part0_ops0.drop 57) W (Proc.devRef .tc main_v53) (ix4 b t n k)
      = ∑ j : Fin 256, er (W (Proc.devRef .tc main_v50) (ix3 b t (lane n j))) * er (W (Proc.devRef .tc main_arg4) (ix3 n j k)) := by
  simp only [main_part0_ops0, List.drop_succ_cons, List.drop_zero]
  after_reads_at
  refine Finset.sum_congr rfl fun x _ => ?_
  rw [lane_eq]
  exact mul_comm (er _) (er _)

theorem W0_arg4 : W0 m c (Proc.devRef .tc main_arg4) = m ((c : Thread nD τ).loc main_arg4) := by
  unfold W0
  after_reads_simp

set_option maxHeartbeats 4000000 in
/-- The recurrence gate, scaled. -/
theorem W2_r (b : Fin 2) (t : Fin 8192) (d : Fin 1024) :
    after hostOps0_1 (after main_part1_ops0 W) (Proc.devRef .tc main_v77) (ix3 b t d)
      = Ideal.ofBits .f32 0xC1000000#32 * sg (er (W (Proc.devRef .tc main_v53) (ix4 b t (blk d) (pos d))) + er (W (Proc.devRef .tc main_arg5) (ix1 d))) := by
  after_reads_at
  rfl

set_option maxHeartbeats 4000000 in
/-- The input gate. -/
theorem W2_i (b : Fin 2) (t : Fin 8192) (d : Fin 1024) :
    after hostOps0_1 (after main_part1_ops0 W) (Proc.devRef .tc main_v75) (ix3 b t d)
      = sg ((∑ k : Fin 256, er (W (Proc.devRef .tc main_v51) (ix4 b t (blk d) k)) * er (W (Proc.devRef .tc main_arg6) (ix3 (blk d) k (pos d)))) + er (W (Proc.devRef .tc main_arg7) (ix1 d))) := by
  after_reads_at
  refine congrArg sg (congrArg₂ (· + ·) (Finset.sum_congr rfl fun x _ => ?_) rfl)
  exact mul_comm (er _) (er _)

set_option maxHeartbeats 4000000 in
/-- The softplus of the negated decay parameter. -/
theorem W2_sp (d : Fin 1024) :
    after hostOps0_1 (after main_part1_ops0 W) (Proc.devRef .tc main_v79) (ix1 d)
      = sp (- er (W (Proc.devRef .tc main_arg8) (ix1 d))) := by
  after_reads_at
  rw [if_neg (fun h => h rfl)]
  rfl

theorem W2_v50 : after hostOps0_1 (after main_part1_ops0 W) (Proc.devRef .tc main_v50) = W (Proc.devRef .tc main_v50) := by
  after_reads_simp

theorem W2_v15 : after hostOps0_2 (after hostOps0_1 (after main_part1_ops0 W)) (Proc.devRef .tc main_v15) = W (Proc.devRef .tc main_v15) := by
  after_reads_simp

theorem W2_v16 : after hostOps0_2 (after hostOps0_1 (after main_part1_ops0 W)) (Proc.devRef .tc main_v16) = W (Proc.devRef .tc main_v16) := by
  after_reads_simp

set_option maxHeartbeats 4000000 in
/-- The decay over the two factors of its logarithm. -/
theorem E_a (b : Fin 2) (t : Fin 8192) (d : Fin 1024) :
    after hostOps0_2 W (Proc.devRef .tc main_v83) (ix3 b t d)
      = Ideal.exp (er (W (Proc.devRef .tc main_v77) (ix3 b t d)) * er (W (Proc.devRef .tc main_v79) (ix1 d))) := by
  after_reads_at

set_option maxHeartbeats 4000000 in
/-- What enters the state, over the arrays before. -/
theorem E_b (b : Fin 2) (t : Fin 8192) (d : Fin 1024) :
    after hostOps0_2 W (Proc.devRef .tc main_v90) (ix3 b t d)
      = Ideal.sqrt (-(Ideal.exp (Ideal.ofBits .f32 0x40000000#32 * (er (W (Proc.devRef .tc main_v77) (ix3 b t d)) * er (W (Proc.devRef .tc main_v79) (ix1 d)))) - 1))
        * er (W (Proc.devRef .tc main_v75) (ix3 b t d)) * er (W (Proc.devRef .tc main_v50) (ix3 b t d)) := by
  after_reads_at

theorem E_0 : after hostOps0_2 W (Proc.devRef .tc main_v92_0) = after hostOps0_2 W (Proc.devRef .tc main_v83) := by
  after_reads_simp
  rfl

theorem E_1 : after hostOps0_2 W (Proc.devRef .tc main_v92_1) = after hostOps0_2 W (Proc.devRef .tc main_v90) := by
  after_reads_simp
  rfl

theorem E_3 : after hostOps0_2 W (Proc.devRef .tc main_v92_3) = constantI S_ 32 0#32 := by
  after_reads_simp
  rfl

theorem E_4 : after hostOps0_2 W (Proc.devRef .tc main_v92_4) = broadcastInDim S2x8193x1024 ![] bcast_S_S2x8193x1024 (constant S_ .f32 0x00000000#32 : FVec Ideal S_ .f32) := by
  after_reads_simp
  rfl

theorem W1_arg5 : W1 m c (Proc.devRef .tc main_arg5) = m ((c : Thread nD τ).loc main_arg5) := by
  unfold W1
  after_reads_simp
theorem W1_arg6 : W1 m c (Proc.devRef .tc main_arg6) = m ((c : Thread nD τ).loc main_arg6) := by
  unfold W1
  after_reads_simp
theorem W1_arg7 : W1 m c (Proc.devRef .tc main_arg7) = m ((c : Thread nD τ).loc main_arg7) := by
  unfold W1
  after_reads_simp
theorem W1_arg8 : W1 m c (Proc.devRef .tc main_arg8) = m ((c : Thread nD τ).loc main_arg8) := by
  unfold W1
  after_reads_simp

theorem W0_conv (b : Fin 2) (t : Fin 8192) (d : Fin 1024) :
    W0 m c (Proc.devRef .tc main_v50) (ix3 b t d) = (spec m c b.val).conv t.val d := by
  rw [← W1_conv, W1_split, W0_v50]

/-- The logarithm of the decay. -/
theorem W2_la (b : Fin 2) (t : Fin 8192) (d : Fin 1024) :
    er (W2 m c (Proc.devRef .tc main_v77) (ix3 b t d)) * er (W2 m c (Proc.devRef .tc main_v79) (ix1 d)) = (spec m c b.val).la t.val d := by
  unfold W2
  rw [W2_r, W2_sp, W1_arg5, W1_arg8, W1_split, W0_v53, W0_arg4]
  refine congrArg₂ (· * ·) (congrArg₂ (· * ·) rfl (congrArg sg (congrArg₂ (· + ·) (Finset.sum_congr rfl fun j _ => ?_) rfl))) rfl
  exact congrArg₂ (· * ·) (W0_conv m c b t _) rfl

/-- The input gate over the arguments. -/
theorem W2_ig (b : Fin 2) (t : Fin 8192) (d : Fin 1024) :
    W2 m c (Proc.devRef .tc main_v75) (ix3 b t d) = (spec m c b.val).i t.val d := by
  unfold W2
  rw [W2_i, W1_arg6, W1_arg7, W1_split]
  refine congrArg sg (congrArg₂ (· + ·) (Finset.sum_congr rfl fun j _ => ?_) rfl)
  exact congrArg₂ (· * ·) ((W0_v51 _ b t _ j).trans (W0_conv m c b t _)) rfl

/-- The decay the loop reads. -/
theorem pre_a (b : Fin 2) (t : Fin 8192) (d : Fin 1024) :
    entryContents preI m c (Proc.devRef .tc main_v92_0) (ix3 b t d) = (spec m c b.val).a t.val d := by
  rw [entry_eq, E_0, E_a, W2_la]
  rfl

/-- What enters the state, as the loop reads it. -/
theorem pre_b (b : Fin 2) (t : Fin 8192) (d : Fin 1024) :
    entryContents preI m c (Proc.devRef .tc main_v92_1) (ix3 b t d) = (spec m c b.val).b t.val d := by
  rw [entry_eq, E_1, E_b, W2_la, W2_ig]
  unfold W2
  rw [W2_v50, W1_conv]
  rfl

/-- The loop's index starts at zero. -/
theorem pre_ctr : entryContents preI m c (Proc.devRef .tc main_v92_3) = constantI S_ 32 0#32 := by
  rw [entry_eq, E_3]

/-- The states start as zeros. -/
theorem pre_h (b : Fin 2) (t : Fin 8193) (d : Fin 1024) :
    entryContents preI m c (Proc.devRef .tc main_v92_4) (ix3 b t d) = (0 : EReal) := by
  rw [entry_eq, E_4]
  pointwise

/-- The gate branch is still there when the loop starts. -/
theorem pre_y (b : Fin 2) (t : Fin 8192) (d : Fin 1024) :
    entryContents preI m c (Proc.devRef .tc main_v15) (ix3 b t d) = (spec m c b.val).y t.val d := by
  rw [entry_eq]
  unfold W2
  rw [W2_v15, W1_y]

/-- The recurrent branch is still there when the loop starts. -/
theorem pre_u (b : Fin 2) (t : Fin 8192) (d : Fin 1024) :
    entryContents preI m c (Proc.devRef .tc main_v16) (ix3 b t d) = (spec m c b.val).u t.val d := by
  rw [entry_eq]
  unfold W2
  rw [W2_v16, W1_u]

end Cert.ReferenceIdeal.Rg

end
-- ==== Proof.RgRefLoop.lean ====
/-
  The reference's loop: after `k` trips the rows `0 … k` of the carried array are the states of the recurrence.
-/
module

public import proofs.«01_k».proof.Proof.RgRefPre
public import Idealize.ShloMosaic.Lib.WordCmp
public import Idealize.ShloMosaic.Lib.DynamicIndex

@[expose] public section

set_option maxRecDepth 16384

noncomputable section

namespace Cert.ReferenceIdeal.Rg

open Idealize.ShloMosaic Idealize.ShloMosaic.TcCoe Idealize.ShloMosaic.StableHlo Idealize.ShloMosaic.WordCmp Idealize.SL.Sem
open Cert.ReferenceIdeal Cert.ReferenceIdeal.Gen Cert.ReferenceIdeal.Value Cert.Rg

/-- jax's start of a row at the number `n`: zero, `n`, zero. -/
theorem start_row (n : ℕ) (hn : n < 2 ^ 31) (D : IVec S_ 32) (i : S_.Idx) (a : Fin 3) :
    (((![constantI S_ 32 0#32, select (cmpi .slt (constantI S_ 32 (BitVec.ofNat 32 n)) (constantI S_ 32 0#32))
        (addi (constantI S_ 32 (BitVec.ofNat 32 n)) D) (constantI S_ 32 (BitVec.ofNat 32 n)), constantI S_ 32 0#32]
        : Fin 3 → IVec S_ 32)) a i).toInt = ((![0, n, 0] : Fin 3 → ℕ) a : Int) := by
  fin_cases a
  · rfl
  · exact toInt_wrap_ofNat n hn
  · rfl

/-- A row of the carried array fits. -/
theorem row_fits (n : ℕ) (hn : n < 8193) : S2x8193x1024.Slices ![0, n, 0] S2x1x1024 :=
  ⟨rfl, fun a => by fin_cases a <;> simp [S2x8193x1024, S2x1x1024] <;> omega⟩

/-- A row of the decay fits. -/
theorem row_fits' (n : ℕ) (hn : n < 8192) : S2x8192x1024.Slices ![0, n, 0] S2x1x1024 :=
  ⟨rfl, fun a => by fin_cases a <;> simp [S2x8192x1024, S2x1x1024] <;> omega⟩

variable (W : Valuation τ sig (Elt Ideal))

set_option maxHeartbeats 4000000 in
/-- One trip at the index `k` writes the row `k + 1`. -/
theorem step_at (k : ℕ) (hk : k < 8192) (hc : W (Proc.devRef .tc main_v92_3) = constantI S_ 32 (BitVec.ofNat 32 k))
    (b : Fin 2) (r : Fin 8193) (d : Fin 1024) :
    step_main_v92_4 W (ix3 b r d) = if r.val = k + 1 then
        er (W (Proc.devRef .tc main_v92_0) (ix3 b ⟨k, hk⟩ d)) * er (W (Proc.devRef .tc main_v92_4) (ix3 b ⟨k, by omega⟩ d))
          + er (W (Proc.devRef .tc main_v92_1) (ix3 b ⟨k, hk⟩ d))
      else er (W (Proc.devRef .tc main_v92_4) (ix3 b r d)) := by
  unfold step_main_v92_4 res_main_while0b_v117
  rw [hc]
  have e1 : addi (constantI S_ 32 (BitVec.ofNat 32 k)) (constantI S_ 32 1#32) = constantI S_ 32 (BitVec.ofNat 32 (k + 1)) := by
    funext j
    show BitVec.ofNat 32 k + 1#32 = BitVec.ofNat 32 (k + 1)
    exact (BitVec.ofNat_add k 1).symm
  rw [e1]
  simp only [id]
  rw [dynamicUpdateSlice_eq_update _ _ _ _ ![0, k + 1, 0] (row_fits (k + 1) (by omega)) (fun a => start_row (k + 1) (by omega) _ _ a),
    Host.dynamicSlice_eq_extractStridedSlice S2x1x1024 (W (Proc.devRef .tc main_v92_4) : S2x8193x1024.Idx → EReal) _ ![0, k, 0] _
      (row_fits k (by omega)) (fun a => start_row k (by omega) _ _ a),
    Host.dynamicSlice_eq_extractStridedSlice S2x1x1024 (W (Proc.devRef .tc main_v92_0) : S2x8192x1024.Idx → EReal) _ ![0, k, 0] _
      (row_fits' k hk) (fun a => start_row k (by omega) _ _ a),
    Host.dynamicSlice_eq_extractStridedSlice S2x1x1024 (W (Proc.devRef .tc main_v92_1) : S2x8192x1024.Idx → EReal) _ ![0, k, 0] _
      (row_fits' k hk) (fun a => start_row k (by omega) _ _ a)]
  pointwise
  by_cases hr : r.val = k + 1
  · rw [if_pos hr]
    have e : ∀ (h : k + (r.val - (k + 1)) < 8192), (⟨k + (r.val - (k + 1)), h⟩ : Fin 8192) = ⟨k, hk⟩ := fun h => Fin.ext (by show k + (r.val - (k + 1)) = k; omega)
    have e' : ∀ (h : k + (r.val - (k + 1)) < 8193), (⟨k + (r.val - (k + 1)), h⟩ : Fin 8193) = ⟨k, by omega⟩ := fun h => Fin.ext (by show k + (r.val - (k + 1)) = k; omega)
    refine (dif_pos fun a => ?_).trans ?_
    · have hb := b.isLt
      have hd := d.isLt
      fin_cases a
      · show 0 ≤ b.val ∧ b.val < 0 + 2; omega
      · show k + 1 ≤ r.val ∧ r.val < k + 1 + 1; omega
      · show 0 ≤ d.val ∧ d.val < 0 + 1024; omega
    · rw [e, e']
  · rw [if_neg hr]
    refine dif_neg fun h => hr ?_
    have h1 : k + 1 ≤ r.val ∧ r.val < k + 1 + 1 := h 1
    omega

variable (m : (ℓ : Loc nD τ sig) → Buf (Elt Ideal) ℓ) (c : Dev nD)

/-- The carried buffers after `k` trips: the decay and the terms are unchanged, the index is `k`, the rows up to `k` are
    the states. -/
theorem trips (k : ℕ) (hk : k ≤ 8192) :
    (STEP^[k] (entryContents preI m c)) (Proc.devRef .tc main_v92_0) = entryContents preI m c (Proc.devRef .tc main_v92_0) ∧
    (STEP^[k] (entryContents preI m c)) (Proc.devRef .tc main_v92_1) = entryContents preI m c (Proc.devRef .tc main_v92_1) ∧
    (STEP^[k] (entryContents preI m c)) (Proc.devRef .tc main_v92_3) = constantI S_ 32 (BitVec.ofNat 32 k) ∧
    ∀ (b : Fin 2) (r : Fin 8193) (d : Fin 1024), r.val ≤ k →
      (STEP^[k] (entryContents preI m c)) (Proc.devRef .tc main_v92_4) (ix3 b r d) = (spec m c b.val).h r.val d := by
  induction k with
  | zero =>
    refine ⟨rfl, rfl, pre_ctr m c, fun b r d hr => ?_⟩
    rw [Nat.le_zero.mp hr]
    exact pre_h m c b r d
  | succ k ih =>
    obtain ⟨h0, h1, h3, h4⟩ := ih (by omega)
    rw [Function.iterate_succ_apply']
    refine ⟨(STEP_main_v92_0 _).trans h0, (STEP_main_v92_1 _).trans h1, ?_, fun b r d hr => ?_⟩
    · rw [STEP_main_v92_3]
      unfold step_main_v92_3
      rw [h3]
      funext j
      show BitVec.ofNat 32 k + 1#32 = BitVec.ofNat 32 (k + 1)
      exact (BitVec.ofNat_add k 1).symm
    · rw [STEP_main_v92_4, step_at _ k (by omega) h3]
      by_cases e : r.val = k + 1
      · rw [if_pos e, e, h0, h1, pre_a, pre_b, h4 b ⟨k, by omega⟩ d (le_refl _)]
        rfl
      · rw [if_neg e]
        exact h4 b r d (by omega)

/-- The memory where the loop ends. -/
def Wend : Valuation τ sig (Elt Ideal) := after condOps (atK m 8192 c)

/-- The states the loop leaves. -/
theorem end_h (b : Fin 2) (r : Fin 8193) (d : Fin 1024) :
    Wend m c (Proc.devRef .tc main_v92_4) (ix3 b r d) = (spec m c b.val).h r.val d := by
  unfold Wend
  rw [cond_keeps _ main_v92_4 (by decide), atK_agree m c 8192 main_v92_4 (by decide)]
  exact (trips m c 8192 (le_refl _)).2.2.2 b r d (by omega)

/-- A buffer that neither the condition nor the body writes keeps its contents at the loop's start. -/
theorem end_keeps (r : Ref sig .tc) (h1 : r ∉ while0Ops0_W) (h2 : r ∉ condOps_W) :
    Wend m c (Proc.devRef .tc r) = entryContents preI m c (Proc.devRef .tc r) := by
  unfold Wend
  rw [after_of_writes_sub condOps _ condOps_writes h2]
  have key : ∀ k, atK m k c (Proc.devRef .tc r) = entryContents preI m c (Proc.devRef .tc r) := fun k => by
    induction k with
    | zero => rfl
    | succ k ih =>
      rw [show atK m (k + 1) c = afterL bodyI (after condOps (atK m k c)) from rfl]
      exact (after_of_writes_sub while0Ops0 _ while0Ops0_writes h1).trans ((after_of_writes_sub condOps _ condOps_writes h2).trans ih)
  exact key 8192

/-- What the lines after the loop leave, over the loop's last memory. -/
theorem final_eq : finalContents condOps preI bodyI postI 8192 m c = after hostOps0_3 (Wend m c) := by
  rfl

/-- The gated states. -/
theorem fin_0 (i : Fin 16384) (d : Fin 1024) :
    after hostOps0_3 W (Proc.devRef .tc main_v96) (ix2 i d)
      = er (W (Proc.devRef .tc main_v92_4) (ix3 ⟨i.val / 8192, by omega⟩ ⟨i.val % 8192 + 1, by omega⟩ d))
        * er (W (Proc.devRef .tc main_v15) (ix3 ⟨i.val / 8192, by omega⟩ ⟨i.val % 8192, by omega⟩ d)) := by
  after_reads_at
  refine congrArg₂ (· * ·) ?_ rfl
  exact congrArg (fun r => er (W (Proc.devRef .tc main_v92_4) (ix3 ⟨i.val / 8192, by omega⟩ r d)))
    (Fin.ext (by show 1 + i.val % 8192 = i.val % 8192 + 1; omega))

/-- The last rows of the recurrent branch. -/
theorem fin_1 (b : Fin 2) (r : Fin 8) (d : Fin 1024) :
    after hostOps0_3 W (Proc.devRef .tc main_v97) (ix3 b r d) = W (Proc.devRef .tc main_v16) (ix3 b ⟨8184 + r.val, by omega⟩ d) := by
  after_reads_at

/-- The last states. -/
theorem fin_2 (b : Fin 2) (r : Fin 8) (d : Fin 1024) :
    after hostOps0_3 W (Proc.devRef .tc main_v98) (ix3 b r d) = W (Proc.devRef .tc main_v92_4) (ix3 b ⟨8185 + r.val, by omega⟩ d) := by
  after_reads_at
  exact congrArg (fun r => W (Proc.devRef .tc main_v92_4) (ix3 b r d)) (Fin.ext (by show 1 + (8184 + r.val) = 8185 + r.val; omega))

variable (ρ : Dev nD → PrngReg)

/-- The reference's first result: the states times the gate branch, by token. -/
theorem out_0 (i : Fin 16384) (d : Fin 1024) :
    finalContents condOps preI bodyI postI 8192 m c (Proc.devRef .tc main_v96) (ix2 i d)
      = (spec m c (i.val / 8192)).h (i.val % 8192 + 1) d * (spec m c (i.val / 8192)).y (i.val % 8192) d := by
  rw [final_eq, fin_0, end_h, end_keeps m c main_v15 (by decide) (by decide), pre_y]

/-- The reference's second result: the last rows of the recurrent branch. -/
theorem out_1 (b : Fin 2) (r : Fin 8) (d : Fin 1024) :
    finalContents condOps preI bodyI postI 8192 m c (Proc.devRef .tc main_v97) (ix3 b r d) = (spec m c b.val).u (8184 + r.val) d := by
  rw [final_eq, fin_1, end_keeps m c main_v16 (by decide) (by decide), pre_u]

/-- The reference's third result: the last states. -/
theorem out_2 (b : Fin 2) (r : Fin 8) (d : Fin 1024) :
    finalContents condOps preI bodyI postI 8192 m c (Proc.devRef .tc main_v98) (ix3 b r d) = (spec m c b.val).h (8185 + r.val) d := by
  rw [final_eq, fin_2, end_h]

end Cert.ReferenceIdeal.Rg

end
-- ==== Proof.RgClaim.lean ====
/-
  The two runs meet: kernel and reference end with the same three results, both read as the recurrence over the layer's
  arguments.
-/
module

public import proofs.«01_k».proof.Proof.RgKernel
public import proofs.«01_k».proof.Proof.RgRefLoop
public import proofs.«01_k».proof.Defs

@[expose] public section

set_option maxRecDepth 16384

noncomputable section

namespace Cert.ReferenceIdeal.Rg

open Idealize.ShloMosaic Idealize.ShloMosaic.TcCoe Idealize.ShloMosaic.StableHlo Idealize.SL.Sem
open Cert.ReferenceIdeal Cert.ReferenceIdeal.Gen Cert.ReferenceIdeal.Value Cert.Rg

variable (m : (ℓ : Loc nD τ sig) → Buf (Elt Ideal) ℓ) (c : Dev nD)

/-- What the lines after the loop write. -/
abbrev tailW : List (Ref sig .tc) := [main_v93, main_v94, main_v95, main_v96, main_v97, main_v98]

theorem tail_writes : (hostOps0_3 : List (HloOp τ sig (Elt Ideal))).Forall fun op => op.writes ⊆ (tailW.map (Proc.devRef (τ := τ) .tc)).toFinset :=
  StableHlo.forall_writes_sub_of_map rfl

/-- A buffer no line of the reference writes ends as it started. -/
theorem out_keeps (r : Ref sig .tc) (h0 : r ∉ hostOps0_W) (h1 : r ∉ hostOps0_1_W) (h2 : r ∉ hostOps0_2_W) (hw : r ∉ while0Ops0_W)
    (hc : r ∉ condOps_W) (h3 : r ∉ tailW) :
    finalContents condOps preI bodyI postI 8192 m c (Proc.devRef .tc r) = m ((c : Thread nD τ).loc r) := by
  rw [final_eq, after_of_writes_sub hostOps0_3 _ tail_writes h3, end_keeps m c r hw hc]
  exact (after_of_writes_sub hostOps0_2 _ hostOps0_2_writes h2).trans
    ((after_of_writes_sub hostOps0_1 _ hostOps0_1_writes h1).trans
      (after_of_writes_sub hostOps0 _ hostOps0_writes h0))

/-- The reference's run: its three results at the loop's last memory, its arguments unchanged. -/
theorem run (ρ : Dev nD → PrngReg) : θ_run (defs (F := Ideal)) (onTc (τ := τ) (main (F := Ideal))) ⟨m, fun _ => 0, ρ⟩
    (fun r => ∀ c : Dev nD,
      r.2.mem ((c.tc : Thread nD τ).loc main_v96) = finalContents condOps preI bodyI postI 8192 m c (Proc.devRef .tc main_v96)
      ∧ r.2.mem ((c.tc : Thread nD τ).loc main_v97) = finalContents condOps preI bodyI postI 8192 m c (Proc.devRef .tc main_v97)
      ∧ r.2.mem ((c.tc : Thread nD τ).loc main_v98) = finalContents condOps preI bodyI postI 8192 m c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    refine ⟨h c main_v96 (by decide), h c main_v97 (by decide), h c main_v98 (by decide), ?_, ?_, ?_, ?_, ?_, ?_, ?_, ?_, ?_⟩
    · exact (h c main_arg0 (by decide)).trans (out_keeps m c main_arg0 (by decide) (by decide) (by decide) (by decide) (by decide) (by decide))
    · exact (h c main_arg1 (by decide)).trans (out_keeps m c main_arg1 (by decide) (by decide) (by decide) (by decide) (by decide) (by decide))
    · exact (h c main_arg2 (by decide)).trans (out_keeps m c main_arg2 (by decide) (by decide) (by decide) (by decide) (by decide) (by decide))
    · exact (h c main_arg3 (by decide)).trans (out_keeps m c main_arg3 (by decide) (by decide) (by decide) (by decide) (by decide) (by decide))
    · exact (h c main_arg4 (by decide)).trans (out_keeps m c main_arg4 (by decide) (by decide) (by decide) (by decide) (by decide) (by decide))
    · exact (h c main_arg5 (by decide)).trans (out_keeps m c main_arg5 (by decide) (by decide) (by decide) (by decide) (by decide) (by decide))
    · exact (h c main_arg6 (by decide)).trans (out_keeps m c main_arg6 (by decide) (by decide) (by decide) (by decide) (by decide) (by decide))
    · exact (h c main_arg7 (by decide)).trans (out_keeps m c main_arg7 (by decide) (by decide) (by decide) (by decide) (by decide) (by decide))
    · exact (h c main_arg8 (by decide)).trans (out_keeps m c main_arg8 (by decide) (by decide) (by decide) (by decide) (by decide) (by decide)))
    (run_fold m ρ)

end Cert.ReferenceIdeal.Rg

namespace Cert.Proof.Rg

open Idealize.ShloMosaic Idealize.ShloMosaic.TcCoe Idealize.SL.Sem Cert.Rg

/-- The reference ends with its arguments unchanged; it has no semaphores. -/
theorem frame_ref : Cert.quiescent_ReferenceIdeal (hReferenceIdeal := Cert.ReferenceIdeal.Gen.facts) := fun m ρ _ =>
  (θ_run Cert.ReferenceIdeal.defs _ _).mono
    (fun r h => ⟨fun c => (h c).2.2.2, Idealize.ShloMosaic.sem_eq_zero_of_no_sems (by decide) r.2⟩)
    (Cert.ReferenceIdeal.Rg.run m ρ)

/-- Kernel and reference end with equal results on equal arguments. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Value.G9 m c, fun c => Cert.KernelIdeal.Value.G10 m c, fun c => Cert.KernelIdeal.Value.G11 m c,
    Cert.KernelIdeal.Value.run (F := Ideal) m ρ, ?_⟩
  have hs : ∀ (c : Dev Cert.KernelIdeal.nD) (b : ℕ), Cert.ReferenceIdeal.Rg.spec m' c b = Cert.KernelIdeal.Rg.spec m c b := fun c b => by
    obtain ⟨a0, a1, a2, a3, a4, a5, a6, a7, a8⟩ := hagree c
    unfold Cert.ReferenceIdeal.Rg.spec Cert.KernelIdeal.Rg.spec
    simp only [a0, a1, a2, a3, a4, a5, a6, a7, a8]
  refine (θ_run _ _ _).mono (fun r h c => ⟨(h c).1.trans ?_, (h c).2.1.trans ?_, (h c).2.2.1.trans ?_, (h c).2.2.2⟩)
    (Cert.ReferenceIdeal.Rg.run m' ρ')
  · funext j
    obtain ⟨i, d, rfl⟩ : ∃ (i : Fin 16384) (d : Fin 1024), j = ix2 i d := ⟨j 0, j 1, by funext a; fin_cases a <;> rfl⟩
    exact ((Cert.ReferenceIdeal.Rg.out_0 m' c i d).trans (by rw [hs c])).trans (Cert.KernelIdeal.Rg.G9_at m c i d).symm
  · funext j
    obtain ⟨b, t, d, rfl⟩ : ∃ (b : Fin 2) (t : Fin 8) (d : Fin 1024), j = ix3 b t d := ⟨j 0, j 1, j 2, by funext a; fin_cases a <;> rfl⟩
    exact ((Cert.ReferenceIdeal.Rg.out_1 m' c b t d).trans (by rw [hs c])).trans (Cert.KernelIdeal.Rg.G10_at m c b t d).symm
  · funext j
    obtain ⟨b, t, d, rfl⟩ : ∃ (b : Fin 2) (t : Fin 8) (d : Fin 1024), j = ix3 b t d := ⟨j 0, j 1, j 2, by funext a; fin_cases a <;> rfl⟩
    exact ((Cert.ReferenceIdeal.Rg.out_2 m' c b t d).trans (by rw [hs c])).trans (Cert.KernelIdeal.Rg.G11_at m c b t d).symm

end Cert.Proof.Rg

end
-- ==== Proof.MoeWord.lean ====
/-
  The word arithmetic of the expert kernel's body: the trip counts of its loops, and the side condition it assumes
  of the two words it reads from its tables. With the first assignment `s` and the number of assignments `n` of one
  expert in one chunk, `s + n ≤ 8704`, the outer loop runs over blocks of 304 assignments, and both inner loops over
  groups of 8 rows of a block; the loops printed for the remainders of an unrolling run no trip.
-/
module

public import proofs.«01_k».proof.Proof.Gen.Kernel2Ideal.Skeleton
public import Idealize.ShloMosaic.Lib.WordArith

@[expose] public section

namespace Cert.Moe

open Idealize.ShloMosaic Cert.Kernel2Ideal

/-- The number of blocks of an expert with `n` assignments. -/
def blocks (n : ℕ) : ℕ := (n + 303) / 304
/-- The rows of block `b`. -/
def rows (n b : ℕ) : ℕ := min 304 (n - 304 * b)
/-- The groups of eight rows of block `b`. -/
def groups (n b : ℕ) : ℕ := (rows n b + 7) / 8

/-! ## Words -/

theorem toNat_divsi {x : BitVec 32} {d : ℕ} (hx : x.toNat < 2 ^ 31) (h0 : 0 < d) (hd : d < 2 ^ 31) :
    (Scalar.divsi x (BitVec.ofNat 32 d)).toNat = x.toNat / d := by
  have hdN : (BitVec.ofNat 32 d).toNat = d := by rw [BitVec.toNat_ofNat]; omega
  have hm : x.msb = false := by rw [BitVec.msb_eq_false_iff_two_mul_lt]; omega
  have hdm : (BitVec.ofNat 32 d).msb = false := by rw [BitVec.msb_eq_false_iff_two_mul_lt]; omega
  have hc : ¬ IntOp.SDivCorner x (BitVec.ofNat 32 d) :=
    IntOp.not_corner_of_pos (by rw [BitVec.toInt_eq_toNat_of_lt (by omega)]; omega)
  show (IntOp.divsi .scalar x _).toNat = _
  unfold IntOp.divsi
  rw [if_neg hc, BitVec.sdiv_eq, hm, hdm]
  show (x / BitVec.ofNat 32 d).toNat = _
  rw [BitVec.toNat_udiv, hdN]

/-- The quotient rounded down as the body computes it, for a word that isn't negative. -/
def quotW (x d : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

theorem quotW_eq {x : BitVec 32} {d : ℕ} (hx : x.toNat < 2 ^ 31) (h0 : 0 < d) (hd : d < 2 ^ 31) :
    quotW x (BitVec.ofNat 32 d) = BitVec.ofNat 32 (x.toNat / d) := by
  have hdN : (BitVec.ofNat 32 d).toNat = d := by rw [BitVec.toNat_ofNat]; omega
  have hxi : x.toInt = x.toNat := BitVec.toInt_eq_toNat_of_lt (by omega)
  have hdi : (BitVec.ofNat 32 d).toInt = d := by rw [BitVec.toInt_eq_toNat_of_lt (by omega), hdN]
  have z : (0#32 : BitVec 32).toInt = 0 := by decide
  have hsgd : Scalar.cmpi .sgt (BitVec.ofNat 32 d) 0#32 = 1#1 := IntOp.cmpi_sgt.mpr (by rw [hdi, z]; omega)
  have hsld : Scalar.cmpi .slt (BitVec.ofNat 32 d) 0#32 = 0#1 :=
    eq_zero_of_ne_one fun h => by have := IntOp.cmpi_slt.mp h; rw [hdi, z] at this; omega
  have hslx : Scalar.cmpi .slt x 0#32 = 0#1 :=
    eq_zero_of_ne_one fun h => by have := IntOp.cmpi_slt.mp h; rw [hxi, z] at this; omega
  have hdiv : Scalar.divsi x (BitVec.ofNat 32 d) = BitVec.ofNat 32 (x.toNat / d) := by
    apply BitVec.eq_of_toNat_eq
    rw [toNat_divsi hx h0 hd, BitVec.toNat_ofNat]
    exact (Nat.mod_eq_of_lt (lt_of_le_of_lt (Nat.div_le_self x.toNat d) (lt_trans hx (by decide)))).symm
  unfold quotW
  rw [hsgd, hsld, hslx, hdiv]
  have hcond : Scalar.andi (Scalar.cmpi .ne (Scalar.subi (Scalar.extui (Scalar.cmpi .sgt x 0#32)) (Scalar.extui 0#1))
        (Scalar.subi (Scalar.extui 1#1) (Scalar.extui 0#1))) (Scalar.cmpi .ne (Scalar.remsi x (BitVec.ofNat 32 d)) 0#32) ≠ 1#1 := by
    intro h
    obtain ⟨h1, h2⟩ := IntOp.andi_eq_one.mp h
    have h1 := IntOp.cmpi_ne.mp h1
    have h2 := IntOp.cmpi_ne.mp h2
    by_cases hz : x.toNat = 0
    · exact h2 ((IntOp.remsi_eq_zero_iff .scalar (by omega) d h0 (by omega)).mpr (by rw [hz]; exact dvd_zero d))
    · have : Scalar.cmpi .sgt x 0#32 = 1#1 := IntOp.cmpi_sgt.mpr (by rw [hxi, z]; omega)
      rw [this] at h1
      exact h1 rfl
  exact if_neg hcond
where
  eq_zero_of_ne_one {c : BitVec 1} (h : c ≠ 1#1) : c = 0#1 := by revert h; revert c; decide

/-- The bound of a loop the body runs to a quotient, and of the remainder's loop after it. -/
theorem bound_eq {x : BitVec 32} {d : ℕ} (hx : x.toNat < 2 ^ 31) (h0 : 0 < d) (hd : d < 2 ^ 31) :
    Scalar.addi 0#32 (Scalar.muli (Scalar.divsi (Scalar.subi (quotW x (BitVec.ofNat 32 d)) 0#32) 1#32) 1#32)
      = BitVec.ofNat 32 (x.toNat / d) := by
  rw [quotW_eq hx h0 hd]
  show 0#32 + IntOp.divsi .scalar (BitVec.ofNat 32 (x.toNat / d) - 0#32) 1#32 * 1#32 = _
  rw [WordArith.divsi_one]
  simp

theorem bound'_eq {x : BitVec 32} {d : ℕ} (hx : x.toNat < 2 ^ 31) (h0 : 0 < d) (hd : d < 2 ^ 31) :
    Scalar.addi 0#32 (Scalar.subi (quotW x (BitVec.ofNat 32 d)) 0#32) = BitVec.ofNat 32 (x.toNat / d) := by
  rw [quotW_eq hx h0 hd]
  show 0#32 + (BitVec.ofNat 32 (x.toNat / d) - 0#32) = _
  simp

theorem trips_ofNat {n : ℕ} (hn : n < 2 ^ 31) : Scf.trips 0#32 (BitVec.ofNat 32 n) 1#32 = n := by
  have h1 : (BitVec.ofNat 32 n).toInt = n := by
    rw [BitVec.toInt_eq_toNat_of_lt] <;> rw [BitVec.toNat_ofNat] <;> omega
  have z : (0#32 : BitVec 32).toInt = 0 := by decide
  have o : (1#32 : BitVec 32).toInt = 1 := by decide
  unfold Scf.trips
  rw [h1, z, o]; omega

theorem trips_self (x : BitVec 32) : Scf.trips x x 1#32 = 0 := by
  have o : (1#32 : BitVec 32).toInt = 1 := by decide
  unfold Scf.trips
  rw [o]; omega

theorem ok_ofNat {n : ℕ} (hn : n < 2 ^ 31) : Scf.OK 0#32 (BitVec.ofNat 32 n) 1#32 := by
  have z : (0#32 : BitVec 32).toInt = 0 := by decide
  have o : (1#32 : BitVec 32).toInt = 1 := by decide
  refine ⟨by rw [o]; omega, ?_⟩
  rw [trips_ofNat hn, z, o]; simp; omega

theorem ok_self {n : ℕ} (hn : n < 2 ^ 31) : Scf.OK (BitVec.ofNat 32 n) (BitVec.ofNat 32 n) 1#32 := by
  have h1 : (BitVec.ofNat 32 n).toInt = n := by
    rw [BitVec.toInt_eq_toNat_of_lt] <;> rw [BitVec.toNat_ofNat] <;> omega
  have o : (1#32 : BitVec 32).toInt = 1 := by decide
  refine ⟨by rw [o]; omega, ?_⟩
  rw [trips_self, h1, o]; simp; omega

theorem iv_eq (k : ℕ) : Scf.iv 0#32 1#32 k = BitVec.ofNat 32 k := by
  unfold Scf.iv; simp

/-! ## The loops -/

section Loops
variable {s n : BitVec 32} (h : s.toNat + n.toNat ≤ 8704)
include h

theorem t1_x : (Scalar.subi (Scalar.addi n 304#32) 1#32).toNat = n.toNat + 303 := by
  show (n + 304#32 - 1#32).toNat = _
  rw [BitVec.toNat_sub, BitVec.toNat_add, BitVec.toNat_ofNat, BitVec.toNat_ofNat]
  omega

theorem t1_loop : k0_t1_loop n = ⟨0#32, BitVec.ofNat 32 (blocks n.toNat), 1#32⟩ := by
  have := bound_eq (x := Scalar.subi (Scalar.addi n 304#32) 1#32) (d := 304) (by rw [t1_x h]; omega) (by omega) (by omega)
  rw [t1_x h] at this
  exact congrArg (fun u => (⟨0#32, u, 1#32⟩ : Scf.Loop 32)) this

theorem t1_trips : (k0_t1_loop n).trips = blocks n.toNat := by
  rw [t1_loop h]; exact trips_ofNat (by unfold blocks; omega)

theorem t6_loop : k0_t6_loop n = ⟨BitVec.ofNat 32 (blocks n.toNat), BitVec.ofNat 32 (blocks n.toNat), 1#32⟩ := by
  have h1 := bound_eq (x := Scalar.subi (Scalar.addi n 304#32) 1#32) (d := 304) (by rw [t1_x h]; omega) (by omega) (by omega)
  have h2 := bound'_eq (x := Scalar.subi (Scalar.addi n 304#32) 1#32) (d := 304) (by rw [t1_x h]; omega) (by omega) (by omega)
  rw [t1_x h] at h1 h2
  exact congrArg₂ (fun l u => (⟨l, u, 1#32⟩ : Scf.Loop 32)) h1 h2

theorem t6_trips : (k0_t6_loop n).trips = 0 := by rw [t6_loop h]; exact trips_self _

theorem blk_lt {b : ℕ} (hb : b < blocks n.toNat) : 304 * b < n.toNat := by unfold blocks at hb; omega

/-- The rows of a block as the body's word. -/
def rowsW (n : BitVec 32) (b : ℕ) : BitVec 32 :=
  Scalar.minsi 304#32 (Scalar.subi n (Scalar.muli (Scf.iv 0#32 1#32 b) 304#32))

theorem toNat_rowsW {b : ℕ} (hb : b < blocks n.toNat) : (rowsW n b).toNat = rows n.toNat b := by
  have hlt := blk_lt h hb
  have e : (Scalar.subi n (Scalar.muli (Scf.iv 0#32 1#32 b) 304#32)).toNat = n.toNat - 304 * b := by
    rw [iv_eq]
    show (n - BitVec.ofNat 32 b * 304#32).toNat = _
    rw [BitVec.toNat_sub, BitVec.toNat_mul, BitVec.toNat_ofNat, BitVec.toNat_ofNat]
    omega
  unfold rowsW rows
  refine (WordArith.toNat_minsi_of_lt _ _ (by decide) (by rw [e]; omega)).trans ?_
  rw [e]; rfl

theorem rows_pos {b : ℕ} (hb : b < blocks n.toNat) : 0 < rows n.toNat b := by
  have := blk_lt h hb; unfold rows; omega

theorem t2_x {b : ℕ} (hb : b < blocks n.toNat) : (Scalar.addi (rowsW n b) 7#32).toNat = rows n.toNat b + 7 := by
  show (rowsW n b + 7#32).toNat = _
  rw [BitVec.toNat_add, toNat_rowsW h hb, BitVec.toNat_ofNat]
  unfold rows; omega

theorem x8_lt {b : ℕ} (hb : b < blocks n.toNat) : (Scalar.addi (rowsW n b) 7#32).toNat < 2 ^ 31 := by
  rw [t2_x h hb]; unfold rows; omega

theorem t2_loop (b : Fin (k0_t1_loop n).trips) : k0_t2_loop n b = ⟨0#32, BitVec.ofNat 32 (groups n.toNat b), 1#32⟩ := by
  have hb : b.val < blocks n.toNat := lt_of_lt_of_eq b.isLt (t1_trips h)
  have := bound_eq (x := Scalar.addi (rowsW n b) 7#32) (d := 8) (x8_lt h hb) (by omega) (by omega)
  rw [t2_x h hb] at this
  exact congrArg (fun u => (⟨0#32, u, 1#32⟩ : Scf.Loop 32)) this

theorem t4_loop (b : Fin (k0_t1_loop n).trips) : k0_t4_loop n b = ⟨0#32, BitVec.ofNat 32 (groups n.toNat b), 1#32⟩ := by
  have hb : b.val < blocks n.toNat := lt_of_lt_of_eq b.isLt (t1_trips h)
  have := bound_eq (x := Scalar.addi (rowsW n b) 7#32) (d := 8) (x8_lt h hb) (by omega) (by omega)
  rw [t2_x h hb] at this
  exact congrArg (fun u => (⟨0#32, u, 1#32⟩ : Scf.Loop 32)) this

theorem t3_loop (b : Fin (k0_t1_loop n).trips) :
    k0_t3_loop n b = ⟨BitVec.ofNat 32 (groups n.toNat b), BitVec.ofNat 32 (groups n.toNat b), 1#32⟩ := by
  have hb : b.val < blocks n.toNat := lt_of_lt_of_eq b.isLt (t1_trips h)
  have h1 := bound_eq (x := Scalar.addi (rowsW n b) 7#32) (d := 8) (x8_lt h hb) (by omega) (by omega)
  have h2 := bound'_eq (x := Scalar.addi (rowsW n b) 7#32) (d := 8) (x8_lt h hb) (by omega) (by omega)
  rw [t2_x h hb] at h1 h2
  exact congrArg₂ (fun l u => (⟨l, u, 1#32⟩ : Scf.Loop 32)) h1 h2

theorem t5_loop (b : Fin (k0_t1_loop n).trips) :
    k0_t5_loop n b = ⟨BitVec.ofNat 32 (groups n.toNat b), BitVec.ofNat 32 (groups n.toNat b), 1#32⟩ := by
  have hb : b.val < blocks n.toNat := lt_of_lt_of_eq b.isLt (t1_trips h)
  have h1 := bound_eq (x := Scalar.addi (rowsW n b) 7#32) (d := 8) (x8_lt h hb) (by omega) (by omega)
  have h2 := bound'_eq (x := Scalar.addi (rowsW n b) 7#32) (d := 8) (x8_lt h hb) (by omega) (by omega)
  rw [t2_x h hb] at h1 h2
  exact congrArg₂ (fun l u => (⟨l, u, 1#32⟩ : Scf.Loop 32)) h1 h2

omit h in
theorem groups_le (n b : ℕ) : groups n b ≤ 38 := by unfold groups rows; omega

theorem t2_trips (b : Fin (k0_t1_loop n).trips) : (k0_t2_loop n b).trips = groups n.toNat b := by
  rw [t2_loop h]; exact trips_ofNat (by have := groups_le n.toNat b; omega)
theorem t4_trips (b : Fin (k0_t1_loop n).trips) : (k0_t4_loop n b).trips = groups n.toNat b := by
  rw [t4_loop h]; exact trips_ofNat (by have := groups_le n.toNat b; omega)
theorem t3_trips (b : Fin (k0_t1_loop n).trips) : (k0_t3_loop n b).trips = 0 := by rw [t3_loop h]; exact trips_self _
theorem t5_trips (b : Fin (k0_t1_loop n).trips) : (k0_t5_loop n b).trips = 0 := by rw [t5_loop h]; exact trips_self _

/-! ## The offsets -/

/-- The first assignment of block `b` as the body's word. -/
def baseW (s : BitVec 32) (b : ℕ) : BitVec 32 := Scalar.addi s (Scalar.muli (Scf.iv 0#32 1#32 b) 304#32)

omit h in
theorem toNat_row (k j : ℕ) (hk : k < 38) (hj : j < 8) :
    (Scalar.addi (Scalar.muli (Scf.iv 0#32 1#32 k) 8#32) (BitVec.ofNat 32 j)).toNat = 8 * k + j := by
  rw [iv_eq]
  show (BitVec.ofNat 32 k * 8#32 + BitVec.ofNat 32 j).toNat = _
  rw [BitVec.toNat_add, BitVec.toNat_mul, BitVec.toNat_ofNat, BitVec.toNat_ofNat, BitVec.toNat_ofNat]
  omega

omit h in
theorem toNat_row0 (k : ℕ) (hk : k < 38) : (Scalar.muli (Scf.iv 0#32 1#32 k) 8#32).toNat = 8 * k := by
  rw [iv_eq]
  show (BitVec.ofNat 32 k * 8#32).toNat = _
  rw [BitVec.toNat_mul, BitVec.toNat_ofNat, BitVec.toNat_ofNat]
  omega

theorem toNat_gather {b k j : ℕ} (hb : b < blocks n.toNat) (hk : k < groups n.toNat b) (hj : j < 8) :
    (Scalar.addi (Scalar.addi (baseW s b) (Scalar.muli (Scf.iv 0#32 1#32 k) 8#32)) (BitVec.ofNat 32 j)).toNat
      = s.toNat + 304 * b + (8 * k + j) := by
  have := blk_lt h hb
  have := groups_le n.toNat b
  unfold baseW
  rw [iv_eq, iv_eq]
  show (s + BitVec.ofNat 32 b * 304#32 + BitVec.ofNat 32 k * 8#32 + BitVec.ofNat 32 j).toNat = _
  simp only [BitVec.toNat_add, BitVec.toNat_mul, BitVec.toNat_ofNat]
  omega

theorem toNat_scatter {b k j : ℕ} (hb : b < blocks n.toNat) (hk : k < groups n.toNat b) (hj : j < 8) :
    (Scalar.addi (baseW s b) (Scalar.addi (Scalar.muli (Scf.iv 0#32 1#32 k) 8#32) (BitVec.ofNat 32 j))).toNat
      = s.toNat + 304 * b + (8 * k + j) := by
  have := blk_lt h hb
  have := groups_le n.toNat b
  unfold baseW
  rw [iv_eq, iv_eq]
  show (s + BitVec.ofNat 32 b * 304#32 + (BitVec.ofNat 32 k * 8#32 + BitVec.ofNat 32 j)).toNat = _
  simp only [BitVec.toNat_add, BitVec.toNat_mul, BitVec.toNat_ofNat]
  omega

theorem row_lt {b k j : ℕ} (hb : b < blocks n.toNat) (hk : k < groups n.toNat b) (hj : j < 8) :
    s.toNat + 304 * b + (8 * k + j) < 8712 := by
  have := blk_lt h hb
  unfold groups rows at hk
  omega

end Loops

end Cert.Moe
-- ==== Proof.MoeChk.lean ====
/-
  The side condition the expert kernel's body assumes of the two words it reads: every offset it computes from them is
  inside the buffer it addresses, and every loop's bounds have a meaning.
-/
module

public import proofs.«01_k».proof.Proof.MoeWord

@[expose] public section

namespace Cert.Moe

open Idealize.ShloMosaic Cert.Kernel2Ideal

/-- A one-word offset is inside the tables of assignments. -/
theorem inb_tab {o : Fin 3 → ℕ} {x : ℕ} (h0 : o 0 = 0) (h1 : o 1 = 0) (h2 : o 2 = x) (hx : x < 8712) :
    ∀ a, o a + S1x1x1.size a ≤ S1x1x8712.size a := by
  intro a
  match a with
  | ⟨0, _⟩ => show o 0 + 1 ≤ 1; omega
  | ⟨1, _⟩ => show o 1 + 1 ≤ 1; omega
  | ⟨2, _⟩ => show o 2 + 1 ≤ 8712; omega

/-- One row is inside a block's rows. -/
theorem inb_row {o : Fin 2 → ℕ} {x : ℕ} (h0 : o 0 = x) (h1 : o 1 = 0) (hx : x < 304) :
    ∀ a, o a + S1x1024.size a ≤ S304x1024.size a := by
  intro a
  match a with
  | ⟨0, _⟩ => show o 0 + 1 ≤ 304; omega
  | ⟨1, _⟩ => show o 1 + 1024 ≤ 1024; omega

/-- Eight rows are inside a block's rows. -/
theorem inb_row8 {o : Fin 2 → ℕ} {x : ℕ} (h0 : o 0 = x) (h1 : o 1 = 0) (hx : x + 8 ≤ 304) :
    ∀ a, o a + S8x1024.size a ≤ S304x1024.size a := by
  intro a
  match a with
  | ⟨0, _⟩ => show o 0 + 8 ≤ 304; omega
  | ⟨1, _⟩ => show o 1 + 1024 ≤ 1024; omega

variable {s n : BitVec 32} (h : s.toNat + n.toNat ≤ 8704)
include h

theorem blt (b : Fin (k0_t1_loop n).trips) : b.val < blocks n.toNat := lt_of_lt_of_eq b.isLt (t1_trips h)
theorem k2lt (b : Fin (k0_t1_loop n).trips) (k : Fin (k0_t2_loop n b).trips) : k.val < groups n.toNat b :=
  lt_of_lt_of_eq k.isLt (t2_trips h b)
theorem k4lt (b : Fin (k0_t1_loop n).trips) (k : Fin (k0_t4_loop n b).trips) : k.val < groups n.toNat b :=
  lt_of_lt_of_eq k.isLt (t4_trips h b)
theorem k2lt' (b : Fin (k0_t1_loop n).trips) (k : Fin (k0_t2_loop n b).trips) : k.val < 38 :=
  lt_of_lt_of_le (k2lt h b k) (groups_le _ _)
theorem k4lt' (b : Fin (k0_t1_loop n).trips) (k : Fin (k0_t4_loop n b).trips) : k.val < 38 :=
  lt_of_lt_of_le (k4lt h b k) (groups_le _ _)
theorem no6 (k : Fin (k0_t6_loop n).trips) : False := absurd (lt_of_lt_of_eq k.isLt (t6_trips h)) (Nat.not_lt_zero _)
theorem no3 (b : Fin (k0_t1_loop n).trips) (k : Fin (k0_t3_loop n b).trips) : False :=
  absurd (lt_of_lt_of_eq k.isLt (t3_trips h b)) (Nat.not_lt_zero _)
theorem no5 (b : Fin (k0_t1_loop n).trips) (k : Fin (k0_t5_loop n b).trips) : False :=
  absurd (lt_of_lt_of_eq k.isLt (t5_trips h b)) (Nat.not_lt_zero _)

theorem tab2 (b : Fin (k0_t1_loop n).trips) (k : Fin (k0_t2_loop n b).trips) {o : Fin 3 → ℕ} (j : ℕ) (hj : j < 8) (h0 : o 0 = 0) (h1 : o 1 = 0)
    (h2 : o 2 = (Scalar.addi (Scalar.addi (baseW s b) (Scalar.muli (Scf.iv 0#32 1#32 k) 8#32)) (BitVec.ofNat 32 j)).toNat) :
    ∀ a, o a + S1x1x1.size a ≤ S1x1x8712.size a :=
  inb_tab h0 h1 (h2.trans (toNat_gather h (blt h b) (k2lt h b k) hj)) (row_lt h (blt h b) (k2lt h b k) hj)

theorem tab4 (b : Fin (k0_t1_loop n).trips) (k : Fin (k0_t4_loop n b).trips) {o : Fin 3 → ℕ} (j : ℕ) (hj : j < 8) (h0 : o 0 = 0) (h1 : o 1 = 0)
    (h2 : o 2 = (Scalar.addi (baseW s b) (Scalar.addi (Scalar.muli (Scf.iv 0#32 1#32 k) 8#32) (BitVec.ofNat 32 j))).toNat) :
    ∀ a, o a + S1x1x1.size a ≤ S1x1x8712.size a :=
  inb_tab h0 h1 (h2.trans (toNat_scatter h (blt h b) (k4lt h b k) hj)) (row_lt h (blt h b) (k4lt h b k) hj)

theorem row4 (b : Fin (k0_t1_loop n).trips) (k : Fin (k0_t4_loop n b).trips) {o : Fin 2 → ℕ} (j : ℕ) (hj : j < 8) (h1 : o 1 = 0)
    (h0 : o 0 = (Scalar.addi (Scalar.muli (Scf.iv 0#32 1#32 k) 8#32) (BitVec.ofNat 32 j)).toNat) :
    ∀ a, o a + S1x1024.size a ≤ S304x1024.size a :=
  inb_row (h0.trans (toNat_row _ j (k4lt' h b k) hj)) h1 (by have := k4lt' h b k; omega)

theorem off18_inb (b : Fin (k0_t1_loop n).trips) (k : Fin (k0_t2_loop n b).trips) :
    ∀ a, k0_off18 n b k a + S8x1024.size a ≤ S304x1024.size a :=
  inb_row8 (x := 8 * k.val) (toNat_row0 k.val (k2lt' h b k)) rfl (by have := k2lt' h b k; omega)

theorem mult1 (b : Fin (k0_t1_loop n).trips) (k : Fin (k0_t2_loop n b).trips) : 8 ∣ (k0_mult1 n b k).toNat :=
  Dvd.intro k.val (toNat_row0 k.val (k2lt' h b k)).symm

theorem blocks_lt : blocks n.toNat < 2 ^ 31 := by unfold blocks; omega
omit h in
theorem groups_lt (n b : ℕ) : groups n b < 2 ^ 31 := by have := groups_le n b; omega

theorem ok1 : (k0_t1_loop n).OK := by rw [t1_loop h]; exact ok_ofNat (blocks_lt h)
theorem ok6 : (k0_t6_loop n).OK := by rw [t6_loop h]; exact ok_self (blocks_lt h)
theorem ok2 (b : Fin (k0_t1_loop n).trips) : (k0_t2_loop n b).OK := by rw [t2_loop h]; exact ok_ofNat (groups_lt _ _)
theorem ok3 (b : Fin (k0_t1_loop n).trips) : (k0_t3_loop n b).OK := by rw [t3_loop h]; exact ok_self (groups_lt _ _)
theorem ok4 (b : Fin (k0_t1_loop n).trips) : (k0_t4_loop n b).OK := by rw [t4_loop h]; exact ok_ofNat (groups_lt _ _)
theorem ok5 (b : Fin (k0_t1_loop n).trips) : (k0_t5_loop n b).OK := by rw [t5_loop h]; exact ok_self (groups_lt _ _)

theorem chk1_0 : k0_chk1_0 s n := by
  have hr8 := off18_inb h
  have hm := mult1 h
  have okt1 := ok1 h
  have okt2 := ok2 h
  have okt3 := ok3 h
  have okt4 := ok4 h
  have okt5 := ok5 h
  have okt6 := ok6 h
  exact ⟨okt1,
    okt2,
    hm,
    fun b k => tab2 h b k 0 (by decide) rfl rfl rfl,
    fun b k => tab2 h b k 1 (by decide) rfl rfl rfl,
    fun b k => tab2 h b k 2 (by decide) rfl rfl rfl,
    fun b k => tab2 h b k 3 (by decide) rfl rfl rfl,
    fun b k => tab2 h b k 4 (by decide) rfl rfl rfl,
    fun b k => tab2 h b k 5 (by decide) rfl rfl rfl,
    fun b k => tab2 h b k 6 (by decide) rfl rfl rfl,
    fun b k => tab2 h b k 7 (by decide) rfl rfl rfl,
    hr8,
    okt3,
    fun b k => (no3 h b k).elim,
    fun b k => (no3 h b k).elim,
    fun b k => (no3 h b k).elim,
    fun b k => (no3 h b k).elim,
    fun b k => (no3 h b k).elim,
    fun b k => (no3 h b k).elim,
    fun b k => (no3 h b k).elim,
    fun b k => (no3 h b k).elim,
    fun b k => (no3 h b k).elim,
    fun b k => (no3 h b k).elim,
    okt4,
    fun b k => tab4 h b k 0 (by decide) rfl rfl rfl,
    fun b k => row4 h b k 0 (by decide) rfl rfl,
    fun b k => tab4 h b k 1 (by decide) rfl rfl rfl,
    fun b k => row4 h b k 1 (by decide) rfl rfl,
    fun b k => tab4 h b k 2 (by decide) rfl rfl rfl,
    fun b k => row4 h b k 2 (by decide) rfl rfl,
    fun b k => tab4 h b k 3 (by decide) rfl rfl rfl,
    fun b k => row4 h b k 3 (by decide) rfl rfl⟩

theorem chk1_1 : k0_chk1_1 s n := by
  have hr8 := off18_inb h
  have hm := mult1 h
  have okt1 := ok1 h
  have okt2 := ok2 h
  have okt3 := ok3 h
  have okt4 := ok4 h
  have okt5 := ok5 h
  have okt6 := ok6 h
  exact ⟨fun b k => tab4 h b k 4 (by decide) rfl rfl rfl,
    fun b k => row4 h b k 4 (by decide) rfl rfl,
    fun b k => tab4 h b k 5 (by decide) rfl rfl rfl,
    fun b k => row4 h b k 5 (by decide) rfl rfl,
    fun b k => tab4 h b k 6 (by decide) rfl rfl rfl,
    fun b k => row4 h b k 6 (by decide) rfl rfl,
    fun b k => tab4 h b k 7 (by decide) rfl rfl rfl,
    fun b k => row4 h b k 7 (by decide) rfl rfl,
    okt5,
    fun b k => (no5 h b k).elim,
    fun b k => (no5 h b k).elim,
    fun b k => (no5 h b k).elim,
    fun b k => (no5 h b k).elim,
    fun b k => (no5 h b k).elim,
    fun b k => (no5 h b k).elim,
    fun b k => (no5 h b k).elim,
    fun b k => (no5 h b k).elim,
    fun b k => (no5 h b k).elim,
    fun b k => (no5 h b k).elim,
    fun b k => (no5 h b k).elim,
    fun b k => (no5 h b k).elim,
    fun b k => (no5 h b k).elim,
    fun b k => (no5 h b k).elim,
    fun b k => (no5 h b k).elim,
    fun b k => (no5 h b k).elim,
    okt6,
    fun k => (no6 h k).elim,
    fun k => (no6 h k).elim,
    fun k => (no6 h k).elim,
    fun k => (no6 h k).elim,
    fun k => (no6 h k).elim,
    fun k => (no6 h k).elim⟩

theorem chk1_2 : k0_chk1_2 s n := by
  have hr8 := off18_inb h
  have hm := mult1 h
  have okt1 := ok1 h
  have okt2 := ok2 h
  have okt3 := ok3 h
  have okt4 := ok4 h
  have okt5 := ok5 h
  have okt6 := ok6 h
  exact ⟨fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim⟩

theorem chk1_3 : k0_chk1_3 s n := by
  have hr8 := off18_inb h
  have hm := mult1 h
  have okt1 := ok1 h
  have okt2 := ok2 h
  have okt3 := ok3 h
  have okt4 := ok4 h
  have okt5 := ok5 h
  have okt6 := ok6 h
  exact ⟨fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim,
    fun k => (no6 h k).elim⟩

/-- The side condition the body assumes of the two words. -/
theorem chk1 : k0_chk1 s n := ⟨chk1_0 h, chk1_1 h, chk1_2 h, chk1_3 h⟩

end Cert.Moe
-- ==== Proof.MoeState.lean ====
/-
  What one grid point of the expert kernel does to the output block and to the gathered rows, as functions: a block of
  at most 304 assignments gathers its tokens' rows, runs the expert on them and adds each result, times its gate, onto
  its token's row.
-/
module

public import proofs.«01_k».proof.Proof.MoeChk
public import Idealize.ShloMosaic.Lib.ValueIdx
public import Idealize.ShloMosaic.Lib.Pointwise

@[expose] public section

noncomputable section

namespace Cert.Moe

open Idealize.ShloMosaic Cert.Kernel2Ideal Cert.Kernel2Ideal.Gen

/-- Contents with the elements of a rectangle replaced. -/
def upd {α : Type} {s : Shape} (r : Rect s) (X : s.Idx → α) (w : r.shape.Idx → α) : s.Idx → α :=
  open Classical in fun y => if h : ∃ x, r.emb x = y then w h.choose else X y

theorem upd_emb {α : Type} {s : Shape} (r : Rect s) (X : s.Idx → α) (w : r.shape.Idx → α) (x : r.shape.Idx) :
    upd r X w (r.emb x) = w x := by
  have h : ∃ x', r.emb x' = r.emb x := ⟨x, rfl⟩
  unfold upd
  rw [dif_pos h, r.emb.injective h.choose_spec]

theorem upd_of_not {α : Type} {s : Shape} (r : Rect s) (X : s.Idx → α) (w : r.shape.Idx → α) {y : s.Idx} (h : ∀ x, r.emb x ≠ y) :
    upd r X w y = X y := by
  unfold upd
  rw [dif_neg fun ⟨x, hx⟩ => h x hx]

/-- Reading after a write through a rectangle. -/
theorem read_write_upd {sig : RefSig} {κ : Kind} {sp : Space} {s : Shape} {e : EltTy} {Val : EltTy → Type} (v : View sig κ sp s e)
    (r : Rect s) (f : v.ty.Contents Val) (w : r.shape.Idx → Val e) :
    v.read Val ((v.slice r).write Val f w Finset.univ) = upd r (v.read Val f) w := by
  funext y
  by_cases h : ∃ x, r.emb x = y
  · obtain ⟨x, rfl⟩ := h
    rw [upd_emb, View.read_slice_write_emb r f w (Finset.mem_univ x)]
  · rw [upd_of_not r _ w fun x hx => h ⟨x, hx⟩, View.read_slice_write_of_not_mem r f w Finset.univ]
    intro hm
    obtain ⟨x, -, hx⟩ := Finset.mem_map.mp hm
    exact h ⟨x, hx⟩

variable {F : FTy → Type} [FloatOps F]

/-- Entry `p` of a table of assignments. -/
def entry {α : Type} (T : S1x1x8712.Idx → α) (p : ℕ) : α := T (ix3 0 0 ⟨p % 8712, Nat.mod_lt _ (by decide)⟩)

/-- Row `r` of a block of gathered rows. -/
def rowIx (r : ℕ) (q : Fin 1024) : S304x1024.Idx := ix2 ⟨r % 304, Nat.mod_lt _ (by decide)⟩ q

/-- Row `t` of a chunk of tokens. -/
def tokIx (t : ℕ) (q : Fin 1024) : S2176x1024.Idx := ix2 ⟨t % 2176, Nat.mod_lt _ (by decide)⟩ q

/-- The gate of row `r` of a block, zero behind the block's rows. -/
def gateOf (G : S1x1x8712.Idx → F .f32) (base m r : ℕ) : F .f32 :=
  if r < m then entry G (base + r) else Scalar.ofBits .f32 0x00000000#32

/-- Row `t` of the output with `g` times the row `y` added. -/
def addRow (out : S2176x1024.Idx → F .f32) (t : ℕ) (g : F .f32) (y : Fin 1024 → F .f32) : S2176x1024.Idx → F .f32 :=
  fun i => if (i 0).val = t then FloatOps.addf (out i) (FloatOps.mulf g (y (i 1))) else out i

/-- The output after the first `r` rows of a block are added. -/
def scat (T : S1x1x8712.Idx → BitVec 32) (G : S1x1x8712.Idx → F .f32) (y : S304x1024.Idx → F .f32) (base m : ℕ) :
    ℕ → (S2176x1024.Idx → F .f32) → S2176x1024.Idx → F .f32
  | 0, out => out
  | r + 1, out => addRow (scat T G y base m r out) (entry T (base + r)).toNat (gateOf G base m r) fun q => y (rowIx r q)

/-- The gathered rows after the first `r` of a block are filled in. -/
def gath (T : S1x1x8712.Idx → BitVec 32) (X : S2176x1024.Idx → F .f32) (base r : ℕ) (s : S304x1024.Idx → F .f32) :
    S304x1024.Idx → F .f32 :=
  fun i => if (i 0).val < r then X (tokIx (entry T (base + (i 0).val)).toNat (i 1)) else s i

/-- What the body reads at a grid point: the tables of tokens and gates, the tokens, and the expert's weights. -/
structure Pt (F : FTy → Type) where
  T : S1x1x8712.Idx → BitVec 32
  G : S1x1x8712.Idx → F .f32
  X : S2176x1024.Idx → F .f32
  wgu : S1x1x1024x2048.Idx → F .bf16
  bgu : S1x1x1x2048.Idx → F .f32
  wdn : S1x1x1024x1024.Idx → F .bf16
  bdn : S1x1x1x1024.Idx → F .f32

namespace Pt
variable (P : Pt F)

/-- The expert's results on the gathered rows. -/
def y (s : S304x1024.Idx → F .f32) : S304x1024.Idx → F .f32 :=
  k0_pay32 (F := F) (k0_pay31 (F := F) s P.wgu) P.bgu P.wdn P.bdn

/-- The output and the gathered rows after the first `b` blocks of `n` assignments from `s`. -/
def run (s n : ℕ) (st : (S2176x1024.Idx → F .f32) × (S304x1024.Idx → F .f32)) : ℕ → (S2176x1024.Idx → F .f32) × (S304x1024.Idx → F .f32)
  | 0 => st
  | b + 1 =>
    let g := gath P.T P.X (s + 304 * b) (8 * groups n b) (run s n st b).2
    (scat P.T P.G (P.y g) (s + 304 * b) (rows n b) (8 * groups n b) (run s n st b).1, g)

/-- The grid point `i`. -/
def point (i : grid0.Coords) (s n : ℕ) (st : (S2176x1024.Idx → F .f32) × (S304x1024.Idx → F .f32)) :
    (S2176x1024.Idx → F .f32) × (S304x1024.Idx → F .f32) :=
  P.run s n (if (i 1).val = 0 then k0_pay62 (F := F) else st.1, if (i 0).val = 0 ∧ (i 1).val = 0 then k0_pay61 (F := F) else st.2)
    (blocks n)

end Pt

/-- Adding onto a row through its rectangle. -/
theorem upd_row (X : S2176x1024.Idx → F .f32) {o : Fin 2 → ℕ} (inb : ∀ a, o a + S1x1024.size a ≤ S2176x1024.size a)
    (t : ℕ) (h0 : o 0 = t) (h1 : o 1 = 0) (g : F .f32) (y : Fin 1024 → F .f32) (w : S1x1024.Idx → F .f32)
    (hw : ∀ x : S1x1024.Idx, w x = FloatOps.addf (X ((Rect.unit (s := S2176x1024) o S1x1024.size inb).emb x)) (FloatOps.mulf g (y (x 1)))) :
    upd (Rect.unit (s := S2176x1024) o S1x1024.size inb) X w = addRow X t g y := by
  funext i
  by_cases hi : (i 0).val = t
  · have e : (Rect.unit (s := S2176x1024) o S1x1024.size inb).emb (ix2 0 (i 1) : S1x1024.Idx) = i := by
      funext a
      apply Fin.ext
      match a with
      | ⟨0, _⟩ => show o 0 + 1 * 0 = (i 0).val; omega
      | ⟨1, _⟩ => show o 1 + 1 * (i 1).val = (i 1).val; omega
    unfold addRow
    rw [if_pos hi]
    refine Eq.trans (congrArg _ e.symm) ?_
    rw [upd_emb, hw, e]
    rfl
  · unfold addRow
    rw [if_neg hi]
    refine upd_of_not _ _ _ fun x hx => hi ?_
    have : (x 0).val = 0 := by have := (x 0).isLt; change (x 0).val < 1 at this; omega
    rw [← hx]
    show o 0 + 1 * (x 0).val = t
    omega

/-- Filling in eight rows of a block through their rectangle. -/
theorem upd_gath (T : S1x1x8712.Idx → BitVec 32) (X : S2176x1024.Idx → F .f32) (base k : ℕ) (s : S304x1024.Idx → F .f32)
    {o : Fin 2 → ℕ} (inb : ∀ a, o a + S8x1024.size a ≤ S304x1024.size a) (h0 : o 0 = 8 * k) (h1 : o 1 = 0)
    (w : S8x1024.Idx → F .f32)
    (hw : ∀ x : S8x1024.Idx, w x = X (tokIx (entry T (base + (8 * k + (x 0).val))).toNat (x 1))) :
    upd (Rect.unit (s := S304x1024) o S8x1024.size inb) (gath T X base (8 * k) s) w = gath T X base (8 * (k + 1)) s := by
  funext i
  by_cases hi : 8 * k ≤ (i 0).val ∧ (i 0).val < 8 * (k + 1)
  · have e : (Rect.unit (s := S304x1024) o S8x1024.size inb).emb (ix2 ⟨(i 0).val - 8 * k, by omega⟩ (i 1) : S8x1024.Idx) = i := by
      funext a
      apply Fin.ext
      match a with
      | ⟨0, _⟩ => show o 0 + 1 * ((i 0).val - 8 * k) = (i 0).val; omega
      | ⟨1, _⟩ => show o 1 + 1 * (i 1).val = (i 1).val; omega
    refine Eq.trans (congrArg _ e.symm) ?_
    rw [upd_emb, hw]
    unfold gath
    rw [if_pos hi.2]
    show X (tokIx (entry T (base + (8 * k + ((i 0).val - 8 * k)))).toNat (i 1)) = _
    rw [show 8 * k + ((i 0).val - 8 * k) = (i 0).val by omega]
  · rw [upd_of_not]
    · unfold gath
      by_cases h2 : (i 0).val < 8 * k
      · rw [if_pos h2, if_pos (by omega)]
      · rw [if_neg h2, if_neg (by omega)]
    · intro x hx
      have h8 : (x 0).val < 8 := (x 0).isLt
      have : o 0 + 1 * (x 0).val = (i 0).val := by rw [← hx]; rfl
      omega

/-- Replacing every element. -/
theorem upd_full {α : Type} {s : Shape} {o : Fin s.rank → ℕ} (inb : ∀ a, o a + s.size a ≤ s.size a) (X w : s.Idx → α) :
    upd (Rect.unit (s := s) o s.size inb) X w = w := by
  funext i
  have e : (Rect.unit (s := s) o s.size inb).emb i = i := by
    funext a
    apply Fin.ext
    show o a + 1 * (i a).val = (i a).val
    have := inb a; omega
  exact (congrArg _ e.symm).trans (upd_emb (Rect.unit (s := s) o s.size inb) X w i)

theorem emb_full {s : Shape} {o : Fin s.rank → ℕ} (inb : ∀ a, o a + s.size a ≤ s.size a) (i : s.Idx) :
    (Rect.unit (s := s) o s.size inb).emb i = i := by
  funext a
  apply Fin.ext
  show o a + 1 * (i a).val = (i a).val
  have := inb a; omega

/-- A one-word rectangle of a table names its entry. -/
theorem entry_emb {α : Type} (T : S1x1x8712.Idx → α) {o : Fin 3 → ℕ} (inb : ∀ a, o a + S1x1x1.size a ≤ S1x1x8712.size a) {p : ℕ}
    (h0 : o 0 = 0) (h1 : o 1 = 0) (h2 : o 2 = p) (x : S1x1x1.Idx) :
    T ((Rect.unit (s := S1x1x8712) o S1x1x1.size inb).emb x) = entry T p := by
  have hp : p < 8712 := by have := inb 2; change o 2 + 1 ≤ 8712 at this; omega
  unfold entry
  congr 1
  funext a
  apply Fin.ext
  match a with
  | ⟨0, _⟩ => have : (x 0).val < 1 := (x 0).isLt; show o 0 + 1 * (x 0).val = 0; omega
  | ⟨1, _⟩ => have : (x 1).val < 1 := (x 1).isLt; show o 1 + 1 * (x 1).val = 0; omega
  | ⟨2, _⟩ =>
    have : (x 2).val < 1 := (x 2).isLt
    show o 2 + 1 * (x 2).val = p % 8712
    rw [Nat.mod_eq_of_lt hp]; omega

/-- A one-row rectangle of the tokens names the token's row. -/
theorem tok_emb (t : ℕ) (ht : t < 2176) {o : Fin 2 → ℕ} (inb : ∀ a, o a + S1x1024.size a ≤ S2176x1024.size a)
    (h0 : o 0 = t) (h1 : o 1 = 0) (x : S1x1024.Idx) :
    (Rect.unit (s := S2176x1024) o S1x1024.size inb).emb x = tokIx t (x 1) := by
  funext a
  apply Fin.ext
  match a with
  | ⟨0, _⟩ =>
    have : (x 0).val < 1 := (x 0).isLt
    show o 0 + 1 * (x 0).val = t % 2176
    rw [Nat.mod_eq_of_lt ht]; omega
  | ⟨1, _⟩ => show o 1 + 1 * (x 1).val = (x 1).val; omega

/-- A one-row rectangle of a block names its row. -/
theorem row_emb (r : ℕ) (hr : r < 304) {o : Fin 2 → ℕ} (inb : ∀ a, o a + S1x1024.size a ≤ S304x1024.size a)
    (h0 : o 0 = r) (h1 : o 1 = 0) (x : S1x1024.Idx) :
    (Rect.unit (s := S304x1024) o S1x1024.size inb).emb x = rowIx r (x 1) := by
  funext a
  apply Fin.ext
  match a with
  | ⟨0, _⟩ =>
    have : (x 0).val < 1 := (x 0).isLt
    show o 0 + 1 * (x 0).val = r % 304
    rw [Nat.mod_eq_of_lt hr]; omega
  | ⟨1, _⟩ => show o 1 + 1 * (x 1).val = (x 1).val; omega

/-- Eight rows stacked. -/
theorem stack_at (f : Fin 8 → Vec F S1x1024 .f32) (x : S8x1024.Idx) :
    k0_pay29 (F := F) (f 0) (f 1) (f 2) (f 3) (f 4) (f 5) (f 6) (f 7) x = f ⟨(x 0).val, (x 0).isLt⟩ (ix2 0 (x 1)) := by
  unfold k0_pay29
  dsimp only
  rw [shapeCast_self]
  exact concatenate_ofFn_unit_apply (s₁ := S1x1024) (0 : Fin S8x1024.rank) f
    concatenates_S1x1024_S1x1024_S1x1024_S1x1024_S1x1024_S1x1024_S1x1024_S1x1024_S8x1024_d0 rfl rfl x ⟨(x 0).val, (x 0).isLt⟩ rfl (ix2 0 (x 1)) (by
      intro b hb
      match b with
      | ⟨0, _⟩ => exact absurd rfl hb
      | ⟨1, _⟩ => rfl)

end Cert.Moe

end
-- ==== Proof.MoeSort.lean ====
/-
  The operations that order a chunk's assignments, read at an index: the sort of a row, the gather along a row, the
  counts of the experts and their running sums.
-/
module

public import proofs.«01_k».proof.Proof.MoeState
public import Idealize.ShloMosaic.Lib.StableHlo.ReadAt
public import Idealize.ShloMosaic.Lib.Pointwise
public import Idealize.ShloMosaic.Lib.ValueIdx
public import Idealize.ShloMosaic.Lib.ReduceAll
public import Idealize.ShloMosaic.Lib.KernelVsHost
public import Idealize.ShloMosaic.Lib.SortFacts
public import Idealize.ShloMosaic.Lib.Routing.OpsOne
public import Idealize.ShloMosaic.Lib.Routing.OpsSearch

@[expose] public section

set_option maxRecDepth 16384

noncomputable section

namespace Cert.Kernel2Ideal.Moe

open Idealize.ShloMosaic Idealize.ShloMosaic.WordCmp Idealize.ShloMosaic.Routing Cert.Kernel2Ideal Cert.Kernel2Ideal.Gen
open scoped BigOperators

variable {F : FTy → Type} [FloatOps F]

/-- A position of a row as a word. -/
theorem ofNat_toNat_lt {a : ℕ} (h : a < 2 ^ 32) : (BitVec.ofNat 32 a).toNat = a := by
  rw [BitVec.toNat_ofNat, Nat.mod_eq_of_lt h]

/-- The indices with the negative ones wrapped, as start indices. -/
def wrap (ix : IVec S8x8704 32) : IVec S8x8704x1 32 :=
  shapeCast S8x8704x1 (select (cmpi .slt ix (broadcastInDim S8x8704 ![] bcast_S_S8x8704 (constantI S_ 32 0#32)))
    (addi ix (broadcastInDim S8x8704 ![] bcast_S_S8x8704 (constantI S_ 32 8704#32))) ix) shapeCasts_S8x8704_S8x8704x1

/-- Which indices are inside. -/
def inside (w : IVec S8x8704x1 32) : IVec S8x8704 1 :=
  Host.reduce IntOp.andi
    (andi (cmpi .sge w (broadcastInDim S8x8704x1 ![] bcast_S_S8x8704x1 (constantI S_ 32 0#32)))
      (cmpi .sle w (broadcastInDim S8x8704x1 ![0, 1, 2] bcast_S1x1x1_S8x8704x1_0_1_2
        (broadcastInDim S1x1x1 ![2] bcast_S1_S1x1x1_2 (constantI S1 32 8703#32)))))
    (constantI S_ 1 1#1) reducesTo_S8x8704x1_S8x8704_d2 h_S_

/-- The rows' entries at the indices. -/
def take {α : Type} (x : S8x8704.Idx → α) (ix : IVec S8x8704 32) (fill : S8x8704.Idx → α) : S8x8704.Idx → α :=
  select (inside (wrap ix)) (Host.gather gather_S8x8704_S8x8704x1_S8x8704_n_1_0_0_1_2_11 x (wrap ix)) fill

theorem wrap_at (ix : IVec S8x8704 32) (q : Fin 8 → Fin 8704 → Fin 8704)
    (h : ∀ c p, ix (ix2 c p) = BitVec.ofNat 32 (q c p).val) (c : Fin 8) (p : Fin 8704) (z : Fin 1) :
    wrap ix (ix3 c p z) = BitVec.ofNat 32 (q c p).val := by
  have e : wrap ix (ix3 c p z) = select (cmpi .slt ix (broadcastInDim S8x8704 ![] bcast_S_S8x8704 (constantI S_ 32 0#32)))
    (addi ix (broadcastInDim S8x8704 ![] bcast_S_S8x8704 (constantI S_ 32 8704#32))) ix (ix2 c p) := by
    unfold wrap
    pointwise
  rw [e]
  pointwise
  rw [h, show (0#32 : BitVec 32) = BitVec.ofNat 32 0 from rfl]
  have hq := (q c p).isLt
  unfold IntOp.cmpi
  simp only [slt_ofNat32 (a := (q c p).val) (b := 0) (by omega) (by omega)]
  simp [Scalar.select]

theorem inside_at (w : IVec S8x8704x1 32) (q : Fin 8 → Fin 8704 → Fin 8704)
    (h : ∀ c p z, w (ix3 c p z) = BitVec.ofNat 32 (q c p).val) (j : S8x8704.Idx) : inside w j = 1#1 := by
  refine Host.reduce_andi_one _ _ _ _ j rfl fun i => ?_
  pointwise
  rw [show w i = BitVec.ofNat 32 (q (i 0) (i 1)).val from
    (congrArg w (show i = ix3 (i 0) (i 1) (i 2) from by funext a; match a with | ⟨0, _⟩ => rfl | ⟨1, _⟩ => rfl | ⟨2, _⟩ => rfl)).trans (h _ _ _), show (0#32 : BitVec 32) = BitVec.ofNat 32 0 from rfl, show (8703#32 : BitVec 32) = BitVec.ofNat 32 8703 from rfl]
  have hq := (q (i 0) (i 1)).isLt
  unfold IntOp.cmpi
  simp only [sle_ofNat32 (a := 0) (b := (q (i 0) (i 1)).val) (by omega) (by omega),
    sle_ofNat32 (a := (q (i 0) (i 1)).val) (b := 8703) (by omega) (by omega)]
  have h1 : (q (i 0) (i 1)).val ≤ 8703 := by omega
  simp [h1, IntOp.andi]

theorem gather_at {α : Type} (x : S8x8704.Idx → α) (w : IVec S8x8704x1 32) (c : Fin 8) (p q : Fin 8704)
    (h : w (ix3 c p (0 : Fin 1)) = BitVec.ofNat 32 q.val) :
    Host.gather gather_S8x8704_S8x8704x1_S8x8704_n_1_0_0_1_2_11 x w (ix2 c p) = x (ix2 c q) := by
  unfold Host.gather
  refine congrArg x (funext fun a => Fin.ext ?_)
  have hb : gather_S8x8704_S8x8704x1_S8x8704_n_1_0_0_1_2_11.batchDims = [(0 : Fin 2), (1 : Fin 2)] := by decide
  have hk : gather_S8x8704_S8x8704x1_S8x8704_n_1_0_0_1_2_11.siKept = [(0 : Fin 3), (1 : Fin 3)] := by decide
  have hs : gather_S8x8704_S8x8704x1_S8x8704_n_1_0_0_1_2_11.sKept = [] := by decide
  have hi : ∀ k, gather_S8x8704_S8x8704x1_S8x8704_n_1_0_0_1_2_11.siIdx (ix2 c p) k = ix3 c p (0 : Fin 1) := fun k => by
    funext b
    apply Fin.ext
    match b with
    | ⟨0, _⟩ => rfl
    | ⟨1, _⟩ => rfl
    | ⟨2, _⟩ => exact Nat.lt_one_iff.mp k.isLt
  match a with
  | ⟨0, _⟩ =>
    show GatherDims.start _ (ix2 c p) w 0 + GatherDims.batchCoord _ (ix2 c p) 0 + GatherDims.offCoord _ (ix2 c p) 0 = c.val
    rw [GatherDims.offCoord_eq_zero _ _ _ (by rw [hs]; exact List.not_mem_nil), GatherDims.start_batching _ _ _ _ (by decide)]
    rw [Nat.zero_add, Nat.add_zero]
    rfl
  | ⟨1, _⟩ =>
    show GatherDims.start _ (ix2 c p) w 1 + GatherDims.batchCoord _ (ix2 c p) 1 + GatherDims.offCoord _ (ix2 c p) 1 = q.val
    rw [GatherDims.offCoord_eq_zero _ _ _ (by rw [hs]; exact List.not_mem_nil), GatherDims.batchCoord_eq_zero _ _ _ (by decide)]
    unfold GatherDims.start
    rw [dif_pos (by decide), hi, h, StableHlo.Predicate.toInt_ofNat_small _ (by have := q.isLt; omega)]
    have := q.isLt
    show min ((q.val : Int)).toNat (8704 - 1) + 0 + 0 = q.val
    omega

/-- The rows' entries at the indices, read at an index. -/
theorem take_at {α : Type} (x : S8x8704.Idx → α) (ix : IVec S8x8704 32) (fill : S8x8704.Idx → α) (q : Fin 8 → Fin 8704 → Fin 8704)
    (h : ∀ c p, ix (ix2 c p) = BitVec.ofNat 32 (q c p).val) (c : Fin 8) (p : Fin 8704) :
    take x ix fill (ix2 c p) = x (ix2 c (q c p)) := by
  unfold take
  rw [show select (inside (wrap ix)) (Host.gather gather_S8x8704_S8x8704x1_S8x8704_n_1_0_0_1_2_11 x (wrap ix)) fill (ix2 c p)
    = Scalar.select (inside (wrap ix) (ix2 c p)) (Host.gather gather_S8x8704_S8x8704x1_S8x8704_n_1_0_0_1_2_11 x (wrap ix) (ix2 c p)) (fill (ix2 c p)) from rfl,
    inside_at _ q (fun c p z => wrap_at ix q h c p z), gather_at x _ c p (q c p) (wrap_at ix q h c p 0)]
  rfl

/-! ## The order of the assignments -/

/-- Which assignment the sort of a row puts at a position. -/
def perm (ids : IVec S8x8704 32) (c : Fin 8) : Fin 8704 → Fin 8704 :=
  sortedFrom fun k k' => comparator_i32_i32_d1 (ids (ix2 c k), BitVec.ofNat 32 k.val) (ids (ix2 c k'), BitVec.ofNat 32 k'.val) == 1#1

theorem along_at (c : Fin 8) (p k : Fin 8704) : Shape.Idx.along (s := S8x8704) (ix2 c p) (1 : Fin 2) k = ix2 c k := by
  funext a
  match a with
  | ⟨0, _⟩ => exact Function.update_of_ne (show (0 : Fin 2) ≠ 1 by decide) _ _
  | ⟨1, _⟩ => exact Function.update_self _ _ _

theorem iota_at (j : S8x8704.Idx) (k : Fin 8704) : iotaInDim S8x8704 32 1 (Shape.Idx.along (s := S8x8704) j (1 : Fin 2) k) = BitVec.ofNat 32 k.val := by
  unfold iotaInDim
  have e : Shape.Idx.along (s := S8x8704) j (1 : Fin 2) k 1 = k := Function.update_self _ _ _
  rw [e]

theorem sort_at (ids : IVec S8x8704 32) (c : Fin 8) (p : Fin 8704) :
    (Host.sort2 S8x8704 1 comparator_i32_i32_d1 ids (iotaInDim S8x8704 32 1)).2 (ix2 c p) = BitVec.ofNat 32 (perm ids c p).val := by
  unfold Host.sort2
  rw [dif_pos (show 1 < S8x8704.rank by decide)]
  refine (iota_at (ix2 c p) _).trans (congrArg (fun f => BitVec.ofNat 32 (sortedFrom f p).val) (funext fun k => funext fun k' => ?_))
  have e1 := along_at c p k
  have e2 := along_at c p k'
  refine congrArg₂ (fun a b => comparator_i32_i32_d1 a b == 1#1) (Prod.ext (congrArg ids e1) (iota_at _ _)) (Prod.ext (congrArg ids e2) (iota_at _ _))

/-! ## Counting the assignments of a row -/

/-- How many assignments of a row choose an expert. -/
def cnt (ids : IVec S8x8704 32) (c : Fin 8) (e : ℕ) : ℕ := (Finset.univ.filter fun p : Fin 8704 => ids (ix2 c p) = BitVec.ofNat 32 e).card

/-- How many choose an earlier one. -/
def start (ids : IVec S8x8704 32) (c : Fin 8) (e : ℕ) : ℕ := ((List.range e).map (cnt ids c)).sum

theorem start_succ (ids : IVec S8x8704 32) (c : Fin 8) (e : ℕ) : start ids c (e + 1) = start ids c e + cnt ids c e := by
  unfold start
  rw [List.range_succ, List.map_append, List.sum_append]
  simp

/-- The earlier experts' assignments are those whose word is smaller. -/
theorem start_eq (ids : IVec S8x8704 32) (c : Fin 8) (e : ℕ) (he : e ≤ 32) :
    start ids c e = (Finset.univ.filter fun p : Fin 8704 => (ids (ix2 c p)).toNat < e).card := by
  induction e with
  | zero => simp [start]
  | succ e ih =>
    rw [start_succ, ih (by omega), cnt, ← Finset.card_union_of_disjoint]
    · refine congrArg Finset.card (Finset.ext fun p => ?_)
      simp only [Finset.mem_union, Finset.mem_filter, Finset.mem_univ, true_and]
      have : ids (ix2 c p) = BitVec.ofNat 32 e ↔ (ids (ix2 c p)).toNat = e := by
        rw [← BitVec.toNat_inj, ofNat_toNat_lt (by omega)]
      rw [this]
      omega
    · refine Finset.disjoint_filter.mpr fun p _ h h' => ?_
      rw [h', ofNat_toNat_lt (by omega)] at h
      omega

theorem start_le (ids : IVec S8x8704 32) (c : Fin 8) (e : ℕ) (he : e ≤ 32) : start ids c e ≤ 8704 := by
  rw [start_eq ids c e he]
  exact (Finset.card_le_univ _).trans (by simp)

/-- The sum over the second axis of a widened mask counts the set bits. -/
theorem count_at (msk : IVec S8x8704x32 1) (c : Fin 8) (e : Fin 32) :
    Host.reduce IntOp.addi (extui 32 msk natLt_1_32) (constantI S_ 32 0#32) reducesTo_S8x8704x32_S8x32_d1 h_S_ (ix2 c e)
      = BitVec.ofNat 32 (Finset.univ.filter fun p : Fin 8704 => msk (ix3 c p e) = 1#1).card := by
  classical
  have hval : ∀ i, (extui 32 msk natLt_1_32 i).toNat = if msk i = 1#1 then 1 else 0 := fun i => StableHlo.Predicate.toNat_setWidth_bit (msk i)
  have hdrop : ∀ i : S8x8704x32.Idx, reducesTo_S8x8704x32_S8x32_d1.drop i = ix2 c e ↔ i 0 = c ∧ i 2 = e := by
    intro i
    have hv0 : (reducesTo_S8x8704x32_S8x32_d1.drop i 0 : Nat) = i 0 := Shape.ReducesTo.drop_apply_val reducesTo_S8x8704x32_S8x32_d1 i 0
    have hv1 : (reducesTo_S8x8704x32_S8x32_d1.drop i 1 : Nat) = i 2 := Shape.ReducesTo.drop_apply_val reducesTo_S8x8704x32_S8x32_d1 i 1
    constructor
    · intro e
      rw [e] at hv0 hv1
      exact ⟨Fin.ext hv0.symm, Fin.ext hv1.symm⟩
    · rintro ⟨e1, e2⟩
      funext c
      match c with
      | ⟨0, _⟩ => exact Fin.ext (hv0.trans (congrArg Fin.val e1))
      | ⟨1, _⟩ => exact Fin.ext (hv1.trans (congrArg Fin.val e2))
  have hback : ∀ i : S8x8704x32.Idx, i 0 = c ∧ i 2 = e → ix3 c (i 1) e = i := fun i hi => by
    funext b
    match b with
    | ⟨0, _⟩ => exact hi.1.symm
    | ⟨1, _⟩ => rfl
    | ⟨2, _⟩ => exact hi.2.symm
  have hsum : ∑ i ∈ Finset.univ.filter (fun i : S8x8704x32.Idx => reducesTo_S8x8704x32_S8x32_d1.drop i = ix2 c e), (extui 32 msk natLt_1_32 i).toNat
      = (Finset.univ.filter (fun p : Fin 8704 => msk (ix3 c p e) = 1#1)).card := by
    rw [Finset.card_filter]
    refine Finset.sum_bij' (fun i _ => i 1) (fun j _ => ix3 c j e) (fun _ _ => Finset.mem_univ _)
      (fun j _ => Finset.mem_filter.2 ⟨Finset.mem_univ _, (hdrop _).2 ⟨rfl, rfl⟩⟩)
      (fun i hi => hback i ((hdrop i).1 (Finset.mem_filter.1 hi).2)) (fun _ _ => rfl) ?_
    intro i hi
    rw [hval]
    exact (congrArg (fun x => if msk x = 1#1 then 1 else 0) (hback i ((hdrop i).1 (Finset.mem_filter.1 hi).2))).symm
  have hle : (Finset.univ.filter (fun p : Fin 8704 => msk (ix3 c p e) = 1#1)).card ≤ 8704 := (Finset.card_le_univ _).trans (by simp)
  apply BitVec.eq_of_toNat_eq
  rw [Host.reduce_eq_fold]
  show (Finset.fold IntOp.addi 0#32 (extui 32 msk natLt_1_32) (Finset.univ.filter fun i : S8x8704x32.Idx => reducesTo_S8x8704x32_S8x32_d1.drop i = ix2 c e)).toNat = _
  rw [StableHlo.Predicate.toNat_fold_addi _ _ (by rw [hsum]; omega), hsum, ofNat_toNat_lt (by omega)]

/-- The running sums along the rows of the counts. -/
theorem cumsum_at (x : IVec S8x32 32) (f : Nat → Nat) (c : Fin 8) (hx : ∀ i : Fin 32, x (ix2 c i) = BitVec.ofNat 32 (f i.val)) (j : Fin 32) (init : IVec S_ 32)
    (hinit : init (Shape.Idx.first h_S_) = 0#32) :
    Host.reduceWindow IntOp.addi ![1, 32] ![1, 1] ![0, 31] ![0, 0] x init reduceWindows_S8x32_S8x32_w1s1p0_0_w32s1p31_0 h_S_ (ix2 c j)
      = BitVec.ofNat 32 ((List.range (j.val + 1)).map f).sum := by
  have hv : init (Shape.Idx.first h_S_) = BitVec.ofNat 32 0 := hinit
  have hj := j.isLt
  have hc := c.isLt
  unfold Host.reduceWindow
  refine (foldl_addi_ofNat _ _ (fun n => if 31 ≤ j.val + n.val then f (j.val + n.val - 31) else 0) (fun n _ => ?_) _ 0 hv).trans ?_
  · have hw0 : ((shape2 1 32).rowMajor.symm n 0).val = 0 := by rw [symm2]; rfl
    have hw : ((shape2 1 32).rowMajor.symm n 1).val = n.val := by rw [symm2]; rfl
    have hn : n.val < 32 := (n.cast (numel2 _)).isLt
    dsimp only
    split
    · next hin =>
      have h1 := hin 1
      change 31 ≤ j.val * 1 + ((shape2 1 32).rowMajor.symm n 1).val
        ∧ j.val * 1 + ((shape2 1 32).rowMajor.symm n 1).val - 31 < 32 at h1
      rw [hw] at h1
      rw [if_pos (by omega)]
      refine (congrArg x (funext fun a => Fin.ext ?_)).trans (hx ⟨j.val + n.val - 31, by omega⟩)
      match a with
      | ⟨0, _⟩ =>
        show c.val * 1 + ((shape2 1 32).rowMajor.symm n 0).val - 0 = c.val
        rw [hw0]; omega
      | ⟨1, _⟩ =>
        show j.val * 1 + ((shape2 1 32).rowMajor.symm n 1).val - 31 = j.val + n.val - 31
        rw [hw, Nat.mul_one]
    · next hin =>
      rw [if_neg fun hle => hin fun a => by
        match a with
        | ⟨0, _⟩ =>
          show 0 ≤ c.val * 1 + ((shape2 1 32).rowMajor.symm n 0).val ∧ c.val * 1 + ((shape2 1 32).rowMajor.symm n 0).val - 0 < 8
          rw [hw0]
          omega
        | ⟨1, _⟩ =>
          show 31 ≤ j.val * 1 + ((shape2 1 32).rowMajor.symm n 1).val
            ∧ j.val * 1 + ((shape2 1 32).rowMajor.symm n 1).val - 31 < 32
          rw [hw]
          omega]
      exact hv
  · rw [Nat.zero_add, map_finRange_val _ (fun w => if 31 ≤ j.val + w then f (j.val + w - 31) else 0)]
    exact congrArg (BitVec.ofNat 32) ((congrArg (fun M => ((List.range M).map fun w => if 31 ≤ j.val + w then f (j.val + w - 31) else 0).sum)
      (numel2 32)).trans (sum_window f 31 j.val (by omega)))

end Cert.Kernel2Ideal.Moe
-- ==== Proof.MoeRules.lean ====
/-
  One rule per operation of the expert kernel's body, over memrefs owned at known contents, and what the words and the
  rows it computes with are.
-/
module

public import proofs.«01_k».proof.Proof.MoeState
public import proofs.«01_k».proof.Proof.Gen.Kernel2Ideal.Launch
public import Idealize.ShloMosaic.Lib.Tactic
public import Idealize.ShloMosaic.Lib.Pipeline.Frame

@[expose] public section

noncomputable section

namespace Cert.Moe

open Idealize.ShloMosaic Idealize.ShloMosaic.TcCoe Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources of the launch. -/
abbrev Res (F : FTy → Type) : Type := MT nD τ sig Unit (Elt F) ℕ (UR sig nD τ) ℕ

/-- A body's program on a core, to a postcondition. -/
abbrev Wp {α : Type} (c : Dev nD) (p : Prog (TpuEff nD τ sig (Elt F) Λ₀ .tc) α) (Q : α → sProp (Res F)) : sProp (Res F) :=
  wp frame (wpE (defs₀ (F := F)) Variants.none (c : Thread nD τ) none) Set.univ p Q

/-- A memref of a core owned at contents. -/
abbrev Own (c : Dev nD) {sp : Space} {s : Shape} {e : EltTy} (m : Memref sig .tc sp s e) (q : PosShare TreeShare)
    (X : s.Idx → Elt F e) : sProp (Res F) := owns (c : Thread nD τ) m q X

variable (c : Dev nD) {α : Type} {Q : α → sProp (Res F)}

/-- A load: the program continues at the rectangle's elements of the contents. -/
theorem wp_loadO {cs : CoreSpace} {s : Shape} {e : EltTy} {m : Memref sig .tc cs s e} {r : Rect s} {hl : m.view.LoadsAt r.toLoadRect}
    {k : (r.shape.Idx → Elt F e) → Prog (TpuEff nD τ sig (Elt F) Λ₀ .tc) α} {q : PosShare TreeShare} {X : s.Idx → Elt F e} :
    Own c m q X ⊢ iprop((Own c m q X -∗ Wp c (k fun x => X (r.emb x)) Q) -∗ Wp c (.op (.load m r.toLoadRect hl) k) Q) := by
  unfold Own owns
  iintro ⟨%f, %hf, H⟩ Hk
  subst hf
  iapply (wp_load_rect Variants.none (c : Thread nD τ) none Set.univ (m := m) (r := r) (View.set_slice_subset _ r)) $$ H
  iintro H
  iapply Hk
  iexists f
  isplitr
  · ipureintro; rfl
  iexact H

/-- A store: the contents are the old ones with the rectangle's elements replaced. -/
theorem wp_storeO {cs : CoreSpace} {s : Shape} {e : EltTy} {m : Memref sig .tc cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} {X X' : s.Idx → Elt F e} (h : upd r X w = X') :
    Own c m fullShare X ⊢ iprop((Own c m fullShare X' -∗ Wp c (k ⟨⟩) Q) -∗ Wp c (.op (.store m r w Finset.univ hx hm) k) Q) := by
  unfold Own owns
  iintro ⟨%f, %hf, H⟩ Hk
  subst hf
  iapply (wp_store Variants.none (c : Thread nD τ) none Set.univ (m := m) (r := r) (Mk := Finset.univ) (View.set_slice_subset _ r)) $$ H
  iintro H
  iapply Hk
  iexists _
  isplitr
  swap
  · iexact H
  ipureintro
  exact (read_write_upd m.view r f w).trans h

/-- A load of one word of a table. -/
theorem wp_smemO {s : Shape} {e : EltTy} {m : Memref sig .tc .smem s e} {r : Rect s} {hw : (m.access r).Loads} {x : r.shape.Idx}
    {k : Elt F e → Prog (TpuEff nD τ sig (Elt F) Λ₀ .tc) α} {q : PosShare TreeShare} {X : s.Idx → Elt F e} (a : Elt F e)
    (h : X (r.emb x) = a) :
    Own c m q X ⊢ iprop((Own c m q X -∗ Wp c (k a) Q) -∗ Wp c (smemLoadElt m r hw x k) Q) := by
  subst h
  unfold Own owns
  iintro ⟨%f, %hf, H⟩ Hk
  subst hf
  iapply (wp_smemLoadElt Variants.none (c : Thread nD τ) none Set.univ (m := m) (r := r) (View.set_slice_subset _ r)) $$ H
  iintro H
  iapply Hk
  iexists f
  isplitr
  · ipureintro; rfl
  iexact H

/-! ## Rows and gates -/

/-- The word of row `8 * k + j` of a block. -/
def rowW (k j : ℕ) : BitVec 32 := Scalar.addi (Scalar.muli (Scf.iv 0#32 1#32 k) 8#32) (BitVec.ofNat 32 j)

/-- What a row's addition stores. -/
theorem add_at (o y : Vec F S1x1024 .f32) (g : F .f32) (x : S1x1024.Idx) :
    addf (shapeCast S1x1024 o shapeCasts_S1x1024_S1x1024 : FVec F S1x1024 .f32) (mulf (broadcast S1x1024 g) y) x
      = FloatOps.addf (o x) (FloatOps.mulf g (y x)) := by
  rw [shapeCast_self]; rfl

section
variable {s n : BitVec 32} (h : s.toNat + n.toNat ≤ 8704) {b : ℕ} (hb : b < blocks n.toNat)
include h hb

/-- The gate the body selects for a row. -/
theorem sel_eq (G : S1x1x8712.Idx → F .f32) (base : ℕ) {k j : ℕ} (hk : k < 38) (hj : j < 8) :
    (Scalar.select (Scalar.cmpi .slt (rowW k j) (rowsW n b)) (entry G (base + (8 * k + j))) (Scalar.ofBits .f32 0x00000000#32) : F .f32)
      = gateOf G base (rows n.toNat b) (8 * k + j) := by
  have e1 : (rowW k j).toInt = (8 * k + j : ℕ) := by
    have : (rowW k j).toNat = 8 * k + j := toNat_row k j hk hj
    rw [BitVec.toInt_eq_toNat_of_lt (by omega), this]
  have e2 : (rowsW n b).toInt = (rows n.toNat b : ℕ) := by
    have := toNat_rowsW h hb
    have hr : rows n.toNat b ≤ 304 := by unfold rows; omega
    rw [BitVec.toInt_eq_toNat_of_lt (by omega), this]
  unfold gateOf
  by_cases hlt : 8 * k + j < rows n.toNat b
  · rw [if_pos hlt]
    exact if_pos (IntOp.cmpi_slt.mpr (by rw [e1, e2]; exact_mod_cast hlt))
  · rw [if_neg hlt]
    exact if_neg fun hc => hlt (by have := IntOp.cmpi_slt.mp hc; rw [e1, e2] at this; exact_mod_cast this)
end

end Cert.Moe

end
-- ==== Proof.MoeRows.lean ====
/-
  One row of the expert kernel's first inner loop: a row gathered.
-/
module

public import proofs.«01_k».proof.Proof.MoeRules

@[expose] public section

noncomputable section

namespace Cert.Moe

open Idealize.ShloMosaic Idealize.ShloMosaic.TcCoe Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]
variable (c : Dev nD) {α : Type} {Q : α → sProp (Res F)}

/-- A row gathered: its token's word is read and checked, and the token's row loaded. -/
theorem gath_row {arg4 : Memref sig .tc .smem S1x1x8712 .i32} {arg6 : Memref sig .tc .vmem S2176x1024 .f32}
    {q4 q6 : PosShare TreeShare} {T : S1x1x8712.Idx → BitVec 32} {X : S2176x1024.Idx → F .f32}
    {o2 : Fin 3 → ℕ} {inb2 : ∀ a, o2 a + S1x1x1.size a ≤ S1x1x8712.size a} {x : S1x1x1.Idx}
    (o3 : BitVec 32 → Fin 2 → ℕ) (chk : BitVec 32 → Prop) (dec : ∀ w, Decidable (chk w))
    (inb3 : ∀ w, chk w → ∀ a, o3 w a + S1x1024.size a ≤ S2176x1024.size a) {hl4}
    {k : (S1x1024.Idx → F .f32) → Prog (TpuEff nD τ sig (Elt F) Λ₀ .tc) α}
    (p : ℕ) (h0 : o2 0 = 0) (h1 : o2 1 = 0) (h2 : o2 2 = p) (hchk : ∀ w, w.toNat < 2176 → chk w)
    (h30 : ∀ w, o3 w 0 = w.toNat) (h31 : ∀ w, o3 w 1 = 0) (hT : (entry T p).toNat < 2176) :
    iprop(Own c arg4 q4 T ∗ Own c arg6 q6 X) ⊢
      iprop((Own c arg4 q4 T ∗ Own c arg6 q6 X -∗ Wp c (k fun z => X (tokIx (entry T p).toNat (z 1))) Q)
        -∗ Wp c (.op (.load arg4 (Rect.unit (s := S1x1x8712) o2 S1x1x1.size inb2).toLoadRect hl4) fun (f : S1x1x1.Idx → BitVec 32) =>
            .op (.assume (chk (f x)) (dec (f x))) fun hw =>
              .op (.load arg6 (Rect.unit (s := S2176x1024) (o3 (f x)) S1x1024.size (inb3 (f x) hw.down)).toLoadRect (View.loadsAt_vmem h_S1x1024)) k) Q) := by
  iintro ⟨H4, H6⟩ Hk
  iapply (wp_loadO c) $$ H4
  iintro H4
  have e := entry_emb T inb2 h0 h1 h2 x
  have hc : chk (T ((Rect.unit (s := S1x1x8712) o2 S1x1x1.size inb2).emb x)) := by rw [e]; exact hchk _ hT
  iapply (wp_assume Variants.none (c : Thread nD τ) none Set.univ hc)
  iapply (wp_loadO c) $$ H6
  iintro H6
  have e2 : (fun z => X ((Rect.unit (s := S2176x1024) (o3 (T ((Rect.unit (s := S1x1x8712) o2 S1x1x1.size inb2).emb x))) S1x1024.size
      (inb3 _ hc)).emb z)) = fun z : S1x1024.Idx => X (tokIx (entry T p).toNat (z 1)) := by
    funext z
    exact congrArg X (tok_emb _ hT _ ((h30 _).trans (by rw [e])) (h31 _) z)
  rw [e2]
  iapply Hk
  isplitl [H4]
  · iexact H4
  iexact H6

end Cert.Moe

end
-- ==== Proof.MoeTrip.lean ====
/-
  One trip of each of the expert kernel's two inner loops: eight rows gathered, and eight rows added onto their tokens'.
-/
module

public import proofs.«01_k».proof.Proof.MoeRows
public import Idealize.ShloMosaic.Lib.Exec.Context

@[expose] public section

noncomputable section

namespace Cert.Moe

open Idealize.ShloMosaic Idealize.ShloMosaic.TcCoe Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A token's row is inside the chunk. -/
theorem inb_tok {o : Fin 2 → ℕ} {w : BitVec 32} (h0 : o 0 = w.toNat) (h1 : o 1 = 0) (hw : w.toNat < 2176) :
    ∀ a, o a + S1x1024.size a ≤ S2176x1024.size a := by
  intro a
  match a with
  | ⟨0, _⟩ => show o 0 + 1 ≤ 2176; omega
  | ⟨1, _⟩ => show o 1 + 1024 ≤ 1024; omega

variable (c : Dev nD)
variable (i : grid0.Coords) (arg2 : Memref sig .tc .smem S8x32 .i32) (harg2 : arg2.IsWhole) (arg3 : Memref sig .tc .smem S8x32 .i32) (harg3 : arg3.IsWhole)
  (arg4 : Memref sig .tc .smem S1x1x8712 .i32) (harg4 : arg4.IsWhole) (arg5 : Memref sig .tc .smem S1x1x8712 .f32) (harg5 : arg5.IsWhole)
  (arg6 : Memref sig .tc .vmem S2176x1024 .f32) (harg6 : arg6.IsWhole) (arg7 : Memref sig .tc .vmem S1x1x1024x2048 .bf16) (harg7 : arg7.IsWhole)
  (arg8 : Memref sig .tc .vmem S1x1x1x2048 .f32) (harg8 : arg8.IsWhole) (arg9 : Memref sig .tc .vmem S1x1x1024x1024 .bf16) (harg9 : arg9.IsWhole)
  (arg10 : Memref sig .tc .vmem S1x1x1x1024 .f32) (harg10 : arg10.IsWhole) (arg11 : Memref sig .tc .vmem S2176x1024 .f32) (harg11 : arg11.IsWhole)
  (arg12 : Memref sig .tc .vmem S304x1024 .f32) (harg12 : arg12.IsWhole) (arg13 : Memref sig .tc .vmem S304x1024 .f32) (harg13 : arg13.IsWhole)
variable {s n : BitVec 32} (h : s.toNat + n.toNat ≤ 8704) (hw1 : k0_chk1 s n)
variable {q4 q5 q6 : PosShare TreeShare} {T : S1x1x8712.Idx → BitVec 32} {G : S1x1x8712.Idx → F .f32} {X : S2176x1024.Idx → F .f32}
  (hT : ∀ p, p < 8712 → (entry T p).toNat < 2176)

include h hT in
/-- Eight rows gathered. -/
theorem gath_trip (b : Fin (k0_t1_loop n).trips) (k : Fin (k0_t2_loop n b).trips) (w0 w1 w39 : BitVec 32) (S : S304x1024.Idx → F .f32) :
    iprop((Own c arg4 q4 T ∗ Own c arg6 q6 X) ∗ Own c arg12 fullShare (gath T X (s.toNat + 304 * b) (8 * k) S)) ⊢
      Wp c (k0_t2_body (F := F) i arg2 harg2 arg3 harg3 arg4 harg4 arg5 harg5 arg6 harg6 arg7 harg7 arg8 harg8 arg9 harg9 arg10 harg10 arg11 harg11 arg12 harg12 arg13 harg13 s n hw1 w0 w1 b w39 k ⟨⟩) (fun _ =>
        iprop((Own c arg4 q4 T ∗ Own c arg6 q6 X) ∗ Own c arg12 fullShare (gath T X (s.toNat + 304 * b) (8 * (k + 1)) S))) := by
  have hb := blt h b
  have hk := k2lt h b k
  have ht : ∀ j, j < 8 → (entry T (s.toNat + 304 * b + (8 * k + j))).toNat < 2176 := fun j hj => hT _ (row_lt h hb hk hj)
  unfold k0_t2_body
  simp only [k0_part1_eq_skeleton]
  unfold k0_part1_skel
  simp only [smemLoad, smemLoadElt, Prog.lift, Prog.bind_op, Prog.bind_ret, Prog.pure_eq_ret, Prog.bind_assoc]
  iintro ⟨H, H12⟩
  iapply (gath_row c (k0_off3) (k0_chk2) (k0_chk2.dec) (k0_off3_inb) (s.toNat + 304 * b + (8 * k + 0))
    rfl rfl (toNat_gather h hb hk (j := 0) (by decide)) (fun w hw => inb_tok rfl rfl hw) (fun _ => rfl) (fun _ => rfl) (ht 0 (by decide))) $$ H
  iintro H
  iapply (gath_row c (k0_off5) (k0_chk3) (k0_chk3.dec) (k0_off5_inb) (s.toNat + 304 * b + (8 * k + 1))
    rfl rfl (toNat_gather h hb hk (j := 1) (by decide)) (fun w hw => inb_tok rfl rfl hw) (fun _ => rfl) (fun _ => rfl) (ht 1 (by decide))) $$ H
  iintro H
  iapply (gath_row c (k0_off7) (k0_chk4) (k0_chk4.dec) (k0_off7_inb) (s.toNat + 304 * b + (8 * k + 2))
    rfl rfl (toNat_gather h hb hk (j := 2) (by decide)) (fun w hw => inb_tok rfl rfl hw) (fun _ => rfl) (fun _ => rfl) (ht 2 (by decide))) $$ H
  iintro H
  iapply (gath_row c (k0_off9) (k0_chk5) (k0_chk5.dec) (k0_off9_inb) (s.toNat + 304 * b + (8 * k + 3))
    rfl rfl (toNat_gather h hb hk (j := 3) (by decide)) (fun w hw => inb_tok rfl rfl hw) (fun _ => rfl) (fun _ => rfl) (ht 3 (by decide))) $$ H
  iintro H
  iapply (gath_row c (k0_off11) (k0_chk6) (k0_chk6.dec) (k0_off11_inb) (s.toNat + 304 * b + (8 * k + 4))
    rfl rfl (toNat_gather h hb hk (j := 4) (by decide)) (fun w hw => inb_tok rfl rfl hw) (fun _ => rfl) (fun _ => rfl) (ht 4 (by decide))) $$ H
  iintro H
  iapply (gath_row c (k0_off13) (k0_chk7) (k0_chk7.dec) (k0_off13_inb) (s.toNat + 304 * b + (8 * k + 5))
    rfl rfl (toNat_gather h hb hk (j := 5) (by decide)) (fun w hw => inb_tok rfl rfl hw) (fun _ => rfl) (fun _ => rfl) (ht 5 (by decide))) $$ H
  iintro H
  iapply (gath_row c (k0_off15) (k0_chk8) (k0_chk8.dec) (k0_off15_inb) (s.toNat + 304 * b + (8 * k + 6))
    rfl rfl (toNat_gather h hb hk (j := 6) (by decide)) (fun w hw => inb_tok rfl rfl hw) (fun _ => rfl) (fun _ => rfl) (ht 6 (by decide))) $$ H
  iintro H
  iapply (gath_row c (k0_off17) (k0_chk9) (k0_chk9.dec) (k0_off17_inb) (s.toNat + 304 * b + (8 * k + 7))
    rfl rfl (toNat_gather h hb hk (j := 7) (by decide)) (fun w hw => inb_tok rfl rfl hw) (fun _ => rfl) (fun _ => rfl) (ht 7 (by decide))) $$ H
  iintro H
  iapply (wp_loadO c) $$ H12
  iintro H12
  iapply (wp_storeO c (upd_gath T X (s.toNat + 304 * b) k S _ (toNat_row0 k.val (k2lt' h b k)) rfl _
    (fun x => stack_at (fun j z => X (tokIx (entry T (s.toNat + 304 * b + (8 * k + j.val))).toNat (z 1))) x))) $$ H12
  iintro H12
  simp only [wp_ret]
  imodintro
  isplitl [H]
  · iexact H
  iexact H12

/-! ## What a row's addition stores, by the payloads' names -/

section
variable (b : Fin (k0_t1_loop n).trips) (k : Fin (k0_t4_loop n b).trips) (g : F .f32) (o y : Vec F S1x1024 .f32)

theorem pay_0 : k0_pay5 (F := F) n b (rowsW n b) 0#32 1#32 k g o y =
    addf (shapeCast S1x1024 o shapeCasts_S1x1024_S1x1024 : FVec F S1x1024 .f32) (mulf (broadcast S1x1024
      (Scalar.select (Scalar.cmpi .slt (rowW k 0) (rowsW n b)) g (Scalar.ofBits .f32 0x00000000#32 : F .f32))) y) := by
  unfold k0_pay5; rfl

theorem pay_1 : k0_pay8 (F := F) (k0_pay6 (F := F) o) (k0_pay7 (F := F) n b (rowsW n b) 0#32 1#32 k g y) =
    addf (shapeCast S1x1024 o shapeCasts_S1x1024_S1x1024 : FVec F S1x1024 .f32) (mulf (broadcast S1x1024
      (Scalar.select (Scalar.cmpi .slt (rowW k 1) (rowsW n b)) g (Scalar.ofBits .f32 0x00000000#32 : F .f32))) y) := by
  unfold k0_pay8 k0_pay6 k0_pay7; rfl

theorem pay_2 : k0_pay9 (F := F) (rowsW n b) (Scf.iv 0#32 1#32 k) g o y =
    addf (shapeCast S1x1024 o shapeCasts_S1x1024_S1x1024 : FVec F S1x1024 .f32) (mulf (broadcast S1x1024
      (Scalar.select (Scalar.cmpi .slt (rowW k 2) (rowsW n b)) g (Scalar.ofBits .f32 0x00000000#32 : F .f32))) y) := by
  unfold k0_pay9; rfl

theorem pay_3 : k0_pay12 (F := F) (k0_pay10 (F := F) (rowsW n b) (Scf.iv 0#32 1#32 k) g) (k0_pay11 (F := F) o) y =
    addf (shapeCast S1x1024 o shapeCasts_S1x1024_S1x1024 : FVec F S1x1024 .f32) (mulf (broadcast S1x1024
      (Scalar.select (Scalar.cmpi .slt (rowW k 3) (rowsW n b)) g (Scalar.ofBits .f32 0x00000000#32 : F .f32))) y) := by
  unfold k0_pay12 k0_pay10 k0_pay11; rfl

theorem pay_4 : k0_pay13 (F := F) (rowsW n b) (Scf.iv 0#32 1#32 k) g o y =
    addf (shapeCast S1x1024 o shapeCasts_S1x1024_S1x1024 : FVec F S1x1024 .f32) (mulf (broadcast S1x1024
      (Scalar.select (Scalar.cmpi .slt (rowW k 4) (rowsW n b)) g (Scalar.ofBits .f32 0x00000000#32 : F .f32))) y) := by
  unfold k0_pay13; rfl

theorem pay_5 : k0_pay15 (F := F) (k0_pay14 (F := F) (rowsW n b) (Scf.iv 0#32 1#32 k) g) o y =
    addf (shapeCast S1x1024 o shapeCasts_S1x1024_S1x1024 : FVec F S1x1024 .f32) (mulf (broadcast S1x1024
      (Scalar.select (Scalar.cmpi .slt (rowW k 5) (rowsW n b)) g (Scalar.ofBits .f32 0x00000000#32 : F .f32))) y) := by
  unfold k0_pay15 k0_pay14; rfl

theorem pay_6 : k0_pay16 (F := F) (rowsW n b) (Scf.iv 0#32 1#32 k) g o y =
    addf (shapeCast S1x1024 o shapeCasts_S1x1024_S1x1024 : FVec F S1x1024 .f32) (mulf (broadcast S1x1024
      (Scalar.select (Scalar.cmpi .slt (rowW k 6) (rowsW n b)) g (Scalar.ofBits .f32 0x00000000#32 : F .f32))) y) := by
  unfold k0_pay16; rfl

theorem pay_7 : k0_pay1 (F := F) (Scalar.cmpi .slt (Scalar.addi (Scalar.muli (Scf.iv 0#32 1#32 k) 8#32) 7#32) (rowsW n b)) g o y =
    addf (shapeCast S1x1024 o shapeCasts_S1x1024_S1x1024 : FVec F S1x1024 .f32) (mulf (broadcast S1x1024
      (Scalar.select (Scalar.cmpi .slt (rowW k 7) (rowsW n b)) g (Scalar.ofBits .f32 0x00000000#32 : F .f32))) y) := by
  unfold k0_pay1; rfl

end

/-- What a row's addition leaves of the output. -/
theorem row_upd {base m : ℕ} (r : ℕ) (y : S304x1024.Idx → F .f32) (out : S2176x1024.Idx → F .f32)
    {o3 : Fin 2 → ℕ} (inb3 : ∀ a, o3 a + S1x1024.size a ≤ S2176x1024.size a) (h30 : o3 0 = (entry T (base + r)).toNat) (h31 : o3 1 = 0)
    {o4 : Fin 2 → ℕ} (inb4 : ∀ a, o4 a + S1x1024.size a ≤ S304x1024.size a) (h40 : o4 0 = r) (h41 : o4 1 = 0) (hr : r < 304)
    (g : F .f32) (hg : g = gateOf G base m r) :
    upd (Rect.unit (s := S2176x1024) o3 S1x1024.size inb3) (scat T G y base m r out)
      (addf (shapeCast S1x1024 (fun x => scat T G y base m r out ((Rect.unit (s := S2176x1024) o3 S1x1024.size inb3).emb x) : Vec F S1x1024 .f32)
          shapeCasts_S1x1024_S1x1024 : FVec F S1x1024 .f32)
        (mulf (broadcast S1x1024 g) (fun x => y ((Rect.unit (s := S304x1024) o4 S1x1024.size inb4).emb x))))
      = scat T G y base m (r + 1) out := by
  subst hg
  refine upd_row _ _ _ h30 h31 (gateOf G base m r) (fun q => y (rowIx r q)) _ fun z => (add_at _ _ _ z).trans ?_
  exact congrArg (fun v => FloatOps.addf _ (FloatOps.mulf _ v)) (congrArg y (row_emb r hr inb4 h40 h41 z))

set_option maxHeartbeats 1000000 in
include h hT in
/-- Eight rows added. -/
theorem scat_trip (b : Fin (k0_t1_loop n).trips) (k : Fin (k0_t4_loop n b).trips) (w39 : BitVec 32) (y : S304x1024.Idx → F .f32)
    (out : S2176x1024.Idx → F .f32) :
    iprop((Own c arg4 q4 T ∗ Own c arg5 q5 G ∗ Own c arg13 fullShare y)
        ∗ Own c arg11 fullShare (scat T G y (s.toNat + 304 * b) (rows n.toNat b) (8 * k) out)) ⊢
      Wp c (k0_t4_body (F := F) i arg2 harg2 arg3 harg3 arg4 harg4 arg5 harg5 arg6 harg6 arg7 harg7 arg8 harg8 arg9 harg9 arg10 harg10 arg11 harg11 arg12 harg12 arg13 harg13 s n hw1 b w39 (rowsW n b) k ⟨⟩) (fun _ =>
        iprop((Own c arg4 q4 T ∗ Own c arg5 q5 G ∗ Own c arg13 fullShare y)
          ∗ Own c arg11 fullShare (scat T G y (s.toNat + 304 * b) (rows n.toNat b) (8 * (k + 1)) out))) := by
  have hb := blt h b
  have hk := k4lt h b k
  have hk' := k4lt' h b k
  have ht : ∀ j, j < 8 → (entry T (s.toNat + 304 * b + (8 * k + j))).toNat < 2176 := fun j hj => hT _ (row_lt h hb hk hj)
  unfold k0_t4_body
  simp only [k0_part3_eq_skeleton, k0_part4_eq_skeleton, k0_part5_eq_skeleton, k0_part6_eq_skeleton]
  unfold k0_part3_skel k0_part4_skel k0_part5_skel k0_part6_skel
  simp only [smemLoad, smemLoadElt, Prog.lift, Prog.bind_op, Prog.bind_ret, Prog.pure_eq_ret, Prog.bind_assoc]
  simp only [pay_0, pay_1, pay_2, pay_3, pay_4, pay_5, pay_6, pay_7]
  iintro ⟨⟨H4, H5, H13⟩, H11⟩
  have e0 := toNat_scatter h hb hk (j := 0) (by decide)
  iapply (wp_loadO c) $$ H4
  iintro H4
  iapply (wp_assume Variants.none (c : Thread nD τ) none Set.univ ?hc)
  case hc =>
    exact inb_tok rfl rfl (lt_of_eq_of_lt (congrArg BitVec.toNat (entry_emb T (k0_off36_inb s n hw1 b k) rfl rfl e0 _)) (ht 0 (by decide)))
  iapply (wp_loadO c) $$ H5
  iintro H5
  iapply (wp_loadO c) $$ H11
  iintro H11
  iapply (wp_loadO c) $$ H13
  iintro H13
  iapply (wp_loadO c) $$ H11
  iintro H11
  iapply (wp_storeO c (X' := scat T G y (s.toNat + 304 * b) (rows n.toNat b) (8 * k + 1) out) ?hst) $$ H11
  case hst =>
    exact row_upd (8 * k + 0) y out _ (congrArg BitVec.toNat (entry_emb T (k0_off36_inb s n hw1 b k) rfl rfl e0 _)) rfl
      (k0_off38_inb s n hw1 b k) (toNat_row k.val 0 hk' (by decide)) rfl (by omega) _
      ((congrArg (fun g => Scalar.select (Scalar.cmpi .slt (rowW k 0) (rowsW n b)) g (Scalar.ofBits .f32 0x00000000#32 : F .f32))
        (entry_emb G (k0_off36_inb s n hw1 b k) rfl rfl e0 _)).trans (sel_eq h hb G _ hk' (by decide)))
  iintro H11
  have e1 := toNat_scatter h hb hk (j := 1) (by decide)
  iapply (wp_loadO c) $$ H4
  iintro H4
  iapply (wp_assume Variants.none (c : Thread nD τ) none Set.univ ?hc)
  case hc =>
    exact inb_tok rfl rfl (lt_of_eq_of_lt (congrArg BitVec.toNat (entry_emb T (k0_off39_inb s n hw1 b k) rfl rfl e1 _)) (ht 1 (by decide)))
  iapply (wp_loadO c) $$ H5
  iintro H5
  iapply (wp_loadO c) $$ H11
  iintro H11
  iapply (wp_loadO c) $$ H13
  iintro H13
  iapply (wp_loadO c) $$ H11
  iintro H11
  iapply (wp_storeO c (X' := scat T G y (s.toNat + 304 * b) (rows n.toNat b) (8 * k + 2) out) ?hst) $$ H11
  case hst =>
    exact row_upd (8 * k + 1) y out _ (congrArg BitVec.toNat (entry_emb T (k0_off39_inb s n hw1 b k) rfl rfl e1 _)) rfl
      (k0_off41_inb s n hw1 b k) (toNat_row k.val 1 hk' (by decide)) rfl (by omega) _
      ((congrArg (fun g => Scalar.select (Scalar.cmpi .slt (rowW k 1) (rowsW n b)) g (Scalar.ofBits .f32 0x00000000#32 : F .f32))
        (entry_emb G (k0_off39_inb s n hw1 b k) rfl rfl e1 _)).trans (sel_eq h hb G _ hk' (by decide)))
  iintro H11
  have e2 := toNat_scatter h hb hk (j := 2) (by decide)
  iapply (wp_loadO c) $$ H4
  iintro H4
  iapply (wp_assume Variants.none (c : Thread nD τ) none Set.univ ?hc)
  case hc =>
    exact inb_tok rfl rfl (lt_of_eq_of_lt (congrArg BitVec.toNat (entry_emb T (k0_off42_inb s n hw1 b k) rfl rfl e2 _)) (ht 2 (by decide)))
  iapply (wp_loadO c) $$ H5
  iintro H5
  iapply (wp_loadO c) $$ H11
  iintro H11
  iapply (wp_loadO c) $$ H13
  iintro H13
  iapply (wp_loadO c) $$ H11
  iintro H11
  iapply (wp_storeO c (X' := scat T G y (s.toNat + 304 * b) (rows n.toNat b) (8 * k + 3) out) ?hst) $$ H11
  case hst =>
    exact row_upd (8 * k + 2) y out _ (congrArg BitVec.toNat (entry_emb T (k0_off42_inb s n hw1 b k) rfl rfl e2 _)) rfl
      (k0_off44_inb s n hw1 b k) (toNat_row k.val 2 hk' (by decide)) rfl (by omega) _
      ((congrArg (fun g => Scalar.select (Scalar.cmpi .slt (rowW k 2) (rowsW n b)) g (Scalar.ofBits .f32 0x00000000#32 : F .f32))
        (entry_emb G (k0_off42_inb s n hw1 b k) rfl rfl e2 _)).trans (sel_eq h hb G _ hk' (by decide)))
  iintro H11
  have e3 := toNat_scatter h hb hk (j := 3) (by decide)
  iapply (wp_loadO c) $$ H4
  iintro H4
  iapply (wp_assume Variants.none (c : Thread nD τ) none Set.univ ?hc)
  case hc =>
    exact inb_tok rfl rfl (lt_of_eq_of_lt (congrArg BitVec.toNat (entry_emb T (k0_off45_inb s n hw1 b k) rfl rfl e3 _)) (ht 3 (by decide)))
  iapply (wp_loadO c) $$ H5
  iintro H5
  iapply (wp_loadO c) $$ H11
  iintro H11
  iapply (wp_loadO c) $$ H13
  iintro H13
  iapply (wp_loadO c) $$ H11
  iintro H11
  iapply (wp_storeO c (X' := scat T G y (s.toNat + 304 * b) (rows n.toNat b) (8 * k + 4) out) ?hst) $$ H11
  case hst =>
    exact row_upd (8 * k + 3) y out _ (congrArg BitVec.toNat (entry_emb T (k0_off45_inb s n hw1 b k) rfl rfl e3 _)) rfl
      (k0_off47_inb s n hw1 b k) (toNat_row k.val 3 hk' (by decide)) rfl (by omega) _
      ((congrArg (fun g => Scalar.select (Scalar.cmpi .slt (rowW k 3) (rowsW n b)) g (Scalar.ofBits .f32 0x00000000#32 : F .f32))
        (entry_emb G (k0_off45_inb s n hw1 b k) rfl rfl e3 _)).trans (sel_eq h hb G _ hk' (by decide)))
  iintro H11
  have e4 := toNat_scatter h hb hk (j := 4) (by decide)
  iapply (wp_loadO c) $$ H4
  iintro H4
  iapply (wp_assume Variants.none (c : Thread nD τ) none Set.univ ?hc)
  case hc =>
    exact inb_tok rfl rfl (lt_of_eq_of_lt (congrArg BitVec.toNat (entry_emb T (k0_off48_inb s n hw1 b k) rfl rfl e4 _)) (ht 4 (by decide)))
  iapply (wp_loadO c) $$ H5
  iintro H5
  iapply (wp_loadO c) $$ H11
  iintro H11
  iapply (wp_loadO c) $$ H13
  iintro H13
  iapply (wp_loadO c) $$ H11
  iintro H11
  iapply (wp_storeO c (X' := scat T G y (s.toNat + 304 * b) (rows n.toNat b) (8 * k + 5) out) ?hst) $$ H11
  case hst =>
    exact row_upd (8 * k + 4) y out _ (congrArg BitVec.toNat (entry_emb T (k0_off48_inb s n hw1 b k) rfl rfl e4 _)) rfl
      (k0_off50_inb s n hw1 b k) (toNat_row k.val 4 hk' (by decide)) rfl (by omega) _
      ((congrArg (fun g => Scalar.select (Scalar.cmpi .slt (rowW k 4) (rowsW n b)) g (Scalar.ofBits .f32 0x00000000#32 : F .f32))
        (entry_emb G (k0_off48_inb s n hw1 b k) rfl rfl e4 _)).trans (sel_eq h hb G _ hk' (by decide)))
  iintro H11
  have e5 := toNat_scatter h hb hk (j := 5) (by decide)
  iapply (wp_loadO c) $$ H4
  iintro H4
  iapply (wp_assume Variants.none (c : Thread nD τ) none Set.univ ?hc)
  case hc =>
    exact inb_tok rfl rfl (lt_of_eq_of_lt (congrArg BitVec.toNat (entry_emb T (k0_off51_inb s n hw1 b k) rfl rfl e5 _)) (ht 5 (by decide)))
  iapply (wp_loadO c) $$ H5
  iintro H5
  iapply (wp_loadO c) $$ H11
  iintro H11
  iapply (wp_loadO c) $$ H13
  iintro H13
  iapply (wp_loadO c) $$ H11
  iintro H11
  iapply (wp_storeO c (X' := scat T G y (s.toNat + 304 * b) (rows n.toNat b) (8 * k + 6) out) ?hst) $$ H11
  case hst =>
    exact row_upd (8 * k + 5) y out _ (congrArg BitVec.toNat (entry_emb T (k0_off51_inb s n hw1 b k) rfl rfl e5 _)) rfl
      (k0_off53_inb s n hw1 b k) (toNat_row k.val 5 hk' (by decide)) rfl (by omega) _
      ((congrArg (fun g => Scalar.select (Scalar.cmpi .slt (rowW k 5) (rowsW n b)) g (Scalar.ofBits .f32 0x00000000#32 : F .f32))
        (entry_emb G (k0_off51_inb s n hw1 b k) rfl rfl e5 _)).trans (sel_eq h hb G _ hk' (by decide)))
  iintro H11
  have e6 := toNat_scatter h hb hk (j := 6) (by decide)
  iapply (wp_loadO c) $$ H4
  iintro H4
  iapply (wp_assume Variants.none (c : Thread nD τ) none Set.univ ?hc)
  case hc =>
    exact inb_tok rfl rfl (lt_of_eq_of_lt (congrArg BitVec.toNat (entry_emb T (k0_off54_inb s n hw1 b k) rfl rfl e6 _)) (ht 6 (by decide)))
  iapply (wp_loadO c) $$ H5
  iintro H5
  iapply (wp_loadO c) $$ H11
  iintro H11
  iapply (wp_loadO c) $$ H13
  iintro H13
  iapply (wp_loadO c) $$ H11
  iintro H11
  iapply (wp_storeO c (X' := scat T G y (s.toNat + 304 * b) (rows n.toNat b) (8 * k + 7) out) ?hst) $$ H11
  case hst =>
    exact row_upd (8 * k + 6) y out _ (congrArg BitVec.toNat (entry_emb T (k0_off54_inb s n hw1 b k) rfl rfl e6 _)) rfl
      (k0_off56_inb s n hw1 b k) (toNat_row k.val 6 hk' (by decide)) rfl (by omega) _
      ((congrArg (fun g => Scalar.select (Scalar.cmpi .slt (rowW k 6) (rowsW n b)) g (Scalar.ofBits .f32 0x00000000#32 : F .f32))
        (entry_emb G (k0_off54_inb s n hw1 b k) rfl rfl e6 _)).trans (sel_eq h hb G _ hk' (by decide)))
  iintro H11
  have e7 := toNat_scatter h hb hk (j := 7) (by decide)
  iapply (wp_loadO c) $$ H4
  iintro H4
  iapply (wp_assume Variants.none (c : Thread nD τ) none Set.univ ?hc)
  case hc =>
    exact inb_tok rfl rfl (lt_of_eq_of_lt (congrArg BitVec.toNat (entry_emb T (k0_off57_inb s n hw1 b k) rfl rfl e7 _)) (ht 7 (by decide)))
  iapply (wp_loadO c) $$ H5
  iintro H5
  iapply (wp_loadO c) $$ H11
  iintro H11
  iapply (wp_loadO c) $$ H13
  iintro H13
  iapply (wp_loadO c) $$ H11
  iintro H11
  iapply (wp_storeO c (X' := scat T G y (s.toNat + 304 * b) (rows n.toNat b) (8 * k + 8) out) ?hst) $$ H11
  case hst =>
    exact row_upd (8 * k + 7) y out _ (congrArg BitVec.toNat (entry_emb T (k0_off57_inb s n hw1 b k) rfl rfl e7 _)) rfl
      (k0_off59_inb s n hw1 b k) (toNat_row k.val 7 hk' (by decide)) rfl (by omega) _
      ((congrArg (fun g => Scalar.select (Scalar.cmpi .slt (rowW k 7) (rowsW n b)) g (Scalar.ofBits .f32 0x00000000#32 : F .f32))
        (entry_emb G (k0_off57_inb s n hw1 b k) rfl rfl e7 _)).trans (sel_eq h hb G _ hk' (by decide)))
  iintro H11
  simp only [wp_ret]
  imodintro
  isplitl [H4 H5 H13]
  · isplitl [H4]
    · iexact H4
    isplitl [H5]
    · iexact H5
    iexact H13
  iexact H11

end Cert.Moe

end
-- ==== Proof.MoeBody.lean ====
/-
  The expert kernel's body at a grid point: what it leaves in the output and in the gathered rows.
-/
module

public import proofs.«01_k».proof.Proof.MoeTrip

@[expose] public section

noncomputable section

namespace Cert.Moe

open Idealize.ShloMosaic Idealize.ShloMosaic.TcCoe Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The grid's conditions -/

theorem cond1 : ∀ (a : Fin 8) (b : Fin 32),
    (Scalar.cmpi .ne (Scalar.extui (Scalar.andi (Scalar.cmpi .eq (BitVec.ofNat 32 a.val) 0#32) (Scalar.cmpi .eq (BitVec.ofNat 32 b.val) 0#32)))
      (0#32 : BitVec 32) = 1#1) ↔ (a.val = 0 ∧ b.val = 0) := by decide +kernel

theorem cond2 : ∀ b : Fin 32,
    (Scalar.cmpi .ne (Scalar.extui (Scalar.cmpi .eq (BitVec.ofNat 32 b.val) 0#32)) (0#32 : BitVec 32) = 1#1) ↔ b.val = 0 := by
  decide +kernel

/-! ## Loops and whole memrefs -/

section
variable (c : Dev nD) {α : Type} {Q : α → sProp (Res F)}

/-- A counted loop by an invariant of the trips done. -/
theorem wp_loop (l : Scf.Loop 32) (ok : l.OK) (body : Fin l.trips → Unit → Prog (TpuEff nD τ sig (Elt F) Λ₀ .tc) Unit)
    (inv : ℕ → sProp (Res F)) (hb : ∀ k : Fin l.trips, inv k.val ⊢ Wp c (body k ⟨⟩) (fun _ => inv (k.val + 1)))
    {k : Unit → Prog (TpuEff nD τ sig (Elt F) Λ₀ .tc) α} :
    inv 0 ⊢ iprop((inv l.trips -∗ Wp c (k ⟨⟩) Q) -∗ Wp c (Scf.Loop.for l ok ⟨⟩ body >>= k) Q) := by
  iintro H Hk
  iapply (Scf.wp_for_bind frame (wpE (defs₀ (F := F)) Variants.none (c : Thread nD τ) none) Set.univ _ _ _ ok _ _ (fun k _ => inv k)
    (fun k _ => hb k)) $$ H
  iintro %a H
  iapply Hk
  iexact H

/-- A load of a whole memref. -/
theorem wp_loadW {cs : CoreSpace} {s : Shape} {e : EltTy} {m : Memref sig .tc cs s e} {o : Fin s.rank → ℕ}
    {inb : ∀ a, o a + s.size a ≤ s.size a} {hl : m.view.LoadsAt (Rect.unit (s := s) o s.size inb).toLoadRect}
    {k : (s.Idx → Elt F e) → Prog (TpuEff nD τ sig (Elt F) Λ₀ .tc) α} {q : PosShare TreeShare} {X : s.Idx → Elt F e} :
    Own c m q X ⊢ iprop((Own c m q X -∗ Wp c (k X) Q)
      -∗ Wp c (.op (.load m (Rect.unit (s := s) o s.size inb).toLoadRect hl) k) Q) := by
  iintro H Hk
  iapply (wp_loadO c) $$ H
  iintro H
  have e : (fun x => X ((Rect.unit (s := s) o s.size inb).emb x)) = X := funext fun x => congrArg X (emb_full inb x)
  rw [e]
  iapply Hk
  iexact H
end

theorem gath_zero (T : S1x1x8712.Idx → BitVec 32) (X : S2176x1024.Idx → F .f32) (base : ℕ) (S : S304x1024.Idx → F .f32) :
    gath T X base 0 S = S := by
  funext i; unfold gath; rw [if_neg (Nat.not_lt_zero _)]

variable (c : Dev nD)
variable (i : grid0.Coords) (arg2 : Memref sig .tc .smem S8x32 .i32) (harg2 : arg2.IsWhole) (arg3 : Memref sig .tc .smem S8x32 .i32) (harg3 : arg3.IsWhole)
  (arg4 : Memref sig .tc .smem S1x1x8712 .i32) (harg4 : arg4.IsWhole) (arg5 : Memref sig .tc .smem S1x1x8712 .f32) (harg5 : arg5.IsWhole)
  (arg6 : Memref sig .tc .vmem S2176x1024 .f32) (harg6 : arg6.IsWhole) (arg7 : Memref sig .tc .vmem S1x1x1024x2048 .bf16) (harg7 : arg7.IsWhole)
  (arg8 : Memref sig .tc .vmem S1x1x1x2048 .f32) (harg8 : arg8.IsWhole) (arg9 : Memref sig .tc .vmem S1x1x1024x1024 .bf16) (harg9 : arg9.IsWhole)
  (arg10 : Memref sig .tc .vmem S1x1x1x1024 .f32) (harg10 : arg10.IsWhole) (arg11 : Memref sig .tc .vmem S2176x1024 .f32) (harg11 : arg11.IsWhole)
  (arg12 : Memref sig .tc .vmem S304x1024 .f32) (harg12 : arg12.IsWhole) (arg13 : Memref sig .tc .vmem S304x1024 .f32) (harg13 : arg13.IsWhole)

/-- What the body only reads. -/
def Rd (P : Pt F) : sProp (Res F) :=
  iprop((Own c arg4 fullShare P.T ∗ Own c arg6 fullShare P.X) ∗ Own c arg5 fullShare P.G ∗ Own c arg7 fullShare P.wgu
    ∗ Own c arg8 fullShare P.bgu ∗ Own c arg9 fullShare P.wdn ∗ Own c arg10 fullShare P.bdn)

variable {s n : BitVec 32} (h : s.toNat + n.toNat ≤ 8704) (hw1 : k0_chk1 s n) (P : Pt F)
  (hT : ∀ p, p < 8712 → (entry P.T p).toNat < 2176)

include h hT in
/-- One block: its rows gathered, the expert's results, and these added. -/
theorem block (b : Fin (k0_t1_loop n).trips) (st : (S2176x1024.Idx → F .f32) × (S304x1024.Idx → F .f32)) :
    iprop(Rd c arg4 arg5 arg6 arg7 arg8 arg9 arg10 P ∗ Own c arg11 fullShare (P.run s.toNat n.toNat st b).1
        ∗ Own c arg12 fullShare (P.run s.toNat n.toNat st b).2 ∗ ∃ g, Own c arg13 fullShare g) ⊢
      Wp c (k0_t1_body (F := F) i arg2 harg2 arg3 harg3 arg4 harg4 arg5 harg5 arg6 harg6 arg7 harg7 arg8 harg8 arg9 harg9 arg10 harg10 arg11 harg11 arg12 harg12 arg13 harg13 s n hw1 0#32 b ⟨⟩) (fun _ =>
        iprop(Rd c arg4 arg5 arg6 arg7 arg8 arg9 arg10 P ∗ Own c arg11 fullShare (P.run s.toNat n.toNat st (b + 1)).1
          ∗ Own c arg12 fullShare (P.run s.toNat n.toNat st (b + 1)).2 ∗ ∃ g, Own c arg13 fullShare g)) := by
  unfold k0_t1_body
  simp only [k0_part11_eq_skeleton, k0_part12_eq_skeleton]
  unfold k0_part11_skel k0_part12_skel
  simp only [Prog.lift, Prog.bind_op, Prog.bind_ret, Prog.pure_eq_ret, Prog.bind_assoc]
  unfold Rd
  iintro ⟨⟨H46, H5, H7, H8, H9, H10⟩, H11, H12, ⟨%g, H13⟩⟩
  iapply (wp_loop c _ _ _ (fun k => iprop((Own c arg4 fullShare P.T ∗ Own c arg6 fullShare P.X)
      ∗ Own c arg12 fullShare (gath P.T P.X (s.toNat + 304 * b) (8 * k) (P.run s.toNat n.toNat st b).2)))
    (fun k => gath_trip c i arg2 harg2 arg3 harg3 arg4 harg4 arg5 harg5 arg6 harg6 arg7 harg7 arg8 harg8 arg9 harg9 arg10 harg10 arg11 harg11 arg12 harg12 arg13 harg13 h hw1 hT b k _ _ _ _)) $$ [H46 H12]
  · isplitl [H46]
    · iexact H46
    rw [Nat.mul_zero, gath_zero]
    iexact H12
  rw [t2_trips h b]
  iintro ⟨⟨H4, H6⟩, H12⟩
  iapply (wp_loop c _ _ _ (fun k => iprop(emp)) (fun k => (no3 h b k).elim)) $$ []
  · iempintro
  iintro -
  iapply (wp_loadW c) $$ H12
  iintro H12
  iapply (wp_loadW c) $$ H7
  iintro H7
  iapply (wp_loadW c) $$ H8
  iintro H8
  iapply (wp_loadW c) $$ H9
  iintro H9
  iapply (wp_loadW c) $$ H10
  iintro H10
  iapply (wp_loadW c) $$ H13
  iintro H13
  iapply (wp_storeO c (upd_full _ _ _)) $$ H13
  iintro H13
  iapply (wp_loop c _ _ _ (fun k => iprop((Own c arg4 fullShare P.T ∗ Own c arg5 fullShare P.G
        ∗ Own c arg13 fullShare (P.y (gath P.T P.X (s.toNat + 304 * b) (8 * groups n.toNat b) (P.run s.toNat n.toNat st b).2)))
      ∗ Own c arg11 fullShare (scat P.T P.G (P.y (gath P.T P.X (s.toNat + 304 * b) (8 * groups n.toNat b) (P.run s.toNat n.toNat st b).2))
        (s.toNat + 304 * b) (rows n.toNat b) (8 * k) (P.run s.toNat n.toNat st b).1)))
    (fun k => scat_trip c i arg2 harg2 arg3 harg3 arg4 harg4 arg5 harg5 arg6 harg6 arg7 harg7 arg8 harg8 arg9 harg9 arg10 harg10 arg11 harg11 arg12 harg12 arg13 harg13 h hw1 hT b k _ _ _)) $$ [H4 H5 H13 H11]
  · isplitl [H4 H5 H13]
    · isplitl [H4]
      · iexact H4
      isplitl [H5]
      · iexact H5
      iexact H13
    iexact H11
  rw [t4_trips h b]
  iintro ⟨⟨H4, H5, H13⟩, H11⟩
  iapply (wp_loop c _ _ _ (fun k => iprop(emp)) (fun k => (no5 h b k).elim)) $$ []
  · iempintro
  iintro -
  simp only [wp_ret]
  imodintro
  isplitl [H4 H6 H5 H7 H8 H9 H10]
  · isplitl [H4 H6]
    · isplitl [H4]
      · iexact H4
      iexact H6
    isplitl [H5]
    · iexact H5
    isplitl [H7]
    · iexact H7
    isplitl [H8]
    · iexact H8
    isplitl [H9]
    · iexact H9
    iexact H10
  isplitl [H11]
  · iexact H11
  isplitl [H12]
  · iexact H12
  iexists _
  iexact H13

end Cert.Moe

end
-- ==== Proof.MoeRun.lean ====
/-
  The expert kernel's whole body at a grid point.
-/
module

public import proofs.«01_k».proof.Proof.MoeBody

@[expose] public section

noncomputable section

namespace Cert.Moe

open Idealize.ShloMosaic Idealize.ShloMosaic.TcCoe Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

variable (c : Dev nD)
variable (i : grid0.Coords) (arg2 : Memref sig .tc .smem S8x32 .i32) (harg2 : arg2.IsWhole) (arg3 : Memref sig .tc .smem S8x32 .i32) (harg3 : arg3.IsWhole)
  (arg4 : Memref sig .tc .smem S1x1x8712 .i32) (harg4 : arg4.IsWhole) (arg5 : Memref sig .tc .smem S1x1x8712 .f32) (harg5 : arg5.IsWhole)
  (arg6 : Memref sig .tc .vmem S2176x1024 .f32) (harg6 : arg6.IsWhole) (arg7 : Memref sig .tc .vmem S1x1x1024x2048 .bf16) (harg7 : arg7.IsWhole)
  (arg8 : Memref sig .tc .vmem S1x1x1x2048 .f32) (harg8 : arg8.IsWhole) (arg9 : Memref sig .tc .vmem S1x1x1024x1024 .bf16) (harg9 : arg9.IsWhole)
  (arg10 : Memref sig .tc .vmem S1x1x1x1024 .f32) (harg10 : arg10.IsWhole) (arg11 : Memref sig .tc .vmem S2176x1024 .f32) (harg11 : arg11.IsWhole)
  (arg12 : Memref sig .tc .vmem S304x1024 .f32) (harg12 : arg12.IsWhole) (arg13 : Memref sig .tc .vmem S304x1024 .f32) (harg13 : arg13.IsWhole)

/-- The grid point's entry of a table of segments. -/
def seg (i : grid0.Coords) (S : S8x32.Idx → BitVec 32) : BitVec 32 := S (ix2 ⟨(i 0).val, (i 0).isLt⟩ ⟨(i 1).val, (i 1).isLt⟩)

theorem seg_emb (i : grid0.Coords) (S : S8x32.Idx → BitVec 32) (x : S1x1.Idx) :
    S ((Rect.unit (s := S8x32) (k0_off1 i) S1x1.size (k0_off1_inb i)).emb x) = seg i S := by
  have e0 : (k0_off1 i) 0 = (i 0).val := by
    show (BitVec.ofNat 32 (i 0).val).toNat = _
    rw [BitVec.toNat_ofNat]; have : (i 0).val < 8 := (i 0).isLt; omega
  have e1 : (k0_off1 i) 1 = (i 1).val := by
    show (BitVec.ofNat 32 (i 1).val).toNat = _
    rw [BitVec.toNat_ofNat]; have : (i 1).val < 32 := (i 1).isLt; omega
  unfold seg
  congr 1
  funext a
  apply Fin.ext
  match a with
  | ⟨0, _⟩ => have : (x 0).val < 1 := (x 0).isLt; show (k0_off1 i) 0 + 1 * (x 0).val = (i 0).val; omega
  | ⟨1, _⟩ => have : (x 1).val < 1 := (x 1).isLt; show (k0_off1 i) 1 + 1 * (x 1).val = (i 1).val; omega

variable {α : Type} {Q : α → sProp (Res F)} in
/-- A load whose elements are all one value. -/
theorem wp_loadC {cs : CoreSpace} {s : Shape} {e : EltTy} {m : Memref sig .tc cs s e} {r : Rect s} {hl : m.view.LoadsAt r.toLoadRect}
    {k : (r.shape.Idx → Elt F e) → Prog (TpuEff nD τ sig (Elt F) Λ₀ .tc) α} {q : PosShare TreeShare} {X : s.Idx → Elt F e}
    (a : Elt F e) (h : ∀ x, X (r.emb x) = a) :
    Own c m q X ⊢ iprop((Own c m q X -∗ Wp c (k fun _ => a) Q) -∗ Wp c (.op (.load m r.toLoadRect hl) k) Q) := by
  have e : (fun x => X (r.emb x)) = fun _ => a := funext h
  rw [← e]
  exact wp_loadO c

variable (P : Pt F) (hT : ∀ p, p < 8712 → (entry P.T p).toNat < 2176) {q2 q3 : PosShare TreeShare}

include hT in
/-- The body: the output and the gathered rows as the grid point's value says. -/
theorem body_run (S C : S8x32.Idx → BitVec 32) (h : (seg i S).toNat + (seg i C).toNat ≤ 8704)
    (out : S2176x1024.Idx → F .f32) (rws : S304x1024.Idx → F .f32) :
    iprop((Own c arg2 q2 S ∗ Own c arg3 q3 C) ∗ Rd c arg4 arg5 arg6 arg7 arg8 arg9 arg10 P ∗ Own c arg11 fullShare out
        ∗ Own c arg12 fullShare rws ∗ ∃ g, Own c arg13 fullShare g) ⊢
      Wp c (cc0_moe (F := F) i arg2 harg2 arg3 harg3 arg4 harg4 arg5 harg5 arg6 harg6 arg7 harg7 arg8 harg8 arg9 harg9 arg10 harg10 arg11 harg11 arg12 harg12 arg13 harg13) (fun _ =>
        iprop((Own c arg2 q2 S ∗ Own c arg3 q3 C) ∗ Rd c arg4 arg5 arg6 arg7 arg8 arg9 arg10 P
          ∗ Own c arg11 fullShare (P.point i (seg i S).toNat (seg i C).toNat (out, rws)).1
          ∗ Own c arg12 fullShare (P.point i (seg i S).toNat (seg i C).toNat (out, rws)).2 ∗ ∃ g, Own c arg13 fullShare g)) := by
  have e2 := seg_emb i S
  have e3 := seg_emb i C
  generalize hs : seg i S = s at *
  generalize hn : seg i C = n at *
  simp only [Pt.point]
  generalize ho : (if (i 1).val = 0 then k0_pay62 (F := F) else out) = o0
  generalize hr : (if (i 0).val = 0 ∧ (i 1).val = 0 then k0_pay61 (F := F) else rws) = r0
  have c1 := cond1 ⟨(i 0).val, (i 0).isLt⟩ ⟨(i 1).val, (i 1).isLt⟩
  have c2 := cond2 ⟨(i 1).val, (i 1).isLt⟩
  dsimp only at c1 c2
  simp only [cc0_moe_eq_skeleton]
  unfold cc0_moe_skel
  simp only [k0_part25_eq_skeleton]
  unfold k0_part25_skel
  dsimp only
  iintro ⟨⟨H2, H3⟩, HR, H11, H12, H13⟩
  by_cases hb : (i 1).val = 0
  · rw [if_pos hb] at ho
    by_cases ha : (i 0).val = 0
    · rw [if_pos ⟨ha, hb⟩] at hr
      simp only [dif_pos (c1.mpr ⟨ha, hb⟩), dif_pos (c2.mpr hb), smemLoad, smemLoadElt, Prog.lift, Prog.bind_op, Prog.bind_ret,
        Prog.pure_eq_ret, Prog.bind_assoc]
      iapply (wp_loadW c) $$ H12
      iintro H12
      iapply (wp_storeO c ((upd_full _ _ _).trans hr)) $$ H12
      iintro H12
      iapply (wp_loadW c) $$ H11
      iintro H11
      iapply (wp_storeO c ((upd_full _ _ _).trans ho)) $$ H11
      iintro H11
      iapply (wp_loadC c s e2) $$ H2
      iintro H2
      iapply (wp_loadC c n e3) $$ H3
      iintro H3
      beta_reduce
      iapply (wp_assume Variants.none (c : Thread nD τ) none Set.univ (chk1 h))
      iapply (wp_loop c _ _ _ (fun k => iprop(Rd c arg4 arg5 arg6 arg7 arg8 arg9 arg10 P
          ∗ Own c arg11 fullShare (P.run s.toNat n.toNat (o0, r0) k).1
          ∗ Own c arg12 fullShare (P.run s.toNat n.toNat (o0, r0) k).2 ∗ ∃ g, Own c arg13 fullShare g))
        (fun k => block c i arg2 harg2 arg3 harg3 arg4 harg4 arg5 harg5 arg6 harg6 arg7 harg7 arg8 harg8 arg9 harg9 arg10 harg10 arg11 harg11 arg12 harg12 arg13 harg13 h (chk1 h) P hT k _)) $$ [HR H11 H12 H13]
      · isplitl [HR]
        · iexact HR
        isplitl [H11]
        · iexact H11
        isplitl [H12]
        · iexact H12
        iexact H13
      rw [t1_trips h]
      iintro ⟨HR, H11, H12, H13⟩
      iapply (wp_loop c _ _ _ (fun k => iprop(emp)) (fun k => (no6 h k).elim)) $$ []
      · iempintro
      iintro -
      simp only [wp_ret]
      imodintro
      isplitl [H2 H3]
      · isplitl [H2]
        · iexact H2
        iexact H3
      isplitl [HR]
      · iexact HR
      isplitl [H11]
      · iexact H11
      isplitl [H12]
      · iexact H12
      iexact H13
    · rw [if_neg fun h => ha h.1] at hr
      subst hr
      simp only [dif_neg (fun h => ha (c1.mp h).1), dif_pos (c2.mpr hb), smemLoad, smemLoadElt, Prog.lift, Prog.bind_op, Prog.bind_ret,
        Prog.pure_eq_ret, Prog.bind_assoc]
      iapply (wp_loadW c) $$ H11
      iintro H11
      iapply (wp_storeO c ((upd_full _ _ _).trans ho)) $$ H11
      iintro H11
      iapply (wp_loadC c s e2) $$ H2
      iintro H2
      iapply (wp_loadC c n e3) $$ H3
      iintro H3
      beta_reduce
      iapply (wp_assume Variants.none (c : Thread nD τ) none Set.univ (chk1 h))
      iapply (wp_loop c _ _ _ (fun k => iprop(Rd c arg4 arg5 arg6 arg7 arg8 arg9 arg10 P
          ∗ Own c arg11 fullShare (P.run s.toNat n.toNat (o0, rws) k).1
          ∗ Own c arg12 fullShare (P.run s.toNat n.toNat (o0, rws) k).2 ∗ ∃ g, Own c arg13 fullShare g))
        (fun k => block c i arg2 harg2 arg3 harg3 arg4 harg4 arg5 harg5 arg6 harg6 arg7 harg7 arg8 harg8 arg9 harg9 arg10 harg10 arg11 harg11 arg12 harg12 arg13 harg13 h (chk1 h) P hT k _)) $$ [HR H11 H12 H13]
      · isplitl [HR]
        · iexact HR
        isplitl [H11]
        · iexact H11
        isplitl [H12]
        · iexact H12
        iexact H13
      rw [t1_trips h]
      iintro ⟨HR, H11, H12, H13⟩
      iapply (wp_loop c _ _ _ (fun k => iprop(emp)) (fun k => (no6 h k).elim)) $$ []
      · iempintro
      iintro -
      simp only [wp_ret]
      imodintro
      isplitl [H2 H3]
      · isplitl [H2]
        · iexact H2
        iexact H3
      isplitl [HR]
      · iexact HR
      isplitl [H11]
      · iexact H11
      isplitl [H12]
      · iexact H12
      iexact H13
  · rw [if_neg hb] at ho
    rw [if_neg fun h => hb h.2] at hr
    subst ho hr
    simp only [dif_neg (fun h => hb (c1.mp h).2), dif_neg (fun h => hb (c2.mp h)), smemLoad, smemLoadElt, Prog.lift, Prog.bind_op,
      Prog.bind_ret, Prog.pure_eq_ret, Prog.bind_assoc]
    iapply (wp_loadC c s e2) $$ H2
    iintro H2
    iapply (wp_loadC c n e3) $$ H3
    iintro H3
    beta_reduce
    iapply (wp_assume Variants.none (c : Thread nD τ) none Set.univ (chk1 h))
    iapply (wp_loop c _ _ _ (fun k => iprop(Rd c arg4 arg5 arg6 arg7 arg8 arg9 arg10 P
        ∗ Own c arg11 fullShare (P.run s.toNat n.toNat (out, rws) k).1
        ∗ Own c arg12 fullShare (P.run s.toNat n.toNat (out, rws) k).2 ∗ ∃ g, Own c arg13 fullShare g))
      (fun k => block c i arg2 harg2 arg3 harg3 arg4 harg4 arg5 harg5 arg6 harg6 arg7 harg7 arg8 harg8 arg9 harg9 arg10 harg10 arg11 harg11 arg12 harg12 arg13 harg13 h (chk1 h) P hT k _)) $$ [HR H11 H12 H13]
    · isplitl [HR]
      · iexact HR
      isplitl [H11]
      · iexact H11
      isplitl [H12]
      · iexact H12
      iexact H13
    rw [t1_trips h]
    iintro ⟨HR, H11, H12, H13⟩
    iapply (wp_loop c _ _ _ (fun k => iprop(emp)) (fun k => (no6 h k).elim)) $$ []
    · iempintro
    iintro -
    simp only [wp_ret]
    imodintro
    isplitl [H2 H3]
    · isplitl [H2]
      · iexact H2
      iexact H3
    isplitl [HR]
    · iexact HR
    isplitl [H11]
    · iexact H11
    isplitl [H12]
    · iexact H12
    iexact H13

end Cert.Moe

end
-- ==== Proof.MoeLaunch.lean ====
/-
  The launch of the expert kernel: its host operations, what its buffers hold at every grid point, and its run to the end
  at any values.
-/
module

public import proofs.«01_k».proof.Proof.MoeRun
public import Idealize.ShloMosaic.Lib.Pipeline.FrameBody
public import Idealize.ShloMosaic.Lib.Ring
public import Idealize.ShloMosaic.Lib.WordCmp

@[expose] public section

set_option maxRecDepth 16384

noncomputable section

namespace Cert.Moe

open Idealize.ShloMosaic Idealize.ShloMosaic.TcCoe Cert.Kernel2Ideal Cert.Kernel2Ideal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] (m : (ℓ : Loc nD τ sig) → Buf (Elt F) ℓ) (ρ : Dev nD → PrngReg)

/-! ## Up to the region -/

/-- The host operations, stretch by stretch. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11]

/-- A core's buffers when the kernel starts. -/
def V (c : Dev nD) (b : Ref sig .tc) : Buf (Elt F) ((c : Thread nD τ).loc b) :=
  StableHlo.after (List.flatten (opss (F := F))) (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub⟩

theorem opss_fresh : (opss (F := F)).Forall fun ops => ops.Forall fun op => op.fresh = ∅ := by
  simp only [opss, List.Forall]; repeat' constructor

set_option maxHeartbeats 800000 in
/-- The program up to the kernel. -/
theorem hmain : Pipeline.HMainP (Ix := Unit) (Name := ℕ) (U := UR sig nD τ) (Lvl := ℕ) pcfgs 0 defs₀ Variants.none m (main (F := F)) (V m) :=
  Pipeline.hmainP_prefixes pcfgs 0 defs₀ Variants.none m main opss opss_sub opss_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [opss, hostOps0, hostOps0_1, hostOps0_2, hostOps0_3, hostOps0_4, hostOps0_5, hostOps0_6, hostOps0_7, hostOps0_8, hostOps0_9,
      hostOps0_10, hostOps0_11, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [opss, hostOps0, hostOps0_1, hostOps0_2, hostOps0_3, hostOps0_4, hostOps0_5, hostOps0_6, hostOps0_7, hostOps0_8, hostOps0_9,
      hostOps0_10, hostOps0_11, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [opss, hostOps0, hostOps0_1, hostOps0_2, hostOps0_3, hostOps0_4, hostOps0_5, hostOps0_6, hostOps0_7, hostOps0_8, hostOps0_9,
      hostOps0_10, hostOps0_11, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [opss, hostOps0, hostOps0_1, hostOps0_2, hostOps0_3, hostOps0_4, hostOps0_5, hostOps0_6, hostOps0_7, hostOps0_8, hostOps0_9,
      hostOps0_10, hostOps0_11, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [opss, hostOps0, hostOps0_1, hostOps0_2, hostOps0_3, hostOps0_4, hostOps0_5, hostOps0_6, hostOps0_7, hostOps0_8, hostOps0_9,
      hostOps0_10, hostOps0_11, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [opss, hostOps0, hostOps0_1, hostOps0_2, hostOps0_3, hostOps0_4, hostOps0_5, hostOps0_6, hostOps0_7, hostOps0_8, hostOps0_9,
      hostOps0_10, hostOps0_11, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [opss, hostOps0, hostOps0_1, hostOps0_2, hostOps0_3, hostOps0_4, hostOps0_5, hostOps0_6, hostOps0_7, hostOps0_8, hostOps0_9,
      hostOps0_10, hostOps0_11, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## What the buffers hold -/

/-- The tables of starts and counts, as the kernel finds them. -/
def adm (p : Fin 1) : (pcfgs (F := F) p).Adm := ⟨fun k => V m 0 (pre0.ref k), trivial⟩

/-- The pipeline. -/
abbrev cf : Pipeline.Cfg sig Λ₀ := cfg0 (F := F) (adm m 0)

/-- A window's block at a grid point. -/
def iblk (c : Dev nD) (w : Fin 8) (t : Fin grid0.N) : (((cf m).win w).xblock (grid0.coords t)).Idx → Elt F ((cf m).win w).elt :=
  (((cf m).win w).blk t).view.read (Elt F) (V m c (Pipeline.arrRef spec0 w))

/-- What the body reads at a grid point. -/
def pt (c : Dev nD) (t : Fin grid0.N) : Pt F :=
  ⟨iblk m c 0 t, iblk m c 1 t, iblk m c 2 t, iblk m c 3 t, iblk m c 4 t, iblk m c 5 t, iblk m c 6 t⟩

/-- The start and the count of a grid point. -/
def sAt (c : Dev nD) (t : Fin grid0.N) : ℕ := (seg (grid0.coords t) (V m c main_v23)).toNat
def nAt (c : Dev nD) (t : Fin grid0.N) : ℕ := (seg (grid0.coords t) (V m c main_v21)).toNat

/-- The output's block and the gathered rows after the first `n` grid points. -/
def stAt (c : Dev nD) : ℕ → (S2176x1024.Idx → F .f32) × (S304x1024.Idx → F .f32)
  | 0 => (k0_pay62 (F := F), k0_pay61 (F := F))
  | n + 1 => if h : n < grid0.N then (pt m c ⟨n, h⟩).point (grid0.coords ⟨n, h⟩) (sAt m c ⟨n, h⟩) (nAt m c ⟨n, h⟩) (stAt c n) else stAt c n

theorem stAt_succ (c : Dev nD) (t : Fin grid0.N) :
    stAt m c (t.val + 1) = (pt m c t).point (grid0.coords t) (sAt m c t) (nAt m c t) (stAt m c t.val) := by
  rw [stAt]; exact dif_pos t.isLt

/-- What a grid point resets doesn't matter to it. -/
theorem point_congr (P : Pt F) (i : grid0.Coords) (s n : ℕ) (st st' : (S2176x1024.Idx → F .f32) × (S304x1024.Idx → F .f32))
    (h1 : (i 1).val ≠ 0 → st.1 = st'.1) (h2 : ¬((i 0).val = 0 ∧ (i 1).val = 0) → st.2 = st'.2) : P.point i s n st = P.point i s n st' := by
  have e1 : (if (i 1).val = 0 then k0_pay62 (F := F) else st.1) = (if (i 1).val = 0 then k0_pay62 (F := F) else st'.1) := by
    split
    · rfl
    · exact h1 ‹_›
  have e2 : (if (i 0).val = 0 ∧ (i 1).val = 0 then k0_pay61 (F := F) else st.2) = (if (i 0).val = 0 ∧ (i 1).val = 0 then k0_pay61 (F := F) else st'.2) := by
    split
    · rfl
    · exact h2 ‹_›
  unfold Pt.point
  rw [e1, e2]

theorem coord0 : ∀ t : Fin grid0.N, (grid0.coords t 0).val = t.val / 32 := by decide +kernel
theorem coord1 : ∀ t : Fin grid0.N, (grid0.coords t 1).val = t.val % 32 := by decide +kernel

abbrev scM0 : Memref sig .tc .vmem S304x1024 .f32 := Memref.whole cc0_scratch0
abbrev scM1 : Memref sig .tc .vmem S304x1024 .f32 := Memref.whole cc0_scratch1
abbrev tbS : Memref sig .tc .smem S8x32 .i32 := Memref.whole main_v23
abbrev tbC : Memref sig .tc .smem S8x32 .i32 := Memref.whole main_v21

/-- What the kernel holds besides the windows before the grid point `n`. -/
def Phi (c : Dev nD) (n : ℕ) : sProp (Res F) :=
  iprop((∃ r, ⌜n ≠ 0 → r = (stAt m c n).2⌝ ∗ Own c scM0 fullShare r) ∗ (∃ g, Own c scM1 fullShare g) ∗ (∃ r, prngReg c r)
    ∗ Own c tbS fullShare.right (V m c main_v23) ∗ Own c tbC fullShare.right (V m c main_v21))

/-- The pipeline's data. -/
def dats (p : Fin 1) (c : Dev nD) : Dat τ (Elt F) Unit ℕ (UR sig nD τ) ℕ (Pipeline.pin (pcfgs (F := F)) (adm m) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stAt m c (t.val + 1)).1
  Φ t := Phi m c t.val
  q _ := fullShare
  owed _ := 0

theorem A_eq (c : Dev nD) (w : Fin 8) : (dats m 0 c).A w = V m c (Pipeline.arrRef spec0 w) := by dsimp only [dats]

theorem after_0 (c : Dev nD) (t : Fin grid0.N) : (dats m 0 c).after (0 : Fin 8) t = iblk m c 0 t := by dsimp only [dats]
theorem after_1 (c : Dev nD) (t : Fin grid0.N) : (dats m 0 c).after (1 : Fin 8) t = iblk m c 1 t := by dsimp only [dats]
theorem after_2 (c : Dev nD) (t : Fin grid0.N) : (dats m 0 c).after (2 : Fin 8) t = iblk m c 2 t := by dsimp only [dats]
theorem after_3 (c : Dev nD) (t : Fin grid0.N) : (dats m 0 c).after (3 : Fin 8) t = iblk m c 3 t := by dsimp only [dats]
theorem after_4 (c : Dev nD) (t : Fin grid0.N) : (dats m 0 c).after (4 : Fin 8) t = iblk m c 4 t := by dsimp only [dats]
theorem after_5 (c : Dev nD) (t : Fin grid0.N) : (dats m 0 c).after (5 : Fin 8) t = iblk m c 5 t := by dsimp only [dats]
theorem after_6 (c : Dev nD) (t : Fin grid0.N) : (dats m 0 c).after (6 : Fin 8) t = iblk m c 6 t := by dsimp only [dats]
theorem after_7 (c : Dev nD) (t : Fin grid0.N) : (dats m 0 c).after (7 : Fin 8) t = (stAt m c (t.val + 1)).1 := by dsimp only [dats]

theorem before_0 (c : Dev nD) (t : Fin grid0.N) (d) : (dats m 0 c).before (0 : Fin 8) t d = iblk m c 0 t :=
  ((dats m 0 c).before_in_eq_fetched (0 : Fin 8) rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin grid0.N) (d) : (dats m 0 c).before (1 : Fin 8) t d = iblk m c 1 t :=
  ((dats m 0 c).before_in_eq_fetched (1 : Fin 8) rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin grid0.N) (d) : (dats m 0 c).before (2 : Fin 8) t d = iblk m c 2 t :=
  ((dats m 0 c).before_in_eq_fetched (2 : Fin 8) rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin grid0.N) (d) : (dats m 0 c).before (3 : Fin 8) t d = iblk m c 3 t :=
  ((dats m 0 c).before_in_eq_fetched (3 : Fin 8) rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin grid0.N) (d) : (dats m 0 c).before (4 : Fin 8) t d = iblk m c 4 t :=
  ((dats m 0 c).before_in_eq_fetched (4 : Fin 8) rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin grid0.N) (d) : (dats m 0 c).before (5 : Fin 8) t d = iblk m c 5 t :=
  ((dats m 0 c).before_in_eq_fetched (5 : Fin 8) rfl (fun _ => rfl) (fun _ _ _ => rfl)
    (fun t => by rw [after_5]; unfold Dat.blockOf iblk; rw [A_eq]; try rfl) t d).trans
    (by unfold Dat.fetched Dat.blockOf iblk; rw [A_eq]; try rfl)
theorem before_6 (c : Dev nD) (t : Fin grid0.N) (d) : (dats m 0 c).before (6 : Fin 8) t d = iblk m c 6 t :=
  ((dats m 0 c).before_in_eq_fetched (6 : Fin 8) rfl (fun _ => rfl) (fun _ _ _ => rfl)
    (fun t => by rw [after_6]; unfold Dat.blockOf iblk; rw [A_eq]; try rfl) t d).trans
    (by unfold Dat.fetched Dat.blockOf iblk; rw [A_eq]; try rfl)

theorem flush_7 : ∀ t : Fin grid0.N, ((cf m).win 7).flush t = true ↔ t.val % 32 = 31 :=
  fun t => Pipeline.Window.flush_reads ((cf m).win 7) rfl 0 (show 1 < grid0.bound 0 by decide) (show grid0.fixedAfter reads0_7 0 = true by decide)
    (Pipeline.Window.sep_of_coord cc0_transform_7 0 0 (fun _ => rfl) (by decide)) (P := 32) (m := 31) (show grid0.stride 0 = 32 by decide) rfl t

theorem before_7 (c : Dev nD) (t : Fin grid0.N) (d) (h : t.val % 32 ≠ 0) : (dats m 0 c).before (7 : Fin 8) t d = (stAt m c t.val).1 := by
  have ht : t.val ≠ 0 := fun e => h (by rw [e])
  rw [(dats m 0 c).before_out_kept (7 : Fin 8) rfl t ht
    (Bool.eq_false_iff.mpr fun hf => by have := (flush_7 m ⟨t.val - 1, _⟩).mp hf; dsimp only at this; omega) (fun _ => rfl) (fun _ _ => rfl) d]
  refine (after_7 m c ⟨t.val - 1, _⟩).trans ?_
  show (stAt m c (t.val - 1 + 1)).1 = _
  rw [Nat.sub_add_cancel (Nat.pos_of_ne_zero ht)]

/-! ## The body at a grid point -/

abbrev ms0 (t : Fin grid0.N) : Memref sig .tc .smem S1x1x8712 .i32 := spec0_0.stage ((cf m).slots t (0 : Fin 8))
abbrev hs0 (t : Fin grid0.N) : (ms0 m t).IsWhole := hstage0_0 (((cf m).slots t (0 : Fin 8)).cast nbuf0_0)
abbrev ms1 (t : Fin grid0.N) : Memref sig .tc .smem S1x1x8712 .f32 := spec0_1.stage ((cf m).slots t (1 : Fin 8))
abbrev hs1 (t : Fin grid0.N) : (ms1 m t).IsWhole := hstage0_1 (((cf m).slots t (1 : Fin 8)).cast nbuf0_1)
abbrev ms2 (t : Fin grid0.N) : Memref sig .tc .vmem S2176x1024 .f32 := spec0_2.stage ((cf m).slots t (2 : Fin 8))
abbrev hs2 (t : Fin grid0.N) : (ms2 m t).IsWhole := hstage0_2 (((cf m).slots t (2 : Fin 8)).cast nbuf0_2)
abbrev ms3 (t : Fin grid0.N) : Memref sig .tc .vmem S1x1x1024x2048 .bf16 := spec0_3.stage ((cf m).slots t (3 : Fin 8))
abbrev hs3 (t : Fin grid0.N) : (ms3 m t).IsWhole := hstage0_3 (((cf m).slots t (3 : Fin 8)).cast nbuf0_3)
abbrev ms4 (t : Fin grid0.N) : Memref sig .tc .vmem S1x1x1x2048 .f32 := spec0_4.stage ((cf m).slots t (4 : Fin 8))
abbrev hs4 (t : Fin grid0.N) : (ms4 m t).IsWhole := hstage0_4 (((cf m).slots t (4 : Fin 8)).cast nbuf0_4)
abbrev ms5 (t : Fin grid0.N) : Memref sig .tc .vmem S1x1x1024x1024 .bf16 := spec0_5.stage ((cf m).slots t (5 : Fin 8))
abbrev hs5 (t : Fin grid0.N) : (ms5 m t).IsWhole := hstage0_5 (((cf m).slots t (5 : Fin 8)).cast nbuf0_5)
abbrev ms6 (t : Fin grid0.N) : Memref sig .tc .vmem S1x1x1x1024 .f32 := spec0_6.stage ((cf m).slots t (6 : Fin 8))
abbrev hs6 (t : Fin grid0.N) : (ms6 m t).IsWhole := hstage0_6 (((cf m).slots t (6 : Fin 8)).cast nbuf0_6)
abbrev ms7 (t : Fin grid0.N) : Memref sig .tc .vmem S2176x1024 .f32 := spec0_7.stage ((cf m).slots t (7 : Fin 8))
abbrev hs7 (t : Fin grid0.N) : (ms7 m t).IsWhole := hstage0_7 (((cf m).slots t (7 : Fin 8)).cast nbuf0_7)

abbrev bodyAt (t : Fin grid0.N) : Prog (TpuEff nD τ sig (Elt F) Λ₀ .tc) PUnit :=
  cc0_moe (grid0.coords t) tbS (Memref.isWhole_whole _) tbC (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) scM0 (Memref.isWhole_whole _) scM1 (Memref.isWhole_whole _)

def bodyPre (c : Dev nD) (t : Fin grid0.N) : sProp (Res F) :=
  iprop((dats m 0 c).Φ t.castSucc ∗ (dats m 0 c).owesAt () t.castSucc
    ∗ (∃ d, Own c (ms0 m t) fullShare ((dats m 0 c).before (0 : Fin 8) t d))
    ∗ (∃ d, Own c (ms1 m t) fullShare ((dats m 0 c).before (1 : Fin 8) t d))
    ∗ (∃ d, Own c (ms2 m t) fullShare ((dats m 0 c).before (2 : Fin 8) t d))
    ∗ (∃ d, Own c (ms3 m t) fullShare ((dats m 0 c).before (3 : Fin 8) t d))
    ∗ (∃ d, Own c (ms4 m t) fullShare ((dats m 0 c).before (4 : Fin 8) t d))
    ∗ (∃ d, Own c (ms5 m t) fullShare ((dats m 0 c).before (5 : Fin 8) t d))
    ∗ (∃ d, Own c (ms6 m t) fullShare ((dats m 0 c).before (6 : Fin 8) t d))
    ∗ (∃ d, Own c (ms7 m t) fullShare ((dats m 0 c).before (7 : Fin 8) t d)))

def bodyPost (c : Dev nD) (t : Fin grid0.N) : sProp (Res F) :=
  iprop((dats m 0 c).Φ t.succ ∗ (dats m 0 c).owesAt () t.succ
    ∗ Own c (ms0 m t) fullShare ((dats m 0 c).after (0 : Fin 8) t)
    ∗ Own c (ms1 m t) fullShare ((dats m 0 c).after (1 : Fin 8) t)
    ∗ Own c (ms2 m t) fullShare ((dats m 0 c).after (2 : Fin 8) t)
    ∗ Own c (ms3 m t) fullShare ((dats m 0 c).after (3 : Fin 8) t)
    ∗ Own c (ms4 m t) fullShare ((dats m 0 c).after (4 : Fin 8) t)
    ∗ Own c (ms5 m t) fullShare ((dats m 0 c).after (5 : Fin 8) t)
    ∗ Own c (ms6 m t) fullShare ((dats m 0 c).after (6 : Fin 8) t)
    ∗ Own c (ms7 m t) fullShare ((dats m 0 c).after (7 : Fin 8) t))

variable (hS : ∀ c t, sAt m c t + nAt m c t ≤ 8704) (hT : ∀ c t p, p < 8712 → (entry (pt m c t).T p).toNat < 2176)

set_option maxHeartbeats 1600000 in
include hS hT in
/-- The body at any grid point. -/
theorem sound_body (c : Dev nD) (t : Fin grid0.N) :
    bodyPre m c t ⊢ Wp c (bodyAt m t) (fun _ => bodyPost m c t) := by
  unfold bodyPre bodyPost bodyAt
  simp only [before_0, before_1, before_2, before_3, before_4, before_5, before_6]
  rw [show (dats m 0 c).owesAt () t.succ = (dats m 0 c).owesAt () t.castSucc from rfl,
    after_0, after_1, after_2, after_3, after_4, after_5, after_6, after_7]
  rw [show (dats m 0 c).Φ t.succ = Phi m c (t.val + 1) from rfl, show (dats m 0 c).Φ t.castSucc = Phi m c t.val from rfl]
  unfold Phi
  iintro ⟨⟨⟨%r, %hr, H12⟩, H13, Hg, H2, H3⟩, Ho, ⟨%d0, H0⟩, ⟨%d1, H1⟩, ⟨%d2, H6⟩, ⟨%d3, H7⟩, ⟨%d4, H8⟩, ⟨%d5, H9⟩, ⟨%d6, H10⟩, ⟨%d7, H11⟩⟩
  have e : (pt m c t).point (grid0.coords t) (sAt m c t) (nAt m c t) ((dats m 0 c).before (7 : Fin 8) t d7, r) = stAt m c (t.val + 1) := by
    rw [stAt_succ]
    refine point_congr _ _ _ _ _ _ (fun h => ?_) fun h => ?_
    · exact before_7 m c t d7 (by rw [coord1] at h; exact h)
    · exact hr fun h0 => h (by rw [coord0, coord1, h0]; exact ⟨rfl, rfl⟩)
  iapply ((body_run c (grid0.coords t) _ _ _ _ _ _ _ _ _ _ _ _ _ _ _ _ _ _ _ _ _ _ _ _ (pt m c t) (hT c t) (q2 := fullShare.right) (q3 := fullShare.right)
    (V m c main_v23) (V m c main_v21) (hS c t) ((dats m 0 c).before (7 : Fin 8) t d7) r).trans (wp_wand frame _ Set.univ)) $$ [H0 H1 H2 H3 H6 H7 H8 H9 H10 H11 H12 H13]
  · isplitl [H2 H3]
    · isplitl [H2]
      · iexact H2
      iexact H3
    isplitl [H0 H1 H6 H7 H8 H9 H10]
    · unfold Rd
      isplitl [H0 H6]
      · isplitl [H0]
        · iexact H0
        iexact H6
      isplitl [H1]
      · iexact H1
      isplitl [H7]
      · iexact H7
      isplitl [H8]
      · iexact H8
      isplitl [H9]
      · iexact H9
      iexact H10
    isplitl [H11]
    · iexact H11
    isplitl [H12]
    · iexact H12
    iexact H13
  iintro %x
  rw [show (seg (grid0.coords t) (V m c main_v23)).toNat = sAt m c t from rfl, show (seg (grid0.coords t) (V m c main_v21)).toNat = nAt m c t from rfl, e]
  unfold Rd
  iintro ⟨⟨H2, H3⟩, ⟨⟨H0, H6⟩, H1, H7, H8, H9, H10⟩, H11, H12, H13⟩
  isplitl [H2 H3 H12 H13 Hg]
  · isplitl [H12]
    · iexists _
      isplitr
      swap
      · iexact H12
      ipureintro; exact fun _ => rfl
    isplitl [H13]
    · iexact H13
    isplitl [Hg]
    · iexact Hg
    isplitl [H2]
    · iexact H2
    iexact H3
  isplitl [Ho]
  · iexact Ho
  isplitl [H0]
  · iexact H0
  isplitl [H1]
  · iexact H1
  isplitl [H6]
  · iexact H6
  isplitl [H7]
  · iexact H7
  isplitl [H8]
  · iexact H8
  isplitl [H9]
  · iexact H9
  isplitl [H10]
  · iexact H10
  iexact H11

theorem defs₀_row (t : Fin grid0.N) : defs₀ (F := F) .tc (cf m).body ((cf m).bodyArgs t ((cf m).slots t)) = bodyAt m t := by
  unfold defs₀; rw [Defs.onTc_tc]

include hS hT in
theorem body_obligation (c : Dev nD) : BodyObligation (dats m 0 c) (defs₀ (F := F)) Variants.none () Set.univ := fun t => by
  rw [bigSep_W0, bigSep_W0, defs₀_row]
  exact triple_restated (sound_body m hS hT c t) rfl .rfl fun _ => .rfl

theorem bigSep_two {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- The two tables, one by one. -/
theorem tables_eq (c : Dev nD) : (Pipeline.ΦT pre0 (adm m 0).1 c : sProp (Res F))
    = iprop(Own c tbS fullShare.right (V m c main_v23) ∗ Own c tbC fullShare.right (V m c main_v21)) := by
  obtain rfl : c = 0 := Subsingleton.elim _ _
  simp only [Own, tbS, tbC, owns_whole]
  unfold Pipeline.ΦT Pipeline.prefHeld adm
  generalize V m 0 = W
  rw [bigSep_two]
  rfl

/-- The scratch, one by one. -/
theorem scratch_eq (c : Dev nD) : (Pipeline.ΦA spec0 c : sProp (Res F))
    = iprop(((∃ d, Own c scM0 fullShare d) ∗ (∃ d, Own c scM1 fullShare d)) ∗ (∃ r, prngReg c r)) := by
  unfold Pipeline.ΦA; rw [scopedRest0_eq]; simp only [Own, scM0, scM1, owns_whole]; try rfl

theorem hin (c : Dev nD) : iprop(Pipeline.ΦA spec0 c ∗ Pipeline.ΦT pre0 (adm m 0).1 c) ⊢ (dats m 0 c).Φ 0 := by
  rw [show (dats m 0 c).Φ 0 = Phi m c 0 from rfl, tables_eq, scratch_eq]
  unfold Phi
  iintro ⟨⟨⟨⟨%r, H12⟩, H13⟩, Hg⟩, H2, H3⟩
  isplitl [H12]
  · iexists r
    isplitr
    swap
    · iexact H12
    ipureintro; exact fun h => absurd rfl h
  isplitl [H13]
  · iexact H13
  isplitl [Hg]
  · iexact Hg
  isplitl [H2]
  · iexact H2
  iexact H3

theorem hout (c : Dev nD) : (dats m 0 c).Φ (Fin.last grid0.N) ⊢ Pipeline.ΦA spec0 c := by
  rw [show (dats m 0 c).Φ (Fin.last grid0.N) = Phi m c grid0.N from rfl, scratch_eq]
  unfold Phi
  iintro ⟨⟨%r, %hr, H12⟩, H13, Hg, H2, H3⟩
  isplitl [H12 H13]
  · isplitl [H12]
    · iexists r; iexact H12
    iexact H13
  iexact Hg

/-! ## The run -/

set_option backward.isDefEq.respectTransparency.types false in
include hS hT in
/-- The run to the end: the arrays and the other buffers as the pipeline says, and the counters at zero. -/
theorem run_main : θ_run defs (onTc (τ := τ) (main (F := F))) (s₀ m ρ)
    (fun r => (Pipeline.FramePost (Pipeline.pin (pcfgs (F := F)) (adm m)) (dats m) 0 (V m)) r ∧ r.2.sem = fun _ => 0) :=
  Pipeline.θ_run_frameP_track (Q' := _) pcfgs (adm m) (dats m) (0 : Fin 1) launch0 defs₀ Variants.none m ρ main
    (hbody := fun c => (body_obligation m hS hT c).loose) (hshare := fun c => (dats m 0 c).share_full fun _ => rfl)
    (howed := fun _ _ => rfl) (V := V m) (hmain := hmain m) (hA := A_eq m)
    (hpf := fun c k => by obtain rfl : c = 0 := Subsingleton.elim _ _; rfl) (hin := hin m) (hout := hout m)

include hS hT in
/-- The arguments end unchanged, and the counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).1 (2 : Fin 8)).trans (((dats m 0 c).arrAt_in (2 : Fin 8) rfl _).trans ((A_eq m c 2).trans (V_arg0 m c))),
      ((h.1 c).2 main_arg1 (Pipeline.mem_restRefs_of (win := spec0) main_arg1 (by decide) (by decide))).trans (V_arg1 m c),
      ((h.1 c).2 main_arg2 (Pipeline.mem_restRefs_of (win := spec0) main_arg2 (by decide) (by decide))).trans (V_arg2 m c),
      ((h.1 c).2 main_arg3 (Pipeline.mem_restRefs_of (win := spec0) main_arg3 (by decide) (by decide))).trans (V_arg3 m c),
      ((h.1 c).2 main_arg4 (Pipeline.mem_restRefs_of (win := spec0) main_arg4 (by decide) (by decide))).trans (V_arg4 m c),
      ((h.1 c).2 main_arg5 (Pipeline.mem_restRefs_of (win := spec0) main_arg5 (by decide) (by decide))).trans (V_arg5 m c),
      ((h.1 c).2 main_arg6 (Pipeline.mem_restRefs_of (win := spec0) main_arg6 (by decide) (by decide))).trans (V_arg6 m c)⟩, h.2⟩)
    (run_main m ρ hS hT)

end Cert.Moe

end
-- ==== Proof.MoeHost.lean ====
/-
  What the host operations before the launch leave in the buffers that the kernel reads.
-/
module

public import proofs.«01_k».proof.Proof.MoeSort
public import proofs.«01_k».proof.Proof.MoeLaunch

@[expose] public section

set_option maxRecDepth 16384

noncomputable section

namespace Cert.Kernel2Ideal.Moe

open Idealize.ShloMosaic Idealize.ShloMosaic.TcCoe Idealize.ShloMosaic.WordCmp Idealize.ShloMosaic.Routing Cert.Kernel2Ideal Cert.Kernel2Ideal.Gen Cert.Moe
open scoped BigOperators

variable {F : FTy → Type} [FloatOps F] (m : (ℓ : Loc nD τ sig) → Buf (Elt F) ℓ) (c : Dev nD)

/-- The chosen experts, chunk by chunk. -/
def ids : IVec S8x8704 32 := V m c main_v2
/-- The gates, chunk by chunk. -/
def gts : S8x8704.Idx → F .f32 := V m c main_v3

set_option maxHeartbeats 4000000 in
theorem V_v10 : V m c main_v10 = (Host.sort2 S8x8704 1 comparator_i32_i32_d1 (ids m c) (iotaInDim S8x8704 32 1)).2 := by
  unfold ids V
  simp only [opss, List.flatten_cons, List.flatten_nil, List.append_nil, List.cons_append, List.nil_append]
  after_reads_simp
  rfl

set_option maxHeartbeats 4000000 in
theorem V_v12 : V m c main_v12 = take (V m c main_v11) (V m c main_v10) (broadcastInDim S8x8704 ![] bcast_S_S8x8704 (constantI S_ 32 2147483648#32)) := by
  unfold take inside wrap
  unfold V
  simp only [opss, List.flatten_cons, List.flatten_nil, List.append_nil, List.cons_append, List.nil_append]
  after_reads_simp
  try simp -implicitDefEqProofs only [StableHlo.TRef.toBuf, StableHlo.TRef.ofBuf, cast_cast, cast_eq]
  all_goals rfl

set_option maxHeartbeats 4000000 in
theorem V_v13 : V m c main_v13 = take (gts m c) (V m c main_v10) (broadcastInDim S8x8704 ![] bcast_S_S8x8704 (constant S_ .f32 0x7FC00000#32)) := by
  unfold take inside wrap gts
  unfold V
  simp only [opss, List.flatten_cons, List.flatten_nil, List.append_nil, List.cons_append, List.nil_append]
  after_reads_simp
  try simp -implicitDefEqProofs only [StableHlo.TRef.toBuf, StableHlo.TRef.ofBuf, cast_cast, cast_eq]
  all_goals rfl

/-- Which token an assignment is of. -/
theorem V_v11_at (p : Fin 8704) (k : Fin 8) : V m c main_v11 (ix2 k p) = BitVec.ofNat 32 (p.val / 4) := by
  unfold V
  simp only [opss, List.flatten_cons, List.flatten_nil, List.append_nil, List.cons_append, List.nil_append]
  after_reads_at

theorem V_v2_at (k : Fin 8) (p : Fin 8704) (h : k.val * 2176 + p.val / 4 < 17408) :
    ids m c (ix2 k p) = m ((c : Thread nD τ).loc main_arg1) (ix2 ⟨k.val * 2176 + p.val / 4, h⟩ ⟨p.val % 4, Nat.mod_lt _ (by decide)⟩) := by
  unfold ids V
  simp only [opss, List.flatten_cons, List.flatten_nil, List.append_nil, List.cons_append, List.nil_append]
  after_reads_at

theorem V_v3_at (k : Fin 8) (p : Fin 8704) (h : k.val * 2176 + p.val / 4 < 17408) :
    gts m c (ix2 k p) = m ((c : Thread nD τ).loc main_arg2) (ix2 ⟨k.val * 2176 + p.val / 4, h⟩ ⟨p.val % 4, Nat.mod_lt _ (by decide)⟩) := by
  unfold gts V
  simp only [opss, List.flatten_cons, List.flatten_nil, List.append_nil, List.cons_append, List.nil_append]
  after_reads_at

theorem V_v21 : V m c main_v21 = Host.reduce IntOp.addi (extui 32 (cmpi .eq
    (broadcastInDim S8x8704x32 ![0, 1, 2] bcast_S8x8704x1_S8x8704x32_0_1_2 (broadcastInDim S8x8704x1 ![0, 1] bcast_S8x8704_S8x8704x1_0_1 (ids m c)))
    (broadcastInDim S8x8704x32 ![0, 1, 2] bcast_S1x1x32_S8x8704x32_0_1_2 (broadcastInDim S1x1x32 ![2] bcast_S32_S1x1x32_2 (iotaInDim S32 32 0))))
    natLt_1_32) (constantI S_ 32 0#32) reducesTo_S8x8704x32_S8x32_d1 h_S_ := by
  unfold ids
  unfold V
  simp only [opss, List.flatten_cons, List.flatten_nil, List.append_nil, List.cons_append, List.nil_append]
  after_reads_simp
  try simp -implicitDefEqProofs only [StableHlo.TRef.toBuf, StableHlo.TRef.ofBuf, cast_cast, cast_eq]
  all_goals rfl

theorem V_v23 : V m c main_v23 = subi (Host.reduceWindow IntOp.addi ![1, 32] ![1, 1] ![0, 31] ![0, 0] (V m c main_v21)
    (broadcastInDim S_ ![] bcast_S_S_ (constantI S_ 32 0#32)) reduceWindows_S8x32_S8x32_w1s1p0_0_w32s1p31_0 h_S_) (V m c main_v21) := by
  unfold V
  simp only [opss, List.flatten_cons, List.flatten_nil, List.append_nil, List.cons_append, List.nil_append]
  after_reads_simp
  try simp -implicitDefEqProofs only [StableHlo.TRef.toBuf, StableHlo.TRef.ofBuf, cast_cast, cast_eq]
  all_goals rfl

/-- A row with eight entries behind it. -/
theorem pad_at {α : Type} (x : S8x8704.Idx → α) (v : S_.Idx → α) (k : Fin 8) (z : Fin 1) (p : Fin 8712) :
    shapeCast S8x1x8712 (pad S8x8712 ![0, 0] ![0, 8] ![0, 0] x v pads_S8x8704_S8x8712_000_080 h_S_) shapeCasts_S8x8712_S8x1x8712 (ix3 k z p)
      = if h : p.val < 8704 then x (ix2 k ⟨p.val, h⟩) else v (Shape.Idx.first h_S_) := by
  rw [show shapeCast S8x1x8712 (pad S8x8712 ![0, 0] ![0, 8] ![0, 0] x v pads_S8x8704_S8x8712_000_080 h_S_) shapeCasts_S8x8712_S8x1x8712 (ix3 k z p)
    = pad S8x8712 ![0, 0] ![0, 8] ![0, 0] x v pads_S8x8704_S8x8712_000_080 h_S_ (ix2 k p) from by pointwise]
  by_cases h : p.val < 8704
  · rw [dif_pos h]
    refine pad_apply_of_inside _ _ _ _ _ _ _ _ (ix2 k ⟨p.val, h⟩) fun a => ?_
    match a with
    | ⟨0, _⟩ => show k.val = 0 + k.val * (0 + 1); omega
    | ⟨1, _⟩ => show p.val = 0 + p.val * (0 + 1); omega
  · rw [dif_neg h]
    refine pad_apply_of_not_inside _ _ _ _ _ _ _ _ (1 : Fin 2) fun q => h ?_
    have := q.2.2
    change (p.val - 0) / (0 + 1) < 8704 at this
    omega

theorem V_v25_at (k : Fin 8) (z : Fin 1) (p : Fin 8712) : V m c main_v25 (ix3 k z p)
    = if h : p.val < 8704 then V m c main_v12 (ix2 k ⟨p.val, h⟩) else 0#32 := by
  have e : V m c main_v25 = shapeCast S8x1x8712 (pad S8x8712 ![0, 0] ![0, 8] ![0, 0] (V m c main_v12) (constantI S_ 32 0#32)
    pads_S8x8704_S8x8712_000_080 h_S_) shapeCasts_S8x8712_S8x1x8712 := by
    unfold V
    simp only [opss, List.flatten_cons, List.flatten_nil, List.append_nil, List.cons_append, List.nil_append]
    after_reads_simp
    try simp -implicitDefEqProofs only [StableHlo.TRef.toBuf, StableHlo.TRef.ofBuf, cast_cast, cast_eq]
    all_goals rfl
  rw [e]
  exact pad_at _ _ k z p

theorem V_v27_at (k : Fin 8) (z : Fin 1) (p : Fin 8712) : V m c main_v27 (ix3 k z p)
    = if h : p.val < 8704 then V m c main_v13 (ix2 k ⟨p.val, h⟩) else FloatOps.sitofp .f32 (0#32) := by
  have e : V m c main_v27 = shapeCast S8x1x8712 (pad S8x8712 ![0, 0] ![0, 8] ![0, 0] (V m c main_v13) (sitofp .f32 (constantI S_ 32 0#32))
    pads_S8x8704_S8x8712_000_080 h_S_) shapeCasts_S8x8712_S8x1x8712 := by
    unfold V
    simp only [opss, List.flatten_cons, List.flatten_nil, List.append_nil, List.cons_append, List.nil_append]
    after_reads_simp
    try simp -implicitDefEqProofs only [StableHlo.TRef.toBuf, StableHlo.TRef.ofBuf, cast_cast, cast_eq]
    all_goals rfl
  rw [e]
  exact pad_at _ _ k z p

theorem V_v0 : V m c main_v0 = truncf .bf16 (m ((c : Thread nD τ).loc main_arg3)) bitsLt_bf16_f32 := by
  unfold V
  simp only [opss, List.flatten_cons, List.flatten_nil, List.append_nil, List.cons_append, List.nil_append]
  after_reads_simp
  try simp -implicitDefEqProofs only [StableHlo.TRef.toBuf, StableHlo.TRef.ofBuf, cast_cast, cast_eq]
  all_goals rfl

theorem V_v1 : V m c main_v1 = truncf .bf16 (m ((c : Thread nD τ).loc main_arg5)) bitsLt_bf16_f32 := by
  unfold V
  simp only [opss, List.flatten_cons, List.flatten_nil, List.append_nil, List.cons_append, List.nil_append]
  after_reads_simp
  try simp -implicitDefEqProofs only [StableHlo.TRef.toBuf, StableHlo.TRef.ofBuf, cast_cast, cast_eq]
  all_goals rfl

theorem V_v28_at (l : Fin 4) (e : Fin 32) (z : Fin 1) (j : Fin 2048) : V m c main_v28 (ix4 l e z j) = m ((c : Thread nD τ).loc main_arg4) (ix3 l e j) := by
  unfold V
  simp only [opss, List.flatten_cons, List.flatten_nil, List.append_nil, List.cons_append, List.nil_append]
  after_reads_at

theorem V_v29_at (l : Fin 4) (e : Fin 32) (z : Fin 1) (j : Fin 1024) : V m c main_v29 (ix4 l e z j) = m ((c : Thread nD τ).loc main_arg6) (ix3 l e j) := by
  unfold V
  simp only [opss, List.flatten_cons, List.flatten_nil, List.append_nil, List.cons_append, List.nil_append]
  after_reads_at

/-! ## Read at an index -/

theorem v10_at (k : Fin 8) (p : Fin 8704) : V m c main_v10 (ix2 k p) = BitVec.ofNat 32 (perm (ids m c) k p).val := by
  rw [V_v10]; exact sort_at _ k p

theorem v12_at (k : Fin 8) (p : Fin 8704) : V m c main_v12 (ix2 k p) = BitVec.ofNat 32 ((perm (ids m c) k p).val / 4) := by
  rw [V_v12]
  exact (take_at _ _ _ (perm (ids m c)) (v10_at m c) k p).trans (V_v11_at m c _ k)

theorem v13_at (k : Fin 8) (p : Fin 8704) : V m c main_v13 (ix2 k p) = gts m c (ix2 k (perm (ids m c) k p)) := by
  rw [V_v13]
  exact take_at _ _ _ (perm (ids m c)) (v10_at m c) k p

theorem v21_at (k : Fin 8) (e : Fin 32) : V m c main_v21 (ix2 k e) = BitVec.ofNat 32 (cnt (ids m c) k e.val) := by
  rw [V_v21]
  refine (count_at _ k e).trans (congrArg (fun s : Finset (Fin 8704) => BitVec.ofNat 32 s.card) (Finset.filter_congr fun p _ => ?_))
  have e1 : cmpi .eq (broadcastInDim S8x8704x32 ![0, 1, 2] bcast_S8x8704x1_S8x8704x32_0_1_2 (broadcastInDim S8x8704x1 ![0, 1] bcast_S8x8704_S8x8704x1_0_1 (ids m c)))
    (broadcastInDim S8x8704x32 ![0, 1, 2] bcast_S1x1x32_S8x8704x32_0_1_2 (broadcastInDim S1x1x32 ![2] bcast_S32_S1x1x32_2 (iotaInDim S32 32 0))) (ix3 k p e)
    = IntOp.cmpi .eq (ids m c (ix2 k p)) (BitVec.ofNat 32 e.val) := by pointwise
  rw [e1]
  unfold IntOp.cmpi
  by_cases h : ids m c (ix2 k p) = BitVec.ofNat 32 e.val
  · simp [h]
  · have hb : (ids m c (ix2 k p) == BitVec.ofNat 32 e.val) = false := beq_eq_false_iff_ne.mpr h
    simp only [h, iff_false]
    intro h1
    rw [hb] at h1
    exact absurd h1 (by decide)

theorem v23_at (k : Fin 8) (e : Fin 32) : V m c main_v23 (ix2 k e) = BitVec.ofNat 32 (start (ids m c) k e.val) := by
  rw [V_v23]
  refine (congrArg₂ (fun a b : BitVec 32 => a - b) (cumsum_at _ (cnt (ids m c) k) k (fun i => v21_at m c k i) e _ rfl) (v21_at m c k e)).trans ?_
  show BitVec.ofNat 32 (start (ids m c) k (e.val + 1)) - _ = _
  rw [start_succ, BitVec.ofNat_add, BitVec.add_sub_cancel]

theorem sAt_eq (t : Fin grid0.N) : sAt m c t = start (ids m c) (grid0.coords t 0) (grid0.coords t 1).val := by
  unfold sAt
  refine (congrArg BitVec.toNat (v23_at m c (grid0.coords t 0) (grid0.coords t 1))).trans (ofNat_toNat_lt ?_)
  have h : (grid0.coords t 1).val < 32 := (grid0.coords t 1).isLt
  have := start_le (ids m c) (grid0.coords t 0) (grid0.coords t 1).val (by omega)
  omega

theorem cnt_le (k : Fin 8) (e : ℕ) : cnt (ids m c) k e ≤ 8704 := (Finset.card_le_univ _).trans (by simp)

theorem nAt_eq (t : Fin grid0.N) : nAt m c t = cnt (ids m c) (grid0.coords t 0) (grid0.coords t 1).val := by
  unfold nAt
  refine (congrArg BitVec.toNat (v21_at m c (grid0.coords t 0) (grid0.coords t 1))).trans (ofNat_toNat_lt ?_)
  have := cnt_le m c (grid0.coords t 0) (grid0.coords t 1).val
  omega

/-- The assignments of a grid point are inside the table. -/
theorem range_le (t : Fin grid0.N) : sAt m c t + nAt m c t ≤ 8704 := by
  have h : (grid0.coords t 1).val < 32 := (grid0.coords t 1).isLt
  rw [sAt_eq, nAt_eq]
  exact (start_succ (ids m c) (grid0.coords t 0) (grid0.coords t 1).val).symm.le.trans (start_le _ _ _ (by omega))

end Cert.Kernel2Ideal.Moe

end
-- ==== Proof.MoeBlk.lean ====
/-
  The blocks of the expert kernel's buffers at a grid point, at coordinates, and the bounds its frame asks for.
-/
module

public import proofs.«01_k».proof.Proof.MoeHost

@[expose] public section

set_option maxRecDepth 16384

noncomputable section

namespace Cert.Kernel2Ideal.Moe

open Idealize.ShloMosaic Idealize.ShloMosaic.TcCoe Cert.Kernel2Ideal Cert.Kernel2Ideal.Gen Cert.Moe

/-- The chunk and the expert of a grid point. -/
def ch (t : Fin grid0.N) : Fin 8 := ⟨t.val / 32, by have h : t.val < 256 := t.isLt; omega⟩
def ex (t : Fin grid0.N) : Fin 32 := ⟨t.val % 32, Nat.mod_lt _ (by decide)⟩

theorem at0 : ∀ t : Fin grid0.N, cc0_transform_0 (grid0.coords t) 0 = t.val / 32 ∧ cc0_transform_0 (grid0.coords t) 1 = 0 ∧ cc0_transform_0 (grid0.coords t) 2 = 0 := by
  decide +kernel
theorem at1 : ∀ t : Fin grid0.N, cc0_transform_1 (grid0.coords t) 0 = t.val / 32 ∧ cc0_transform_1 (grid0.coords t) 1 = 0 ∧ cc0_transform_1 (grid0.coords t) 2 = 0 := by
  decide +kernel
theorem at2 : ∀ t : Fin grid0.N, cc0_transform_2 (grid0.coords t) 0 = t.val / 32 ∧ cc0_transform_2 (grid0.coords t) 1 = 0 := by
  decide +kernel
theorem at3 : ∀ t : Fin grid0.N, cc0_transform_3 (grid0.coords t) 0 = 0 ∧ cc0_transform_3 (grid0.coords t) 1 = t.val % 32
    ∧ cc0_transform_3 (grid0.coords t) 2 = 0 ∧ cc0_transform_3 (grid0.coords t) 3 = 0 := by
  decide +kernel
theorem at4 : ∀ t : Fin grid0.N, cc0_transform_4 (grid0.coords t) 0 = 0 ∧ cc0_transform_4 (grid0.coords t) 1 = t.val % 32
    ∧ cc0_transform_4 (grid0.coords t) 2 = 0 ∧ cc0_transform_4 (grid0.coords t) 3 = 0 := by
  decide +kernel
theorem at5 : ∀ t : Fin grid0.N, cc0_transform_5 (grid0.coords t) 0 = 0 ∧ cc0_transform_5 (grid0.coords t) 1 = t.val % 32
    ∧ cc0_transform_5 (grid0.coords t) 2 = 0 ∧ cc0_transform_5 (grid0.coords t) 3 = 0 := by
  decide +kernel
theorem at6 : ∀ t : Fin grid0.N, cc0_transform_6 (grid0.coords t) 0 = 0 ∧ cc0_transform_6 (grid0.coords t) 1 = t.val % 32
    ∧ cc0_transform_6 (grid0.coords t) 2 = 0 ∧ cc0_transform_6 (grid0.coords t) 3 = 0 := by
  decide +kernel
theorem at7 : ∀ t : Fin grid0.N, cc0_transform_7 (grid0.coords t) 0 = t.val / 32 ∧ cc0_transform_7 (grid0.coords t) 1 = 0 := by
  decide +kernel

variable {F : FTy → Type} [FloatOps F] (m : (ℓ : Loc nD τ sig) → Buf (Elt F) ℓ) (c : Dev nD)

theorem blk_T (t : Fin grid0.N) (p : Fin 8712) : (pt m c t).T (ix3 0 0 p) = V m c main_v25 (ix3 (ch t) 0 p) := by
  obtain ⟨e0, e1, e2⟩ := at0 t
  show V m c main_v25 _ = _
  refine congrArg (V m c main_v25) (funext fun a => Fin.ext ?_)
  match a with
  | ⟨0, _⟩ => show cc0_transform_0 (grid0.coords t) 0 * 1 + 1 * 0 = t.val / 32; omega
  | ⟨1, _⟩ => show cc0_transform_0 (grid0.coords t) 1 * 1 + 1 * 0 = 0; omega
  | ⟨2, _⟩ => show cc0_transform_0 (grid0.coords t) 2 * 8712 + 1 * p.val = p.val; omega

theorem blk_G (t : Fin grid0.N) (p : Fin 8712) : (pt m c t).G (ix3 0 0 p) = V m c main_v27 (ix3 (ch t) 0 p) := by
  obtain ⟨e0, e1, e2⟩ := at1 t
  show V m c main_v27 _ = _
  refine congrArg (V m c main_v27) (funext fun a => Fin.ext ?_)
  match a with
  | ⟨0, _⟩ => show cc0_transform_1 (grid0.coords t) 0 * 1 + 1 * 0 = t.val / 32; omega
  | ⟨1, _⟩ => show cc0_transform_1 (grid0.coords t) 1 * 1 + 1 * 0 = 0; omega
  | ⟨2, _⟩ => show cc0_transform_1 (grid0.coords t) 2 * 8712 + 1 * p.val = p.val; omega

/-- A token's row in the whole array. -/
def rowOf (k : Fin 8) (u : Fin 2176) : Fin 17408 := ⟨k.val * 2176 + u.val, by omega⟩

theorem blk_X (t : Fin grid0.N) (u : Fin 2176) (d : Fin 1024) :
    (pt m c t).X (ix2 u d) = m ((c : Thread nD τ).loc main_arg0) (ix2 (rowOf (ch t) u) d) := by
  obtain ⟨e0, e1⟩ := at2 t
  rw [← V_arg0 m c]
  show V m c main_arg0 _ = _
  refine congrArg (V m c main_arg0) (funext fun a => Fin.ext ?_)
  match a with
  | ⟨0, _⟩ => show cc0_transform_2 (grid0.coords t) 0 * 2176 + 1 * u.val = t.val / 32 * 2176 + u.val; omega
  | ⟨1, _⟩ => show cc0_transform_2 (grid0.coords t) 1 * 1024 + 1 * d.val = d.val; omega

theorem blk_wgu (t : Fin grid0.N) (d : Fin 1024) (f : Fin 2048) :
    (pt m c t).wgu (ix4 0 0 d f) = V m c main_v0 (ix4 0 (ex t) d f) := by
  obtain ⟨e0, e1, e2, e3⟩ := at3 t
  show V m c main_v0 _ = _
  refine congrArg (V m c main_v0) (funext fun a => Fin.ext ?_)
  match a with
  | ⟨0, _⟩ => show cc0_transform_3 (grid0.coords t) 0 * 1 + 1 * 0 = 0; omega
  | ⟨1, _⟩ => show cc0_transform_3 (grid0.coords t) 1 * 1 + 1 * 0 = t.val % 32; omega
  | ⟨2, _⟩ => show cc0_transform_3 (grid0.coords t) 2 * 1024 + 1 * d.val = d.val; omega
  | ⟨3, _⟩ => show cc0_transform_3 (grid0.coords t) 3 * 2048 + 1 * f.val = f.val; omega

theorem blk_bgu (t : Fin grid0.N) (f : Fin 2048) :
    (pt m c t).bgu (ix4 0 0 0 f) = m ((c : Thread nD τ).loc main_arg4) (ix3 0 (ex t) f) := by
  obtain ⟨e0, e1, e2, e3⟩ := at4 t
  rw [← V_v28_at m c 0 (ex t) 0 f]
  show V m c main_v28 _ = _
  refine congrArg (V m c main_v28) (funext fun a => Fin.ext ?_)
  match a with
  | ⟨0, _⟩ => show cc0_transform_4 (grid0.coords t) 0 * 1 + 1 * 0 = 0; omega
  | ⟨1, _⟩ => show cc0_transform_4 (grid0.coords t) 1 * 1 + 1 * 0 = t.val % 32; omega
  | ⟨2, _⟩ => show cc0_transform_4 (grid0.coords t) 2 * 1 + 1 * 0 = 0; omega
  | ⟨3, _⟩ => show cc0_transform_4 (grid0.coords t) 3 * 2048 + 1 * f.val = f.val; omega

theorem blk_wdn (t : Fin grid0.N) (d f : Fin 1024) :
    (pt m c t).wdn (ix4 0 0 d f) = V m c main_v1 (ix4 0 (ex t) d f) := by
  obtain ⟨e0, e1, e2, e3⟩ := at5 t
  show V m c main_v1 _ = _
  refine congrArg (V m c main_v1) (funext fun a => Fin.ext ?_)
  match a with
  | ⟨0, _⟩ => show cc0_transform_5 (grid0.coords t) 0 * 1 + 1 * 0 = 0; omega
  | ⟨1, _⟩ => show cc0_transform_5 (grid0.coords t) 1 * 1 + 1 * 0 = t.val % 32; omega
  | ⟨2, _⟩ => show cc0_transform_5 (grid0.coords t) 2 * 1024 + 1 * d.val = d.val; omega
  | ⟨3, _⟩ => show cc0_transform_5 (grid0.coords t) 3 * 1024 + 1 * f.val = f.val; omega

theorem blk_bdn (t : Fin grid0.N) (d : Fin 1024) :
    (pt m c t).bdn (ix4 0 0 0 d) = m ((c : Thread nD τ).loc main_arg6) (ix3 0 (ex t) d) := by
  obtain ⟨e0, e1, e2, e3⟩ := at6 t
  rw [← V_v29_at m c 0 (ex t) 0 d]
  show V m c main_v29 _ = _
  refine congrArg (V m c main_v29) (funext fun a => Fin.ext ?_)
  match a with
  | ⟨0, _⟩ => show cc0_transform_6 (grid0.coords t) 0 * 1 + 1 * 0 = 0; omega
  | ⟨1, _⟩ => show cc0_transform_6 (grid0.coords t) 1 * 1 + 1 * 0 = t.val % 32; omega
  | ⟨2, _⟩ => show cc0_transform_6 (grid0.coords t) 2 * 1 + 1 * 0 = 0; omega
  | ⟨3, _⟩ => show cc0_transform_6 (grid0.coords t) 3 * 1024 + 1 * d.val = d.val; omega

/-! ## The tables of a grid point -/

/-- The token of an assignment in its table. -/
theorem entry_T (t : Fin grid0.N) (p : ℕ) (h : p < 8704) :
    (entry (pt m c t).T p).toNat = (perm (ids m c) (ch t) ⟨p, h⟩).val / 4 := by
  have e : entry (pt m c t).T p = BitVec.ofNat 32 ((perm (ids m c) (ch t) ⟨p, h⟩).val / 4) := by
    unfold entry
    rw [blk_T, V_v25_at]
    have hp : p % 8712 = p := Nat.mod_eq_of_lt (by omega)
    rw [dif_pos (show p % 8712 < 8704 by omega), v12_at]
    simp only [hp]
  rw [e]
  have := (perm (ids m c) (ch t) ⟨p, h⟩).isLt
  exact ofNat_toNat_lt (by omega)

/-- Every table entry names a token of the chunk. -/
theorem entry_T_lt (t : Fin grid0.N) (p : ℕ) (hp : p < 8712) : (entry (pt m c t).T p).toNat < 2176 := by
  by_cases h : p < 8704
  · rw [entry_T m c t p h]
    have := (perm (ids m c) (ch t) ⟨p, h⟩).isLt
    omega
  · have e : entry (pt m c t).T p = 0#32 := by
      unfold entry
      rw [blk_T, V_v25_at, dif_neg (show ¬ p % 8712 < 8704 by omega)]
    rw [e]; decide

/-- The gate of an assignment in its table. -/
theorem entry_G (t : Fin grid0.N) (p : ℕ) (h : p < 8704) :
    entry (pt m c t).G p = gts m c (ix2 (ch t) (perm (ids m c) (ch t) ⟨p, h⟩)) := by
  unfold entry
  rw [blk_G, V_v27_at]
  have hp : p % 8712 = p := Nat.mod_eq_of_lt (by omega)
  rw [dif_pos (show p % 8712 < 8704 by omega), v13_at]
  simp only [hp]

end Cert.Kernel2Ideal.Moe

end
-- ==== Proof.MoeSpec.lean ====
/-
  One expert as plain functions of lanes: a clamped gated unit between two affine maps. No arrays, tiles or programs.
-/
module

public import Idealize.ShloMosaic.Lib.Pointwise

@[expose] public section

noncomputable section

namespace Cert.Moe

open Idealize.ShloMosaic
open scoped BigOperators

/-- An expert's weights by coordinate. -/
structure Ex where
  /-- the first map: columns below 1024 give the gate, the others the linear branch -/
  wgu : Fin 1024 → Fin 2048 → EReal
  bgu : Fin 2048 → EReal
  /-- the second map -/
  wdn : Fin 1024 → Fin 1024 → EReal
  bdn : Fin 1024 → EReal

namespace Ex

variable (w : Ex) (x : Fin 1024 → EReal)

/-- The first map on a token. -/
def hid (f : Fin 2048) : EReal := (∑ k : Fin 1024, x k * w.wgu k f) + w.bgu f

/-- The gate, at most seven. -/
def gate (f : Fin 1024) : EReal := min (w.hid x ⟨f.val, by omega⟩) (Ideal.ofBits .f32 0x40E00000#32)

/-- The linear branch, between minus seven and seven. -/
def lin (f : Fin 1024) : EReal :=
  min (Ideal.ofBits .f32 0x40E00000#32) (max (Ideal.ofBits .f32 0xC0E00000#32) (w.hid x ⟨1024 + f.val, by omega⟩))

/-- The gated unit. -/
def act (f : Fin 1024) : EReal :=
  w.gate x f * Ideal.div 1 (1 + Ideal.exp (-(Ideal.ofBits .f32 0x3FD9DB23#32 * w.gate x f))) * (w.lin x f + 1)

/-- The expert on a token. -/
def out (d : Fin 1024) : EReal := (∑ f : Fin 1024, w.act x f * w.wdn f d) + w.bdn d

end Ex

end Cert.Moe

end
-- ==== Proof.MoeSum.lean ====
/-
  A grid point of the expert kernel on the extended reals: what it adds to a token's row is the sum, over the point's
  assignments of that token, of the gate times the expert's result.
-/
module

public import proofs.«01_k».proof.Proof.MoeState
public import proofs.«01_k».proof.Proof.MoeSpec

@[expose] public section

set_option maxRecDepth 16384

noncomputable section

namespace Cert.Moe

open Idealize.ShloMosaic Cert.Kernel2Ideal Cert.Kernel2Ideal.Gen
open scoped BigOperators

/-- The weights a grid point reads. -/
def Pt.ex (P : Pt Ideal) : Ex where
  wgu k f := P.wgu (ix4 0 0 k f)
  bgu f := P.bgu (ix4 0 0 0 f)
  wdn f d := P.wdn (ix4 0 0 f d)
  bdn d := P.bdn (ix4 0 0 0 d)

/-- The first map at an index. -/
theorem pay31_at (s : S304x1024.Idx → EReal) (w : S1x1x1024x2048.Idx → EReal) (r : Fin 304) (f : Fin 2048) :
    k0_pay31 (F := Ideal) s w (ix2 r f) = ∑ k : Fin 1024, s (ix2 r k) * w (ix4 0 0 k f) := by
  unfold_payloads
  pointwise [dot_S304x1024_S1024x2048_S304x2048_1_0_0_1_n_n]

/-- The expert at an index. -/
theorem y_at (P : Pt Ideal) (s : S304x1024.Idx → EReal) (r : Fin 304) (d : Fin 1024) :
    P.y s (ix2 r d) = P.ex.out (fun k => s (ix2 r k)) d := by
  unfold Pt.y k0_pay32
  generalize e : k0_pay31 (F := Ideal) s P.wgu = h
  pointwise [dot_S304x1024_S1024x1024_S304x1024_1_0_0_1_n_n]
  subst e
  unfold Ex.out Ex.act Ex.gate Ex.lin Ex.hid Pt.ex
  simp only [pay31_at, zero_sub]

/-- The rows added so far, at an index. -/
theorem scat_at (T : S1x1x8712.Idx → BitVec 32) (G : S1x1x8712.Idx → EReal) (y : S304x1024.Idx → EReal) (base m : ℕ) (r : ℕ)
    (out : S2176x1024.Idx → EReal) (u : Fin 2176) (d : Fin 1024) :
    scat (F := Ideal) T G y base m r out (ix2 u d)
      = out (ix2 u d) + ∑ q ∈ Finset.range r, if (entry T (base + q)).toNat = u.val then gateOf (F := Ideal) G base m q * y (rowIx q d) else (0 : EReal) := by
  induction r with
  | zero => simp [scat]
  | succ r ih =>
    rw [Finset.sum_range_succ, ← add_assoc, ← ih]
    refine Eq.trans (b := if u.val = (entry T (base + r)).toNat then
      scat (F := Ideal) T G y base m r out (ix2 u d) + gateOf (F := Ideal) G base m r * y (rowIx r d)
      else scat (F := Ideal) T G y base m r out (ix2 u d)) rfl ?_
    by_cases h : u.val = (entry T (base + r)).toNat
    · rw [if_pos h, if_pos h.symm]
    · rw [if_neg h, if_neg (Ne.symm h), add_zero]

variable (P : Pt Ideal)

/-- What assignment `p` of the table adds to the row of token `u`. -/
def Pt.add (p : ℕ) (u : Fin 2176) (d : Fin 1024) : EReal :=
  if (entry P.T p).toNat = u.val then (entry P.G p : EReal) * P.ex.out (fun k => P.X (ix2 u k)) d else 0

/-- A gathered row through the expert. -/
theorem y_gath (s : S304x1024.Idx → EReal) (base g q : ℕ) (hq : q < g) (hg : g ≤ 304) (u : Fin 2176) (d : Fin 1024)
    (h : (entry P.T (base + q)).toNat = u.val) :
    P.y (gath (F := Ideal) P.T P.X base g s) (rowIx q d) = P.ex.out (fun k => P.X (ix2 u k)) d := by
  unfold rowIx
  rw [y_at]
  refine congrArg (fun f => P.ex.out f d) (funext fun k => ?_)
  have hm : q % 304 = q := Nat.mod_eq_of_lt (by omega)
  unfold gath
  rw [if_pos (show ((ix2 (⟨q % 304, Nat.mod_lt _ (by decide)⟩ : Fin 304) k : S304x1024.Idx) 0).val < g by show q % 304 < g; omega)]
  show P.X (tokIx (entry P.T (base + q % 304)).toNat k) = _
  rw [hm, h]
  unfold tokIx
  exact congrArg (fun a : Fin 2176 => P.X (ix2 a k)) (Fin.ext (Nat.mod_eq_of_lt u.isLt))

/-- A block's rows add the block's assignments. -/
theorem scat_gath (s : S304x1024.Idx → EReal) (out : S2176x1024.Idx → EReal) (base n b : ℕ) (u : Fin 2176) (d : Fin 1024) :
    scat (F := Ideal) P.T P.G (P.y (gath (F := Ideal) P.T P.X base (8 * groups n b) s)) base (rows n b) (8 * groups n b) out (ix2 u d)
      = out (ix2 u d) + ∑ q ∈ Finset.range (rows n b), P.add (base + q) u d := by
  rw [scat_at]
  congr 1
  have hg := groups_le n b
  have hr : rows n b ≤ 8 * groups n b := by unfold groups; omega
  rw [← Finset.sum_subset (Finset.range_subset_range.mpr hr) fun q hq hn => ?_]
  · refine Finset.sum_congr rfl fun q hq => ?_
    have hq := Finset.mem_range.mp hq
    unfold Pt.add
    by_cases h : (entry P.T (base + q)).toNat = u.val
    · rw [if_pos h, if_pos h, y_gath P s base _ q (by omega) (by omega) u d h]
      unfold gateOf
      rw [if_pos hq]
    · rw [if_neg h, if_neg h]
  · have hn : ¬ q < rows n b := fun h => hn (Finset.mem_range.mpr h)
    unfold gateOf
    rw [if_neg hn]
    have z : (Scalar.ofBits .f32 0x00000000#32 : Ideal .f32) = (0 : EReal) := Ideal.ofBits_zero_f32
    rw [z, zero_mul, ite_self]

/-- The first `b` blocks add the first `304 b` assignments. -/
theorem run_at (s n : ℕ) (st : (S2176x1024.Idx → EReal) × (S304x1024.Idx → EReal)) (b : ℕ) (hb : b ≤ blocks n) (u : Fin 2176) (d : Fin 1024) :
    (P.run (F := Ideal) s n st b).1 (ix2 u d) = st.1 (ix2 u d) + ∑ r ∈ Finset.range (min (304 * b) n), P.add (s + r) u d := by
  induction b with
  | zero => simp [Pt.run]
  | succ b ih =>
    have hb' : 304 * b < n := by unfold blocks at hb; omega
    refine (scat_gath P _ _ (s + 304 * b) n b u d).trans ?_
    rw [ih (by omega), add_assoc]
    congr 1
    rw [show min (304 * (b + 1)) n = 304 * b + rows n b by unfold rows; omega, show min (304 * b) n = 304 * b by omega,
      Finset.sum_range_add]
    simp only [Nat.add_assoc]

/-- A grid point adds its assignments. -/
theorem point_at (i : grid0.Coords) (s n : ℕ) (st : (S2176x1024.Idx → EReal) × (S304x1024.Idx → EReal)) (u : Fin 2176) (d : Fin 1024) :
    (P.point (F := Ideal) i s n st).1 (ix2 u d)
      = (if (i 1).val = 0 then (0 : EReal) else st.1 (ix2 u d)) + ∑ r ∈ Finset.range n, P.add (s + r) u d := by
  unfold Pt.point
  rw [run_at P s n _ (blocks n) le_rfl u d, show min (304 * blocks n) n = n by unfold blocks; omega]
  congr 1
  dsimp only
  by_cases h : (i 1).val = 0
  · rw [if_pos h, if_pos h]
    unfold_payloads
    pointwise
  · rw [if_neg h, if_neg h]

end Cert.Moe

end
-- ==== Proof.MoeOrder.lean ====
/-
  Sorted by expert, the assignments of an expert are the consecutive ones that its start and count name; a sum over them
  is the sum over the assignments that choose it.
-/
module

public import proofs.«01_k».proof.Proof.MoeSort
public import Idealize.ShloMosaic.Lib.Routing.Count
public import Idealize.ShloMosaic.Lib.WordCmp

@[expose] public section

set_option maxRecDepth 16384

noncomputable section

namespace Cert.Kernel2Ideal.Moe

open Idealize.ShloMosaic Idealize.ShloMosaic.WordCmp Idealize.ShloMosaic.Routing Cert.Kernel2Ideal Cert.Kernel2Ideal.Gen
open scoped BigOperators

variable (ids : IVec S8x8704 32) (c : Fin 8) (hn : ∀ p : Fin 8704, (ids (ix2 c p)).toNat < 2 ^ 31)

theorem perm_bij : Function.Bijective (perm ids c) := ⟨sortedFrom_injective _, sortedFrom_surjective _⟩

include hn

theorem before_eq (k k' : Fin 8704) :
    (comparator_i32_i32_d1 (ids (ix2 c k), BitVec.ofNat 32 k.val) (ids (ix2 c k'), BitVec.ofNat 32 k'.val) == 1#1)
      = decide ((ids (ix2 c k)).toNat < (ids (ix2 c k')).toNat) := by
  show (IntOp.cmpi .slt (ids (ix2 c k)) (ids (ix2 c k')) == 1#1) = _
  rw [cmpi_slt_of_lt (hn k) (hn k')]
  by_cases h : (ids (ix2 c k)).toNat < (ids (ix2 c k')).toNat
  · simp [h]
  · simp [h]

/-- The words are in order. -/
theorem sorted_le (i j : Fin 8704) (hij : i ≤ j) : (ids (ix2 c (perm ids c i))).toNat ≤ (ids (ix2 c (perm ids c j))).toNat := by
  rcases eq_or_lt_of_le hij with rfl | hij
  · exact le_rfl
  have hp : perm ids c = sortedFrom fun k k' => decide ((ids (ix2 c k)).toNat < (ids (ix2 c k')).toNat) :=
    congrArg sortedFrom (funext fun k => funext fun k' => before_eq ids c hn k k')
  have h := sortedFrom_noInversion (fun k k' : Fin 8704 => decide ((ids (ix2 c k)).toNat < (ids (ix2 c k')).toNat)) _
    (fun a b h => by simp only [decide_eq_true_eq, decide_eq_false_iff_not] at h ⊢; omega) (fun _ _ h => h)
    (fun a b d h h' => by simp only [decide_eq_false_iff_not] at h h' ⊢; omega) i j hij
  rw [← hp, decide_eq_false_iff_not] at h
  omega

/-- The words below an expert's are the first ones, as many as its start says. -/
theorem below_iff (e : ℕ) (he : e ≤ 32) (p : Fin 8704) : (ids (ix2 c (perm ids c p))).toNat < e ↔ p.val < start ids c e := by
  let Q : ℕ → Prop := fun q => ∃ h : q < 8704, (ids (ix2 c (perm ids c ⟨q, h⟩))).toNat < e
  classical
  have h1 := lt_count_iff (N := 8704) (Q := Q) (fun a b hab hb ⟨_, h⟩ =>
    ⟨by omega, lt_of_le_of_lt (sorted_le ids c hn ⟨a, by omega⟩ ⟨b, hb⟩ hab) h⟩) p.isLt
  have h2 : Nat.count Q 8704 = start ids c e := by
    rw [← card_filter_fin, start_eq ids c e he]
    refine Finset.card_bij (fun q _ => perm ids c q) (fun q hq => ?_) (fun a _ b _ h => (perm_bij ids c).1 h) (fun q hq => ?_)
    · obtain ⟨_, h⟩ := (Finset.mem_filter.mp hq).2
      exact Finset.mem_filter.mpr ⟨Finset.mem_univ _, h⟩
    · obtain ⟨p, rfl⟩ := (perm_bij ids c).2 q
      exact ⟨p, Finset.mem_filter.mpr ⟨Finset.mem_univ _, p.isLt, (Finset.mem_filter.mp hq).2⟩, rfl⟩
  rw [← h2, ← h1]
  exact ⟨fun h => ⟨p.isLt, h⟩, fun ⟨_, h⟩ => h⟩

/-- An expert's assignments are the consecutive ones. -/
theorem mine_iff (e : ℕ) (he : e < 32) (p : Fin 8704) :
    ids (ix2 c (perm ids c p)) = BitVec.ofNat 32 e ↔ start ids c e ≤ p.val ∧ p.val < start ids c e + cnt ids c e := by
  have h1 := below_iff ids c hn e (by omega) p
  have h2 := below_iff ids c hn (e + 1) (by omega) p
  rw [start_succ] at h2
  have h3 : ids (ix2 c (perm ids c p)) = BitVec.ofNat 32 e ↔ (ids (ix2 c (perm ids c p))).toNat = e := by
    rw [← BitVec.toNat_inj, ofNat_toNat_lt (by omega)]
  rw [h3]
  omega

/-- A sum over the consecutive assignments of an expert is the sum over those that choose it. -/
theorem sum_mine (e : ℕ) (he : e < 32) (f : ℕ → EReal) (g : Fin 8704 → EReal) (hf : ∀ p : Fin 8704, f p.val = g (perm ids c p)) :
    ∑ r ∈ Finset.range (cnt ids c e), f (start ids c e + r) = ∑ q : Fin 8704, if ids (ix2 c q) = BitVec.ofNat 32 e then g q else 0 := by
  have hle : start ids c e + cnt ids c e ≤ 8704 := by rw [← start_succ]; exact start_le ids c (e + 1) (by omega)
  rw [← Finset.sum_filter]
  refine Finset.sum_bij (fun r hr => perm ids c ⟨start ids c e + r, by have := Finset.mem_range.mp hr; omega⟩)
    (fun r hr => ?_) (fun r hr r' hr' h => ?_) (fun q hq => ?_) (fun r hr => ?_)
  · have := Finset.mem_range.mp hr
    exact Finset.mem_filter.mpr ⟨Finset.mem_univ _, (mine_iff ids c hn e he _).mpr ⟨by dsimp only; omega, by dsimp only; omega⟩⟩
  · have := congrArg Fin.val ((perm_bij ids c).1 h)
    dsimp only at this
    omega
  · obtain ⟨p, rfl⟩ := (perm_bij ids c).2 q
    have h := (mine_iff ids c hn e he p).mp (Finset.mem_filter.mp hq).2
    exact ⟨p.val - start ids c e, Finset.mem_range.mpr (by omega), congrArg (perm ids c) (Fin.ext (by dsimp only; omega))⟩
  · exact hf ⟨start ids c e + r, by have := Finset.mem_range.mp hr; omega⟩

omit hn in
/-- A sum over the assignments of a token is the sum over its choices. -/
theorem sum_token (u : Fin 2176) (g : Fin 8704 → EReal) :
    (∑ q : Fin 8704, if q.val / 4 = u.val then g q else 0) = ∑ k : Fin 4, g ⟨4 * u.val + k.val, by omega⟩ := by
  rw [← Finset.sum_filter]
  symm
  refine Finset.sum_bij (fun k _ => (⟨4 * u.val + k.val, by omega⟩ : Fin 8704)) (fun k _ => ?_) (fun k _ k' _ h => ?_) (fun q hq => ?_) (fun _ _ => rfl)
  · exact Finset.mem_filter.mpr ⟨Finset.mem_univ _, by dsimp only; omega⟩
  · have := congrArg Fin.val h
    dsimp only at this
    exact Fin.ext (by omega)
  · have h := (Finset.mem_filter.mp hq).2
    exact ⟨⟨q.val % 4, Nat.mod_lt _ (by decide)⟩, Finset.mem_univ _, Fin.ext (by dsimp only; omega)⟩

end Cert.Kernel2Ideal.Moe

end
-- ==== Proof.MoeValue.lean ====
/-
  The expert kernel's result on the extended reals: at a token's row the sum over the experts, and over the token's
  choices of that expert, of the gate times the expert's result.
-/
module

public import proofs.«01_k».proof.Proof.MoeBlk
public import proofs.«01_k».proof.Proof.MoeSum
public import proofs.«01_k».proof.Proof.MoeOrder
public import Idealize.ShloMosaic.Lib.Pipeline.ValueKit.Geometry

@[expose] public section

set_option maxRecDepth 16384

noncomputable section

namespace Cert.Kernel2Ideal.Moe

open Idealize.ShloMosaic Idealize.ShloMosaic.TcCoe Idealize.ShloMosaic.Pipeline Idealize.SL.Sem
open Cert.Kernel2Ideal Cert.Kernel2Ideal.Gen Cert.Moe
open scoped BigOperators

variable (m : (ℓ : Loc nD τ sig) → Buf (Elt Ideal) ℓ) (c : Dev nD)

/-- The weights of an expert. -/
def wts (e : Fin 32) : Ex where
  wgu k f := m ((c : Thread nD τ).loc main_arg3) (ix4 0 e k f)
  bgu f := m ((c : Thread nD τ).loc main_arg4) (ix3 0 e f)
  wdn f d := m ((c : Thread nD τ).loc main_arg5) (ix4 0 e f d)
  bdn d := m ((c : Thread nD τ).loc main_arg6) (ix3 0 e d)

/-- A token's choice, its gate and the token. -/
def idx (n : Fin 17408) (k : Fin 4) : BitVec 32 := m ((c : Thread nD τ).loc main_arg1) (ix2 n k)
def gate (n : Fin 17408) (k : Fin 4) : EReal := m ((c : Thread nD τ).loc main_arg2) (ix2 n k)
def tok (n : Fin 17408) (k : Fin 1024) : EReal := m ((c : Thread nD τ).loc main_arg0) (ix2 n k)

/-- What an expert adds to a token's row. -/
def con (e : Fin 32) (n : Fin 17408) (d : Fin 1024) : EReal :=
  ∑ k : Fin 4, if idx m c n k = BitVec.ofNat 32 e.val then gate m c n k * (wts m c e).out (tok m c n) d else 0

theorem ex_eq (t : Fin grid0.N) : (pt m c t).ex = wts m c (ex t) := by
  have h1 : (fun (k : Fin 1024) (f : Fin 2048) => (pt m c t).wgu (ix4 0 0 k f)) = (wts m c (ex t)).wgu := by
    funext k f; exact (blk_wgu m c t k f).trans (congrFun (V_v0 m c) _)
  have h2 : (fun (f : Fin 2048) => (pt m c t).bgu (ix4 0 0 0 f)) = (wts m c (ex t)).bgu := by
    funext f; exact blk_bgu m c t f
  have h3 : (fun (f d : Fin 1024) => (pt m c t).wdn (ix4 0 0 f d)) = (wts m c (ex t)).wdn := by
    funext f d; exact (blk_wdn m c t f d).trans (congrFun (V_v1 m c) _)
  have h4 : (fun (d : Fin 1024) => (pt m c t).bdn (ix4 0 0 0 d)) = (wts m c (ex t)).bdn := by
    funext d; exact blk_bdn m c t d
  unfold Pt.ex
  rw [h1, h2, h3, h4]

variable (hn : ∀ n k, (idx m c n k).toNat < 2 ^ 31)

theorem ids_at (k : Fin 8) (u : Fin 2176) (q : Fin 4) :
    ids m c (ix2 k ⟨4 * u.val + q.val, by omega⟩) = idx m c (rowOf k u) q := by
  refine (V_v2_at m c k ⟨4 * u.val + q.val, by omega⟩ (by dsimp only; omega)).trans ?_
  exact congrArg₂ (fun (a : Fin 17408) (b : Fin 4) => m ((c : Thread nD τ).loc main_arg1) (ix2 a b))
    (Fin.ext (by unfold rowOf; dsimp only; omega)) (Fin.ext (by dsimp only; omega))

theorem gts_at (k : Fin 8) (u : Fin 2176) (q : Fin 4) :
    gts m c (ix2 k ⟨4 * u.val + q.val, by omega⟩) = gate m c (rowOf k u) q := by
  refine (V_v3_at m c k ⟨4 * u.val + q.val, by omega⟩ (by dsimp only; omega)).trans ?_
  exact congrArg₂ (fun (a : Fin 17408) (b : Fin 4) => m ((c : Thread nD τ).loc main_arg2) (ix2 a b))
    (Fin.ext (by unfold rowOf; dsimp only; omega)) (Fin.ext (by dsimp only; omega))

theorem ite_swap (p q : Prop) [Decidable p] [Decidable q] (a : EReal) : (if p then (if q then a else 0) else 0) = if q then (if p then a else 0) else 0 := by
  by_cases hp : p <;> by_cases hq : q <;> simp [hp, hq]

include hn

theorem ids_lt (k : Fin 8) (p : Fin 8704) : (ids m c (ix2 k p)).toNat < 2 ^ 31 := by
  rw [V_v2_at m c k p (by omega)]
  exact hn _ _

/-- A grid point's assignments add its expert's part. -/
theorem adds (t : Fin grid0.N) (u : Fin 2176) (d : Fin 1024) :
    (∑ r ∈ Finset.range (nAt m c t), (pt m c t).add (sAt m c t + r) u d) = con m c (ex t) (rowOf (ch t) u) d := by
  have hs : sAt m c t = start (ids m c) (ch t) (ex t).val :=
    (sAt_eq m c t).trans (congrArg₂ (start (ids m c)) (Fin.ext (coord0 t)) (coord1 t))
  have hc : nAt m c t = cnt (ids m c) (ch t) (ex t).val :=
    (nAt_eq m c t).trans (congrArg₂ (cnt (ids m c)) (Fin.ext (coord0 t)) (coord1 t))
  rw [hs, hc, sum_mine (ids m c) (ch t) (ids_lt m c hn (ch t)) (ex t).val (ex t).isLt (fun p => (pt m c t).add p u d)
    (fun q => if q.val / 4 = u.val then (gts m c (ix2 (ch t) q) : EReal) * (wts m c (ex t)).out (tok m c (rowOf (ch t) u)) d else 0)
    (fun p => by
      have hx : (fun k => (pt m c t).X (ix2 u k)) = tok m c (rowOf (ch t) u) := funext fun k => blk_X m c t u k
      unfold Pt.add
      rw [entry_T m c t p.val p.isLt, entry_G m c t p.val p.isLt, ex_eq, hx])]
  refine (Finset.sum_congr rfl fun q _ => ite_swap _ _ _).trans ((sum_token u fun q =>
    if ids m c (ix2 (ch t) q) = BitVec.ofNat 32 (ex t).val then (gts m c (ix2 (ch t) q) : EReal) * (wts m c (ex t)).out (tok m c (rowOf (ch t) u)) d else 0).trans ?_)
  refine Finset.sum_congr rfl fun k _ => ?_
  rw [ids_at, gts_at]

/-- One expert of a chunk. -/
theorem st_step (k : Fin 8) (u : Fin 2176) (d : Fin 1024) (j : ℕ) (hj : j < 32) :
    (stAt m c (32 * k.val + j + 1)).1 (ix2 u d)
      = (if j = 0 then (0 : EReal) else (stAt m c (32 * k.val + j)).1 (ix2 u d)) + con m c ⟨j, hj⟩ (rowOf k u) d := by
  have hN : 32 * k.val + j < grid0.N := by show _ < 256; omega
  have h0 : (grid0.coords ⟨32 * k.val + j, hN⟩ 1).val = j := (coord1 ⟨32 * k.val + j, hN⟩).trans (by dsimp only; omega)
  have hk : ch ⟨32 * k.val + j, hN⟩ = k := Fin.ext (by unfold ch; dsimp only; omega)
  have he : ex ⟨32 * k.val + j, hN⟩ = ⟨j, hj⟩ := Fin.ext (by unfold ex; dsimp only; omega)
  refine (congrArg (fun s => s.1 (ix2 u d)) (stAt_succ m c ⟨32 * k.val + j, hN⟩)).trans ?_
  refine (point_at _ _ _ _ _ u d).trans ?_
  refine congrArg₂ (· + ·) ?_ ((adds m c hn _ u d).trans (by rw [hk, he]))
  by_cases hj0 : j = 0
  · rw [if_pos hj0]; exact if_pos (h0.trans hj0)
  · rw [if_neg hj0]; exact if_neg fun h => hj0 (h0.symm.trans h)

/-- The rows after an expert of a chunk. -/
theorem st_at (k : Fin 8) (u : Fin 2176) (d : Fin 1024) (j : ℕ) (hj : j < 32) :
    (stAt m c (32 * k.val + j + 1)).1 (ix2 u d) = ∑ e : Fin (j + 1), con m c ⟨e.val, by omega⟩ (rowOf k u) d := by
  induction j with
  | zero =>
    rw [st_step m c hn k u d 0 hj, if_pos rfl, zero_add]
    exact (Fin.sum_univ_one fun e : Fin 1 => con m c ⟨e.val, by omega⟩ (rowOf k u) d).symm
  | succ j ih =>
    rw [st_step m c hn k u d (j + 1) hj, if_neg (Nat.succ_ne_zero j), Fin.sum_univ_castSucc]
    exact congrArg₂ (· + ·) (ih (by omega)) rfl

/-- The result at a token's row. -/
def G : S17408x1024.Idx → EReal := fun i => ∑ e : Fin 32, con m c e (i 0) (i 1)

omit hn in
/-- Where the array holds a row of a chunk. -/
theorem emb_blk (t : Fin grid0.N) (u : Fin 2176) (d : Fin 1024) :
    (((cf m).win (7 : Fin 8)).blk t).view.emb (ix2 u d : S2176x1024.Idx) = (ix2 (rowOf (ch t) u) d : S17408x1024.Idx) := by
  obtain ⟨e0, e1⟩ := at7 t
  refine funext fun a => Fin.ext ?_
  match a with
  | ⟨0, _⟩ => show cc0_transform_7 (grid0.coords t) 0 * 2176 + 1 * u.val = t.val / 32 * 2176 + u.val; omega
  | ⟨1, _⟩ => show cc0_transform_7 (grid0.coords t) 1 * 1024 + 1 * d.val = d.val; omega

/-- What is written back of a chunk. -/
theorem after_last (t : Fin grid0.N) (ht : t.val % 32 = 31) (u : Fin 2176) (d : Fin 1024) :
    (stAt m c (t.val + 1)).1 (ix2 u d) = G m c (ix2 (rowOf (ch t) u) d) := by
  have hv : t.val + 1 = 32 * (ch t).val + 31 + 1 := by unfold ch; dsimp only; omega
  rw [hv, st_at m c hn (ch t) u d 31 (by omega)]
  rfl

/-- The array after the run. -/
theorem final : (dats m 0 c).arrAt (7 : Fin 8) (cf m).N = G m c := by
  refine (dats m 0 c).arrAt_eq_of_emb (7 : Fin 8) (G m c) (fun t hf y => ?_) fun i => ?_
  · obtain ⟨u, d, rfl⟩ : ∃ (u : Fin 2176) (d : Fin 1024), y = (ix2 u d : S2176x1024.Idx) := ⟨y 0, y 1, by funext a; match a with | ⟨0, _⟩ => rfl | ⟨1, _⟩ => rfl⟩
    exact (congrFun (after_7 m c t) (ix2 u d)).trans
      ((after_last m c hn t ((flush_7 m t).mp hf) u d).trans (congrArg (G m c) (emb_blk m t u d)).symm)
  · obtain ⟨n, d, rfl⟩ : ∃ (n : Fin 17408) (d : Fin 1024), i = (ix2 n d : S17408x1024.Idx) := ⟨i 0, i 1, by funext a; match a with | ⟨0, _⟩ => rfl | ⟨1, _⟩ => rfl⟩
    have hN : n.val / 2176 * 32 + 31 < grid0.N := by show _ < 256; omega
    let t : Fin grid0.N := ⟨n.val / 2176 * 32 + 31, hN⟩
    have he : (((cf m).win (7 : Fin 8)).blk t).view.emb (ix2 (⟨n.val % 2176, Nat.mod_lt _ (by decide)⟩ : Fin 2176) d : S2176x1024.Idx) = (ix2 n d : S17408x1024.Idx) :=
      (emb_blk m t _ d).trans (congrArg (fun n : Fin 17408 => (ix2 n d : S17408x1024.Idx)) (Fin.ext (by
        show (n.val / 2176 * 32 + 31) / 32 * 2176 + n.val % 2176 = n.val
        omega)))
    exact ⟨t, (flush_7 m t).mpr (by show (n.val / 2176 * 32 + 31) % 32 = 31; omega), he ▸ View.emb_mem_set _ _⟩

end Cert.Kernel2Ideal.Moe

end
-- ==== Proof.MoeRef.lean ====
/-
  The reference of the expert layer read at an index: the sum over a token's choices and the experts.
-/
module

public import proofs.«01_k».proof.Proof.MoeSpec
public import proofs.«01_k».proof.Proof.Gen.Reference2Ideal.Run

@[expose] public section

set_option maxRecDepth 16384

noncomputable section

namespace Cert.Reference2Ideal.Moe

open Idealize.ShloMosaic Idealize.ShloMosaic.TcCoe Cert.Reference2Ideal Cert.Reference2Ideal.Gen Cert.Reference2Ideal.Value Cert.Moe
open scoped BigOperators

/-- The sum over the two middle axes, at an index. -/
theorem reduce_mid (h : S17408x4x32x1024.ReducesTo [1, 2] S17408x1024) (v : S17408x4x32x1024.Idx → EReal) (init : EReal)
    (n : Fin 17408) (d : Fin 1024) :
    Ideal.hostReduceAdd h v init (ix2 n d) = init + ∑ k : Fin 4, ∑ e : Fin 32, v (ix4 n k e d) := by
  refine congrArg (init + ·) ?_
  refine (Finset.sum_filter_eq_sum_of_fiber _ (fun k : Fin 4 × Fin 32 => (ix4 n k.1 k.2 d : S17408x4x32x1024.Idx))
    (fun _ _ e => Prod.ext (congrFun e 1) (congrFun e 2)) (fun i => ?_) v).trans ?_
  · constructor
    · intro e
      refine ⟨(i 1, i 2), ?_⟩
      funext a; apply Fin.ext
      match a with
      | ⟨0, _⟩ => exact (congrArg Fin.val (congrFun e 0)).symm
      | ⟨1, _⟩ => rfl
      | ⟨2, _⟩ => rfl
      | ⟨3, _⟩ => exact (congrArg Fin.val (congrFun e 1)).symm
    · rintro ⟨k, rfl⟩
      funext b
      apply Fin.ext
      match b with
      | ⟨0, _⟩ => rfl
      | ⟨1, _⟩ => rfl
  · simp only [Fintype.sum_prod_type]

variable (m : (ℓ : Loc nD τ sig) → Buf (Elt Ideal) ℓ) (c : Dev nD)

/-- The weights of an expert. -/
def ex (e : Fin 32) : Ex where
  wgu k f := m ((c : Thread nD τ).loc main_arg3) (ix4 0 e k f)
  bgu f := m ((c : Thread nD τ).loc main_arg4) (ix3 0 e f)
  wdn f d := m ((c : Thread nD τ).loc main_arg5) (ix4 0 e f d)
  bdn d := m ((c : Thread nD τ).loc main_arg6) (ix3 0 e d)

/-- A token's choice, its gate and the token. -/
def idx (n : Fin 17408) (k : Fin 4) : BitVec 32 := m ((c : Thread nD τ).loc main_arg1) (ix2 n k)
def gate (n : Fin 17408) (k : Fin 4) : EReal := m ((c : Thread nD τ).loc main_arg2) (ix2 n k)
def tok (n : Fin 17408) (k : Fin 1024) : EReal := m ((c : Thread nD τ).loc main_arg0) (ix2 n k)

set_option maxHeartbeats 4000000 in
theorem out_at (n : Fin 17408) (d : Fin 1024) :
    res_main_v47 m c (ix2 n d)
      = ∑ k : Fin 4, ∑ e : Fin 32, if idx m c n k = BitVec.ofNat 32 e.val then gate m c n k * (ex m c e).out (tok m c n) d else 0 := by
  unfold res_main_v47
  rw [Host.reduceAdd_apply]
  refine (reduce_mid _ _ _ n d).trans ?_
  pointwise [dot_S17408x1024_S32x1024x2048_S17408x32x2048_1_1_0_02_n_n, dot_S32x1024x1024_S17408x32x1024_S32x1024x17408_1_2_2_0_0_1]
  refine Finset.sum_congr rfl fun k _ => Finset.sum_congr rfl fun e _ => ?_
  have z : (id (constant (F := Ideal) S_ .f32 0#32) ix0 : EReal) = 0 := Ideal.ofBits_zero_f32
  rw [z]
  by_cases h : idx m c n k = BitVec.ofNat 32 e.val
  · rw [if_pos h, show IntOp.cmpi .eq (m ((c : Thread nD τ).loc main_arg1) (ix2 n k)) (BitVec.ofNat 32 e.val) = 1#1 from by
      show BitVec.ofBool (idx m c n k == BitVec.ofNat 32 e.val) = 1#1
      rw [h, beq_self_eq_true]; rfl]
    refine congrArg (gate m c n k * ·) ?_
    unfold Ex.out Ex.act Ex.gate Ex.lin Ex.hid
    exact congrArg (· + _) (Finset.sum_congr rfl fun f _ => mul_comm _ _)
  · rw [if_neg h, show IntOp.cmpi .eq (m ((c : Thread nD τ).loc main_arg1) (ix2 n k)) (BitVec.ofNat 32 e.val) = 0#1 from by
      show BitVec.ofBool (idx m c n k == BitVec.ofNat 32 e.val) = 0#1
      rw [beq_eq_false_iff_ne.mpr h]; rfl]
    exact zero_mul _

end Cert.Reference2Ideal.Moe

end
-- ==== Proof.MoeClaim.lean ====
/-
  The claims of the expert layer: the frames of kernel and reference, and their equal results where no token chooses a
  negative expert.
-/
module

public import proofs.«01_k».proof.Proof.MoeValue
public import proofs.«01_k».proof.Proof.MoeRef
public import proofs.«01_k».proof.Defs

@[expose] public section

set_option maxRecDepth 16384

noncomputable section

namespace Cert.Proof.Moe

open Idealize.ShloMosaic Idealize.ShloMosaic.TcCoe Idealize.SL.Sem Cert.Moe Cert.Kernel2Ideal.Moe
open Cert.Kernel2Ideal (main_arg0 main_arg1 main_arg2 main_arg3 main_arg4 main_arg5 main_arg6 spec0)
open scoped BigOperators

/-- The precondition's one side condition. -/
theorem preFacts : Cert.Pre_experts_nonnegative.Facts where
  bcast_S_S17408x4 := by decide

theorem frame_kernelIdeal : Cert.quiescent_Kernel2Ideal (hKernel2Ideal := Cert.Kernel2Ideal.Gen.facts) := fun m ρ _ =>
  frame_any m ρ (range_le m) (entry_T_lt m)

theorem frame_kernelIdeal_pre : Cert.quiescent_Kernel2Ideal_pre_experts_nonnegative (hKernel2Ideal := Cert.Kernel2Ideal.Gen.facts)
    (hPre_experts_nonnegative := preFacts) := fun m ρ _ => frame_any m ρ (range_le m) (entry_T_lt m)

theorem frame_ref : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

theorem frame_ref_pre : Cert.quiescent_Reference2Ideal_pre_experts_nonnegative (hReference2Ideal := Cert.Reference2Ideal.Gen.facts)
    (hPre_experts_nonnegative := preFacts) := fun m ρ _ => frame_ref m ρ trivial

/-- A choice that isn't negative. -/
theorem choice_lt (m : (ℓ : Loc Cert.Kernel2Ideal.nD Cert.Kernel2Ideal.τ Cert.Kernel2Ideal.sig) → Buf (Elt Ideal) ℓ)
    (h : Cert.Pre_Kernel2Ideal_experts_nonnegative (hPre_experts_nonnegative := preFacts) m) (c : Dev Cert.Kernel2Ideal.nD)
    (n : Fin 17408) (k : Fin 4) : (idx m c n k).toNat < 2 ^ 31 := by
  have h1 : IntOp.cmpi .sge (idx m c n k) 0#32 = 1#1 := congrFun (h c) (ix2 n k)
  rw [WordCmp.cmpi_sge_zero] at h1
  by_contra hc
  rw [decide_eq_false (by simpa using hc)] at h1
  exact absurd h1 (by decide)

/-- Kernel and reference end with equal results on equal arguments. -/
theorem algebraic : Cert.algebraic_Kernel2Ideal_Reference2Ideal_pre_experts_nonnegative (hKernel2Ideal := Cert.Kernel2Ideal.Gen.facts)
    (hReference2Ideal := Cert.Reference2Ideal.Gen.facts) (hPre_experts_nonnegative := preFacts) := by
  intro m ρ m' ρ' hpre hagree
  have hw : ∀ c e, Cert.Reference2Ideal.Moe.ex m' c e = wts m c e := fun c e => by
    obtain ⟨a0, a1, a2, a3, a4, a5, a6⟩ := hagree c
    unfold Cert.Reference2Ideal.Moe.ex wts
    simp only [a3, a4, a5, a6]
  have hi : ∀ c n k, Cert.Reference2Ideal.Moe.idx m' c n k = idx m c n k := fun c n k => congrFun (hagree c).2.1 (ix2 n k)
  have hg : ∀ c n k, Cert.Reference2Ideal.Moe.gate m' c n k = gate m c n k := fun c n k => congrFun (hagree c).2.2.1 (ix2 n k)
  have ht : ∀ c n, Cert.Reference2Ideal.Moe.tok m' c n = tok m c n := fun c n => funext fun k => congrFun (hagree c).1 (ix2 n k)
  have hs : ∀ c (n : Fin 17408) (d : Fin 1024), (∑ k : Fin 4, ∑ e : Fin 32,
      if Cert.Reference2Ideal.Moe.idx m' c n k = BitVec.ofNat 32 e.val then
        Cert.Reference2Ideal.Moe.gate m' c n k * (Cert.Reference2Ideal.Moe.ex m' c e).out (Cert.Reference2Ideal.Moe.tok m' c n) d else (0 : EReal))
      = ∑ e : Fin 32, con m c e n d := fun c n d => by
    rw [Finset.sum_comm]
    refine Finset.sum_congr rfl fun e _ => Finset.sum_congr rfl fun k _ => ?_
    rw [hw, hi, hg, ht]
  refine ⟨fun c => G m c, ?_, ?_⟩
  · exact (θ_run Cert.Kernel2Ideal.defs _ _).mono (fun r h c =>
      ⟨((h.1 c).1 (7 : Fin 8)).trans (final m c (choice_lt m hpre c)),
      ((h.1 c).1 (2 : Fin 8)).trans (((dats m 0 c).arrAt_in (2 : Fin 8) rfl _).trans ((A_eq m c 2).trans (V_arg0 m c))),
      ((h.1 c).2 main_arg1 (Pipeline.mem_restRefs_of (win := spec0) main_arg1 (by decide) (by decide))).trans (V_arg1 m c),
      ((h.1 c).2 main_arg2 (Pipeline.mem_restRefs_of (win := spec0) main_arg2 (by decide) (by decide))).trans (V_arg2 m c),
      ((h.1 c).2 main_arg3 (Pipeline.mem_restRefs_of (win := spec0) main_arg3 (by decide) (by decide))).trans (V_arg3 m c),
      ((h.1 c).2 main_arg4 (Pipeline.mem_restRefs_of (win := spec0) main_arg4 (by decide) (by decide))).trans (V_arg4 m c),
      ((h.1 c).2 main_arg5 (Pipeline.mem_restRefs_of (win := spec0) main_arg5 (by decide) (by decide))).trans (V_arg5 m c),
      ((h.1 c).2 main_arg6 (Pipeline.mem_restRefs_of (win := spec0) main_arg6 (by decide) (by decide))).trans (V_arg6 m c)⟩)
      (run_main m ρ (range_le m) (entry_T_lt m))
  · refine (θ_run _ _ _).mono (fun r h c => ⟨(h c).1.trans (funext fun j => ?_), (h c).2⟩) (Cert.Reference2Ideal.Value.run m' ρ')
    obtain ⟨n, d, rfl⟩ : ∃ (n : Fin 17408) (d : Fin 1024), j = (ix2 n d : Cert.Kernel2Ideal.S17408x1024.Idx) :=
      ⟨j 0, j 1, by funext a; match a with | ⟨0, _⟩ => rfl | ⟨1, _⟩ => rfl⟩
    exact (Cert.Reference2Ideal.Moe.out_at m' c n d).trans (hs c n d)

end Cert.Proof.Moe

end
-- ==== Proof.MoeSame.lean ====
/-
  The two printed programs of the expert layer, one for bit-exact and one for real values, have the same text: their
  kernels, their tables and their mains are equal over any float values. Hence a run of the one is a run of the other.
-/
module

public import proofs.«01_k».proof.Proof.Gen.Kernel2
public import proofs.«01_k».proof.Proof.Gen.Kernel2Ideal
public import proofs.«01_k».proof.Proof.Gen.Kernel2.Launch
public import proofs.«01_k».proof.Proof.Gen.Kernel2Ideal.Launch

@[expose] public section

set_option maxRecDepth 65536
set_option maxHeartbeats 0

noncomputable section

namespace Cert.Proof.Moe

open Idealize.ShloMosaic

variable {F : FTy → Type} [FloatOps F]

/-- The kernels' bodies are equal. -/
theorem body_same : @Cert.Kernel2.cc0_moe F _ Cert.Kernel2.Gen.facts = @Cert.Kernel2Ideal.cc0_moe F _ Cert.Kernel2Ideal.Gen.facts := rfl

/-- The tables of bodies are equal. -/
theorem bodies_same : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc (funext fun l => funext fun a => ?_)
  match l, a with
  | ⟨0, _⟩, (t, s) =>
    show Cert.Kernel2.cc0_moe (F := F) _ _ _ _ _ _ _ _ _ _ _ _ _ _ _ _ _ _ _ _ _ _ _ _ _ = _
    rw [body_same]
    rfl
  | ⟨_ + 1, h⟩, _ => exact absurd h (Nat.not_lt.2 (Nat.le_add_left _ _))

/-- The tables of bodies and regions are equal. -/
theorem defs_same : @Cert.Kernel2.defs F _ Cert.Kernel2.Gen.facts = @Cert.Kernel2Ideal.defs F _ Cert.Kernel2Ideal.Gen.facts := by
  unfold Cert.Kernel2.defs Cert.Kernel2Ideal.defs
  exact congrArg (Pipeline.defs _) bodies_same

/-- The mains are equal. -/
theorem main_same : @Cert.Kernel2.main F _ Cert.Kernel2.Gen.facts = @Cert.Kernel2Ideal.main F _ Cert.Kernel2Ideal.Gen.facts := by
  funext c
  refine (Cert.Kernel2.Gen.main_chain c).trans (Eq.trans ?_ (Cert.Kernel2Ideal.Gen.main_chain c).symm)
  rfl

end Cert.Proof.Moe

end
-- ==== Proof.MoeFrame.lean ====
/-
  The frame of the expert kernel over bit-exact values, from the run that is proved over any float values.
-/
module

public import proofs.«01_k».proof.Proof.MoeSame
public import proofs.«01_k».proof.Proof.MoeBlk
public import proofs.«01_k».proof.Defs

@[expose] public section

set_option maxRecDepth 65536
set_option maxHeartbeats 0

noncomputable section

namespace Cert.Proof.Moe

open Idealize.ShloMosaic Idealize.ShloMosaic.TcCoe Idealize.SL.Sem Cert.Moe Cert.Kernel2Ideal.Moe

/-- The bit-exact kernel ends with its arguments unchanged and its counters at zero. -/
theorem frame_kernel : Cert.quiescent_Kernel2 (hKernel2 := Cert.Kernel2.Gen.facts) := fun m ρ _ => by
  have h := frame_any (F := Bits) m ρ (range_le m) (entry_T_lt m)
  rw [defs_same, main_same]
  exact h

end Cert.Proof.Moe

end
-- ==== Proof.lean ====
module

public import proofs.«01_k».proof.Proof.RgClaim
public import proofs.«01_k».proof.Proof.MoeClaim
public import proofs.«01_k».proof.Proof.MoeFrame
public import proofs.«01_k».proof.Proof.Gen.Kernel2.Launch
public import proofs.«01_k».proof.Proof.Gen.Kernel2Ideal.Launch
public import proofs.«01_k».proof.Proof.Gen.Kernel2.Loops
public import proofs.«01_k».proof.Proof.Gen.Kernel2Ideal.Loops
public import proofs.«01_k».proof.Proof.Gen.Reference2Ideal.Run
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Proof.Moe.preFacts,
  fun m ρ _ => Cert.Kernel.Gen.frame m ρ, fun m ρ _ => Cert.KernelIdeal.Gen.frame m ρ, Cert.Proof.Rg.frame_ref,
  Cert.Proof.Moe.frame_kernel, Cert.Proof.Moe.frame_kernelIdeal, Cert.Proof.Moe.frame_kernelIdeal_pre,
  Cert.Proof.Moe.frame_ref, Cert.Proof.Moe.frame_ref_pre, trivial, Cert.Proof.Rg.algebraic, trivial, Cert.Proof.Moe.algebraic⟩

end Cert.Proof

end
